-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_finite : Cert.Pre_sorted_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_ids_in_range.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x256 .f32) (main_arg1 : IVec S100000 32) (main_arg2 : FVec F S256x256 .f32) (main_arg3 : FVec F S256 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_sorted_finite.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x256 : S_.BroadcastsInDim S100000x256 (![] : Fin 0 → Fin S100000x256.rank)
  reducesTo_S100000x256_S_d0_1 : S100000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg3 : FVec F S256 .f32) (main_v15 : IVec S_ 1) (main_v16 : FVec F S256x256 .f32) (main_cst_4 : FVec F S_ .f32) : IVec S_ 1 :=
  let main_v17 : FVec F S256x256 .f32 := broadcastInDim S256x256 ![] bcast_S_S256x256 main_cst_4
  let main_v18 : IVec S256x256 1 := cmpf .olt main_v16 main_v17
  let main_c_5 : IVec S_ 1 := constantI S_ 1 1#1
  let main_v19 : IVec S_ 1 := (fun x v => Host.reduce IntOp.andi x v reducesTo_S256x256_S_d0_1 h_S_) main_v18 main_c_5
  let main_v20 : IVec S_ 1 := andi main_v15 main_v19
  let main_v21 : FVec F S256 .f32 := Host.absf main_arg3
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S_ 1 := andi main_v20 main_v24
  main_v25

def fn {F : FTy → Type} [FloatOps F] (main_arg0 : FVec F S100000x256 .f32) (main_arg1 : IVec S100000 32) (main_arg2 : FVec F S256x256 .f32) (main_arg3 : FVec F S256 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg1
  let main_v7 : IVec S99999 32 := (extractStridedSlice S99999 ![1] · slices_S100000_S99999_1) main_arg1
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  let main_v11 : FVec F S100000x256 .f32 := Host.absf main_arg0
  let main_cst : FVec F S_ .f32 := constant S_ .f32 0x7F800000#32
  let main_v12 : FVec F S100000x256 .f32 := broadcastInDim S100000x256 ![] bcast_S_S100000x256 main_cst
  let main_v13 : IVec S100000x256 1 := cmpf .olt main_v11 main_v12
  let main_c_3 : IVec S_ 1 := constantI S_ 1 1#1
  let main_v14 : IVec S_ 1 := (fun x v => Host.reduce IntOp.andi x v reducesTo_S100000x256_S_d0_1 h_S_) main_v13 main_c_3
  let main_v15 : IVec S_ 1 := andi main_v10 main_v14
  let main_v16 : FVec F S256x256 .f32 := Host.absf main_arg2
  let main_cst_4 : FVec F S_ .f32 := constant S_ .f32 0x7F800000#32
  fn_part1 (F := F) main_arg3 main_v15 main_v16 main_cst_4
-- ==== Kernel.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S_ : Shape := ⟨0, ![]⟩
abbrev S102400 : Shape := ⟨1, ![102400]⟩
abbrev S40x32x80 : Shape := ⟨3, ![40, 32, 80]⟩
abbrev S32x40x80 : Shape := ⟨3, ![32, 40, 80]⟩
abbrev S32x40x128 : Shape := ⟨3, ![32, 40, 128]⟩
abbrev S256x16 : Shape := ⟨2, ![256, 16]⟩
abbrev S32x256x256 : Shape := ⟨3, ![32, 256, 256]⟩
abbrev S32x256x16 : Shape := ⟨3, ![32, 256, 16]⟩
abbrev S40x128 : Shape := ⟨2, ![40, 128]⟩
abbrev S80x256 : Shape := ⟨2, ![80, 256]⟩
abbrev S1x40x128 : Shape := ⟨3, ![1, 40, 128]⟩
abbrev S16 : Shape := ⟨1, ![16]⟩
abbrev S1x16 : Shape := ⟨2, ![1, 16]⟩
abbrev S1 : Shape := ⟨1, ![1]⟩
abbrev S1x256x256 : Shape := ⟨3, ![1, 256, 256]⟩
abbrev S1x256x16 : Shape := ⟨3, ![1, 256, 16]⟩
abbrev S1x256 : Shape := ⟨2, ![1, 256]⟩
abbrev S256x1 : Shape := ⟨2, ![256, 1]⟩

abbrev nBuf : Table → Nat
  | .hbm => 20
  | .local .tc .vmem => 5
  | .local .scVector .vmem => 4
  | _ => 0

abbrev bufTy : (tb : Table) → Fin (nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .i32⟩
  | .hbm, ⟨6, _⟩ => ⟨S102400, .i32⟩
  | .hbm, ⟨7, _⟩ => ⟨S40x32x80, .i32⟩
  | .hbm, ⟨8, _⟩ => ⟨S32x40x80, .i32⟩
  | .hbm, ⟨9, _⟩ => ⟨S_, .i32⟩
  | .hbm, ⟨10, _⟩ => ⟨S_, .i32⟩
  | .hbm, ⟨11, _⟩ => ⟨S32x40x128, .i32⟩
  | .hbm, ⟨12, _⟩ => ⟨S_, .f32⟩
  | .hbm, ⟨13, _⟩ => ⟨S256x256, .f32⟩
  | .hbm, ⟨14, _⟩ => ⟨S_, .f32⟩
  | .hbm, ⟨15, _⟩ => ⟨S256x16, .f32⟩
  | .hbm, ⟨16, _⟩ => ⟨S32x256x256, .f32⟩
  | .hbm, ⟨17, _⟩ => ⟨S32x256x16, .f32⟩
  | .hbm, ⟨18, _⟩ => ⟨S1x256, .f32⟩
  | .hbm, ⟨19, _⟩ => ⟨S256x256, .f32⟩
  | .local .tc .vmem, ⟨0, _⟩ => ⟨S32x256x256, .f32⟩
  | .local .tc .vmem, ⟨1, _⟩ => ⟨S32x256x16, .f32⟩
  | .local .tc .vmem, ⟨2, _⟩ => ⟨S256x256, .f32⟩
  | .local .tc .vmem, ⟨3, _⟩ => ⟨S1x256, .f32⟩
  | .local .tc .vmem, ⟨4, _⟩ => ⟨S256x256, .f32⟩
  | .local .scVector .vmem, ⟨0, _⟩ => ⟨S40x128, .i32⟩
  | .local .scVector .vmem, ⟨1, _⟩ => ⟨S80x256, .f32⟩
  | .local .scVector .vmem, ⟨2, _⟩ => ⟨S256x256, .f32⟩
  | .local .scVector .vmem, ⟨3, _⟩ => ⟨S256x16, .f32⟩
  | _, _ => ⟨S100000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_arg0_scv : Ref sig .scVector := ⟨.hbm, 0, rfl⟩
abbrev main_v3_scv : Ref sig .scVector := ⟨.hbm, 11, rfl⟩
abbrev main_v4_scv : Ref sig .scVector := ⟨.hbm, 13, rfl⟩
abbrev main_v5_scv : Ref sig .scVector := ⟨.hbm, 15, rfl⟩
abbrev main_v6_0_scv : Ref sig .scVector := ⟨.hbm, 16, rfl⟩
abbrev main_v6_1_scv : Ref sig .scVector := ⟨.hbm, 17, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r2 : BitVec 32 := 0#32
  let c0_i32_20_r2 : BitVec 32 := 0#32
  ![v1.toNat, 0, 0]
@[reducible] def k0_t1_loop (i : grid0.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_15 : BitVec 32 := 2#32
  let v18 : BitVec 1 := Scalar.cmpi .slt v1 c2_i32_15
  let c40_i32 : BitVec 32 := 40#32
  let c39_i32 : BitVec 32 := 39#32
  let v19 : BitVec 32 := Scalar.select v18 c40_i32 c39_i32
  let v20 : BitVec 32 := Scalar.subi v19 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_17 : BitVec 32 := 1#32
  ⟨c0_i32, v24, c1_i32_17⟩
def k0_off2 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c1_i32_17 : BitVec 32 := 1#32
  let arg12 : BitVec 32 := Scf.iv c0_i32 c1_i32_17 k0_t1
  let c32_i32 : BitVec 32 := 32#32
  let v27 : BitVec 32 := Scalar.muli arg12 c32_i32
  let v28 : BitVec 32 := Scalar.addi v1 v27
  let c80_i32 : BitVec 32 := 80#32
  let v29 : BitVec 32 := Scalar.muli v28 c80_i32
  let c0_i32_22_r3 : BitVec 32 := 0#32
  ![v29.toNat, 0]
@[reducible] def k0_t2_loop : Scf.Loop 32 :=
  let c0_i32_19 : BitVec 32 := 0#32
  let c5_i32 : BitVec 32 := 5#32
  let v30 : BitVec 32 := Scalar.addi c0_i32_19 c5_i32
  let c1_i32_20 : BitVec 32 := 1#32
  ⟨c0_i32_19, v30, c1_i32_20⟩
def k0_off3 (i : grid0.Coords) (k0_t1 : Fin (k0_t1_loop i).trips) (k0_t2 : Fin k0_t2_loop.trips) : Fin 2 → Nat :=
  let c0_i32 : BitVec 32 := 0#32
  let c1_i32_17 : BitVec 32 := 1#32
  let arg12 : BitVec 32 := Scf.iv c0_i32 c1_i32_17 k0_t1
  let v33 : Index := Scalar.indexCast arg12
  let c0_i32_19 : BitVec 32 := 0#32
  let c1_i32_20 : BitVec 32 := 1#32
  let arg31 : BitVec 32 := Scf.iv c0_i32_19 c1_i32_20 k0_t2
  let c16_i32 : BitVec 32 := 16#32
  let v32 : BitVec 32 := Scalar.muli arg31 c16_i32
  let v34 : Index := Scalar.indexCast v32
  ![v33.toNat, v34.toNat]
def k0_off4 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v42 : Index := Scalar.indexCast v40
  let c0 : Index := 0#32
  ![v42.toNat, 0]
def k0_off5 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v47 : Index := Scalar.indexCast v40
  let c16 : Index := 16#32
  ![v47.toNat, 16]
def k0_off6 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v52 : Index := Scalar.indexCast v40
  let c32 : Index := 32#32
  ![v52.toNat, 32]
def k0_off7 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v57 : Index := Scalar.indexCast v40
  let c48 : Index := 48#32
  ![v57.toNat, 48]
def k0_off8 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v62 : Index := Scalar.indexCast v40
  let c64 : Index := 64#32
  ![v62.toNat, 64]
def k0_off9 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v67 : Index := Scalar.indexCast v40
  let c80 : Index := 80#32
  ![v67.toNat, 80]
def k0_off10 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v72 : Index := Scalar.indexCast v40
  let c96 : Index := 96#32
  ![v72.toNat, 96]
def k0_off11 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v77 : Index := Scalar.indexCast v40
  let c112 : Index := 112#32
  ![v77.toNat, 112]
def k0_off12 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v82 : Index := Scalar.indexCast v40
  let c128 : Index := 128#32
  ![v82.toNat, 128]
def k0_off13 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v87 : Index := Scalar.indexCast v40
  let c144 : Index := 144#32
  ![v87.toNat, 144]
def k0_off14 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v92 : Index := Scalar.indexCast v40
  let c160 : Index := 160#32
  ![v92.toNat, 160]
def k0_off15 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v97 : Index := Scalar.indexCast v40
  let c176 : Index := 176#32
  ![v97.toNat, 176]
def k0_off16 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v102 : Index := Scalar.indexCast v40
  let c192 : Index := 192#32
  ![v102.toNat, 192]
def k0_off17 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v107 : Index := Scalar.indexCast v40
  let c208 : Index := 208#32
  ![v107.toNat, 208]
def k0_off18 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v112 : Index := Scalar.indexCast v40
  let c224 : Index := 224#32
  ![v112.toNat, 224]
def k0_off19 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_22 : BitVec 32 := 16#32
  let v39 : BitVec 32 := Scalar.muli arg31 c16_i32_22
  let c0_i32_23 : BitVec 32 := 0#32
  let v40 : BitVec 32 := Scalar.addi v39 c0_i32_23
  let v117 : Index := Scalar.indexCast v40
  let c240 : Index := 240#32
  ![v117.toNat, 240]
def k0_off20 (v38 : BitVec 32) : Fin 2 → Nat :=
  let v124 : Index := Scalar.indexCast v38
  let c0_26 : Index := 0#32
  ![v124.toNat, 0]

def k0_off21 (v38 : BitVec 32) : Fin 2 → Nat :=
  let v128 : Index := Scalar.indexCast v38
  let c16_27 : Index := 16#32
  ![v128.toNat, 16]
def k0_off22 (v38 : BitVec 32) : Fin 2 → Nat :=
  let v132 : Index := Scalar.indexCast v38
  let c32_28 : Index := 32#32
  ![v132.toNat, 32]
def k0_off23 (v38 : BitVec 32) : Fin 2 → Nat :=
  let v136 : Index := Scalar.indexCast v38
  let c48_29 : Index := 48#32
  ![v136.toNat, 48]
def k0_off24 (v38 : BitVec 32) : Fin 2 → Nat :=
  let v140 : Index := Scalar.indexCast v38
  let c64_30 : Index := 64#32
  ![v140.toNat, 64]
def k0_off25 (v38 : BitVec 32) : Fin 2 → Nat :=
  let v144 : Index := Scalar.indexCast v38
  let c80_31 : Index := 80#32
  ![v144.toNat, 80]
def k0_off26 (v38 : BitVec 32) : Fin 2 → Nat :=
  let v148 : Index := Scalar.indexCast v38
  let c96_32 : Index := 96#32
  ![v148.toNat, 96]
def k0_off27 (v38 : BitVec 32) : Fin 2 → Nat :=
  let v152 : Index := Scalar.indexCast v38
  let c112_33 : Index := 112#32
  ![v152.toNat, 112]
def k0_off28 (v38 : BitVec 32) : Fin 2 → Nat :=
  let v156 : Index := Scalar.indexCast v38
  let c128_34 : Index := 128#32
  ![v156.toNat, 128]
def k0_off29 (v38 : BitVec 32) : Fin 2 → Nat :=
  let v160 : Index := Scalar.indexCast v38
  let c144_35 : Index := 144#32
  ![v160.toNat, 144]
def k0_off30 (v38 : BitVec 32) : Fin 2 → Nat :=
  let v164 : Index := Scalar.indexCast v38
  let c160_36 : Index := 160#32
  ![v164.toNat, 160]
def k0_off31 (v38 : BitVec 32) : Fin 2 → Nat :=
  let v168 : Index := Scalar.indexCast v38
  let c176_37 : Index := 176#32
  ![v168.toNat, 176]
def k0_off32 (v38 : BitVec 32) : Fin 2 → Nat :=
  let v172 : Index := Scalar.indexCast v38
  let c192_38 : Index := 192#32
  ![v172.toNat, 192]
def k0_off33 (v38 : BitVec 32) : Fin 2 → Nat :=
  let v176 : Index := Scalar.indexCast v38
  let c208_39 : Index := 208#32
  ![v176.toNat, 208]
def k0_off34 (v38 : BitVec 32) : Fin 2 → Nat :=
  let v180 : Index := Scalar.indexCast v38
  let c224_40 : Index := 224#32
  ![v180.toNat, 224]
def k0_off35 (v38 : BitVec 32) : Fin 2 → Nat :=
  let v184 : Index := Scalar.indexCast v38
  let c240_41 : Index := 240#32
  ![v184.toNat, 240]
def k0_off36 (v38 : BitVec 32) : Fin 2 → Nat :=
  let v189 : Index := Scalar.indexCast v38
  let c0_42 : Index := 0#32
  ![v189.toNat, 0]

def k0_chk1 (v38 : BitVec 32) : Prop :=
  (∀ a, (k0_off20 v38) a + S1x16.size a ≤ S256x256.size a) ∧
  (∀ a, (k0_off21 v38) a + S1x16.size a ≤ S256x256.size a) ∧
  (∀ a, (k0_off22 v38) a + S1x16.size a ≤ S256x256.size a) ∧
  (∀ a, (k0_off23 v38) a + S1x16.size a ≤ S256x256.size a) ∧
  (∀ a, (k0_off24 v38) a + S1x16.size a ≤ S256x256.size a) ∧
  (∀ a, (k0_off25 v38) a + S1x16.size a ≤ S256x256.size a) ∧
  (∀ a, (k0_off26 v38) a + S1x16.size a ≤ S256x256.size a) ∧
  (∀ a, (k0_off27 v38) a + S1x16.size a ≤ S256x256.size a) ∧
  (∀ a, (k0_off28 v38) a + S1x16.size a ≤ S256x256.size a) ∧
  (∀ a, (k0_off29 v38) a + S1x16.size a ≤ S256x256.size a) ∧
  (∀ a, (k0_off30 v38) a + S1x16.size a ≤ S256x256.size a) ∧
  (∀ a, (k0_off31 v38) a + S1x16.size a ≤ S256x256.size a) ∧
  (∀ a, (k0_off32 v38) a + S1x16.size a ≤ S256x256.size a) ∧
  (∀ a, (k0_off33 v38) a + S1x16.size a ≤ S256x256.size a) ∧
  (∀ a, (k0_off34 v38) a + S1x16.size a ≤ S256x256.size a) ∧
  (∀ a, (k0_off35 v38) a + S1x16.size a ≤ S256x256.size a) ∧
  (∀ a, (k0_off36 v38) a + S1x16.size a ≤ S256x16.size a)
theorem k0_off20_inb : ∀ (v38 : BitVec 32) (k0_hw1 : k0_chk1 v38), ∀ a, (k0_off20 v38) a + S1x16.size a ≤ S256x256.size a := fun v38 k0_hw1 => k0_hw1.1
theorem k0_off21_inb : ∀ (v38 : BitVec 32) (k0_hw1 : k0_chk1 v38), ∀ a, (k0_off21 v38) a + S1x16.size a ≤ S256x256.size a := fun v38 k0_hw1 => k0_hw1.2.1
theorem k0_off22_inb : ∀ (v38 : BitVec 32) (k0_hw1 : k0_chk1 v38), ∀ a, (k0_off22 v38) a + S1x16.size a ≤ S256x256.size a := fun v38 k0_hw1 => k0_hw1.2.2.1
theorem k0_off23_inb : ∀ (v38 : BitVec 32) (k0_hw1 : k0_chk1 v38), ∀ a, (k0_off23 v38) a + S1x16.size a ≤ S256x256.size a := fun v38 k0_hw1 => k0_hw1.2.2.2.1
theorem k0_off24_inb : ∀ (v38 : BitVec 32) (k0_hw1 : k0_chk1 v38), ∀ a, (k0_off24 v38) a + S1x16.size a ≤ S256x256.size a := fun v38 k0_hw1 => k0_hw1.2.2.2.2.1
theorem k0_off25_inb : ∀ (v38 : BitVec 32) (k0_hw1 : k0_chk1 v38), ∀ a, (k0_off25 v38) a + S1x16.size a ≤ S256x256.size a := fun v38 k0_hw1 => k0_hw1.2.2.2.2.2.1
theorem k0_off26_inb : ∀ (v38 : BitVec 32) (k0_hw1 : k0_chk1 v38), ∀ a, (k0_off26 v38) a + S1x16.size a ≤ S256x256.size a := fun v38 k0_hw1 => k0_hw1.2.2.2.2.2.2.1
theorem k0_off27_inb : ∀ (v38 : BitVec 32) (k0_hw1 : k0_chk1 v38), ∀ a, (k0_off27 v38) a + S1x16.size a ≤ S256x256.size a := fun v38 k0_hw1 => k0_hw1.2.2.2.2.2.2.2.1
theorem k0_off28_inb : ∀ (v38 : BitVec 32) (k0_hw1 : k0_chk1 v38), ∀ a, (k0_off28 v38) a + S1x16.size a ≤ S256x256.size a := fun v38 k0_hw1 => k0_hw1.2.2.2.2.2.2.2.2.1
theorem k0_off29_inb : ∀ (v38 : BitVec 32) (k0_hw1 : k0_chk1 v38), ∀ a, (k0_off29 v38) a + S1x16.size a ≤ S256x256.size a := fun v38 k0_hw1 => k0_hw1.2.2.2.2.2.2.2.2.2.1
theorem k0_off30_inb : ∀ (v38 : BitVec 32) (k0_hw1 : k0_chk1 v38), ∀ a, (k0_off30 v38) a + S1x16.size a ≤ S256x256.size a := fun v38 k0_hw1 => k0_hw1.2.2.2.2.2.2.2.2.2.2.1
theorem k0_off31_inb : ∀ (v38 : BitVec 32) (k0_hw1 : k0_chk1 v38), ∀ a, (k0_off31 v38) a + S1x16.size a ≤ S256x256.size a := fun v38 k0_hw1 => k0_hw1.2.2.2.2.2.2.2.2.2.2.2.1
theorem k0_off32_inb : ∀ (v38 : BitVec 32) (k0_hw1 : k0_chk1 v38), ∀ a, (k0_off32 v38) a + S1x16.size a ≤ S256x256.size a := fun v38 k0_hw1 => k0_hw1.2.2.2.2.2.2.2.2.2.2.2.2.1
theorem k0_off33_inb : ∀ (v38 : BitVec 32) (k0_hw1 : k0_chk1 v38), ∀ a, (k0_off33 v38) a + S1x16.size a ≤ S256x256.size a := fun v38 k0_hw1 => k0_hw1.2.2.2.2.2.2.2.2.2.2.2.2.2.1
theorem k0_off34_inb : ∀ (v38 : BitVec 32) (k0_hw1 : k0_chk1 v38), ∀ a, (k0_off34 v38) a + S1x16.size a ≤ S256x256.size a := fun v38 k0_hw1 => k0_hw1.2.2.2.2.2.2.2.2.2.2.2.2.2.2.1
theorem k0_off35_inb : ∀ (v38 : BitVec 32) (k0_hw1 : k0_chk1 v38), ∀ a, (k0_off35 v38) a + S1x16.size a ≤ S256x256.size a := fun v38 k0_hw1 => k0_hw1.2.2.2.2.2.2.2.2.2.2.2.2.2.2.2.1
theorem k0_off36_inb : ∀ (v38 : BitVec 32) (k0_hw1 : k0_chk1 v38), ∀ a, (k0_off36 v38) a + S1x16.size a ≤ S256x16.size a := fun v38 k0_hw1 => k0_hw1.2.2.2.2.2.2.2.2.2.2.2.2.2.2.2.2

def k0_off37 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v198 : Index := Scalar.indexCast v196
  let c0_45 : Index := 0#32
  ![v198.toNat, 0]
def k0_off38 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v203 : Index := Scalar.indexCast v196
  let c16_46 : Index := 16#32
  ![v203.toNat, 16]
def k0_off39 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v208 : Index := Scalar.indexCast v196
  let c32_47 : Index := 32#32
  ![v208.toNat, 32]
def k0_off40 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v213 : Index := Scalar.indexCast v196
  let c48_48 : Index := 48#32
  ![v213.toNat, 48]
def k0_off41 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v218 : Index := Scalar.indexCast v196
  let c64_49 : Index := 64#32
  ![v218.toNat, 64]
def k0_off42 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v223 : Index := Scalar.indexCast v196
  let c80_50 : Index := 80#32
  ![v223.toNat, 80]
def k0_off43 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v228 : Index := Scalar.indexCast v196
  let c96_51 : Index := 96#32
  ![v228.toNat, 96]
def k0_off44 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v233 : Index := Scalar.indexCast v196
  let c112_52 : Index := 112#32
  ![v233.toNat, 112]
def k0_off45 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v238 : Index := Scalar.indexCast v196
  let c128_53 : Index := 128#32
  ![v238.toNat, 128]
def k0_off46 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v243 : Index := Scalar.indexCast v196
  let c144_54 : Index := 144#32
  ![v243.toNat, 144]
def k0_off47 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v248 : Index := Scalar.indexCast v196
  let c160_55 : Index := 160#32
  ![v248.toNat, 160]
def k0_off48 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v253 : Index := Scalar.indexCast v196
  let c176_56 : Index := 176#32
  ![v253.toNat, 176]
def k0_off49 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v258 : Index := Scalar.indexCast v196
  let c192_57 : Index := 192#32
  ![v258.toNat, 192]
def k0_off50 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v263 : Index := Scalar.indexCast v196
  let c208_58 : Index := 208#32
  ![v263.toNat, 208]
def k0_off51 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v268 : Index := Scalar.indexCast v196
  let c224_59 : Index := 224#32
  ![v268.toNat, 224]
def k0_off52 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_43 : BitVec 32 := 16#32
  let v195 : BitVec 32 := Scalar.muli arg31 c16_i32_43
  let c1_i32_44 : BitVec 32 := 1#32
  let v196 : BitVec 32 := Scalar.addi v195 c1_i32_44
  let v273 : Index := Scalar.indexCast v196
  let c240_60 : Index := 240#32
  ![v273.toNat, 240]
def k0_off53 (v194 : BitVec 32) : Fin 2 → Nat :=
  let v280 : Index := Scalar.indexCast v194
  let c0_63 : Index := 0#32
  ![v280.toNat, 0]

def k0_off54 (v194 : BitVec 32) : Fin 2 → Nat :=
  let v284 : Index := Scalar.indexCast v194
  let c16_64 : Index := 16#32
  ![v284.toNat, 16]
def k0_off55 (v194 : BitVec 32) : Fin 2 → Nat :=
  let v288 : Index := Scalar.indexCast v194
  let c32_65 : Index := 32#32
  ![v288.toNat, 32]
def k0_off56 (v194 : BitVec 32) : Fin 2 → Nat :=
  let v292 : Index := Scalar.indexCast v194
  let c48_66 : Index := 48#32
  ![v292.toNat, 48]
def k0_off57 (v194 : BitVec 32) : Fin 2 → Nat :=
  let v296 : Index := Scalar.indexCast v194
  let c64_67 : Index := 64#32
  ![v296.toNat, 64]
def k0_off58 (v194 : BitVec 32) : Fin 2 → Nat :=
  let v300 : Index := Scalar.indexCast v194
  let c80_68 : Index := 80#32
  ![v300.toNat, 80]
def k0_off59 (v194 : BitVec 32) : Fin 2 → Nat :=
  let v304 : Index := Scalar.indexCast v194
  let c96_69 : Index := 96#32
  ![v304.toNat, 96]
def k0_off60 (v194 : BitVec 32) : Fin 2 → Nat :=
  let v308 : Index := Scalar.indexCast v194
  let c112_70 : Index := 112#32
  ![v308.toNat, 112]
def k0_off61 (v194 : BitVec 32) : Fin 2 → Nat :=
  let v312 : Index := Scalar.indexCast v194
  let c128_71 : Index := 128#32
  ![v312.toNat, 128]
def k0_off62 (v194 : BitVec 32) : Fin 2 → Nat :=
  let v316 : Index := Scalar.indexCast v194
  let c144_72 : Index := 144#32
  ![v316.toNat, 144]
def k0_off63 (v194 : BitVec 32) : Fin 2 → Nat :=
  let v320 : Index := Scalar.indexCast v194
  let c160_73 : Index := 160#32
  ![v320.toNat, 160]
def k0_off64 (v194 : BitVec 32) : Fin 2 → Nat :=
  let v324 : Index := Scalar.indexCast v194
  let c176_74 : Index := 176#32
  ![v324.toNat, 176]
def k0_off65 (v194 : BitVec 32) : Fin 2 → Nat :=
  let v328 : Index := Scalar.indexCast v194
  let c192_75 : Index := 192#32
  ![v328.toNat, 192]
def k0_off66 (v194 : BitVec 32) : Fin 2 → Nat :=
  let v332 : Index := Scalar.indexCast v194
  let c208_76 : Index := 208#32
  ![v332.toNat, 208]
def k0_off67 (v194 : BitVec 32) : Fin 2 → Nat :=
  let v336 : Index := Scalar.indexCast v194
  let c224_77 : Index := 224#32
  ![v336.toNat, 224]
def k0_off68 (v194 : BitVec 32) : Fin 2 → Nat :=
  let v340 : Index := Scalar.indexCast v194
  let c240_78 : Index := 240#32
  ![v340.toNat, 240]
def k0_off69 (v194 : BitVec 32) : Fin 2 → Nat :=
  let v345 : Index := Scalar.indexCast v194
  let c0_79 : Index := 0#32
  ![v345.toNat, 0]

def k0_chk2 (v194 : BitVec 32) : Prop :=
  (∀ a, (k0_off53 v194) a + S1x16.size a ≤ S256x256.size a) ∧
  (∀ a, (k0_off54 v194) a + S1x16.size a ≤ S256x256.size a) ∧
  (∀ a, (k0_off55 v194) a + S1x16.size a ≤ S256x256.size a) ∧
  (∀ a, (k0_off56 v194) a + S1x16.size a ≤ S256x256.size a) ∧
  (∀ a, (k0_off57 v194) a + S1x16.size a ≤ S256x256.size a) ∧
  (∀ a, (k0_off58 v194) a + S1x16.size a ≤ S256x256.size a) ∧
  (∀ a, (k0_off59 v194) a + S1x16.size a ≤ S256x256.size a) ∧
  (∀ a, (k0_off60 v194) a + S1x16.size a ≤ S256x256.size a) ∧
  (∀ a, (k0_off61 v194) a + S1x16.size a ≤ S256x256.size a) ∧
  (∀ a, (k0_off62 v194) a + S1x16.size a ≤ S256x256.size a) ∧
  (∀ a, (k0_off63 v194) a + S1x16.size a ≤ S256x256.size a) ∧
  (∀ a, (k0_off64 v194) a + S1x16.size a ≤ S256x256.size a) ∧
  (∀ a, (k0_off65 v194) a + S1x16.size a ≤ S256x256.size a) ∧
  (∀ a, (k0_off66 v194) a + S1x16.size a ≤ S256x256.size a) ∧
  (∀ a, (k0_off67 v194) a + S1x16.size a ≤ S256x256.size a) ∧
  (∀ a, (k0_off68 v194) a + S1x16.size a ≤ S256x256.size a) ∧
  (∀ a, (k0_off69 v194) a + S1x16.size a ≤ S256x16.size a)
theorem k0_off53_inb : ∀ (v194 : BitVec 32) (k0_hw2 : k0_chk2 v194), ∀ a, (k0_off53 v194) a + S1x16.size a ≤ S256x256.size a := fun v194 k0_hw2 => k0_hw2.1
theorem k0_off54_inb : ∀ (v194 : BitVec 32) (k0_hw2 : k0_chk2 v194), ∀ a, (k0_off54 v194) a + S1x16.size a ≤ S256x256.size a := fun v194 k0_hw2 => k0_hw2.2.1
theorem k0_off55_inb : ∀ (v194 : BitVec 32) (k0_hw2 : k0_chk2 v194), ∀ a, (k0_off55 v194) a + S1x16.size a ≤ S256x256.size a := fun v194 k0_hw2 => k0_hw2.2.2.1
theorem k0_off56_inb : ∀ (v194 : BitVec 32) (k0_hw2 : k0_chk2 v194), ∀ a, (k0_off56 v194) a + S1x16.size a ≤ S256x256.size a := fun v194 k0_hw2 => k0_hw2.2.2.2.1
theorem k0_off57_inb : ∀ (v194 : BitVec 32) (k0_hw2 : k0_chk2 v194), ∀ a, (k0_off57 v194) a + S1x16.size a ≤ S256x256.size a := fun v194 k0_hw2 => k0_hw2.2.2.2.2.1
theorem k0_off58_inb : ∀ (v194 : BitVec 32) (k0_hw2 : k0_chk2 v194), ∀ a, (k0_off58 v194) a + S1x16.size a ≤ S256x256.size a := fun v194 k0_hw2 => k0_hw2.2.2.2.2.2.1
theorem k0_off59_inb : ∀ (v194 : BitVec 32) (k0_hw2 : k0_chk2 v194), ∀ a, (k0_off59 v194) a + S1x16.size a ≤ S256x256.size a := fun v194 k0_hw2 => k0_hw2.2.2.2.2.2.2.1
theorem k0_off60_inb : ∀ (v194 : BitVec 32) (k0_hw2 : k0_chk2 v194), ∀ a, (k0_off60 v194) a + S1x16.size a ≤ S256x256.size a := fun v194 k0_hw2 => k0_hw2.2.2.2.2.2.2.2.1
theorem k0_off61_inb : ∀ (v194 : BitVec 32) (k0_hw2 : k0_chk2 v194), ∀ a, (k0_off61 v194) a + S1x16.size a ≤ S256x256.size a := fun v194 k0_hw2 => k0_hw2.2.2.2.2.2.2.2.2.1
theorem k0_off62_inb : ∀ (v194 : BitVec 32) (k0_hw2 : k0_chk2 v194), ∀ a, (k0_off62 v194) a + S1x16.size a ≤ S256x256.size a := fun v194 k0_hw2 => k0_hw2.2.2.2.2.2.2.2.2.2.1
theorem k0_off63_inb : ∀ (v194 : BitVec 32) (k0_hw2 : k0_chk2 v194), ∀ a, (k0_off63 v194) a + S1x16.size a ≤ S256x256.size a := fun v194 k0_hw2 => k0_hw2.2.2.2.2.2.2.2.2.2.2.1
theorem k0_off64_inb : ∀ (v194 : BitVec 32) (k0_hw2 : k0_chk2 v194), ∀ a, (k0_off64 v194) a + S1x16.size a ≤ S256x256.size a := fun v194 k0_hw2 => k0_hw2.2.2.2.2.2.2.2.2.2.2.2.1
theorem k0_off65_inb : ∀ (v194 : BitVec 32) (k0_hw2 : k0_chk2 v194), ∀ a, (k0_off65 v194) a + S1x16.size a ≤ S256x256.size a := fun v194 k0_hw2 => k0_hw2.2.2.2.2.2.2.2.2.2.2.2.2.1
theorem k0_off66_inb : ∀ (v194 : BitVec 32) (k0_hw2 : k0_chk2 v194), ∀ a, (k0_off66 v194) a + S1x16.size a ≤ S256x256.size a := fun v194 k0_hw2 => k0_hw2.2.2.2.2.2.2.2.2.2.2.2.2.2.1
theorem k0_off67_inb : ∀ (v194 : BitVec 32) (k0_hw2 : k0_chk2 v194), ∀ a, (k0_off67 v194) a + S1x16.size a ≤ S256x256.size a := fun v194 k0_hw2 => k0_hw2.2.2.2.2.2.2.2.2.2.2.2.2.2.2.1
theorem k0_off68_inb : ∀ (v194 : BitVec 32) (k0_hw2 : k0_chk2 v194), ∀ a, (k0_off68 v194) a + S1x16.size a ≤ S256x256.size a := fun v194 k0_hw2 => k0_hw2.2.2.2.2.2.2.2.2.2.2.2.2.2.2.2.1
theorem k0_off69_inb : ∀ (v194 : BitVec 32) (k0_hw2 : k0_chk2 v194), ∀ a, (k0_off69 v194) a + S1x16.size a ≤ S256x16.size a := fun v194 k0_hw2 => k0_hw2.2.2.2.2.2.2.2.2.2.2.2.2.2.2.2.2

def k0_off70 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v354 : Index := Scalar.indexCast v352
  let c0_82 : Index := 0#32
  ![v354.toNat, 0]
def k0_off71 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v359 : Index := Scalar.indexCast v352
  let c16_83 : Index := 16#32
  ![v359.toNat, 16]
def k0_off72 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v364 : Index := Scalar.indexCast v352
  let c32_84 : Index := 32#32
  ![v364.toNat, 32]
def k0_off73 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v369 : Index := Scalar.indexCast v352
  let c48_85 : Index := 48#32
  ![v369.toNat, 48]
def k0_off74 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v374 : Index := Scalar.indexCast v352
  let c64_86 : Index := 64#32
  ![v374.toNat, 64]
def k0_off75 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v379 : Index := Scalar.indexCast v352
  let c80_87 : Index := 80#32
  ![v379.toNat, 80]
def k0_off76 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v384 : Index := Scalar.indexCast v352
  let c96_88 : Index := 96#32
  ![v384.toNat, 96]
def k0_off77 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v389 : Index := Scalar.indexCast v352
  let c112_89 : Index := 112#32
  ![v389.toNat, 112]
def k0_off78 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v394 : Index := Scalar.indexCast v352
  let c128_90 : Index := 128#32
  ![v394.toNat, 128]
def k0_off79 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v399 : Index := Scalar.indexCast v352
  let c144_91 : Index := 144#32
  ![v399.toNat, 144]
def k0_off80 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v404 : Index := Scalar.indexCast v352
  let c160_92 : Index := 160#32
  ![v404.toNat, 160]
def k0_off81 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v409 : Index := Scalar.indexCast v352
  let c176_93 : Index := 176#32
  ![v409.toNat, 176]
def k0_off82 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v414 : Index := Scalar.indexCast v352
  let c192_94 : Index := 192#32
  ![v414.toNat, 192]
def k0_off83 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v419 : Index := Scalar.indexCast v352
  let c208_95 : Index := 208#32
  ![v419.toNat, 208]
def k0_off84 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v424 : Index := Scalar.indexCast v352
  let c224_96 : Index := 224#32
  ![v424.toNat, 224]
def k0_off85 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_80 : BitVec 32 := 16#32
  let v351 : BitVec 32 := Scalar.muli arg31 c16_i32_80
  let c2_i32_81 : BitVec 32 := 2#32
  let v352 : BitVec 32 := Scalar.addi v351 c2_i32_81
  let v429 : Index := Scalar.indexCast v352
  let c240_97 : Index := 240#32
  ![v429.toNat, 240]
def k0_off86 (v350 : BitVec 32) : Fin 2 → Nat :=
  let v436 : Index := Scalar.indexCast v350
  let c0_100 : Index := 0#32
  ![v436.toNat, 0]

def k0_off87 (v350 : BitVec 32) : Fin 2 → Nat :=
  let v440 : Index := Scalar.indexCast v350
  let c16_101 : Index := 16#32
  ![v440.toNat, 16]
def k0_off88 (v350 : BitVec 32) : Fin 2 → Nat :=
  let v444 : Index := Scalar.indexCast v350
  let c32_102 : Index := 32#32
  ![v444.toNat, 32]
def k0_off89 (v350 : BitVec 32) : Fin 2 → Nat :=
  let v448 : Index := Scalar.indexCast v350
  let c48_103 : Index := 48#32
  ![v448.toNat, 48]
def k0_off90 (v350 : BitVec 32) : Fin 2 → Nat :=
  let v452 : Index := Scalar.indexCast v350
  let c64_104 : Index := 64#32
  ![v452.toNat, 64]
def k0_off91 (v350 : BitVec 32) : Fin 2 → Nat :=
  let v456 : Index := Scalar.indexCast v350
  let c80_105 : Index := 80#32
  ![v456.toNat, 80]
def k0_off92 (v350 : BitVec 32) : Fin 2 → Nat :=
  let v460 : Index := Scalar.indexCast v350
  let c96_106 : Index := 96#32
  ![v460.toNat, 96]
def k0_off93 (v350 : BitVec 32) : Fin 2 → Nat :=
  let v464 : Index := Scalar.indexCast v350
  let c112_107 : Index := 112#32
  ![v464.toNat, 112]
def k0_off94 (v350 : BitVec 32) : Fin 2 → Nat :=
  let v468 : Index := Scalar.indexCast v350
  let c128_108 : Index := 128#32
  ![v468.toNat, 128]
def k0_off95 (v350 : BitVec 32) : Fin 2 → Nat :=
  let v472 : Index := Scalar.indexCast v350
  let c144_109 : Index := 144#32
  ![v472.toNat, 144]
def k0_off96 (v350 : BitVec 32) : Fin 2 → Nat :=
  let v476 : Index := Scalar.indexCast v350
  let c160_110 : Index := 160#32
  ![v476.toNat, 160]
def k0_off97 (v350 : BitVec 32) : Fin 2 → Nat :=
  let v480 : Index := Scalar.indexCast v350
  let c176_111 : Index := 176#32
  ![v480.toNat, 176]
def k0_off98 (v350 : BitVec 32) : Fin 2 → Nat :=
  let v484 : Index := Scalar.indexCast v350
  let c192_112 : Index := 192#32
  ![v484.toNat, 192]
def k0_off99 (v350 : BitVec 32) : Fin 2 → Nat :=
  let v488 : Index := Scalar.indexCast v350
  let c208_113 : Index := 208#32
  ![v488.toNat, 208]
def k0_off100 (v350 : BitVec 32) : Fin 2 → Nat :=
  let v492 : Index := Scalar.indexCast v350
  let c224_114 : Index := 224#32
  ![v492.toNat, 224]
def k0_off101 (v350 : BitVec 32) : Fin 2 → Nat :=
  let v496 : Index := Scalar.indexCast v350
  let c240_115 : Index := 240#32
  ![v496.toNat, 240]
def k0_off102 (v350 : BitVec 32) : Fin 2 → Nat :=
  let v501 : Index := Scalar.indexCast v350
  let c0_116 : Index := 0#32
  ![v501.toNat, 0]

def k0_chk3 (v350 : BitVec 32) : Prop :=
  (∀ a, (k0_off86 v350) a + S1x16.size a ≤ S256x256.size a) ∧
  (∀ a, (k0_off87 v350) a + S1x16.size a ≤ S256x256.size a) ∧
  (∀ a, (k0_off88 v350) a + S1x16.size a ≤ S256x256.size a) ∧
  (∀ a, (k0_off89 v350) a + S1x16.size a ≤ S256x256.size a) ∧
  (∀ a, (k0_off90 v350) a + S1x16.size a ≤ S256x256.size a) ∧
  (∀ a, (k0_off91 v350) a + S1x16.size a ≤ S256x256.size a) ∧
  (∀ a, (k0_off92 v350) a + S1x16.size a ≤ S256x256.size a) ∧
  (∀ a, (k0_off93 v350) a + S1x16.size a ≤ S256x256.size a) ∧
  (∀ a, (k0_off94 v350) a + S1x16.size a ≤ S256x256.size a) ∧
  (∀ a, (k0_off95 v350) a + S1x16.size a ≤ S256x256.size a) ∧
  (∀ a, (k0_off96 v350) a + S1x16.size a ≤ S256x256.size a) ∧
  (∀ a, (k0_off97 v350) a + S1x16.size a ≤ S256x256.size a) ∧
  (∀ a, (k0_off98 v350) a + S1x16.size a ≤ S256x256.size a) ∧
  (∀ a, (k0_off99 v350) a + S1x16.size a ≤ S256x256.size a) ∧
  (∀ a, (k0_off100 v350) a + S1x16.size a ≤ S256x256.size a) ∧
  (∀ a, (k0_off101 v350) a + S1x16.size a ≤ S256x256.size a) ∧
  (∀ a, (k0_off102 v350) a + S1x16.size a ≤ S256x16.size a)
theorem k0_off86_inb : ∀ (v350 : BitVec 32) (k0_hw3 : k0_chk3 v350), ∀ a, (k0_off86 v350) a + S1x16.size a ≤ S256x256.size a := fun v350 k0_hw3 => k0_hw3.1
theorem k0_off87_inb : ∀ (v350 : BitVec 32) (k0_hw3 : k0_chk3 v350), ∀ a, (k0_off87 v350) a + S1x16.size a ≤ S256x256.size a := fun v350 k0_hw3 => k0_hw3.2.1
theorem k0_off88_inb : ∀ (v350 : BitVec 32) (k0_hw3 : k0_chk3 v350), ∀ a, (k0_off88 v350) a + S1x16.size a ≤ S256x256.size a := fun v350 k0_hw3 => k0_hw3.2.2.1
theorem k0_off89_inb : ∀ (v350 : BitVec 32) (k0_hw3 : k0_chk3 v350), ∀ a, (k0_off89 v350) a + S1x16.size a ≤ S256x256.size a := fun v350 k0_hw3 => k0_hw3.2.2.2.1
theorem k0_off90_inb : ∀ (v350 : BitVec 32) (k0_hw3 : k0_chk3 v350), ∀ a, (k0_off90 v350) a + S1x16.size a ≤ S256x256.size a := fun v350 k0_hw3 => k0_hw3.2.2.2.2.1
theorem k0_off91_inb : ∀ (v350 : BitVec 32) (k0_hw3 : k0_chk3 v350), ∀ a, (k0_off91 v350) a + S1x16.size a ≤ S256x256.size a := fun v350 k0_hw3 => k0_hw3.2.2.2.2.2.1
theorem k0_off92_inb : ∀ (v350 : BitVec 32) (k0_hw3 : k0_chk3 v350), ∀ a, (k0_off92 v350) a + S1x16.size a ≤ S256x256.size a := fun v350 k0_hw3 => k0_hw3.2.2.2.2.2.2.1
theorem k0_off93_inb : ∀ (v350 : BitVec 32) (k0_hw3 : k0_chk3 v350), ∀ a, (k0_off93 v350) a + S1x16.size a ≤ S256x256.size a := fun v350 k0_hw3 => k0_hw3.2.2.2.2.2.2.2.1
theorem k0_off94_inb : ∀ (v350 : BitVec 32) (k0_hw3 : k0_chk3 v350), ∀ a, (k0_off94 v350) a + S1x16.size a ≤ S256x256.size a := fun v350 k0_hw3 => k0_hw3.2.2.2.2.2.2.2.2.1
theorem k0_off95_inb : ∀ (v350 : BitVec 32) (k0_hw3 : k0_chk3 v350), ∀ a, (k0_off95 v350) a + S1x16.size a ≤ S256x256.size a := fun v350 k0_hw3 => k0_hw3.2.2.2.2.2.2.2.2.2.1
theorem k0_off96_inb : ∀ (v350 : BitVec 32) (k0_hw3 : k0_chk3 v350), ∀ a, (k0_off96 v350) a + S1x16.size a ≤ S256x256.size a := fun v350 k0_hw3 => k0_hw3.2.2.2.2.2.2.2.2.2.2.1
theorem k0_off97_inb : ∀ (v350 : BitVec 32) (k0_hw3 : k0_chk3 v350), ∀ a, (k0_off97 v350) a + S1x16.size a ≤ S256x256.size a := fun v350 k0_hw3 => k0_hw3.2.2.2.2.2.2.2.2.2.2.2.1
theorem k0_off98_inb : ∀ (v350 : BitVec 32) (k0_hw3 : k0_chk3 v350), ∀ a, (k0_off98 v350) a + S1x16.size a ≤ S256x256.size a := fun v350 k0_hw3 => k0_hw3.2.2.2.2.2.2.2.2.2.2.2.2.1
theorem k0_off99_inb : ∀ (v350 : BitVec 32) (k0_hw3 : k0_chk3 v350), ∀ a, (k0_off99 v350) a + S1x16.size a ≤ S256x256.size a := fun v350 k0_hw3 => k0_hw3.2.2.2.2.2.2.2.2.2.2.2.2.2.1
theorem k0_off100_inb : ∀ (v350 : BitVec 32) (k0_hw3 : k0_chk3 v350), ∀ a, (k0_off100 v350) a + S1x16.size a ≤ S256x256.size a := fun v350 k0_hw3 => k0_hw3.2.2.2.2.2.2.2.2.2.2.2.2.2.2.1
theorem k0_off101_inb : ∀ (v350 : BitVec 32) (k0_hw3 : k0_chk3 v350), ∀ a, (k0_off101 v350) a + S1x16.size a ≤ S256x256.size a := fun v350 k0_hw3 => k0_hw3.2.2.2.2.2.2.2.2.2.2.2.2.2.2.2.1
theorem k0_off102_inb : ∀ (v350 : BitVec 32) (k0_hw3 : k0_chk3 v350), ∀ a, (k0_off102 v350) a + S1x16.size a ≤ S256x16.size a := fun v350 k0_hw3 => k0_hw3.2.2.2.2.2.2.2.2.2.2.2.2.2.2.2.2

def k0_off103 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v510 : Index := Scalar.indexCast v508
  let c0_118 : Index := 0#32
  ![v510.toNat, 0]
def k0_off104 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v515 : Index := Scalar.indexCast v508
  let c16_119 : Index := 16#32
  ![v515.toNat, 16]
def k0_off105 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v520 : Index := Scalar.indexCast v508
  let c32_120 : Index := 32#32
  ![v520.toNat, 32]
def k0_off106 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v525 : Index := Scalar.indexCast v508
  let c48_121 : Index := 48#32
  ![v525.toNat, 48]
def k0_off107 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v530 : Index := Scalar.indexCast v508
  let c64_122 : Index := 64#32
  ![v530.toNat, 64]
def k0_off108 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v535 : Index := Scalar.indexCast v508
  let c80_123 : Index := 80#32
  ![v535.toNat, 80]
def k0_off109 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v540 : Index := Scalar.indexCast v508
  let c96_124 : Index := 96#32
  ![v540.toNat, 96]
def k0_off110 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v545 : Index := Scalar.indexCast v508
  let c112_125 : Index := 112#32
  ![v545.toNat, 112]
def k0_off111 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v550 : Index := Scalar.indexCast v508
  let c128_126 : Index := 128#32
  ![v550.toNat, 128]
def k0_off112 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v555 : Index := Scalar.indexCast v508
  let c144_127 : Index := 144#32
  ![v555.toNat, 144]
def k0_off113 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v560 : Index := Scalar.indexCast v508
  let c160_128 : Index := 160#32
  ![v560.toNat, 160]
def k0_off114 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v565 : Index := Scalar.indexCast v508
  let c176_129 : Index := 176#32
  ![v565.toNat, 176]
def k0_off115 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v570 : Index := Scalar.indexCast v508
  let c192_130 : Index := 192#32
  ![v570.toNat, 192]
def k0_off116 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v575 : Index := Scalar.indexCast v508
  let c208_131 : Index := 208#32
  ![v575.toNat, 208]
def k0_off117 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v580 : Index := Scalar.indexCast v508
  let c224_132 : Index := 224#32
  ![v580.toNat, 224]
def k0_off118 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_117 : BitVec 32 := 16#32
  let v507 : BitVec 32 := Scalar.muli arg31 c16_i32_117
  let c3_i32 : BitVec 32 := 3#32
  let v508 : BitVec 32 := Scalar.addi v507 c3_i32
  let v585 : Index := Scalar.indexCast v508
  let c240_133 : Index := 240#32
  ![v585.toNat, 240]
def k0_off119 (v506 : BitVec 32) : Fin 2 → Nat :=
  let v592 : Index := Scalar.indexCast v506
  let c0_136 : Index := 0#32
  ![v592.toNat, 0]

def k0_off120 (v506 : BitVec 32) : Fin 2 → Nat :=
  let v596 : Index := Scalar.indexCast v506
  let c16_137 : Index := 16#32
  ![v596.toNat, 16]
def k0_off121 (v506 : BitVec 32) : Fin 2 → Nat :=
  let v600 : Index := Scalar.indexCast v506
  let c32_138 : Index := 32#32
  ![v600.toNat, 32]
def k0_off122 (v506 : BitVec 32) : Fin 2 → Nat :=
  let v604 : Index := Scalar.indexCast v506
  let c48_139 : Index := 48#32
  ![v604.toNat, 48]
def k0_off123 (v506 : BitVec 32) : Fin 2 → Nat :=
  let v608 : Index := Scalar.indexCast v506
  let c64_140 : Index := 64#32
  ![v608.toNat, 64]
def k0_off124 (v506 : BitVec 32) : Fin 2 → Nat :=
  let v612 : Index := Scalar.indexCast v506
  let c80_141 : Index := 80#32
  ![v612.toNat, 80]
def k0_off125 (v506 : BitVec 32) : Fin 2 → Nat :=
  let v616 : Index := Scalar.indexCast v506
  let c96_142 : Index := 96#32
  ![v616.toNat, 96]
def k0_off126 (v506 : BitVec 32) : Fin 2 → Nat :=
  let v620 : Index := Scalar.indexCast v506
  let c112_143 : Index := 112#32
  ![v620.toNat, 112]
def k0_off127 (v506 : BitVec 32) : Fin 2 → Nat :=
  let v624 : Index := Scalar.indexCast v506
  let c128_144 : Index := 128#32
  ![v624.toNat, 128]
def k0_off128 (v506 : BitVec 32) : Fin 2 → Nat :=
  let v628 : Index := Scalar.indexCast v506
  let c144_145 : Index := 144#32
  ![v628.toNat, 144]
def k0_off129 (v506 : BitVec 32) : Fin 2 → Nat :=
  let v632 : Index := Scalar.indexCast v506
  let c160_146 : Index := 160#32
  ![v632.toNat, 160]
def k0_off130 (v506 : BitVec 32) : Fin 2 → Nat :=
  let v636 : Index := Scalar.indexCast v506
  let c176_147 : Index := 176#32
  ![v636.toNat, 176]
def k0_off131 (v506 : BitVec 32) : Fin 2 → Nat :=
  let v640 : Index := Scalar.indexCast v506
  let c192_148 : Index := 192#32
  ![v640.toNat, 192]
def k0_off132 (v506 : BitVec 32) : Fin 2 → Nat :=
  let v644 : Index := Scalar.indexCast v506
  let c208_149 : Index := 208#32
  ![v644.toNat, 208]
def k0_off133 (v506 : BitVec 32) : Fin 2 → Nat :=
  let v648 : Index := Scalar.indexCast v506
  let c224_150 : Index := 224#32
  ![v648.toNat, 224]
def k0_off134 (v506 : BitVec 32) : Fin 2 → Nat :=
  let v652 : Index := Scalar.indexCast v506
  let c240_151 : Index := 240#32
  ![v652.toNat, 240]
def k0_off135 (v506 : BitVec 32) : Fin 2 → Nat :=
  let v657 : Index := Scalar.indexCast v506
  let c0_152 : Index := 0#32
  ![v657.toNat, 0]

def k0_chk4 (v506 : BitVec 32) : Prop :=
  (∀ a, (k0_off119 v506) a + S1x16.size a ≤ S256x256.size a) ∧
  (∀ a, (k0_off120 v506) a + S1x16.size a ≤ S256x256.size a) ∧
  (∀ a, (k0_off121 v506) a + S1x16.size a ≤ S256x256.size a) ∧
  (∀ a, (k0_off122 v506) a + S1x16.size a ≤ S256x256.size a) ∧
  (∀ a, (k0_off123 v506) a + S1x16.size a ≤ S256x256.size a) ∧
  (∀ a, (k0_off124 v506) a + S1x16.size a ≤ S256x256.size a) ∧
  (∀ a, (k0_off125 v506) a + S1x16.size a ≤ S256x256.size a) ∧
  (∀ a, (k0_off126 v506) a + S1x16.size a ≤ S256x256.size a) ∧
  (∀ a, (k0_off127 v506) a + S1x16.size a ≤ S256x256.size a) ∧
  (∀ a, (k0_off128 v506) a + S1x16.size a ≤ S256x256.size a) ∧
  (∀ a, (k0_off129 v506) a + S1x16.size a ≤ S256x256.size a) ∧
  (∀ a, (k0_off130 v506) a + S1x16.size a ≤ S256x256.size a) ∧
  (∀ a, (k0_off131 v506) a + S1x16.size a ≤ S256x256.size a) ∧
  (∀ a, (k0_off132 v506) a + S1x16.size a ≤ S256x256.size a) ∧
  (∀ a, (k0_off133 v506) a + S1x16.size a ≤ S256x256.size a) ∧
  (∀ a, (k0_off134 v506) a + S1x16.size a ≤ S256x256.size a) ∧
  (∀ a, (k0_off135 v506) a + S1x16.size a ≤ S256x16.size a)
theorem k0_off119_inb : ∀ (v506 : BitVec 32) (k0_hw4 : k0_chk4 v506), ∀ a, (k0_off119 v506) a + S1x16.size a ≤ S256x256.size a := fun v506 k0_hw4 => k0_hw4.1
theorem k0_off120_inb : ∀ (v506 : BitVec 32) (k0_hw4 : k0_chk4 v506), ∀ a, (k0_off120 v506) a + S1x16.size a ≤ S256x256.size a := fun v506 k0_hw4 => k0_hw4.2.1
theorem k0_off121_inb : ∀ (v506 : BitVec 32) (k0_hw4 : k0_chk4 v506), ∀ a, (k0_off121 v506) a + S1x16.size a ≤ S256x256.size a := fun v506 k0_hw4 => k0_hw4.2.2.1
theorem k0_off122_inb : ∀ (v506 : BitVec 32) (k0_hw4 : k0_chk4 v506), ∀ a, (k0_off122 v506) a + S1x16.size a ≤ S256x256.size a := fun v506 k0_hw4 => k0_hw4.2.2.2.1
theorem k0_off123_inb : ∀ (v506 : BitVec 32) (k0_hw4 : k0_chk4 v506), ∀ a, (k0_off123 v506) a + S1x16.size a ≤ S256x256.size a := fun v506 k0_hw4 => k0_hw4.2.2.2.2.1
theorem k0_off124_inb : ∀ (v506 : BitVec 32) (k0_hw4 : k0_chk4 v506), ∀ a, (k0_off124 v506) a + S1x16.size a ≤ S256x256.size a := fun v506 k0_hw4 => k0_hw4.2.2.2.2.2.1
theorem k0_off125_inb : ∀ (v506 : BitVec 32) (k0_hw4 : k0_chk4 v506), ∀ a, (k0_off125 v506) a + S1x16.size a ≤ S256x256.size a := fun v506 k0_hw4 => k0_hw4.2.2.2.2.2.2.1
theorem k0_off126_inb : ∀ (v506 : BitVec 32) (k0_hw4 : k0_chk4 v506), ∀ a, (k0_off126 v506) a + S1x16.size a ≤ S256x256.size a := fun v506 k0_hw4 => k0_hw4.2.2.2.2.2.2.2.1
theorem k0_off127_inb : ∀ (v506 : BitVec 32) (k0_hw4 : k0_chk4 v506), ∀ a, (k0_off127 v506) a + S1x16.size a ≤ S256x256.size a := fun v506 k0_hw4 => k0_hw4.2.2.2.2.2.2.2.2.1
theorem k0_off128_inb : ∀ (v506 : BitVec 32) (k0_hw4 : k0_chk4 v506), ∀ a, (k0_off128 v506) a + S1x16.size a ≤ S256x256.size a := fun v506 k0_hw4 => k0_hw4.2.2.2.2.2.2.2.2.2.1
theorem k0_off129_inb : ∀ (v506 : BitVec 32) (k0_hw4 : k0_chk4 v506), ∀ a, (k0_off129 v506) a + S1x16.size a ≤ S256x256.size a := fun v506 k0_hw4 => k0_hw4.2.2.2.2.2.2.2.2.2.2.1
theorem k0_off130_inb : ∀ (v506 : BitVec 32) (k0_hw4 : k0_chk4 v506), ∀ a, (k0_off130 v506) a + S1x16.size a ≤ S256x256.size a := fun v506 k0_hw4 => k0_hw4.2.2.2.2.2.2.2.2.2.2.2.1
theorem k0_off131_inb : ∀ (v506 : BitVec 32) (k0_hw4 : k0_chk4 v506), ∀ a, (k0_off131 v506) a + S1x16.size a ≤ S256x256.size a := fun v506 k0_hw4 => k0_hw4.2.2.2.2.2.2.2.2.2.2.2.2.1
theorem k0_off132_inb : ∀ (v506 : BitVec 32) (k0_hw4 : k0_chk4 v506), ∀ a, (k0_off132 v506) a + S1x16.size a ≤ S256x256.size a := fun v506 k0_hw4 => k0_hw4.2.2.2.2.2.2.2.2.2.2.2.2.2.1
theorem k0_off133_inb : ∀ (v506 : BitVec 32) (k0_hw4 : k0_chk4 v506), ∀ a, (k0_off133 v506) a + S1x16.size a ≤ S256x256.size a := fun v506 k0_hw4 => k0_hw4.2.2.2.2.2.2.2.2.2.2.2.2.2.2.1
theorem k0_off134_inb : ∀ (v506 : BitVec 32) (k0_hw4 : k0_chk4 v506), ∀ a, (k0_off134 v506) a + S1x16.size a ≤ S256x256.size a := fun v506 k0_hw4 => k0_hw4.2.2.2.2.2.2.2.2.2.2.2.2.2.2.2.1
theorem k0_off135_inb : ∀ (v506 : BitVec 32) (k0_hw4 : k0_chk4 v506), ∀ a, (k0_off135 v506) a + S1x16.size a ≤ S256x16.size a := fun v506 k0_hw4 => k0_hw4.2.2.2.2.2.2.2.2.2.2.2.2.2.2.2.2

def k0_off136 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v666 : Index := Scalar.indexCast v664
  let c0_154 : Index := 0#32
  ![v666.toNat, 0]
def k0_off137 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v671 : Index := Scalar.indexCast v664
  let c16_155 : Index := 16#32
  ![v671.toNat, 16]
def k0_off138 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v676 : Index := Scalar.indexCast v664
  let c32_156 : Index := 32#32
  ![v676.toNat, 32]
def k0_off139 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v681 : Index := Scalar.indexCast v664
  let c48_157 : Index := 48#32
  ![v681.toNat, 48]
def k0_off140 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v686 : Index := Scalar.indexCast v664
  let c64_158 : Index := 64#32
  ![v686.toNat, 64]
def k0_off141 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v691 : Index := Scalar.indexCast v664
  let c80_159 : Index := 80#32
  ![v691.toNat, 80]
def k0_off142 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v696 : Index := Scalar.indexCast v664
  let c96_160 : Index := 96#32
  ![v696.toNat, 96]
def k0_off143 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v701 : Index := Scalar.indexCast v664
  let c112_161 : Index := 112#32
  ![v701.toNat, 112]
def k0_off144 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v706 : Index := Scalar.indexCast v664
  let c128_162 : Index := 128#32
  ![v706.toNat, 128]
def k0_off145 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v711 : Index := Scalar.indexCast v664
  let c144_163 : Index := 144#32
  ![v711.toNat, 144]
def k0_off146 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v716 : Index := Scalar.indexCast v664
  let c160_164 : Index := 160#32
  ![v716.toNat, 160]
def k0_off147 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v721 : Index := Scalar.indexCast v664
  let c176_165 : Index := 176#32
  ![v721.toNat, 176]
def k0_off148 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v726 : Index := Scalar.indexCast v664
  let c192_166 : Index := 192#32
  ![v726.toNat, 192]
def k0_off149 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v731 : Index := Scalar.indexCast v664
  let c208_167 : Index := 208#32
  ![v731.toNat, 208]
def k0_off150 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v736 : Index := Scalar.indexCast v664
  let c224_168 : Index := 224#32
  ![v736.toNat, 224]
def k0_off151 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_153 : BitVec 32 := 16#32
  let v663 : BitVec 32 := Scalar.muli arg31 c16_i32_153
  let c4_i32 : BitVec 32 := 4#32
  let v664 : BitVec 32 := Scalar.addi v663 c4_i32
  let v741 : Index := Scalar.indexCast v664
  let c240_169 : Index := 240#32
  ![v741.toNat, 240]
def k0_off152 (v662 : BitVec 32) : Fin 2 → Nat :=
  let v748 : Index := Scalar.indexCast v662
  let c0_172 : Index := 0#32
  ![v748.toNat, 0]

def k0_off153 (v662 : BitVec 32) : Fin 2 → Nat :=
  let v752 : Index := Scalar.indexCast v662
  let c16_173 : Index := 16#32
  ![v752.toNat, 16]
def k0_off154 (v662 : BitVec 32) : Fin 2 → Nat :=
  let v756 : Index := Scalar.indexCast v662
  let c32_174 : Index := 32#32
  ![v756.toNat, 32]
def k0_off155 (v662 : BitVec 32) : Fin 2 → Nat :=
  let v760 : Index := Scalar.indexCast v662
  let c48_175 : Index := 48#32
  ![v760.toNat, 48]
def k0_off156 (v662 : BitVec 32) : Fin 2 → Nat :=
  let v764 : Index := Scalar.indexCast v662
  let c64_176 : Index := 64#32
  ![v764.toNat, 64]
def k0_off157 (v662 : BitVec 32) : Fin 2 → Nat :=
  let v768 : Index := Scalar.indexCast v662
  let c80_177 : Index := 80#32
  ![v768.toNat, 80]
def k0_off158 (v662 : BitVec 32) : Fin 2 → Nat :=
  let v772 : Index := Scalar.indexCast v662
  let c96_178 : Index := 96#32
  ![v772.toNat, 96]
def k0_off159 (v662 : BitVec 32) : Fin 2 → Nat :=
  let v776 : Index := Scalar.indexCast v662
  let c112_179 : Index := 112#32
  ![v776.toNat, 112]
def k0_off160 (v662 : BitVec 32) : Fin 2 → Nat :=
  let v780 : Index := Scalar.indexCast v662
  let c128_180 : Index := 128#32
  ![v780.toNat, 128]
def k0_off161 (v662 : BitVec 32) : Fin 2 → Nat :=
  let v784 : Index := Scalar.indexCast v662
  let c144_181 : Index := 144#32
  ![v784.toNat, 144]
def k0_off162 (v662 : BitVec 32) : Fin 2 → Nat :=
  let v788 : Index := Scalar.indexCast v662
  let c160_182 : Index := 160#32
  ![v788.toNat, 160]
def k0_off163 (v662 : BitVec 32) : Fin 2 → Nat :=
  let v792 : Index := Scalar.indexCast v662
  let c176_183 : Index := 176#32
  ![v792.toNat, 176]
def k0_off164 (v662 : BitVec 32) : Fin 2 → Nat :=
  let v796 : Index := Scalar.indexCast v662
  let c192_184 : Index := 192#32
  ![v796.toNat, 192]
def k0_off165 (v662 : BitVec 32) : Fin 2 → Nat :=
  let v800 : Index := Scalar.indexCast v662
  let c208_185 : Index := 208#32
  ![v800.toNat, 208]
def k0_off166 (v662 : BitVec 32) : Fin 2 → Nat :=
  let v804 : Index := Scalar.indexCast v662
  let c224_186 : Index := 224#32
  ![v804.toNat, 224]
def k0_off167 (v662 : BitVec 32) : Fin 2 → Nat :=
  let v808 : Index := Scalar.indexCast v662
  let c240_187 : Index := 240#32
  ![v808.toNat, 240]
def k0_off168 (v662 : BitVec 32) : Fin 2 → Nat :=
  let v813 : Index := Scalar.indexCast v662
  let c0_188 : Index := 0#32
  ![v813.toNat, 0]

def k0_chk5 (v662 : BitVec 32) : Prop :=
  (∀ a, (k0_off152 v662) a + S1x16.size a ≤ S256x256.size a) ∧
  (∀ a, (k0_off153 v662) a + S1x16.size a ≤ S256x256.size a) ∧
  (∀ a, (k0_off154 v662) a + S1x16.size a ≤ S256x256.size a) ∧
  (∀ a, (k0_off155 v662) a + S1x16.size a ≤ S256x256.size a) ∧
  (∀ a, (k0_off156 v662) a + S1x16.size a ≤ S256x256.size a) ∧
  (∀ a, (k0_off157 v662) a + S1x16.size a ≤ S256x256.size a) ∧
  (∀ a, (k0_off158 v662) a + S1x16.size a ≤ S256x256.size a) ∧
  (∀ a, (k0_off159 v662) a + S1x16.size a ≤ S256x256.size a) ∧
  (∀ a, (k0_off160 v662) a + S1x16.size a ≤ S256x256.size a) ∧
  (∀ a, (k0_off161 v662) a + S1x16.size a ≤ S256x256.size a) ∧
  (∀ a, (k0_off162 v662) a + S1x16.size a ≤ S256x256.size a) ∧
  (∀ a, (k0_off163 v662) a + S1x16.size a ≤ S256x256.size a) ∧
  (∀ a, (k0_off164 v662) a + S1x16.size a ≤ S256x256.size a) ∧
  (∀ a, (k0_off165 v662) a + S1x16.size a ≤ S256x256.size a) ∧
  (∀ a, (k0_off166 v662) a + S1x16.size a ≤ S256x256.size a) ∧
  (∀ a, (k0_off167 v662) a + S1x16.size a ≤ S256x256.size a) ∧
  (∀ a, (k0_off168 v662) a + S1x16.size a ≤ S256x16.size a)
theorem k0_off152_inb : ∀ (v662 : BitVec 32) (k0_hw5 : k0_chk5 v662), ∀ a, (k0_off152 v662) a + S1x16.size a ≤ S256x256.size a := fun v662 k0_hw5 => k0_hw5.1
theorem k0_off153_inb : ∀ (v662 : BitVec 32) (k0_hw5 : k0_chk5 v662), ∀ a, (k0_off153 v662) a + S1x16.size a ≤ S256x256.size a := fun v662 k0_hw5 => k0_hw5.2.1
theorem k0_off154_inb : ∀ (v662 : BitVec 32) (k0_hw5 : k0_chk5 v662), ∀ a, (k0_off154 v662) a + S1x16.size a ≤ S256x256.size a := fun v662 k0_hw5 => k0_hw5.2.2.1
theorem k0_off155_inb : ∀ (v662 : BitVec 32) (k0_hw5 : k0_chk5 v662), ∀ a, (k0_off155 v662) a + S1x16.size a ≤ S256x256.size a := fun v662 k0_hw5 => k0_hw5.2.2.2.1
theorem k0_off156_inb : ∀ (v662 : BitVec 32) (k0_hw5 : k0_chk5 v662), ∀ a, (k0_off156 v662) a + S1x16.size a ≤ S256x256.size a := fun v662 k0_hw5 => k0_hw5.2.2.2.2.1
theorem k0_off157_inb : ∀ (v662 : BitVec 32) (k0_hw5 : k0_chk5 v662), ∀ a, (k0_off157 v662) a + S1x16.size a ≤ S256x256.size a := fun v662 k0_hw5 => k0_hw5.2.2.2.2.2.1
theorem k0_off158_inb : ∀ (v662 : BitVec 32) (k0_hw5 : k0_chk5 v662), ∀ a, (k0_off158 v662) a + S1x16.size a ≤ S256x256.size a := fun v662 k0_hw5 => k0_hw5.2.2.2.2.2.2.1
theorem k0_off159_inb : ∀ (v662 : BitVec 32) (k0_hw5 : k0_chk5 v662), ∀ a, (k0_off159 v662) a + S1x16.size a ≤ S256x256.size a := fun v662 k0_hw5 => k0_hw5.2.2.2.2.2.2.2.1
theorem k0_off160_inb : ∀ (v662 : BitVec 32) (k0_hw5 : k0_chk5 v662), ∀ a, (k0_off160 v662) a + S1x16.size a ≤ S256x256.size a := fun v662 k0_hw5 => k0_hw5.2.2.2.2.2.2.2.2.1
theorem k0_off161_inb : ∀ (v662 : BitVec 32) (k0_hw5 : k0_chk5 v662), ∀ a, (k0_off161 v662) a + S1x16.size a ≤ S256x256.size a := fun v662 k0_hw5 => k0_hw5.2.2.2.2.2.2.2.2.2.1
theorem k0_off162_inb : ∀ (v662 : BitVec 32) (k0_hw5 : k0_chk5 v662), ∀ a, (k0_off162 v662) a + S1x16.size a ≤ S256x256.size a := fun v662 k0_hw5 => k0_hw5.2.2.2.2.2.2.2.2.2.2.1
theorem k0_off163_inb : ∀ (v662 : BitVec 32) (k0_hw5 : k0_chk5 v662), ∀ a, (k0_off163 v662) a + S1x16.size a ≤ S256x256.size a := fun v662 k0_hw5 => k0_hw5.2.2.2.2.2.2.2.2.2.2.2.1
theorem k0_off164_inb : ∀ (v662 : BitVec 32) (k0_hw5 : k0_chk5 v662), ∀ a, (k0_off164 v662) a + S1x16.size a ≤ S256x256.size a := fun v662 k0_hw5 => k0_hw5.2.2.2.2.2.2.2.2.2.2.2.2.1
theorem k0_off165_inb : ∀ (v662 : BitVec 32) (k0_hw5 : k0_chk5 v662), ∀ a, (k0_off165 v662) a + S1x16.size a ≤ S256x256.size a := fun v662 k0_hw5 => k0_hw5.2.2.2.2.2.2.2.2.2.2.2.2.2.1
theorem k0_off166_inb : ∀ (v662 : BitVec 32) (k0_hw5 : k0_chk5 v662), ∀ a, (k0_off166 v662) a + S1x16.size a ≤ S256x256.size a := fun v662 k0_hw5 => k0_hw5.2.2.2.2.2.2.2.2.2.2.2.2.2.2.1
theorem k0_off167_inb : ∀ (v662 : BitVec 32) (k0_hw5 : k0_chk5 v662), ∀ a, (k0_off167 v662) a + S1x16.size a ≤ S256x256.size a := fun v662 k0_hw5 => k0_hw5.2.2.2.2.2.2.2.2.2.2.2.2.2.2.2.1
theorem k0_off168_inb : ∀ (v662 : BitVec 32) (k0_hw5 : k0_chk5 v662), ∀ a, (k0_off168 v662) a + S1x16.size a ≤ S256x16.size a := fun v662 k0_hw5 => k0_hw5.2.2.2.2.2.2.2.2.2.2.2.2.2.2.2.2

def k0_off169 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v822 : Index := Scalar.indexCast v820
  let c0_191 : Index := 0#32
  ![v822.toNat, 0]
def k0_off170 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v827 : Index := Scalar.indexCast v820
  let c16_192 : Index := 16#32
  ![v827.toNat, 16]
def k0_off171 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v832 : Index := Scalar.indexCast v820
  let c32_193 : Index := 32#32
  ![v832.toNat, 32]
def k0_off172 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v837 : Index := Scalar.indexCast v820
  let c48_194 : Index := 48#32
  ![v837.toNat, 48]
def k0_off173 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v842 : Index := Scalar.indexCast v820
  let c64_195 : Index := 64#32
  ![v842.toNat, 64]
def k0_off174 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v847 : Index := Scalar.indexCast v820
  let c80_196 : Index := 80#32
  ![v847.toNat, 80]
def k0_off175 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v852 : Index := Scalar.indexCast v820
  let c96_197 : Index := 96#32
  ![v852.toNat, 96]
def k0_off176 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v857 : Index := Scalar.indexCast v820
  let c112_198 : Index := 112#32
  ![v857.toNat, 112]
def k0_off177 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v862 : Index := Scalar.indexCast v820
  let c128_199 : Index := 128#32
  ![v862.toNat, 128]
def k0_off178 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v867 : Index := Scalar.indexCast v820
  let c144_200 : Index := 144#32
  ![v867.toNat, 144]
def k0_off179 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v872 : Index := Scalar.indexCast v820
  let c160_201 : Index := 160#32
  ![v872.toNat, 160]
def k0_off180 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v877 : Index := Scalar.indexCast v820
  let c176_202 : Index := 176#32
  ![v877.toNat, 176]
def k0_off181 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v882 : Index := Scalar.indexCast v820
  let c192_203 : Index := 192#32
  ![v882.toNat, 192]
def k0_off182 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v887 : Index := Scalar.indexCast v820
  let c208_204 : Index := 208#32
  ![v887.toNat, 208]
def k0_off183 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v892 : Index := Scalar.indexCast v820
  let c224_205 : Index := 224#32
  ![v892.toNat, 224]
def k0_off184 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_189 : BitVec 32 := 16#32
  let v819 : BitVec 32 := Scalar.muli arg31 c16_i32_189
  let c5_i32_190 : BitVec 32 := 5#32
  let v820 : BitVec 32 := Scalar.addi v819 c5_i32_190
  let v897 : Index := Scalar.indexCast v820
  let c240_206 : Index := 240#32
  ![v897.toNat, 240]
def k0_off185 (v818 : BitVec 32) : Fin 2 → Nat :=
  let v904 : Index := Scalar.indexCast v818
  let c0_209 : Index := 0#32
  ![v904.toNat, 0]

def k0_off186 (v818 : BitVec 32) : Fin 2 → Nat :=
  let v908 : Index := Scalar.indexCast v818
  let c16_210 : Index := 16#32
  ![v908.toNat, 16]
def k0_off187 (v818 : BitVec 32) : Fin 2 → Nat :=
  let v912 : Index := Scalar.indexCast v818
  let c32_211 : Index := 32#32
  ![v912.toNat, 32]
def k0_off188 (v818 : BitVec 32) : Fin 2 → Nat :=
  let v916 : Index := Scalar.indexCast v818
  let c48_212 : Index := 48#32
  ![v916.toNat, 48]
def k0_off189 (v818 : BitVec 32) : Fin 2 → Nat :=
  let v920 : Index := Scalar.indexCast v818
  let c64_213 : Index := 64#32
  ![v920.toNat, 64]
def k0_off190 (v818 : BitVec 32) : Fin 2 → Nat :=
  let v924 : Index := Scalar.indexCast v818
  let c80_214 : Index := 80#32
  ![v924.toNat, 80]
def k0_off191 (v818 : BitVec 32) : Fin 2 → Nat :=
  let v928 : Index := Scalar.indexCast v818
  let c96_215 : Index := 96#32
  ![v928.toNat, 96]
def k0_off192 (v818 : BitVec 32) : Fin 2 → Nat :=
  let v932 : Index := Scalar.indexCast v818
  let c112_216 : Index := 112#32
  ![v932.toNat, 112]
def k0_off193 (v818 : BitVec 32) : Fin 2 → Nat :=
  let v936 : Index := Scalar.indexCast v818
  let c128_217 : Index := 128#32
  ![v936.toNat, 128]
def k0_off194 (v818 : BitVec 32) : Fin 2 → Nat :=
  let v940 : Index := Scalar.indexCast v818
  let c144_218 : Index := 144#32
  ![v940.toNat, 144]
def k0_off195 (v818 : BitVec 32) : Fin 2 → Nat :=
  let v944 : Index := Scalar.indexCast v818
  let c160_219 : Index := 160#32
  ![v944.toNat, 160]
def k0_off196 (v818 : BitVec 32) : Fin 2 → Nat :=
  let v948 : Index := Scalar.indexCast v818
  let c176_220 : Index := 176#32
  ![v948.toNat, 176]
def k0_off197 (v818 : BitVec 32) : Fin 2 → Nat :=
  let v952 : Index := Scalar.indexCast v818
  let c192_221 : Index := 192#32
  ![v952.toNat, 192]
def k0_off198 (v818 : BitVec 32) : Fin 2 → Nat :=
  let v956 : Index := Scalar.indexCast v818
  let c208_222 : Index := 208#32
  ![v956.toNat, 208]
def k0_off199 (v818 : BitVec 32) : Fin 2 → Nat :=
  let v960 : Index := Scalar.indexCast v818
  let c224_223 : Index := 224#32
  ![v960.toNat, 224]
def k0_off200 (v818 : BitVec 32) : Fin 2 → Nat :=
  let v964 : Index := Scalar.indexCast v818
  let c240_224 : Index := 240#32
  ![v964.toNat, 240]
def k0_off201 (v818 : BitVec 32) : Fin 2 → Nat :=
  let v969 : Index := Scalar.indexCast v818
  let c0_225 : Index := 0#32
  ![v969.toNat, 0]

def k0_chk6 (v818 : BitVec 32) : Prop :=
  (∀ a, (k0_off185 v818) a + S1x16.size a ≤ S256x256.size a) ∧
  (∀ a, (k0_off186 v818) a + S1x16.size a ≤ S256x256.size a) ∧
  (∀ a, (k0_off187 v818) a + S1x16.size a ≤ S256x256.size a) ∧
  (∀ a, (k0_off188 v818) a + S1x16.size a ≤ S256x256.size a) ∧
  (∀ a, (k0_off189 v818) a + S1x16.size a ≤ S256x256.size a) ∧
  (∀ a, (k0_off190 v818) a + S1x16.size a ≤ S256x256.size a) ∧
  (∀ a, (k0_off191 v818) a + S1x16.size a ≤ S256x256.size a) ∧
  (∀ a, (k0_off192 v818) a + S1x16.size a ≤ S256x256.size a) ∧
  (∀ a, (k0_off193 v818) a + S1x16.size a ≤ S256x256.size a) ∧
  (∀ a, (k0_off194 v818) a + S1x16.size a ≤ S256x256.size a) ∧
  (∀ a, (k0_off195 v818) a + S1x16.size a ≤ S256x256.size a) ∧
  (∀ a, (k0_off196 v818) a + S1x16.size a ≤ S256x256.size a) ∧
  (∀ a, (k0_off197 v818) a + S1x16.size a ≤ S256x256.size a) ∧
  (∀ a, (k0_off198 v818) a + S1x16.size a ≤ S256x256.size a) ∧
  (∀ a, (k0_off199 v818) a + S1x16.size a ≤ S256x256.size a) ∧
  (∀ a, (k0_off200 v818) a + S1x16.size a ≤ S256x256.size a) ∧
  (∀ a, (k0_off201 v818) a + S1x16.size a ≤ S256x16.size a)
theorem k0_off185_inb : ∀ (v818 : BitVec 32) (k0_hw6 : k0_chk6 v818), ∀ a, (k0_off185 v818) a + S1x16.size a ≤ S256x256.size a := fun v818 k0_hw6 => k0_hw6.1
theorem k0_off186_inb : ∀ (v818 : BitVec 32) (k0_hw6 : k0_chk6 v818), ∀ a, (k0_off186 v818) a + S1x16.size a ≤ S256x256.size a := fun v818 k0_hw6 => k0_hw6.2.1
theorem k0_off187_inb : ∀ (v818 : BitVec 32) (k0_hw6 : k0_chk6 v818), ∀ a, (k0_off187 v818) a + S1x16.size a ≤ S256x256.size a := fun v818 k0_hw6 => k0_hw6.2.2.1
theorem k0_off188_inb : ∀ (v818 : BitVec 32) (k0_hw6 : k0_chk6 v818), ∀ a, (k0_off188 v818) a + S1x16.size a ≤ S256x256.size a := fun v818 k0_hw6 => k0_hw6.2.2.2.1
theorem k0_off189_inb : ∀ (v818 : BitVec 32) (k0_hw6 : k0_chk6 v818), ∀ a, (k0_off189 v818) a + S1x16.size a ≤ S256x256.size a := fun v818 k0_hw6 => k0_hw6.2.2.2.2.1
theorem k0_off190_inb : ∀ (v818 : BitVec 32) (k0_hw6 : k0_chk6 v818), ∀ a, (k0_off190 v818) a + S1x16.size a ≤ S256x256.size a := fun v818 k0_hw6 => k0_hw6.2.2.2.2.2.1
theorem k0_off191_inb : ∀ (v818 : BitVec 32) (k0_hw6 : k0_chk6 v818), ∀ a, (k0_off191 v818) a + S1x16.size a ≤ S256x256.size a := fun v818 k0_hw6 => k0_hw6.2.2.2.2.2.2.1
theorem k0_off192_inb : ∀ (v818 : BitVec 32) (k0_hw6 : k0_chk6 v818), ∀ a, (k0_off192 v818) a + S1x16.size a ≤ S256x256.size a := fun v818 k0_hw6 => k0_hw6.2.2.2.2.2.2.2.1
theorem k0_off193_inb : ∀ (v818 : BitVec 32) (k0_hw6 : k0_chk6 v818), ∀ a, (k0_off193 v818) a + S1x16.size a ≤ S256x256.size a := fun v818 k0_hw6 => k0_hw6.2.2.2.2.2.2.2.2.1
theorem k0_off194_inb : ∀ (v818 : BitVec 32) (k0_hw6 : k0_chk6 v818), ∀ a, (k0_off194 v818) a + S1x16.size a ≤ S256x256.size a := fun v818 k0_hw6 => k0_hw6.2.2.2.2.2.2.2.2.2.1
theorem k0_off195_inb : ∀ (v818 : BitVec 32) (k0_hw6 : k0_chk6 v818), ∀ a, (k0_off195 v818) a + S1x16.size a ≤ S256x256.size a := fun v818 k0_hw6 => k0_hw6.2.2.2.2.2.2.2.2.2.2.1
theorem k0_off196_inb : ∀ (v818 : BitVec 32) (k0_hw6 : k0_chk6 v818), ∀ a, (k0_off196 v818) a + S1x16.size a ≤ S256x256.size a := fun v818 k0_hw6 => k0_hw6.2.2.2.2.2.2.2.2.2.2.2.1
theorem k0_off197_inb : ∀ (v818 : BitVec 32) (k0_hw6 : k0_chk6 v818), ∀ a, (k0_off197 v818) a + S1x16.size a ≤ S256x256.size a := fun v818 k0_hw6 => k0_hw6.2.2.2.2.2.2.2.2.2.2.2.2.1
theorem k0_off198_inb : ∀ (v818 : BitVec 32) (k0_hw6 : k0_chk6 v818), ∀ a, (k0_off198 v818) a + S1x16.size a ≤ S256x256.size a := fun v818 k0_hw6 => k0_hw6.2.2.2.2.2.2.2.2.2.2.2.2.2.1
theorem k0_off199_inb : ∀ (v818 : BitVec 32) (k0_hw6 : k0_chk6 v818), ∀ a, (k0_off199 v818) a + S1x16.size a ≤ S256x256.size a := fun v818 k0_hw6 => k0_hw6.2.2.2.2.2.2.2.2.2.2.2.2.2.2.1
theorem k0_off200_inb : ∀ (v818 : BitVec 32) (k0_hw6 : k0_chk6 v818), ∀ a, (k0_off200 v818) a + S1x16.size a ≤ S256x256.size a := fun v818 k0_hw6 => k0_hw6.2.2.2.2.2.2.2.2.2.2.2.2.2.2.2.1
theorem k0_off201_inb : ∀ (v818 : BitVec 32) (k0_hw6 : k0_chk6 v818), ∀ a, (k0_off201 v818) a + S1x16.size a ≤ S256x16.size a := fun v818 k0_hw6 => k0_hw6.2.2.2.2.2.2.2.2.2.2.2.2.2.2.2.2

def k0_off202 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v978 : Index := Scalar.indexCast v976
  let c0_227 : Index := 0#32
  ![v978.toNat, 0]
def k0_off203 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v983 : Index := Scalar.indexCast v976
  let c16_228 : Index := 16#32
  ![v983.toNat, 16]
def k0_off204 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v988 : Index := Scalar.indexCast v976
  let c32_229 : Index := 32#32
  ![v988.toNat, 32]
def k0_off205 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v993 : Index := Scalar.indexCast v976
  let c48_230 : Index := 48#32
  ![v993.toNat, 48]
def k0_off206 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v998 : Index := Scalar.indexCast v976
  let c64_231 : Index := 64#32
  ![v998.toNat, 64]
def k0_off207 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1003 : Index := Scalar.indexCast v976
  let c80_232 : Index := 80#32
  ![v1003.toNat, 80]
def k0_off208 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1008 : Index := Scalar.indexCast v976
  let c96_233 : Index := 96#32
  ![v1008.toNat, 96]
def k0_off209 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1013 : Index := Scalar.indexCast v976
  let c112_234 : Index := 112#32
  ![v1013.toNat, 112]
def k0_off210 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1018 : Index := Scalar.indexCast v976
  let c128_235 : Index := 128#32
  ![v1018.toNat, 128]
def k0_off211 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1023 : Index := Scalar.indexCast v976
  let c144_236 : Index := 144#32
  ![v1023.toNat, 144]
def k0_off212 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1028 : Index := Scalar.indexCast v976
  let c160_237 : Index := 160#32
  ![v1028.toNat, 160]
def k0_off213 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1033 : Index := Scalar.indexCast v976
  let c176_238 : Index := 176#32
  ![v1033.toNat, 176]
def k0_off214 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1038 : Index := Scalar.indexCast v976
  let c192_239 : Index := 192#32
  ![v1038.toNat, 192]
def k0_off215 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1043 : Index := Scalar.indexCast v976
  let c208_240 : Index := 208#32
  ![v1043.toNat, 208]
def k0_off216 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1048 : Index := Scalar.indexCast v976
  let c224_241 : Index := 224#32
  ![v1048.toNat, 224]
def k0_off217 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_226 : BitVec 32 := 16#32
  let v975 : BitVec 32 := Scalar.muli arg31 c16_i32_226
  let c6_i32 : BitVec 32 := 6#32
  let v976 : BitVec 32 := Scalar.addi v975 c6_i32
  let v1053 : Index := Scalar.indexCast v976
  let c240_242 : Index := 240#32
  ![v1053.toNat, 240]
def k0_off218 (v974 : BitVec 32) : Fin 2 → Nat :=
  let v1060 : Index := Scalar.indexCast v974
  let c0_245 : Index := 0#32
  ![v1060.toNat, 0]

def k0_off219 (v974 : BitVec 32) : Fin 2 → Nat :=
  let v1064 : Index := Scalar.indexCast v974
  let c16_246 : Index := 16#32
  ![v1064.toNat, 16]
def k0_off220 (v974 : BitVec 32) : Fin 2 → Nat :=
  let v1068 : Index := Scalar.indexCast v974
  let c32_247 : Index := 32#32
  ![v1068.toNat, 32]
def k0_off221 (v974 : BitVec 32) : Fin 2 → Nat :=
  let v1072 : Index := Scalar.indexCast v974
  let c48_248 : Index := 48#32
  ![v1072.toNat, 48]
def k0_off222 (v974 : BitVec 32) : Fin 2 → Nat :=
  let v1076 : Index := Scalar.indexCast v974
  let c64_249 : Index := 64#32
  ![v1076.toNat, 64]
def k0_off223 (v974 : BitVec 32) : Fin 2 → Nat :=
  let v1080 : Index := Scalar.indexCast v974
  let c80_250 : Index := 80#32
  ![v1080.toNat, 80]
def k0_off224 (v974 : BitVec 32) : Fin 2 → Nat :=
  let v1084 : Index := Scalar.indexCast v974
  let c96_251 : Index := 96#32
  ![v1084.toNat, 96]
def k0_off225 (v974 : BitVec 32) : Fin 2 → Nat :=
  let v1088 : Index := Scalar.indexCast v974
  let c112_252 : Index := 112#32
  ![v1088.toNat, 112]
def k0_off226 (v974 : BitVec 32) : Fin 2 → Nat :=
  let v1092 : Index := Scalar.indexCast v974
  let c128_253 : Index := 128#32
  ![v1092.toNat, 128]
def k0_off227 (v974 : BitVec 32) : Fin 2 → Nat :=
  let v1096 : Index := Scalar.indexCast v974
  let c144_254 : Index := 144#32
  ![v1096.toNat, 144]
def k0_off228 (v974 : BitVec 32) : Fin 2 → Nat :=
  let v1100 : Index := Scalar.indexCast v974
  let c160_255 : Index := 160#32
  ![v1100.toNat, 160]
def k0_off229 (v974 : BitVec 32) : Fin 2 → Nat :=
  let v1104 : Index := Scalar.indexCast v974
  let c176_256 : Index := 176#32
  ![v1104.toNat, 176]
def k0_off230 (v974 : BitVec 32) : Fin 2 → Nat :=
  let v1108 : Index := Scalar.indexCast v974
  let c192_257 : Index := 192#32
  ![v1108.toNat, 192]
def k0_off231 (v974 : BitVec 32) : Fin 2 → Nat :=
  let v1112 : Index := Scalar.indexCast v974
  let c208_258 : Index := 208#32
  ![v1112.toNat, 208]
def k0_off232 (v974 : BitVec 32) : Fin 2 → Nat :=
  let v1116 : Index := Scalar.indexCast v974
  let c224_259 : Index := 224#32
  ![v1116.toNat, 224]
def k0_off233 (v974 : BitVec 32) : Fin 2 → Nat :=
  let v1120 : Index := Scalar.indexCast v974
  let c240_260 : Index := 240#32
  ![v1120.toNat, 240]
def k0_off234 (v974 : BitVec 32) : Fin 2 → Nat :=
  let v1125 : Index := Scalar.indexCast v974
  let c0_261 : Index := 0#32
  ![v1125.toNat, 0]

def k0_chk7 (v974 : BitVec 32) : Prop :=
  (∀ a, (k0_off218 v974) a + S1x16.size a ≤ S256x256.size a) ∧
  (∀ a, (k0_off219 v974) a + S1x16.size a ≤ S256x256.size a) ∧
  (∀ a, (k0_off220 v974) a + S1x16.size a ≤ S256x256.size a) ∧
  (∀ a, (k0_off221 v974) a + S1x16.size a ≤ S256x256.size a) ∧
  (∀ a, (k0_off222 v974) a + S1x16.size a ≤ S256x256.size a) ∧
  (∀ a, (k0_off223 v974) a + S1x16.size a ≤ S256x256.size a) ∧
  (∀ a, (k0_off224 v974) a + S1x16.size a ≤ S256x256.size a) ∧
  (∀ a, (k0_off225 v974) a + S1x16.size a ≤ S256x256.size a) ∧
  (∀ a, (k0_off226 v974) a + S1x16.size a ≤ S256x256.size a) ∧
  (∀ a, (k0_off227 v974) a + S1x16.size a ≤ S256x256.size a) ∧
  (∀ a, (k0_off228 v974) a + S1x16.size a ≤ S256x256.size a) ∧
  (∀ a, (k0_off229 v974) a + S1x16.size a ≤ S256x256.size a) ∧
  (∀ a, (k0_off230 v974) a + S1x16.size a ≤ S256x256.size a) ∧
  (∀ a, (k0_off231 v974) a + S1x16.size a ≤ S256x256.size a) ∧
  (∀ a, (k0_off232 v974) a + S1x16.size a ≤ S256x256.size a) ∧
  (∀ a, (k0_off233 v974) a + S1x16.size a ≤ S256x256.size a) ∧
  (∀ a, (k0_off234 v974) a + S1x16.size a ≤ S256x16.size a)
theorem k0_off218_inb : ∀ (v974 : BitVec 32) (k0_hw7 : k0_chk7 v974), ∀ a, (k0_off218 v974) a + S1x16.size a ≤ S256x256.size a := fun v974 k0_hw7 => k0_hw7.1
theorem k0_off219_inb : ∀ (v974 : BitVec 32) (k0_hw7 : k0_chk7 v974), ∀ a, (k0_off219 v974) a + S1x16.size a ≤ S256x256.size a := fun v974 k0_hw7 => k0_hw7.2.1
theorem k0_off220_inb : ∀ (v974 : BitVec 32) (k0_hw7 : k0_chk7 v974), ∀ a, (k0_off220 v974) a + S1x16.size a ≤ S256x256.size a := fun v974 k0_hw7 => k0_hw7.2.2.1
theorem k0_off221_inb : ∀ (v974 : BitVec 32) (k0_hw7 : k0_chk7 v974), ∀ a, (k0_off221 v974) a + S1x16.size a ≤ S256x256.size a := fun v974 k0_hw7 => k0_hw7.2.2.2.1
theorem k0_off222_inb : ∀ (v974 : BitVec 32) (k0_hw7 : k0_chk7 v974), ∀ a, (k0_off222 v974) a + S1x16.size a ≤ S256x256.size a := fun v974 k0_hw7 => k0_hw7.2.2.2.2.1
theorem k0_off223_inb : ∀ (v974 : BitVec 32) (k0_hw7 : k0_chk7 v974), ∀ a, (k0_off223 v974) a + S1x16.size a ≤ S256x256.size a := fun v974 k0_hw7 => k0_hw7.2.2.2.2.2.1
theorem k0_off224_inb : ∀ (v974 : BitVec 32) (k0_hw7 : k0_chk7 v974), ∀ a, (k0_off224 v974) a + S1x16.size a ≤ S256x256.size a := fun v974 k0_hw7 => k0_hw7.2.2.2.2.2.2.1
theorem k0_off225_inb : ∀ (v974 : BitVec 32) (k0_hw7 : k0_chk7 v974), ∀ a, (k0_off225 v974) a + S1x16.size a ≤ S256x256.size a := fun v974 k0_hw7 => k0_hw7.2.2.2.2.2.2.2.1
theorem k0_off226_inb : ∀ (v974 : BitVec 32) (k0_hw7 : k0_chk7 v974), ∀ a, (k0_off226 v974) a + S1x16.size a ≤ S256x256.size a := fun v974 k0_hw7 => k0_hw7.2.2.2.2.2.2.2.2.1
theorem k0_off227_inb : ∀ (v974 : BitVec 32) (k0_hw7 : k0_chk7 v974), ∀ a, (k0_off227 v974) a + S1x16.size a ≤ S256x256.size a := fun v974 k0_hw7 => k0_hw7.2.2.2.2.2.2.2.2.2.1
theorem k0_off228_inb : ∀ (v974 : BitVec 32) (k0_hw7 : k0_chk7 v974), ∀ a, (k0_off228 v974) a + S1x16.size a ≤ S256x256.size a := fun v974 k0_hw7 => k0_hw7.2.2.2.2.2.2.2.2.2.2.1
theorem k0_off229_inb : ∀ (v974 : BitVec 32) (k0_hw7 : k0_chk7 v974), ∀ a, (k0_off229 v974) a + S1x16.size a ≤ S256x256.size a := fun v974 k0_hw7 => k0_hw7.2.2.2.2.2.2.2.2.2.2.2.1
theorem k0_off230_inb : ∀ (v974 : BitVec 32) (k0_hw7 : k0_chk7 v974), ∀ a, (k0_off230 v974) a + S1x16.size a ≤ S256x256.size a := fun v974 k0_hw7 => k0_hw7.2.2.2.2.2.2.2.2.2.2.2.2.1
theorem k0_off231_inb : ∀ (v974 : BitVec 32) (k0_hw7 : k0_chk7 v974), ∀ a, (k0_off231 v974) a + S1x16.size a ≤ S256x256.size a := fun v974 k0_hw7 => k0_hw7.2.2.2.2.2.2.2.2.2.2.2.2.2.1
theorem k0_off232_inb : ∀ (v974 : BitVec 32) (k0_hw7 : k0_chk7 v974), ∀ a, (k0_off232 v974) a + S1x16.size a ≤ S256x256.size a := fun v974 k0_hw7 => k0_hw7.2.2.2.2.2.2.2.2.2.2.2.2.2.2.1
theorem k0_off233_inb : ∀ (v974 : BitVec 32) (k0_hw7 : k0_chk7 v974), ∀ a, (k0_off233 v974) a + S1x16.size a ≤ S256x256.size a := fun v974 k0_hw7 => k0_hw7.2.2.2.2.2.2.2.2.2.2.2.2.2.2.2.1
theorem k0_off234_inb : ∀ (v974 : BitVec 32) (k0_hw7 : k0_chk7 v974), ∀ a, (k0_off234 v974) a + S1x16.size a ≤ S256x16.size a := fun v974 k0_hw7 => k0_hw7.2.2.2.2.2.2.2.2.2.2.2.2.2.2.2.2

def k0_off235 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1134 : Index := Scalar.indexCast v1132
  let c0_263 : Index := 0#32
  ![v1134.toNat, 0]
def k0_off236 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1139 : Index := Scalar.indexCast v1132
  let c16_264 : Index := 16#32
  ![v1139.toNat, 16]
def k0_off237 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1144 : Index := Scalar.indexCast v1132
  let c32_265 : Index := 32#32
  ![v1144.toNat, 32]
def k0_off238 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1149 : Index := Scalar.indexCast v1132
  let c48_266 : Index := 48#32
  ![v1149.toNat, 48]
def k0_off239 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1154 : Index := Scalar.indexCast v1132
  let c64_267 : Index := 64#32
  ![v1154.toNat, 64]
def k0_off240 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1159 : Index := Scalar.indexCast v1132
  let c80_268 : Index := 80#32
  ![v1159.toNat, 80]
def k0_off241 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1164 : Index := Scalar.indexCast v1132
  let c96_269 : Index := 96#32
  ![v1164.toNat, 96]
def k0_off242 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1169 : Index := Scalar.indexCast v1132
  let c112_270 : Index := 112#32
  ![v1169.toNat, 112]
def k0_off243 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1174 : Index := Scalar.indexCast v1132
  let c128_271 : Index := 128#32
  ![v1174.toNat, 128]
def k0_off244 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1179 : Index := Scalar.indexCast v1132
  let c144_272 : Index := 144#32
  ![v1179.toNat, 144]
def k0_off245 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1184 : Index := Scalar.indexCast v1132
  let c160_273 : Index := 160#32
  ![v1184.toNat, 160]
def k0_off246 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1189 : Index := Scalar.indexCast v1132
  let c176_274 : Index := 176#32
  ![v1189.toNat, 176]
def k0_off247 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1194 : Index := Scalar.indexCast v1132
  let c192_275 : Index := 192#32
  ![v1194.toNat, 192]
def k0_off248 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1199 : Index := Scalar.indexCast v1132
  let c208_276 : Index := 208#32
  ![v1199.toNat, 208]
def k0_off249 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1204 : Index := Scalar.indexCast v1132
  let c224_277 : Index := 224#32
  ![v1204.toNat, 224]
def k0_off250 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_262 : BitVec 32 := 16#32
  let v1131 : BitVec 32 := Scalar.muli arg31 c16_i32_262
  let c7_i32 : BitVec 32 := 7#32
  let v1132 : BitVec 32 := Scalar.addi v1131 c7_i32
  let v1209 : Index := Scalar.indexCast v1132
  let c240_278 : Index := 240#32
  ![v1209.toNat, 240]
def k0_off251 (v1130 : BitVec 32) : Fin 2 → Nat :=
  let v1216 : Index := Scalar.indexCast v1130
  let c0_281 : Index := 0#32
  ![v1216.toNat, 0]

def k0_off252 (v1130 : BitVec 32) : Fin 2 → Nat :=
  let v1220 : Index := Scalar.indexCast v1130
  let c16_282 : Index := 16#32
  ![v1220.toNat, 16]
def k0_off253 (v1130 : BitVec 32) : Fin 2 → Nat :=
  let v1224 : Index := Scalar.indexCast v1130
  let c32_283 : Index := 32#32
  ![v1224.toNat, 32]
def k0_off254 (v1130 : BitVec 32) : Fin 2 → Nat :=
  let v1228 : Index := Scalar.indexCast v1130
  let c48_284 : Index := 48#32
  ![v1228.toNat, 48]
def k0_off255 (v1130 : BitVec 32) : Fin 2 → Nat :=
  let v1232 : Index := Scalar.indexCast v1130
  let c64_285 : Index := 64#32
  ![v1232.toNat, 64]
def k0_off256 (v1130 : BitVec 32) : Fin 2 → Nat :=
  let v1236 : Index := Scalar.indexCast v1130
  let c80_286 : Index := 80#32
  ![v1236.toNat, 80]
def k0_off257 (v1130 : BitVec 32) : Fin 2 → Nat :=
  let v1240 : Index := Scalar.indexCast v1130
  let c96_287 : Index := 96#32
  ![v1240.toNat, 96]
def k0_off258 (v1130 : BitVec 32) : Fin 2 → Nat :=
  let v1244 : Index := Scalar.indexCast v1130
  let c112_288 : Index := 112#32
  ![v1244.toNat, 112]
def k0_off259 (v1130 : BitVec 32) : Fin 2 → Nat :=
  let v1248 : Index := Scalar.indexCast v1130
  let c128_289 : Index := 128#32
  ![v1248.toNat, 128]
def k0_off260 (v1130 : BitVec 32) : Fin 2 → Nat :=
  let v1252 : Index := Scalar.indexCast v1130
  let c144_290 : Index := 144#32
  ![v1252.toNat, 144]
def k0_off261 (v1130 : BitVec 32) : Fin 2 → Nat :=
  let v1256 : Index := Scalar.indexCast v1130
  let c160_291 : Index := 160#32
  ![v1256.toNat, 160]
def k0_off262 (v1130 : BitVec 32) : Fin 2 → Nat :=
  let v1260 : Index := Scalar.indexCast v1130
  let c176_292 : Index := 176#32
  ![v1260.toNat, 176]
def k0_off263 (v1130 : BitVec 32) : Fin 2 → Nat :=
  let v1264 : Index := Scalar.indexCast v1130
  let c192_293 : Index := 192#32
  ![v1264.toNat, 192]
def k0_off264 (v1130 : BitVec 32) : Fin 2 → Nat :=
  let v1268 : Index := Scalar.indexCast v1130
  let c208_294 : Index := 208#32
  ![v1268.toNat, 208]
def k0_off265 (v1130 : BitVec 32) : Fin 2 → Nat :=
  let v1272 : Index := Scalar.indexCast v1130
  let c224_295 : Index := 224#32
  ![v1272.toNat, 224]
def k0_off266 (v1130 : BitVec 32) : Fin 2 → Nat :=
  let v1276 : Index := Scalar.indexCast v1130
  let c240_296 : Index := 240#32
  ![v1276.toNat, 240]
def k0_off267 (v1130 : BitVec 32) : Fin 2 → Nat :=
  let v1281 : Index := Scalar.indexCast v1130
  let c0_297 : Index := 0#32
  ![v1281.toNat, 0]

def k0_chk8 (v1130 : BitVec 32) : Prop :=
  (∀ a, (k0_off251 v1130) a + S1x16.size a ≤ S256x256.size a) ∧
  (∀ a, (k0_off252 v1130) a + S1x16.size a ≤ S256x256.size a) ∧
  (∀ a, (k0_off253 v1130) a + S1x16.size a ≤ S256x256.size a) ∧
  (∀ a, (k0_off254 v1130) a + S1x16.size a ≤ S256x256.size a) ∧
  (∀ a, (k0_off255 v1130) a + S1x16.size a ≤ S256x256.size a) ∧
  (∀ a, (k0_off256 v1130) a + S1x16.size a ≤ S256x256.size a) ∧
  (∀ a, (k0_off257 v1130) a + S1x16.size a ≤ S256x256.size a) ∧
  (∀ a, (k0_off258 v1130) a + S1x16.size a ≤ S256x256.size a) ∧
  (∀ a, (k0_off259 v1130) a + S1x16.size a ≤ S256x256.size a) ∧
  (∀ a, (k0_off260 v1130) a + S1x16.size a ≤ S256x256.size a) ∧
  (∀ a, (k0_off261 v1130) a + S1x16.size a ≤ S256x256.size a) ∧
  (∀ a, (k0_off262 v1130) a + S1x16.size a ≤ S256x256.size a) ∧
  (∀ a, (k0_off263 v1130) a + S1x16.size a ≤ S256x256.size a) ∧
  (∀ a, (k0_off264 v1130) a + S1x16.size a ≤ S256x256.size a) ∧
  (∀ a, (k0_off265 v1130) a + S1x16.size a ≤ S256x256.size a) ∧
  (∀ a, (k0_off266 v1130) a + S1x16.size a ≤ S256x256.size a) ∧
  (∀ a, (k0_off267 v1130) a + S1x16.size a ≤ S256x16.size a)
theorem k0_off251_inb : ∀ (v1130 : BitVec 32) (k0_hw8 : k0_chk8 v1130), ∀ a, (k0_off251 v1130) a + S1x16.size a ≤ S256x256.size a := fun v1130 k0_hw8 => k0_hw8.1
theorem k0_off252_inb : ∀ (v1130 : BitVec 32) (k0_hw8 : k0_chk8 v1130), ∀ a, (k0_off252 v1130) a + S1x16.size a ≤ S256x256.size a := fun v1130 k0_hw8 => k0_hw8.2.1
theorem k0_off253_inb : ∀ (v1130 : BitVec 32) (k0_hw8 : k0_chk8 v1130), ∀ a, (k0_off253 v1130) a + S1x16.size a ≤ S256x256.size a := fun v1130 k0_hw8 => k0_hw8.2.2.1
theorem k0_off254_inb : ∀ (v1130 : BitVec 32) (k0_hw8 : k0_chk8 v1130), ∀ a, (k0_off254 v1130) a + S1x16.size a ≤ S256x256.size a := fun v1130 k0_hw8 => k0_hw8.2.2.2.1
theorem k0_off255_inb : ∀ (v1130 : BitVec 32) (k0_hw8 : k0_chk8 v1130), ∀ a, (k0_off255 v1130) a + S1x16.size a ≤ S256x256.size a := fun v1130 k0_hw8 => k0_hw8.2.2.2.2.1
theorem k0_off256_inb : ∀ (v1130 : BitVec 32) (k0_hw8 : k0_chk8 v1130), ∀ a, (k0_off256 v1130) a + S1x16.size a ≤ S256x256.size a := fun v1130 k0_hw8 => k0_hw8.2.2.2.2.2.1
theorem k0_off257_inb : ∀ (v1130 : BitVec 32) (k0_hw8 : k0_chk8 v1130), ∀ a, (k0_off257 v1130) a + S1x16.size a ≤ S256x256.size a := fun v1130 k0_hw8 => k0_hw8.2.2.2.2.2.2.1
theorem k0_off258_inb : ∀ (v1130 : BitVec 32) (k0_hw8 : k0_chk8 v1130), ∀ a, (k0_off258 v1130) a + S1x16.size a ≤ S256x256.size a := fun v1130 k0_hw8 => k0_hw8.2.2.2.2.2.2.2.1
theorem k0_off259_inb : ∀ (v1130 : BitVec 32) (k0_hw8 : k0_chk8 v1130), ∀ a, (k0_off259 v1130) a + S1x16.size a ≤ S256x256.size a := fun v1130 k0_hw8 => k0_hw8.2.2.2.2.2.2.2.2.1
theorem k0_off260_inb : ∀ (v1130 : BitVec 32) (k0_hw8 : k0_chk8 v1130), ∀ a, (k0_off260 v1130) a + S1x16.size a ≤ S256x256.size a := fun v1130 k0_hw8 => k0_hw8.2.2.2.2.2.2.2.2.2.1
theorem k0_off261_inb : ∀ (v1130 : BitVec 32) (k0_hw8 : k0_chk8 v1130), ∀ a, (k0_off261 v1130) a + S1x16.size a ≤ S256x256.size a := fun v1130 k0_hw8 => k0_hw8.2.2.2.2.2.2.2.2.2.2.1
theorem k0_off262_inb : ∀ (v1130 : BitVec 32) (k0_hw8 : k0_chk8 v1130), ∀ a, (k0_off262 v1130) a + S1x16.size a ≤ S256x256.size a := fun v1130 k0_hw8 => k0_hw8.2.2.2.2.2.2.2.2.2.2.2.1
theorem k0_off263_inb : ∀ (v1130 : BitVec 32) (k0_hw8 : k0_chk8 v1130), ∀ a, (k0_off263 v1130) a + S1x16.size a ≤ S256x256.size a := fun v1130 k0_hw8 => k0_hw8.2.2.2.2.2.2.2.2.2.2.2.2.1
theorem k0_off264_inb : ∀ (v1130 : BitVec 32) (k0_hw8 : k0_chk8 v1130), ∀ a, (k0_off264 v1130) a + S1x16.size a ≤ S256x256.size a := fun v1130 k0_hw8 => k0_hw8.2.2.2.2.2.2.2.2.2.2.2.2.2.1
theorem k0_off265_inb : ∀ (v1130 : BitVec 32) (k0_hw8 : k0_chk8 v1130), ∀ a, (k0_off265 v1130) a + S1x16.size a ≤ S256x256.size a := fun v1130 k0_hw8 => k0_hw8.2.2.2.2.2.2.2.2.2.2.2.2.2.2.1
theorem k0_off266_inb : ∀ (v1130 : BitVec 32) (k0_hw8 : k0_chk8 v1130), ∀ a, (k0_off266 v1130) a + S1x16.size a ≤ S256x256.size a := fun v1130 k0_hw8 => k0_hw8.2.2.2.2.2.2.2.2.2.2.2.2.2.2.2.1
theorem k0_off267_inb : ∀ (v1130 : BitVec 32) (k0_hw8 : k0_chk8 v1130), ∀ a, (k0_off267 v1130) a + S1x16.size a ≤ S256x16.size a := fun v1130 k0_hw8 => k0_hw8.2.2.2.2.2.2.2.2.2.2.2.2.2.2.2.2

def k0_off268 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1290 : Index := Scalar.indexCast v1288
  let c0_299 : Index := 0#32
  ![v1290.toNat, 0]
def k0_off269 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1295 : Index := Scalar.indexCast v1288
  let c16_300 : Index := 16#32
  ![v1295.toNat, 16]
def k0_off270 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1300 : Index := Scalar.indexCast v1288
  let c32_301 : Index := 32#32
  ![v1300.toNat, 32]
def k0_off271 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1305 : Index := Scalar.indexCast v1288
  let c48_302 : Index := 48#32
  ![v1305.toNat, 48]
def k0_off272 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1310 : Index := Scalar.indexCast v1288
  let c64_303 : Index := 64#32
  ![v1310.toNat, 64]
def k0_off273 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1315 : Index := Scalar.indexCast v1288
  let c80_304 : Index := 80#32
  ![v1315.toNat, 80]
def k0_off274 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1320 : Index := Scalar.indexCast v1288
  let c96_305 : Index := 96#32
  ![v1320.toNat, 96]
def k0_off275 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1325 : Index := Scalar.indexCast v1288
  let c112_306 : Index := 112#32
  ![v1325.toNat, 112]
def k0_off276 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1330 : Index := Scalar.indexCast v1288
  let c128_307 : Index := 128#32
  ![v1330.toNat, 128]
def k0_off277 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1335 : Index := Scalar.indexCast v1288
  let c144_308 : Index := 144#32
  ![v1335.toNat, 144]
def k0_off278 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1340 : Index := Scalar.indexCast v1288
  let c160_309 : Index := 160#32
  ![v1340.toNat, 160]
def k0_off279 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1345 : Index := Scalar.indexCast v1288
  let c176_310 : Index := 176#32
  ![v1345.toNat, 176]
def k0_off280 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1350 : Index := Scalar.indexCast v1288
  let c192_311 : Index := 192#32
  ![v1350.toNat, 192]
def k0_off281 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1355 : Index := Scalar.indexCast v1288
  let c208_312 : Index := 208#32
  ![v1355.toNat, 208]
def k0_off282 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1360 : Index := Scalar.indexCast v1288
  let c224_313 : Index := 224#32
  ![v1360.toNat, 224]
def k0_off283 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_298 : BitVec 32 := 16#32
  let v1287 : BitVec 32 := Scalar.muli arg31 c16_i32_298
  let c8_i32 : BitVec 32 := 8#32
  let v1288 : BitVec 32 := Scalar.addi v1287 c8_i32
  let v1365 : Index := Scalar.indexCast v1288
  let c240_314 : Index := 240#32
  ![v1365.toNat, 240]
def k0_off284 (v1286 : BitVec 32) : Fin 2 → Nat :=
  let v1372 : Index := Scalar.indexCast v1286
  let c0_317 : Index := 0#32
  ![v1372.toNat, 0]

def k0_off285 (v1286 : BitVec 32) : Fin 2 → Nat :=
  let v1376 : Index := Scalar.indexCast v1286
  let c16_318 : Index := 16#32
  ![v1376.toNat, 16]
def k0_off286 (v1286 : BitVec 32) : Fin 2 → Nat :=
  let v1380 : Index := Scalar.indexCast v1286
  let c32_319 : Index := 32#32
  ![v1380.toNat, 32]
def k0_off287 (v1286 : BitVec 32) : Fin 2 → Nat :=
  let v1384 : Index := Scalar.indexCast v1286
  let c48_320 : Index := 48#32
  ![v1384.toNat, 48]
def k0_off288 (v1286 : BitVec 32) : Fin 2 → Nat :=
  let v1388 : Index := Scalar.indexCast v1286
  let c64_321 : Index := 64#32
  ![v1388.toNat, 64]
def k0_off289 (v1286 : BitVec 32) : Fin 2 → Nat :=
  let v1392 : Index := Scalar.indexCast v1286
  let c80_322 : Index := 80#32
  ![v1392.toNat, 80]
def k0_off290 (v1286 : BitVec 32) : Fin 2 → Nat :=
  let v1396 : Index := Scalar.indexCast v1286
  let c96_323 : Index := 96#32
  ![v1396.toNat, 96]
def k0_off291 (v1286 : BitVec 32) : Fin 2 → Nat :=
  let v1400 : Index := Scalar.indexCast v1286
  let c112_324 : Index := 112#32
  ![v1400.toNat, 112]
def k0_off292 (v1286 : BitVec 32) : Fin 2 → Nat :=
  let v1404 : Index := Scalar.indexCast v1286
  let c128_325 : Index := 128#32
  ![v1404.toNat, 128]
def k0_off293 (v1286 : BitVec 32) : Fin 2 → Nat :=
  let v1408 : Index := Scalar.indexCast v1286
  let c144_326 : Index := 144#32
  ![v1408.toNat, 144]
def k0_off294 (v1286 : BitVec 32) : Fin 2 → Nat :=
  let v1412 : Index := Scalar.indexCast v1286
  let c160_327 : Index := 160#32
  ![v1412.toNat, 160]
def k0_off295 (v1286 : BitVec 32) : Fin 2 → Nat :=
  let v1416 : Index := Scalar.indexCast v1286
  let c176_328 : Index := 176#32
  ![v1416.toNat, 176]
def k0_off296 (v1286 : BitVec 32) : Fin 2 → Nat :=
  let v1420 : Index := Scalar.indexCast v1286
  let c192_329 : Index := 192#32
  ![v1420.toNat, 192]
def k0_off297 (v1286 : BitVec 32) : Fin 2 → Nat :=
  let v1424 : Index := Scalar.indexCast v1286
  let c208_330 : Index := 208#32
  ![v1424.toNat, 208]
def k0_off298 (v1286 : BitVec 32) : Fin 2 → Nat :=
  let v1428 : Index := Scalar.indexCast v1286
  let c224_331 : Index := 224#32
  ![v1428.toNat, 224]
def k0_off299 (v1286 : BitVec 32) : Fin 2 → Nat :=
  let v1432 : Index := Scalar.indexCast v1286
  let c240_332 : Index := 240#32
  ![v1432.toNat, 240]
def k0_off300 (v1286 : BitVec 32) : Fin 2 → Nat :=
  let v1437 : Index := Scalar.indexCast v1286
  let c0_333 : Index := 0#32
  ![v1437.toNat, 0]

def k0_chk9 (v1286 : BitVec 32) : Prop :=
  (∀ a, (k0_off284 v1286) a + S1x16.size a ≤ S256x256.size a) ∧
  (∀ a, (k0_off285 v1286) a + S1x16.size a ≤ S256x256.size a) ∧
  (∀ a, (k0_off286 v1286) a + S1x16.size a ≤ S256x256.size a) ∧
  (∀ a, (k0_off287 v1286) a + S1x16.size a ≤ S256x256.size a) ∧
  (∀ a, (k0_off288 v1286) a + S1x16.size a ≤ S256x256.size a) ∧
  (∀ a, (k0_off289 v1286) a + S1x16.size a ≤ S256x256.size a) ∧
  (∀ a, (k0_off290 v1286) a + S1x16.size a ≤ S256x256.size a) ∧
  (∀ a, (k0_off291 v1286) a + S1x16.size a ≤ S256x256.size a) ∧
  (∀ a, (k0_off292 v1286) a + S1x16.size a ≤ S256x256.size a) ∧
  (∀ a, (k0_off293 v1286) a + S1x16.size a ≤ S256x256.size a) ∧
  (∀ a, (k0_off294 v1286) a + S1x16.size a ≤ S256x256.size a) ∧
  (∀ a, (k0_off295 v1286) a + S1x16.size a ≤ S256x256.size a) ∧
  (∀ a, (k0_off296 v1286) a + S1x16.size a ≤ S256x256.size a) ∧
  (∀ a, (k0_off297 v1286) a + S1x16.size a ≤ S256x256.size a) ∧
  (∀ a, (k0_off298 v1286) a + S1x16.size a ≤ S256x256.size a) ∧
  (∀ a, (k0_off299 v1286) a + S1x16.size a ≤ S256x256.size a) ∧
  (∀ a, (k0_off300 v1286) a + S1x16.size a ≤ S256x16.size a)
theorem k0_off284_inb : ∀ (v1286 : BitVec 32) (k0_hw9 : k0_chk9 v1286), ∀ a, (k0_off284 v1286) a + S1x16.size a ≤ S256x256.size a := fun v1286 k0_hw9 => k0_hw9.1
theorem k0_off285_inb : ∀ (v1286 : BitVec 32) (k0_hw9 : k0_chk9 v1286), ∀ a, (k0_off285 v1286) a + S1x16.size a ≤ S256x256.size a := fun v1286 k0_hw9 => k0_hw9.2.1
theorem k0_off286_inb : ∀ (v1286 : BitVec 32) (k0_hw9 : k0_chk9 v1286), ∀ a, (k0_off286 v1286) a + S1x16.size a ≤ S256x256.size a := fun v1286 k0_hw9 => k0_hw9.2.2.1
theorem k0_off287_inb : ∀ (v1286 : BitVec 32) (k0_hw9 : k0_chk9 v1286), ∀ a, (k0_off287 v1286) a + S1x16.size a ≤ S256x256.size a := fun v1286 k0_hw9 => k0_hw9.2.2.2.1
theorem k0_off288_inb : ∀ (v1286 : BitVec 32) (k0_hw9 : k0_chk9 v1286), ∀ a, (k0_off288 v1286) a + S1x16.size a ≤ S256x256.size a := fun v1286 k0_hw9 => k0_hw9.2.2.2.2.1
theorem k0_off289_inb : ∀ (v1286 : BitVec 32) (k0_hw9 : k0_chk9 v1286), ∀ a, (k0_off289 v1286) a + S1x16.size a ≤ S256x256.size a := fun v1286 k0_hw9 => k0_hw9.2.2.2.2.2.1
theorem k0_off290_inb : ∀ (v1286 : BitVec 32) (k0_hw9 : k0_chk9 v1286), ∀ a, (k0_off290 v1286) a + S1x16.size a ≤ S256x256.size a := fun v1286 k0_hw9 => k0_hw9.2.2.2.2.2.2.1
theorem k0_off291_inb : ∀ (v1286 : BitVec 32) (k0_hw9 : k0_chk9 v1286), ∀ a, (k0_off291 v1286) a + S1x16.size a ≤ S256x256.size a := fun v1286 k0_hw9 => k0_hw9.2.2.2.2.2.2.2.1
theorem k0_off292_inb : ∀ (v1286 : BitVec 32) (k0_hw9 : k0_chk9 v1286), ∀ a, (k0_off292 v1286) a + S1x16.size a ≤ S256x256.size a := fun v1286 k0_hw9 => k0_hw9.2.2.2.2.2.2.2.2.1
theorem k0_off293_inb : ∀ (v1286 : BitVec 32) (k0_hw9 : k0_chk9 v1286), ∀ a, (k0_off293 v1286) a + S1x16.size a ≤ S256x256.size a := fun v1286 k0_hw9 => k0_hw9.2.2.2.2.2.2.2.2.2.1
theorem k0_off294_inb : ∀ (v1286 : BitVec 32) (k0_hw9 : k0_chk9 v1286), ∀ a, (k0_off294 v1286) a + S1x16.size a ≤ S256x256.size a := fun v1286 k0_hw9 => k0_hw9.2.2.2.2.2.2.2.2.2.2.1
theorem k0_off295_inb : ∀ (v1286 : BitVec 32) (k0_hw9 : k0_chk9 v1286), ∀ a, (k0_off295 v1286) a + S1x16.size a ≤ S256x256.size a := fun v1286 k0_hw9 => k0_hw9.2.2.2.2.2.2.2.2.2.2.2.1
theorem k0_off296_inb : ∀ (v1286 : BitVec 32) (k0_hw9 : k0_chk9 v1286), ∀ a, (k0_off296 v1286) a + S1x16.size a ≤ S256x256.size a := fun v1286 k0_hw9 => k0_hw9.2.2.2.2.2.2.2.2.2.2.2.2.1
theorem k0_off297_inb : ∀ (v1286 : BitVec 32) (k0_hw9 : k0_chk9 v1286), ∀ a, (k0_off297 v1286) a + S1x16.size a ≤ S256x256.size a := fun v1286 k0_hw9 => k0_hw9.2.2.2.2.2.2.2.2.2.2.2.2.2.1
theorem k0_off298_inb : ∀ (v1286 : BitVec 32) (k0_hw9 : k0_chk9 v1286), ∀ a, (k0_off298 v1286) a + S1x16.size a ≤ S256x256.size a := fun v1286 k0_hw9 => k0_hw9.2.2.2.2.2.2.2.2.2.2.2.2.2.2.1
theorem k0_off299_inb : ∀ (v1286 : BitVec 32) (k0_hw9 : k0_chk9 v1286), ∀ a, (k0_off299 v1286) a + S1x16.size a ≤ S256x256.size a := fun v1286 k0_hw9 => k0_hw9.2.2.2.2.2.2.2.2.2.2.2.2.2.2.2.1
theorem k0_off300_inb : ∀ (v1286 : BitVec 32) (k0_hw9 : k0_chk9 v1286), ∀ a, (k0_off300 v1286) a + S1x16.size a ≤ S256x16.size a := fun v1286 k0_hw9 => k0_hw9.2.2.2.2.2.2.2.2.2.2.2.2.2.2.2.2

def k0_off301 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1446 : Index := Scalar.indexCast v1444
  let c0_335 : Index := 0#32
  ![v1446.toNat, 0]
def k0_off302 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1451 : Index := Scalar.indexCast v1444
  let c16_336 : Index := 16#32
  ![v1451.toNat, 16]
def k0_off303 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1456 : Index := Scalar.indexCast v1444
  let c32_337 : Index := 32#32
  ![v1456.toNat, 32]
def k0_off304 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1461 : Index := Scalar.indexCast v1444
  let c48_338 : Index := 48#32
  ![v1461.toNat, 48]
def k0_off305 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1466 : Index := Scalar.indexCast v1444
  let c64_339 : Index := 64#32
  ![v1466.toNat, 64]
def k0_off306 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1471 : Index := Scalar.indexCast v1444
  let c80_340 : Index := 80#32
  ![v1471.toNat, 80]
def k0_off307 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1476 : Index := Scalar.indexCast v1444
  let c96_341 : Index := 96#32
  ![v1476.toNat, 96]
def k0_off308 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1481 : Index := Scalar.indexCast v1444
  let c112_342 : Index := 112#32
  ![v1481.toNat, 112]
def k0_off309 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1486 : Index := Scalar.indexCast v1444
  let c128_343 : Index := 128#32
  ![v1486.toNat, 128]
def k0_off310 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1491 : Index := Scalar.indexCast v1444
  let c144_344 : Index := 144#32
  ![v1491.toNat, 144]
def k0_off311 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1496 : Index := Scalar.indexCast v1444
  let c160_345 : Index := 160#32
  ![v1496.toNat, 160]
def k0_off312 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1501 : Index := Scalar.indexCast v1444
  let c176_346 : Index := 176#32
  ![v1501.toNat, 176]
def k0_off313 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1506 : Index := Scalar.indexCast v1444
  let c192_347 : Index := 192#32
  ![v1506.toNat, 192]
def k0_off314 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1511 : Index := Scalar.indexCast v1444
  let c208_348 : Index := 208#32
  ![v1511.toNat, 208]
def k0_off315 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1516 : Index := Scalar.indexCast v1444
  let c224_349 : Index := 224#32
  ![v1516.toNat, 224]
def k0_off316 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_334 : BitVec 32 := 16#32
  let v1443 : BitVec 32 := Scalar.muli arg31 c16_i32_334
  let c9_i32 : BitVec 32 := 9#32
  let v1444 : BitVec 32 := Scalar.addi v1443 c9_i32
  let v1521 : Index := Scalar.indexCast v1444
  let c240_350 : Index := 240#32
  ![v1521.toNat, 240]
def k0_off317 (v1442 : BitVec 32) : Fin 2 → Nat :=
  let v1528 : Index := Scalar.indexCast v1442
  let c0_353 : Index := 0#32
  ![v1528.toNat, 0]

def k0_off318 (v1442 : BitVec 32) : Fin 2 → Nat :=
  let v1532 : Index := Scalar.indexCast v1442
  let c16_354 : Index := 16#32
  ![v1532.toNat, 16]
def k0_off319 (v1442 : BitVec 32) : Fin 2 → Nat :=
  let v1536 : Index := Scalar.indexCast v1442
  let c32_355 : Index := 32#32
  ![v1536.toNat, 32]
def k0_off320 (v1442 : BitVec 32) : Fin 2 → Nat :=
  let v1540 : Index := Scalar.indexCast v1442
  let c48_356 : Index := 48#32
  ![v1540.toNat, 48]
def k0_off321 (v1442 : BitVec 32) : Fin 2 → Nat :=
  let v1544 : Index := Scalar.indexCast v1442
  let c64_357 : Index := 64#32
  ![v1544.toNat, 64]
def k0_off322 (v1442 : BitVec 32) : Fin 2 → Nat :=
  let v1548 : Index := Scalar.indexCast v1442
  let c80_358 : Index := 80#32
  ![v1548.toNat, 80]
def k0_off323 (v1442 : BitVec 32) : Fin 2 → Nat :=
  let v1552 : Index := Scalar.indexCast v1442
  let c96_359 : Index := 96#32
  ![v1552.toNat, 96]
def k0_off324 (v1442 : BitVec 32) : Fin 2 → Nat :=
  let v1556 : Index := Scalar.indexCast v1442
  let c112_360 : Index := 112#32
  ![v1556.toNat, 112]
def k0_off325 (v1442 : BitVec 32) : Fin 2 → Nat :=
  let v1560 : Index := Scalar.indexCast v1442
  let c128_361 : Index := 128#32
  ![v1560.toNat, 128]
def k0_off326 (v1442 : BitVec 32) : Fin 2 → Nat :=
  let v1564 : Index := Scalar.indexCast v1442
  let c144_362 : Index := 144#32
  ![v1564.toNat, 144]
def k0_off327 (v1442 : BitVec 32) : Fin 2 → Nat :=
  let v1568 : Index := Scalar.indexCast v1442
  let c160_363 : Index := 160#32
  ![v1568.toNat, 160]
def k0_off328 (v1442 : BitVec 32) : Fin 2 → Nat :=
  let v1572 : Index := Scalar.indexCast v1442
  let c176_364 : Index := 176#32
  ![v1572.toNat, 176]
def k0_off329 (v1442 : BitVec 32) : Fin 2 → Nat :=
  let v1576 : Index := Scalar.indexCast v1442
  let c192_365 : Index := 192#32
  ![v1576.toNat, 192]
def k0_off330 (v1442 : BitVec 32) : Fin 2 → Nat :=
  let v1580 : Index := Scalar.indexCast v1442
  let c208_366 : Index := 208#32
  ![v1580.toNat, 208]
def k0_off331 (v1442 : BitVec 32) : Fin 2 → Nat :=
  let v1584 : Index := Scalar.indexCast v1442
  let c224_367 : Index := 224#32
  ![v1584.toNat, 224]
def k0_off332 (v1442 : BitVec 32) : Fin 2 → Nat :=
  let v1588 : Index := Scalar.indexCast v1442
  let c240_368 : Index := 240#32
  ![v1588.toNat, 240]
def k0_off333 (v1442 : BitVec 32) : Fin 2 → Nat :=
  let v1593 : Index := Scalar.indexCast v1442
  let c0_369 : Index := 0#32
  ![v1593.toNat, 0]

def k0_chk10 (v1442 : BitVec 32) : Prop :=
  (∀ a, (k0_off317 v1442) a + S1x16.size a ≤ S256x256.size a) ∧
  (∀ a, (k0_off318 v1442) a + S1x16.size a ≤ S256x256.size a) ∧
  (∀ a, (k0_off319 v1442) a + S1x16.size a ≤ S256x256.size a) ∧
  (∀ a, (k0_off320 v1442) a + S1x16.size a ≤ S256x256.size a) ∧
  (∀ a, (k0_off321 v1442) a + S1x16.size a ≤ S256x256.size a) ∧
  (∀ a, (k0_off322 v1442) a + S1x16.size a ≤ S256x256.size a) ∧
  (∀ a, (k0_off323 v1442) a + S1x16.size a ≤ S256x256.size a) ∧
  (∀ a, (k0_off324 v1442) a + S1x16.size a ≤ S256x256.size a) ∧
  (∀ a, (k0_off325 v1442) a + S1x16.size a ≤ S256x256.size a) ∧
  (∀ a, (k0_off326 v1442) a + S1x16.size a ≤ S256x256.size a) ∧
  (∀ a, (k0_off327 v1442) a + S1x16.size a ≤ S256x256.size a) ∧
  (∀ a, (k0_off328 v1442) a + S1x16.size a ≤ S256x256.size a) ∧
  (∀ a, (k0_off329 v1442) a + S1x16.size a ≤ S256x256.size a) ∧
  (∀ a, (k0_off330 v1442) a + S1x16.size a ≤ S256x256.size a) ∧
  (∀ a, (k0_off331 v1442) a + S1x16.size a ≤ S256x256.size a) ∧
  (∀ a, (k0_off332 v1442) a + S1x16.size a ≤ S256x256.size a) ∧
  (∀ a, (k0_off333 v1442) a + S1x16.size a ≤ S256x16.size a)
theorem k0_off317_inb : ∀ (v1442 : BitVec 32) (k0_hw10 : k0_chk10 v1442), ∀ a, (k0_off317 v1442) a + S1x16.size a ≤ S256x256.size a := fun v1442 k0_hw10 => k0_hw10.1
theorem k0_off318_inb : ∀ (v1442 : BitVec 32) (k0_hw10 : k0_chk10 v1442), ∀ a, (k0_off318 v1442) a + S1x16.size a ≤ S256x256.size a := fun v1442 k0_hw10 => k0_hw10.2.1
theorem k0_off319_inb : ∀ (v1442 : BitVec 32) (k0_hw10 : k0_chk10 v1442), ∀ a, (k0_off319 v1442) a + S1x16.size a ≤ S256x256.size a := fun v1442 k0_hw10 => k0_hw10.2.2.1
theorem k0_off320_inb : ∀ (v1442 : BitVec 32) (k0_hw10 : k0_chk10 v1442), ∀ a, (k0_off320 v1442) a + S1x16.size a ≤ S256x256.size a := fun v1442 k0_hw10 => k0_hw10.2.2.2.1
theorem k0_off321_inb : ∀ (v1442 : BitVec 32) (k0_hw10 : k0_chk10 v1442), ∀ a, (k0_off321 v1442) a + S1x16.size a ≤ S256x256.size a := fun v1442 k0_hw10 => k0_hw10.2.2.2.2.1
theorem k0_off322_inb : ∀ (v1442 : BitVec 32) (k0_hw10 : k0_chk10 v1442), ∀ a, (k0_off322 v1442) a + S1x16.size a ≤ S256x256.size a := fun v1442 k0_hw10 => k0_hw10.2.2.2.2.2.1
theorem k0_off323_inb : ∀ (v1442 : BitVec 32) (k0_hw10 : k0_chk10 v1442), ∀ a, (k0_off323 v1442) a + S1x16.size a ≤ S256x256.size a := fun v1442 k0_hw10 => k0_hw10.2.2.2.2.2.2.1
theorem k0_off324_inb : ∀ (v1442 : BitVec 32) (k0_hw10 : k0_chk10 v1442), ∀ a, (k0_off324 v1442) a + S1x16.size a ≤ S256x256.size a := fun v1442 k0_hw10 => k0_hw10.2.2.2.2.2.2.2.1
theorem k0_off325_inb : ∀ (v1442 : BitVec 32) (k0_hw10 : k0_chk10 v1442), ∀ a, (k0_off325 v1442) a + S1x16.size a ≤ S256x256.size a := fun v1442 k0_hw10 => k0_hw10.2.2.2.2.2.2.2.2.1
theorem k0_off326_inb : ∀ (v1442 : BitVec 32) (k0_hw10 : k0_chk10 v1442), ∀ a, (k0_off326 v1442) a + S1x16.size a ≤ S256x256.size a := fun v1442 k0_hw10 => k0_hw10.2.2.2.2.2.2.2.2.2.1
theorem k0_off327_inb : ∀ (v1442 : BitVec 32) (k0_hw10 : k0_chk10 v1442), ∀ a, (k0_off327 v1442) a + S1x16.size a ≤ S256x256.size a := fun v1442 k0_hw10 => k0_hw10.2.2.2.2.2.2.2.2.2.2.1
theorem k0_off328_inb : ∀ (v1442 : BitVec 32) (k0_hw10 : k0_chk10 v1442), ∀ a, (k0_off328 v1442) a + S1x16.size a ≤ S256x256.size a := fun v1442 k0_hw10 => k0_hw10.2.2.2.2.2.2.2.2.2.2.2.1
theorem k0_off329_inb : ∀ (v1442 : BitVec 32) (k0_hw10 : k0_chk10 v1442), ∀ a, (k0_off329 v1442) a + S1x16.size a ≤ S256x256.size a := fun v1442 k0_hw10 => k0_hw10.2.2.2.2.2.2.2.2.2.2.2.2.1
theorem k0_off330_inb : ∀ (v1442 : BitVec 32) (k0_hw10 : k0_chk10 v1442), ∀ a, (k0_off330 v1442) a + S1x16.size a ≤ S256x256.size a := fun v1442 k0_hw10 => k0_hw10.2.2.2.2.2.2.2.2.2.2.2.2.2.1
theorem k0_off331_inb : ∀ (v1442 : BitVec 32) (k0_hw10 : k0_chk10 v1442), ∀ a, (k0_off331 v1442) a + S1x16.size a ≤ S256x256.size a := fun v1442 k0_hw10 => k0_hw10.2.2.2.2.2.2.2.2.2.2.2.2.2.2.1
theorem k0_off332_inb : ∀ (v1442 : BitVec 32) (k0_hw10 : k0_chk10 v1442), ∀ a, (k0_off332 v1442) a + S1x16.size a ≤ S256x256.size a := fun v1442 k0_hw10 => k0_hw10.2.2.2.2.2.2.2.2.2.2.2.2.2.2.2.1
theorem k0_off333_inb : ∀ (v1442 : BitVec 32) (k0_hw10 : k0_chk10 v1442), ∀ a, (k0_off333 v1442) a + S1x16.size a ≤ S256x16.size a := fun v1442 k0_hw10 => k0_hw10.2.2.2.2.2.2.2.2.2.2.2.2.2.2.2.2

def k0_off334 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1602 : Index := Scalar.indexCast v1600
  let c0_371 : Index := 0#32
  ![v1602.toNat, 0]
def k0_off335 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1607 : Index := Scalar.indexCast v1600
  let c16_372 : Index := 16#32
  ![v1607.toNat, 16]
def k0_off336 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1612 : Index := Scalar.indexCast v1600
  let c32_373 : Index := 32#32
  ![v1612.toNat, 32]
def k0_off337 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1617 : Index := Scalar.indexCast v1600
  let c48_374 : Index := 48#32
  ![v1617.toNat, 48]
def k0_off338 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1622 : Index := Scalar.indexCast v1600
  let c64_375 : Index := 64#32
  ![v1622.toNat, 64]
def k0_off339 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1627 : Index := Scalar.indexCast v1600
  let c80_376 : Index := 80#32
  ![v1627.toNat, 80]
def k0_off340 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1632 : Index := Scalar.indexCast v1600
  let c96_377 : Index := 96#32
  ![v1632.toNat, 96]
def k0_off341 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1637 : Index := Scalar.indexCast v1600
  let c112_378 : Index := 112#32
  ![v1637.toNat, 112]
def k0_off342 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1642 : Index := Scalar.indexCast v1600
  let c128_379 : Index := 128#32
  ![v1642.toNat, 128]
def k0_off343 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1647 : Index := Scalar.indexCast v1600
  let c144_380 : Index := 144#32
  ![v1647.toNat, 144]
def k0_off344 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1652 : Index := Scalar.indexCast v1600
  let c160_381 : Index := 160#32
  ![v1652.toNat, 160]
def k0_off345 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1657 : Index := Scalar.indexCast v1600
  let c176_382 : Index := 176#32
  ![v1657.toNat, 176]
def k0_off346 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1662 : Index := Scalar.indexCast v1600
  let c192_383 : Index := 192#32
  ![v1662.toNat, 192]
def k0_off347 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1667 : Index := Scalar.indexCast v1600
  let c208_384 : Index := 208#32
  ![v1667.toNat, 208]
def k0_off348 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1672 : Index := Scalar.indexCast v1600
  let c224_385 : Index := 224#32
  ![v1672.toNat, 224]
def k0_off349 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_370 : BitVec 32 := 16#32
  let v1599 : BitVec 32 := Scalar.muli arg31 c16_i32_370
  let c10_i32 : BitVec 32 := 10#32
  let v1600 : BitVec 32 := Scalar.addi v1599 c10_i32
  let v1677 : Index := Scalar.indexCast v1600
  let c240_386 : Index := 240#32
  ![v1677.toNat, 240]
def k0_off350 (v1598 : BitVec 32) : Fin 2 → Nat :=
  let v1684 : Index := Scalar.indexCast v1598
  let c0_389 : Index := 0#32
  ![v1684.toNat, 0]

def k0_off351 (v1598 : BitVec 32) : Fin 2 → Nat :=
  let v1688 : Index := Scalar.indexCast v1598
  let c16_390 : Index := 16#32
  ![v1688.toNat, 16]
def k0_off352 (v1598 : BitVec 32) : Fin 2 → Nat :=
  let v1692 : Index := Scalar.indexCast v1598
  let c32_391 : Index := 32#32
  ![v1692.toNat, 32]
def k0_off353 (v1598 : BitVec 32) : Fin 2 → Nat :=
  let v1696 : Index := Scalar.indexCast v1598
  let c48_392 : Index := 48#32
  ![v1696.toNat, 48]
def k0_off354 (v1598 : BitVec 32) : Fin 2 → Nat :=
  let v1700 : Index := Scalar.indexCast v1598
  let c64_393 : Index := 64#32
  ![v1700.toNat, 64]
def k0_off355 (v1598 : BitVec 32) : Fin 2 → Nat :=
  let v1704 : Index := Scalar.indexCast v1598
  let c80_394 : Index := 80#32
  ![v1704.toNat, 80]
def k0_off356 (v1598 : BitVec 32) : Fin 2 → Nat :=
  let v1708 : Index := Scalar.indexCast v1598
  let c96_395 : Index := 96#32
  ![v1708.toNat, 96]
def k0_off357 (v1598 : BitVec 32) : Fin 2 → Nat :=
  let v1712 : Index := Scalar.indexCast v1598
  let c112_396 : Index := 112#32
  ![v1712.toNat, 112]
def k0_off358 (v1598 : BitVec 32) : Fin 2 → Nat :=
  let v1716 : Index := Scalar.indexCast v1598
  let c128_397 : Index := 128#32
  ![v1716.toNat, 128]
def k0_off359 (v1598 : BitVec 32) : Fin 2 → Nat :=
  let v1720 : Index := Scalar.indexCast v1598
  let c144_398 : Index := 144#32
  ![v1720.toNat, 144]
def k0_off360 (v1598 : BitVec 32) : Fin 2 → Nat :=
  let v1724 : Index := Scalar.indexCast v1598
  let c160_399 : Index := 160#32
  ![v1724.toNat, 160]
def k0_off361 (v1598 : BitVec 32) : Fin 2 → Nat :=
  let v1728 : Index := Scalar.indexCast v1598
  let c176_400 : Index := 176#32
  ![v1728.toNat, 176]
def k0_off362 (v1598 : BitVec 32) : Fin 2 → Nat :=
  let v1732 : Index := Scalar.indexCast v1598
  let c192_401 : Index := 192#32
  ![v1732.toNat, 192]
def k0_off363 (v1598 : BitVec 32) : Fin 2 → Nat :=
  let v1736 : Index := Scalar.indexCast v1598
  let c208_402 : Index := 208#32
  ![v1736.toNat, 208]
def k0_off364 (v1598 : BitVec 32) : Fin 2 → Nat :=
  let v1740 : Index := Scalar.indexCast v1598
  let c224_403 : Index := 224#32
  ![v1740.toNat, 224]
def k0_off365 (v1598 : BitVec 32) : Fin 2 → Nat :=
  let v1744 : Index := Scalar.indexCast v1598
  let c240_404 : Index := 240#32
  ![v1744.toNat, 240]
def k0_off366 (v1598 : BitVec 32) : Fin 2 → Nat :=
  let v1749 : Index := Scalar.indexCast v1598
  let c0_405 : Index := 0#32
  ![v1749.toNat, 0]

def k0_chk11 (v1598 : BitVec 32) : Prop :=
  (∀ a, (k0_off350 v1598) a + S1x16.size a ≤ S256x256.size a) ∧
  (∀ a, (k0_off351 v1598) a + S1x16.size a ≤ S256x256.size a) ∧
  (∀ a, (k0_off352 v1598) a + S1x16.size a ≤ S256x256.size a) ∧
  (∀ a, (k0_off353 v1598) a + S1x16.size a ≤ S256x256.size a) ∧
  (∀ a, (k0_off354 v1598) a + S1x16.size a ≤ S256x256.size a) ∧
  (∀ a, (k0_off355 v1598) a + S1x16.size a ≤ S256x256.size a) ∧
  (∀ a, (k0_off356 v1598) a + S1x16.size a ≤ S256x256.size a) ∧
  (∀ a, (k0_off357 v1598) a + S1x16.size a ≤ S256x256.size a) ∧
  (∀ a, (k0_off358 v1598) a + S1x16.size a ≤ S256x256.size a) ∧
  (∀ a, (k0_off359 v1598) a + S1x16.size a ≤ S256x256.size a) ∧
  (∀ a, (k0_off360 v1598) a + S1x16.size a ≤ S256x256.size a) ∧
  (∀ a, (k0_off361 v1598) a + S1x16.size a ≤ S256x256.size a) ∧
  (∀ a, (k0_off362 v1598) a + S1x16.size a ≤ S256x256.size a) ∧
  (∀ a, (k0_off363 v1598) a + S1x16.size a ≤ S256x256.size a) ∧
  (∀ a, (k0_off364 v1598) a + S1x16.size a ≤ S256x256.size a) ∧
  (∀ a, (k0_off365 v1598) a + S1x16.size a ≤ S256x256.size a) ∧
  (∀ a, (k0_off366 v1598) a + S1x16.size a ≤ S256x16.size a)
theorem k0_off350_inb : ∀ (v1598 : BitVec 32) (k0_hw11 : k0_chk11 v1598), ∀ a, (k0_off350 v1598) a + S1x16.size a ≤ S256x256.size a := fun v1598 k0_hw11 => k0_hw11.1
theorem k0_off351_inb : ∀ (v1598 : BitVec 32) (k0_hw11 : k0_chk11 v1598), ∀ a, (k0_off351 v1598) a + S1x16.size a ≤ S256x256.size a := fun v1598 k0_hw11 => k0_hw11.2.1
theorem k0_off352_inb : ∀ (v1598 : BitVec 32) (k0_hw11 : k0_chk11 v1598), ∀ a, (k0_off352 v1598) a + S1x16.size a ≤ S256x256.size a := fun v1598 k0_hw11 => k0_hw11.2.2.1
theorem k0_off353_inb : ∀ (v1598 : BitVec 32) (k0_hw11 : k0_chk11 v1598), ∀ a, (k0_off353 v1598) a + S1x16.size a ≤ S256x256.size a := fun v1598 k0_hw11 => k0_hw11.2.2.2.1
theorem k0_off354_inb : ∀ (v1598 : BitVec 32) (k0_hw11 : k0_chk11 v1598), ∀ a, (k0_off354 v1598) a + S1x16.size a ≤ S256x256.size a := fun v1598 k0_hw11 => k0_hw11.2.2.2.2.1
theorem k0_off355_inb : ∀ (v1598 : BitVec 32) (k0_hw11 : k0_chk11 v1598), ∀ a, (k0_off355 v1598) a + S1x16.size a ≤ S256x256.size a := fun v1598 k0_hw11 => k0_hw11.2.2.2.2.2.1
theorem k0_off356_inb : ∀ (v1598 : BitVec 32) (k0_hw11 : k0_chk11 v1598), ∀ a, (k0_off356 v1598) a + S1x16.size a ≤ S256x256.size a := fun v1598 k0_hw11 => k0_hw11.2.2.2.2.2.2.1
theorem k0_off357_inb : ∀ (v1598 : BitVec 32) (k0_hw11 : k0_chk11 v1598), ∀ a, (k0_off357 v1598) a + S1x16.size a ≤ S256x256.size a := fun v1598 k0_hw11 => k0_hw11.2.2.2.2.2.2.2.1
theorem k0_off358_inb : ∀ (v1598 : BitVec 32) (k0_hw11 : k0_chk11 v1598), ∀ a, (k0_off358 v1598) a + S1x16.size a ≤ S256x256.size a := fun v1598 k0_hw11 => k0_hw11.2.2.2.2.2.2.2.2.1
theorem k0_off359_inb : ∀ (v1598 : BitVec 32) (k0_hw11 : k0_chk11 v1598), ∀ a, (k0_off359 v1598) a + S1x16.size a ≤ S256x256.size a := fun v1598 k0_hw11 => k0_hw11.2.2.2.2.2.2.2.2.2.1
theorem k0_off360_inb : ∀ (v1598 : BitVec 32) (k0_hw11 : k0_chk11 v1598), ∀ a, (k0_off360 v1598) a + S1x16.size a ≤ S256x256.size a := fun v1598 k0_hw11 => k0_hw11.2.2.2.2.2.2.2.2.2.2.1
theorem k0_off361_inb : ∀ (v1598 : BitVec 32) (k0_hw11 : k0_chk11 v1598), ∀ a, (k0_off361 v1598) a + S1x16.size a ≤ S256x256.size a := fun v1598 k0_hw11 => k0_hw11.2.2.2.2.2.2.2.2.2.2.2.1
theorem k0_off362_inb : ∀ (v1598 : BitVec 32) (k0_hw11 : k0_chk11 v1598), ∀ a, (k0_off362 v1598) a + S1x16.size a ≤ S256x256.size a := fun v1598 k0_hw11 => k0_hw11.2.2.2.2.2.2.2.2.2.2.2.2.1
theorem k0_off363_inb : ∀ (v1598 : BitVec 32) (k0_hw11 : k0_chk11 v1598), ∀ a, (k0_off363 v1598) a + S1x16.size a ≤ S256x256.size a := fun v1598 k0_hw11 => k0_hw11.2.2.2.2.2.2.2.2.2.2.2.2.2.1
theorem k0_off364_inb : ∀ (v1598 : BitVec 32) (k0_hw11 : k0_chk11 v1598), ∀ a, (k0_off364 v1598) a + S1x16.size a ≤ S256x256.size a := fun v1598 k0_hw11 => k0_hw11.2.2.2.2.2.2.2.2.2.2.2.2.2.2.1
theorem k0_off365_inb : ∀ (v1598 : BitVec 32) (k0_hw11 : k0_chk11 v1598), ∀ a, (k0_off365 v1598) a + S1x16.size a ≤ S256x256.size a := fun v1598 k0_hw11 => k0_hw11.2.2.2.2.2.2.2.2.2.2.2.2.2.2.2.1
theorem k0_off366_inb : ∀ (v1598 : BitVec 32) (k0_hw11 : k0_chk11 v1598), ∀ a, (k0_off366 v1598) a + S1x16.size a ≤ S256x16.size a := fun v1598 k0_hw11 => k0_hw11.2.2.2.2.2.2.2.2.2.2.2.2.2.2.2.2

def k0_off367 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1758 : Index := Scalar.indexCast v1756
  let c0_407 : Index := 0#32
  ![v1758.toNat, 0]
def k0_off368 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1763 : Index := Scalar.indexCast v1756
  let c16_408 : Index := 16#32
  ![v1763.toNat, 16]
def k0_off369 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1768 : Index := Scalar.indexCast v1756
  let c32_409 : Index := 32#32
  ![v1768.toNat, 32]
def k0_off370 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1773 : Index := Scalar.indexCast v1756
  let c48_410 : Index := 48#32
  ![v1773.toNat, 48]
def k0_off371 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1778 : Index := Scalar.indexCast v1756
  let c64_411 : Index := 64#32
  ![v1778.toNat, 64]
def k0_off372 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1783 : Index := Scalar.indexCast v1756
  let c80_412 : Index := 80#32
  ![v1783.toNat, 80]
def k0_off373 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1788 : Index := Scalar.indexCast v1756
  let c96_413 : Index := 96#32
  ![v1788.toNat, 96]
def k0_off374 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1793 : Index := Scalar.indexCast v1756
  let c112_414 : Index := 112#32
  ![v1793.toNat, 112]
def k0_off375 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1798 : Index := Scalar.indexCast v1756
  let c128_415 : Index := 128#32
  ![v1798.toNat, 128]
def k0_off376 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1803 : Index := Scalar.indexCast v1756
  let c144_416 : Index := 144#32
  ![v1803.toNat, 144]
def k0_off377 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1808 : Index := Scalar.indexCast v1756
  let c160_417 : Index := 160#32
  ![v1808.toNat, 160]
def k0_off378 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1813 : Index := Scalar.indexCast v1756
  let c176_418 : Index := 176#32
  ![v1813.toNat, 176]
def k0_off379 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1818 : Index := Scalar.indexCast v1756
  let c192_419 : Index := 192#32
  ![v1818.toNat, 192]
def k0_off380 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1823 : Index := Scalar.indexCast v1756
  let c208_420 : Index := 208#32
  ![v1823.toNat, 208]
def k0_off381 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1828 : Index := Scalar.indexCast v1756
  let c224_421 : Index := 224#32
  ![v1828.toNat, 224]
def k0_off382 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_406 : BitVec 32 := 16#32
  let v1755 : BitVec 32 := Scalar.muli arg31 c16_i32_406
  let c11_i32 : BitVec 32 := 11#32
  let v1756 : BitVec 32 := Scalar.addi v1755 c11_i32
  let v1833 : Index := Scalar.indexCast v1756
  let c240_422 : Index := 240#32
  ![v1833.toNat, 240]
def k0_off383 (v1754 : BitVec 32) : Fin 2 → Nat :=
  let v1840 : Index := Scalar.indexCast v1754
  let c0_425 : Index := 0#32
  ![v1840.toNat, 0]

def k0_off384 (v1754 : BitVec 32) : Fin 2 → Nat :=
  let v1844 : Index := Scalar.indexCast v1754
  let c16_426 : Index := 16#32
  ![v1844.toNat, 16]
def k0_off385 (v1754 : BitVec 32) : Fin 2 → Nat :=
  let v1848 : Index := Scalar.indexCast v1754
  let c32_427 : Index := 32#32
  ![v1848.toNat, 32]
def k0_off386 (v1754 : BitVec 32) : Fin 2 → Nat :=
  let v1852 : Index := Scalar.indexCast v1754
  let c48_428 : Index := 48#32
  ![v1852.toNat, 48]
def k0_off387 (v1754 : BitVec 32) : Fin 2 → Nat :=
  let v1856 : Index := Scalar.indexCast v1754
  let c64_429 : Index := 64#32
  ![v1856.toNat, 64]
def k0_off388 (v1754 : BitVec 32) : Fin 2 → Nat :=
  let v1860 : Index := Scalar.indexCast v1754
  let c80_430 : Index := 80#32
  ![v1860.toNat, 80]
def k0_off389 (v1754 : BitVec 32) : Fin 2 → Nat :=
  let v1864 : Index := Scalar.indexCast v1754
  let c96_431 : Index := 96#32
  ![v1864.toNat, 96]
def k0_off390 (v1754 : BitVec 32) : Fin 2 → Nat :=
  let v1868 : Index := Scalar.indexCast v1754
  let c112_432 : Index := 112#32
  ![v1868.toNat, 112]
def k0_off391 (v1754 : BitVec 32) : Fin 2 → Nat :=
  let v1872 : Index := Scalar.indexCast v1754
  let c128_433 : Index := 128#32
  ![v1872.toNat, 128]
def k0_off392 (v1754 : BitVec 32) : Fin 2 → Nat :=
  let v1876 : Index := Scalar.indexCast v1754
  let c144_434 : Index := 144#32
  ![v1876.toNat, 144]
def k0_off393 (v1754 : BitVec 32) : Fin 2 → Nat :=
  let v1880 : Index := Scalar.indexCast v1754
  let c160_435 : Index := 160#32
  ![v1880.toNat, 160]
def k0_off394 (v1754 : BitVec 32) : Fin 2 → Nat :=
  let v1884 : Index := Scalar.indexCast v1754
  let c176_436 : Index := 176#32
  ![v1884.toNat, 176]
def k0_off395 (v1754 : BitVec 32) : Fin 2 → Nat :=
  let v1888 : Index := Scalar.indexCast v1754
  let c192_437 : Index := 192#32
  ![v1888.toNat, 192]
def k0_off396 (v1754 : BitVec 32) : Fin 2 → Nat :=
  let v1892 : Index := Scalar.indexCast v1754
  let c208_438 : Index := 208#32
  ![v1892.toNat, 208]
def k0_off397 (v1754 : BitVec 32) : Fin 2 → Nat :=
  let v1896 : Index := Scalar.indexCast v1754
  let c224_439 : Index := 224#32
  ![v1896.toNat, 224]
def k0_off398 (v1754 : BitVec 32) : Fin 2 → Nat :=
  let v1900 : Index := Scalar.indexCast v1754
  let c240_440 : Index := 240#32
  ![v1900.toNat, 240]
def k0_off399 (v1754 : BitVec 32) : Fin 2 → Nat :=
  let v1905 : Index := Scalar.indexCast v1754
  let c0_441 : Index := 0#32
  ![v1905.toNat, 0]

def k0_chk12 (v1754 : BitVec 32) : Prop :=
  (∀ a, (k0_off383 v1754) a + S1x16.size a ≤ S256x256.size a) ∧
  (∀ a, (k0_off384 v1754) a + S1x16.size a ≤ S256x256.size a) ∧
  (∀ a, (k0_off385 v1754) a + S1x16.size a ≤ S256x256.size a) ∧
  (∀ a, (k0_off386 v1754) a + S1x16.size a ≤ S256x256.size a) ∧
  (∀ a, (k0_off387 v1754) a + S1x16.size a ≤ S256x256.size a) ∧
  (∀ a, (k0_off388 v1754) a + S1x16.size a ≤ S256x256.size a) ∧
  (∀ a, (k0_off389 v1754) a + S1x16.size a ≤ S256x256.size a) ∧
  (∀ a, (k0_off390 v1754) a + S1x16.size a ≤ S256x256.size a) ∧
  (∀ a, (k0_off391 v1754) a + S1x16.size a ≤ S256x256.size a) ∧
  (∀ a, (k0_off392 v1754) a + S1x16.size a ≤ S256x256.size a) ∧
  (∀ a, (k0_off393 v1754) a + S1x16.size a ≤ S256x256.size a) ∧
  (∀ a, (k0_off394 v1754) a + S1x16.size a ≤ S256x256.size a) ∧
  (∀ a, (k0_off395 v1754) a + S1x16.size a ≤ S256x256.size a) ∧
  (∀ a, (k0_off396 v1754) a + S1x16.size a ≤ S256x256.size a) ∧
  (∀ a, (k0_off397 v1754) a + S1x16.size a ≤ S256x256.size a) ∧
  (∀ a, (k0_off398 v1754) a + S1x16.size a ≤ S256x256.size a) ∧
  (∀ a, (k0_off399 v1754) a + S1x16.size a ≤ S256x16.size a)
theorem k0_off383_inb : ∀ (v1754 : BitVec 32) (k0_hw12 : k0_chk12 v1754), ∀ a, (k0_off383 v1754) a + S1x16.size a ≤ S256x256.size a := fun v1754 k0_hw12 => k0_hw12.1
theorem k0_off384_inb : ∀ (v1754 : BitVec 32) (k0_hw12 : k0_chk12 v1754), ∀ a, (k0_off384 v1754) a + S1x16.size a ≤ S256x256.size a := fun v1754 k0_hw12 => k0_hw12.2.1
theorem k0_off385_inb : ∀ (v1754 : BitVec 32) (k0_hw12 : k0_chk12 v1754), ∀ a, (k0_off385 v1754) a + S1x16.size a ≤ S256x256.size a := fun v1754 k0_hw12 => k0_hw12.2.2.1
theorem k0_off386_inb : ∀ (v1754 : BitVec 32) (k0_hw12 : k0_chk12 v1754), ∀ a, (k0_off386 v1754) a + S1x16.size a ≤ S256x256.size a := fun v1754 k0_hw12 => k0_hw12.2.2.2.1
theorem k0_off387_inb : ∀ (v1754 : BitVec 32) (k0_hw12 : k0_chk12 v1754), ∀ a, (k0_off387 v1754) a + S1x16.size a ≤ S256x256.size a := fun v1754 k0_hw12 => k0_hw12.2.2.2.2.1
theorem k0_off388_inb : ∀ (v1754 : BitVec 32) (k0_hw12 : k0_chk12 v1754), ∀ a, (k0_off388 v1754) a + S1x16.size a ≤ S256x256.size a := fun v1754 k0_hw12 => k0_hw12.2.2.2.2.2.1
theorem k0_off389_inb : ∀ (v1754 : BitVec 32) (k0_hw12 : k0_chk12 v1754), ∀ a, (k0_off389 v1754) a + S1x16.size a ≤ S256x256.size a := fun v1754 k0_hw12 => k0_hw12.2.2.2.2.2.2.1
theorem k0_off390_inb : ∀ (v1754 : BitVec 32) (k0_hw12 : k0_chk12 v1754), ∀ a, (k0_off390 v1754) a + S1x16.size a ≤ S256x256.size a := fun v1754 k0_hw12 => k0_hw12.2.2.2.2.2.2.2.1
theorem k0_off391_inb : ∀ (v1754 : BitVec 32) (k0_hw12 : k0_chk12 v1754), ∀ a, (k0_off391 v1754) a + S1x16.size a ≤ S256x256.size a := fun v1754 k0_hw12 => k0_hw12.2.2.2.2.2.2.2.2.1
theorem k0_off392_inb : ∀ (v1754 : BitVec 32) (k0_hw12 : k0_chk12 v1754), ∀ a, (k0_off392 v1754) a + S1x16.size a ≤ S256x256.size a := fun v1754 k0_hw12 => k0_hw12.2.2.2.2.2.2.2.2.2.1
theorem k0_off393_inb : ∀ (v1754 : BitVec 32) (k0_hw12 : k0_chk12 v1754), ∀ a, (k0_off393 v1754) a + S1x16.size a ≤ S256x256.size a := fun v1754 k0_hw12 => k0_hw12.2.2.2.2.2.2.2.2.2.2.1
theorem k0_off394_inb : ∀ (v1754 : BitVec 32) (k0_hw12 : k0_chk12 v1754), ∀ a, (k0_off394 v1754) a + S1x16.size a ≤ S256x256.size a := fun v1754 k0_hw12 => k0_hw12.2.2.2.2.2.2.2.2.2.2.2.1
theorem k0_off395_inb : ∀ (v1754 : BitVec 32) (k0_hw12 : k0_chk12 v1754), ∀ a, (k0_off395 v1754) a + S1x16.size a ≤ S256x256.size a := fun v1754 k0_hw12 => k0_hw12.2.2.2.2.2.2.2.2.2.2.2.2.1
theorem k0_off396_inb : ∀ (v1754 : BitVec 32) (k0_hw12 : k0_chk12 v1754), ∀ a, (k0_off396 v1754) a + S1x16.size a ≤ S256x256.size a := fun v1754 k0_hw12 => k0_hw12.2.2.2.2.2.2.2.2.2.2.2.2.2.1
theorem k0_off397_inb : ∀ (v1754 : BitVec 32) (k0_hw12 : k0_chk12 v1754), ∀ a, (k0_off397 v1754) a + S1x16.size a ≤ S256x256.size a := fun v1754 k0_hw12 => k0_hw12.2.2.2.2.2.2.2.2.2.2.2.2.2.2.1
theorem k0_off398_inb : ∀ (v1754 : BitVec 32) (k0_hw12 : k0_chk12 v1754), ∀ a, (k0_off398 v1754) a + S1x16.size a ≤ S256x256.size a := fun v1754 k0_hw12 => k0_hw12.2.2.2.2.2.2.2.2.2.2.2.2.2.2.2.1
theorem k0_off399_inb : ∀ (v1754 : BitVec 32) (k0_hw12 : k0_chk12 v1754), ∀ a, (k0_off399 v1754) a + S1x16.size a ≤ S256x16.size a := fun v1754 k0_hw12 => k0_hw12.2.2.2.2.2.2.2.2.2.2.2.2.2.2.2.2

def k0_off400 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1914 : Index := Scalar.indexCast v1912
  let c0_443 : Index := 0#32
  ![v1914.toNat, 0]
def k0_off401 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1919 : Index := Scalar.indexCast v1912
  let c16_444 : Index := 16#32
  ![v1919.toNat, 16]
def k0_off402 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1924 : Index := Scalar.indexCast v1912
  let c32_445 : Index := 32#32
  ![v1924.toNat, 32]
def k0_off403 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1929 : Index := Scalar.indexCast v1912
  let c48_446 : Index := 48#32
  ![v1929.toNat, 48]
def k0_off404 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1934 : Index := Scalar.indexCast v1912
  let c64_447 : Index := 64#32
  ![v1934.toNat, 64]
def k0_off405 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1939 : Index := Scalar.indexCast v1912
  let c80_448 : Index := 80#32
  ![v1939.toNat, 80]
def k0_off406 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1944 : Index := Scalar.indexCast v1912
  let c96_449 : Index := 96#32
  ![v1944.toNat, 96]
def k0_off407 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1949 : Index := Scalar.indexCast v1912
  let c112_450 : Index := 112#32
  ![v1949.toNat, 112]
def k0_off408 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1954 : Index := Scalar.indexCast v1912
  let c128_451 : Index := 128#32
  ![v1954.toNat, 128]
def k0_off409 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1959 : Index := Scalar.indexCast v1912
  let c144_452 : Index := 144#32
  ![v1959.toNat, 144]
def k0_off410 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1964 : Index := Scalar.indexCast v1912
  let c160_453 : Index := 160#32
  ![v1964.toNat, 160]
def k0_off411 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1969 : Index := Scalar.indexCast v1912
  let c176_454 : Index := 176#32
  ![v1969.toNat, 176]
def k0_off412 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1974 : Index := Scalar.indexCast v1912
  let c192_455 : Index := 192#32
  ![v1974.toNat, 192]
def k0_off413 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1979 : Index := Scalar.indexCast v1912
  let c208_456 : Index := 208#32
  ![v1979.toNat, 208]
def k0_off414 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1984 : Index := Scalar.indexCast v1912
  let c224_457 : Index := 224#32
  ![v1984.toNat, 224]
def k0_off415 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_442 : BitVec 32 := 16#32
  let v1911 : BitVec 32 := Scalar.muli arg31 c16_i32_442
  let c12_i32 : BitVec 32 := 12#32
  let v1912 : BitVec 32 := Scalar.addi v1911 c12_i32
  let v1989 : Index := Scalar.indexCast v1912
  let c240_458 : Index := 240#32
  ![v1989.toNat, 240]
def k0_off416 (v1910 : BitVec 32) : Fin 2 → Nat :=
  let v1996 : Index := Scalar.indexCast v1910
  let c0_461 : Index := 0#32
  ![v1996.toNat, 0]

def k0_off417 (v1910 : BitVec 32) : Fin 2 → Nat :=
  let v2000 : Index := Scalar.indexCast v1910
  let c16_462 : Index := 16#32
  ![v2000.toNat, 16]
def k0_off418 (v1910 : BitVec 32) : Fin 2 → Nat :=
  let v2004 : Index := Scalar.indexCast v1910
  let c32_463 : Index := 32#32
  ![v2004.toNat, 32]
def k0_off419 (v1910 : BitVec 32) : Fin 2 → Nat :=
  let v2008 : Index := Scalar.indexCast v1910
  let c48_464 : Index := 48#32
  ![v2008.toNat, 48]
def k0_off420 (v1910 : BitVec 32) : Fin 2 → Nat :=
  let v2012 : Index := Scalar.indexCast v1910
  let c64_465 : Index := 64#32
  ![v2012.toNat, 64]
def k0_off421 (v1910 : BitVec 32) : Fin 2 → Nat :=
  let v2016 : Index := Scalar.indexCast v1910
  let c80_466 : Index := 80#32
  ![v2016.toNat, 80]
def k0_off422 (v1910 : BitVec 32) : Fin 2 → Nat :=
  let v2020 : Index := Scalar.indexCast v1910
  let c96_467 : Index := 96#32
  ![v2020.toNat, 96]
def k0_off423 (v1910 : BitVec 32) : Fin 2 → Nat :=
  let v2024 : Index := Scalar.indexCast v1910
  let c112_468 : Index := 112#32
  ![v2024.toNat, 112]
def k0_off424 (v1910 : BitVec 32) : Fin 2 → Nat :=
  let v2028 : Index := Scalar.indexCast v1910
  let c128_469 : Index := 128#32
  ![v2028.toNat, 128]
def k0_off425 (v1910 : BitVec 32) : Fin 2 → Nat :=
  let v2032 : Index := Scalar.indexCast v1910
  let c144_470 : Index := 144#32
  ![v2032.toNat, 144]
def k0_off426 (v1910 : BitVec 32) : Fin 2 → Nat :=
  let v2036 : Index := Scalar.indexCast v1910
  let c160_471 : Index := 160#32
  ![v2036.toNat, 160]
def k0_off427 (v1910 : BitVec 32) : Fin 2 → Nat :=
  let v2040 : Index := Scalar.indexCast v1910
  let c176_472 : Index := 176#32
  ![v2040.toNat, 176]
def k0_off428 (v1910 : BitVec 32) : Fin 2 → Nat :=
  let v2044 : Index := Scalar.indexCast v1910
  let c192_473 : Index := 192#32
  ![v2044.toNat, 192]
def k0_off429 (v1910 : BitVec 32) : Fin 2 → Nat :=
  let v2048 : Index := Scalar.indexCast v1910
  let c208_474 : Index := 208#32
  ![v2048.toNat, 208]
def k0_off430 (v1910 : BitVec 32) : Fin 2 → Nat :=
  let v2052 : Index := Scalar.indexCast v1910
  let c224_475 : Index := 224#32
  ![v2052.toNat, 224]
def k0_off431 (v1910 : BitVec 32) : Fin 2 → Nat :=
  let v2056 : Index := Scalar.indexCast v1910
  let c240_476 : Index := 240#32
  ![v2056.toNat, 240]
def k0_off432 (v1910 : BitVec 32) : Fin 2 → Nat :=
  let v2061 : Index := Scalar.indexCast v1910
  let c0_477 : Index := 0#32
  ![v2061.toNat, 0]

def k0_chk13 (v1910 : BitVec 32) : Prop :=
  (∀ a, (k0_off416 v1910) a + S1x16.size a ≤ S256x256.size a) ∧
  (∀ a, (k0_off417 v1910) a + S1x16.size a ≤ S256x256.size a) ∧
  (∀ a, (k0_off418 v1910) a + S1x16.size a ≤ S256x256.size a) ∧
  (∀ a, (k0_off419 v1910) a + S1x16.size a ≤ S256x256.size a) ∧
  (∀ a, (k0_off420 v1910) a + S1x16.size a ≤ S256x256.size a) ∧
  (∀ a, (k0_off421 v1910) a + S1x16.size a ≤ S256x256.size a) ∧
  (∀ a, (k0_off422 v1910) a + S1x16.size a ≤ S256x256.size a) ∧
  (∀ a, (k0_off423 v1910) a + S1x16.size a ≤ S256x256.size a) ∧
  (∀ a, (k0_off424 v1910) a + S1x16.size a ≤ S256x256.size a) ∧
  (∀ a, (k0_off425 v1910) a + S1x16.size a ≤ S256x256.size a) ∧
  (∀ a, (k0_off426 v1910) a + S1x16.size a ≤ S256x256.size a) ∧
  (∀ a, (k0_off427 v1910) a + S1x16.size a ≤ S256x256.size a) ∧
  (∀ a, (k0_off428 v1910) a + S1x16.size a ≤ S256x256.size a) ∧
  (∀ a, (k0_off429 v1910) a + S1x16.size a ≤ S256x256.size a) ∧
  (∀ a, (k0_off430 v1910) a + S1x16.size a ≤ S256x256.size a) ∧
  (∀ a, (k0_off431 v1910) a + S1x16.size a ≤ S256x256.size a) ∧
  (∀ a, (k0_off432 v1910) a + S1x16.size a ≤ S256x16.size a)
theorem k0_off416_inb : ∀ (v1910 : BitVec 32) (k0_hw13 : k0_chk13 v1910), ∀ a, (k0_off416 v1910) a + S1x16.size a ≤ S256x256.size a := fun v1910 k0_hw13 => k0_hw13.1
theorem k0_off417_inb : ∀ (v1910 : BitVec 32) (k0_hw13 : k0_chk13 v1910), ∀ a, (k0_off417 v1910) a + S1x16.size a ≤ S256x256.size a := fun v1910 k0_hw13 => k0_hw13.2.1
theorem k0_off418_inb : ∀ (v1910 : BitVec 32) (k0_hw13 : k0_chk13 v1910), ∀ a, (k0_off418 v1910) a + S1x16.size a ≤ S256x256.size a := fun v1910 k0_hw13 => k0_hw13.2.2.1
theorem k0_off419_inb : ∀ (v1910 : BitVec 32) (k0_hw13 : k0_chk13 v1910), ∀ a, (k0_off419 v1910) a + S1x16.size a ≤ S256x256.size a := fun v1910 k0_hw13 => k0_hw13.2.2.2.1
theorem k0_off420_inb : ∀ (v1910 : BitVec 32) (k0_hw13 : k0_chk13 v1910), ∀ a, (k0_off420 v1910) a + S1x16.size a ≤ S256x256.size a := fun v1910 k0_hw13 => k0_hw13.2.2.2.2.1
theorem k0_off421_inb : ∀ (v1910 : BitVec 32) (k0_hw13 : k0_chk13 v1910), ∀ a, (k0_off421 v1910) a + S1x16.size a ≤ S256x256.size a := fun v1910 k0_hw13 => k0_hw13.2.2.2.2.2.1
theorem k0_off422_inb : ∀ (v1910 : BitVec 32) (k0_hw13 : k0_chk13 v1910), ∀ a, (k0_off422 v1910) a + S1x16.size a ≤ S256x256.size a := fun v1910 k0_hw13 => k0_hw13.2.2.2.2.2.2.1
theorem k0_off423_inb : ∀ (v1910 : BitVec 32) (k0_hw13 : k0_chk13 v1910), ∀ a, (k0_off423 v1910) a + S1x16.size a ≤ S256x256.size a := fun v1910 k0_hw13 => k0_hw13.2.2.2.2.2.2.2.1
theorem k0_off424_inb : ∀ (v1910 : BitVec 32) (k0_hw13 : k0_chk13 v1910), ∀ a, (k0_off424 v1910) a + S1x16.size a ≤ S256x256.size a := fun v1910 k0_hw13 => k0_hw13.2.2.2.2.2.2.2.2.1
theorem k0_off425_inb : ∀ (v1910 : BitVec 32) (k0_hw13 : k0_chk13 v1910), ∀ a, (k0_off425 v1910) a + S1x16.size a ≤ S256x256.size a := fun v1910 k0_hw13 => k0_hw13.2.2.2.2.2.2.2.2.2.1
theorem k0_off426_inb : ∀ (v1910 : BitVec 32) (k0_hw13 : k0_chk13 v1910), ∀ a, (k0_off426 v1910) a + S1x16.size a ≤ S256x256.size a := fun v1910 k0_hw13 => k0_hw13.2.2.2.2.2.2.2.2.2.2.1
theorem k0_off427_inb : ∀ (v1910 : BitVec 32) (k0_hw13 : k0_chk13 v1910), ∀ a, (k0_off427 v1910) a + S1x16.size a ≤ S256x256.size a := fun v1910 k0_hw13 => k0_hw13.2.2.2.2.2.2.2.2.2.2.2.1
theorem k0_off428_inb : ∀ (v1910 : BitVec 32) (k0_hw13 : k0_chk13 v1910), ∀ a, (k0_off428 v1910) a + S1x16.size a ≤ S256x256.size a := fun v1910 k0_hw13 => k0_hw13.2.2.2.2.2.2.2.2.2.2.2.2.1
theorem k0_off429_inb : ∀ (v1910 : BitVec 32) (k0_hw13 : k0_chk13 v1910), ∀ a, (k0_off429 v1910) a + S1x16.size a ≤ S256x256.size a := fun v1910 k0_hw13 => k0_hw13.2.2.2.2.2.2.2.2.2.2.2.2.2.1
theorem k0_off430_inb : ∀ (v1910 : BitVec 32) (k0_hw13 : k0_chk13 v1910), ∀ a, (k0_off430 v1910) a + S1x16.size a ≤ S256x256.size a := fun v1910 k0_hw13 => k0_hw13.2.2.2.2.2.2.2.2.2.2.2.2.2.2.1
theorem k0_off431_inb : ∀ (v1910 : BitVec 32) (k0_hw13 : k0_chk13 v1910), ∀ a, (k0_off431 v1910) a + S1x16.size a ≤ S256x256.size a := fun v1910 k0_hw13 => k0_hw13.2.2.2.2.2.2.2.2.2.2.2.2.2.2.2.1
theorem k0_off432_inb : ∀ (v1910 : BitVec 32) (k0_hw13 : k0_chk13 v1910), ∀ a, (k0_off432 v1910) a + S1x16.size a ≤ S256x16.size a := fun v1910 k0_hw13 => k0_hw13.2.2.2.2.2.2.2.2.2.2.2.2.2.2.2.2

def k0_off433 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2070 : Index := Scalar.indexCast v2068
  let c0_479 : Index := 0#32
  ![v2070.toNat, 0]
def k0_off434 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2075 : Index := Scalar.indexCast v2068
  let c16_480 : Index := 16#32
  ![v2075.toNat, 16]
def k0_off435 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2080 : Index := Scalar.indexCast v2068
  let c32_481 : Index := 32#32
  ![v2080.toNat, 32]
def k0_off436 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2085 : Index := Scalar.indexCast v2068
  let c48_482 : Index := 48#32
  ![v2085.toNat, 48]
def k0_off437 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2090 : Index := Scalar.indexCast v2068
  let c64_483 : Index := 64#32
  ![v2090.toNat, 64]
def k0_off438 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2095 : Index := Scalar.indexCast v2068
  let c80_484 : Index := 80#32
  ![v2095.toNat, 80]
def k0_off439 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2100 : Index := Scalar.indexCast v2068
  let c96_485 : Index := 96#32
  ![v2100.toNat, 96]
def k0_off440 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2105 : Index := Scalar.indexCast v2068
  let c112_486 : Index := 112#32
  ![v2105.toNat, 112]
def k0_off441 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2110 : Index := Scalar.indexCast v2068
  let c128_487 : Index := 128#32
  ![v2110.toNat, 128]
def k0_off442 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2115 : Index := Scalar.indexCast v2068
  let c144_488 : Index := 144#32
  ![v2115.toNat, 144]
def k0_off443 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2120 : Index := Scalar.indexCast v2068
  let c160_489 : Index := 160#32
  ![v2120.toNat, 160]
def k0_off444 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2125 : Index := Scalar.indexCast v2068
  let c176_490 : Index := 176#32
  ![v2125.toNat, 176]
def k0_off445 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2130 : Index := Scalar.indexCast v2068
  let c192_491 : Index := 192#32
  ![v2130.toNat, 192]
def k0_off446 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2135 : Index := Scalar.indexCast v2068
  let c208_492 : Index := 208#32
  ![v2135.toNat, 208]
def k0_off447 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2140 : Index := Scalar.indexCast v2068
  let c224_493 : Index := 224#32
  ![v2140.toNat, 224]
def k0_off448 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_478 : BitVec 32 := 16#32
  let v2067 : BitVec 32 := Scalar.muli arg31 c16_i32_478
  let c13_i32 : BitVec 32 := 13#32
  let v2068 : BitVec 32 := Scalar.addi v2067 c13_i32
  let v2145 : Index := Scalar.indexCast v2068
  let c240_494 : Index := 240#32
  ![v2145.toNat, 240]
def k0_off449 (v2066 : BitVec 32) : Fin 2 → Nat :=
  let v2152 : Index := Scalar.indexCast v2066
  let c0_497 : Index := 0#32
  ![v2152.toNat, 0]

def k0_off450 (v2066 : BitVec 32) : Fin 2 → Nat :=
  let v2156 : Index := Scalar.indexCast v2066
  let c16_498 : Index := 16#32
  ![v2156.toNat, 16]
def k0_off451 (v2066 : BitVec 32) : Fin 2 → Nat :=
  let v2160 : Index := Scalar.indexCast v2066
  let c32_499 : Index := 32#32
  ![v2160.toNat, 32]
def k0_off452 (v2066 : BitVec 32) : Fin 2 → Nat :=
  let v2164 : Index := Scalar.indexCast v2066
  let c48_500 : Index := 48#32
  ![v2164.toNat, 48]
def k0_off453 (v2066 : BitVec 32) : Fin 2 → Nat :=
  let v2168 : Index := Scalar.indexCast v2066
  let c64_501 : Index := 64#32
  ![v2168.toNat, 64]
def k0_off454 (v2066 : BitVec 32) : Fin 2 → Nat :=
  let v2172 : Index := Scalar.indexCast v2066
  let c80_502 : Index := 80#32
  ![v2172.toNat, 80]
def k0_off455 (v2066 : BitVec 32) : Fin 2 → Nat :=
  let v2176 : Index := Scalar.indexCast v2066
  let c96_503 : Index := 96#32
  ![v2176.toNat, 96]
def k0_off456 (v2066 : BitVec 32) : Fin 2 → Nat :=
  let v2180 : Index := Scalar.indexCast v2066
  let c112_504 : Index := 112#32
  ![v2180.toNat, 112]
def k0_off457 (v2066 : BitVec 32) : Fin 2 → Nat :=
  let v2184 : Index := Scalar.indexCast v2066
  let c128_505 : Index := 128#32
  ![v2184.toNat, 128]
def k0_off458 (v2066 : BitVec 32) : Fin 2 → Nat :=
  let v2188 : Index := Scalar.indexCast v2066
  let c144_506 : Index := 144#32
  ![v2188.toNat, 144]
def k0_off459 (v2066 : BitVec 32) : Fin 2 → Nat :=
  let v2192 : Index := Scalar.indexCast v2066
  let c160_507 : Index := 160#32
  ![v2192.toNat, 160]
def k0_off460 (v2066 : BitVec 32) : Fin 2 → Nat :=
  let v2196 : Index := Scalar.indexCast v2066
  let c176_508 : Index := 176#32
  ![v2196.toNat, 176]
def k0_off461 (v2066 : BitVec 32) : Fin 2 → Nat :=
  let v2200 : Index := Scalar.indexCast v2066
  let c192_509 : Index := 192#32
  ![v2200.toNat, 192]
def k0_off462 (v2066 : BitVec 32) : Fin 2 → Nat :=
  let v2204 : Index := Scalar.indexCast v2066
  let c208_510 : Index := 208#32
  ![v2204.toNat, 208]
def k0_off463 (v2066 : BitVec 32) : Fin 2 → Nat :=
  let v2208 : Index := Scalar.indexCast v2066
  let c224_511 : Index := 224#32
  ![v2208.toNat, 224]
def k0_off464 (v2066 : BitVec 32) : Fin 2 → Nat :=
  let v2212 : Index := Scalar.indexCast v2066
  let c240_512 : Index := 240#32
  ![v2212.toNat, 240]
def k0_off465 (v2066 : BitVec 32) : Fin 2 → Nat :=
  let v2217 : Index := Scalar.indexCast v2066
  let c0_513 : Index := 0#32
  ![v2217.toNat, 0]

def k0_chk14 (v2066 : BitVec 32) : Prop :=
  (∀ a, (k0_off449 v2066) a + S1x16.size a ≤ S256x256.size a) ∧
  (∀ a, (k0_off450 v2066) a + S1x16.size a ≤ S256x256.size a) ∧
  (∀ a, (k0_off451 v2066) a + S1x16.size a ≤ S256x256.size a) ∧
  (∀ a, (k0_off452 v2066) a + S1x16.size a ≤ S256x256.size a) ∧
  (∀ a, (k0_off453 v2066) a + S1x16.size a ≤ S256x256.size a) ∧
  (∀ a, (k0_off454 v2066) a + S1x16.size a ≤ S256x256.size a) ∧
  (∀ a, (k0_off455 v2066) a + S1x16.size a ≤ S256x256.size a) ∧
  (∀ a, (k0_off456 v2066) a + S1x16.size a ≤ S256x256.size a) ∧
  (∀ a, (k0_off457 v2066) a + S1x16.size a ≤ S256x256.size a) ∧
  (∀ a, (k0_off458 v2066) a + S1x16.size a ≤ S256x256.size a) ∧
  (∀ a, (k0_off459 v2066) a + S1x16.size a ≤ S256x256.size a) ∧
  (∀ a, (k0_off460 v2066) a + S1x16.size a ≤ S256x256.size a) ∧
  (∀ a, (k0_off461 v2066) a + S1x16.size a ≤ S256x256.size a) ∧
  (∀ a, (k0_off462 v2066) a + S1x16.size a ≤ S256x256.size a) ∧
  (∀ a, (k0_off463 v2066) a + S1x16.size a ≤ S256x256.size a) ∧
  (∀ a, (k0_off464 v2066) a + S1x16.size a ≤ S256x256.size a) ∧
  (∀ a, (k0_off465 v2066) a + S1x16.size a ≤ S256x16.size a)
theorem k0_off449_inb : ∀ (v2066 : BitVec 32) (k0_hw14 : k0_chk14 v2066), ∀ a, (k0_off449 v2066) a + S1x16.size a ≤ S256x256.size a := fun v2066 k0_hw14 => k0_hw14.1
theorem k0_off450_inb : ∀ (v2066 : BitVec 32) (k0_hw14 : k0_chk14 v2066), ∀ a, (k0_off450 v2066) a + S1x16.size a ≤ S256x256.size a := fun v2066 k0_hw14 => k0_hw14.2.1
theorem k0_off451_inb : ∀ (v2066 : BitVec 32) (k0_hw14 : k0_chk14 v2066), ∀ a, (k0_off451 v2066) a + S1x16.size a ≤ S256x256.size a := fun v2066 k0_hw14 => k0_hw14.2.2.1
theorem k0_off452_inb : ∀ (v2066 : BitVec 32) (k0_hw14 : k0_chk14 v2066), ∀ a, (k0_off452 v2066) a + S1x16.size a ≤ S256x256.size a := fun v2066 k0_hw14 => k0_hw14.2.2.2.1
theorem k0_off453_inb : ∀ (v2066 : BitVec 32) (k0_hw14 : k0_chk14 v2066), ∀ a, (k0_off453 v2066) a + S1x16.size a ≤ S256x256.size a := fun v2066 k0_hw14 => k0_hw14.2.2.2.2.1
theorem k0_off454_inb : ∀ (v2066 : BitVec 32) (k0_hw14 : k0_chk14 v2066), ∀ a, (k0_off454 v2066) a + S1x16.size a ≤ S256x256.size a := fun v2066 k0_hw14 => k0_hw14.2.2.2.2.2.1
theorem k0_off455_inb : ∀ (v2066 : BitVec 32) (k0_hw14 : k0_chk14 v2066), ∀ a, (k0_off455 v2066) a + S1x16.size a ≤ S256x256.size a := fun v2066 k0_hw14 => k0_hw14.2.2.2.2.2.2.1
theorem k0_off456_inb : ∀ (v2066 : BitVec 32) (k0_hw14 : k0_chk14 v2066), ∀ a, (k0_off456 v2066) a + S1x16.size a ≤ S256x256.size a := fun v2066 k0_hw14 => k0_hw14.2.2.2.2.2.2.2.1
theorem k0_off457_inb : ∀ (v2066 : BitVec 32) (k0_hw14 : k0_chk14 v2066), ∀ a, (k0_off457 v2066) a + S1x16.size a ≤ S256x256.size a := fun v2066 k0_hw14 => k0_hw14.2.2.2.2.2.2.2.2.1
theorem k0_off458_inb : ∀ (v2066 : BitVec 32) (k0_hw14 : k0_chk14 v2066), ∀ a, (k0_off458 v2066) a + S1x16.size a ≤ S256x256.size a := fun v2066 k0_hw14 => k0_hw14.2.2.2.2.2.2.2.2.2.1
theorem k0_off459_inb : ∀ (v2066 : BitVec 32) (k0_hw14 : k0_chk14 v2066), ∀ a, (k0_off459 v2066) a + S1x16.size a ≤ S256x256.size a := fun v2066 k0_hw14 => k0_hw14.2.2.2.2.2.2.2.2.2.2.1
theorem k0_off460_inb : ∀ (v2066 : BitVec 32) (k0_hw14 : k0_chk14 v2066), ∀ a, (k0_off460 v2066) a + S1x16.size a ≤ S256x256.size a := fun v2066 k0_hw14 => k0_hw14.2.2.2.2.2.2.2.2.2.2.2.1
theorem k0_off461_inb : ∀ (v2066 : BitVec 32) (k0_hw14 : k0_chk14 v2066), ∀ a, (k0_off461 v2066) a + S1x16.size a ≤ S256x256.size a := fun v2066 k0_hw14 => k0_hw14.2.2.2.2.2.2.2.2.2.2.2.2.1
theorem k0_off462_inb : ∀ (v2066 : BitVec 32) (k0_hw14 : k0_chk14 v2066), ∀ a, (k0_off462 v2066) a + S1x16.size a ≤ S256x256.size a := fun v2066 k0_hw14 => k0_hw14.2.2.2.2.2.2.2.2.2.2.2.2.2.1
theorem k0_off463_inb : ∀ (v2066 : BitVec 32) (k0_hw14 : k0_chk14 v2066), ∀ a, (k0_off463 v2066) a + S1x16.size a ≤ S256x256.size a := fun v2066 k0_hw14 => k0_hw14.2.2.2.2.2.2.2.2.2.2.2.2.2.2.1
theorem k0_off464_inb : ∀ (v2066 : BitVec 32) (k0_hw14 : k0_chk14 v2066), ∀ a, (k0_off464 v2066) a + S1x16.size a ≤ S256x256.size a := fun v2066 k0_hw14 => k0_hw14.2.2.2.2.2.2.2.2.2.2.2.2.2.2.2.1
theorem k0_off465_inb : ∀ (v2066 : BitVec 32) (k0_hw14 : k0_chk14 v2066), ∀ a, (k0_off465 v2066) a + S1x16.size a ≤ S256x16.size a := fun v2066 k0_hw14 => k0_hw14.2.2.2.2.2.2.2.2.2.2.2.2.2.2.2.2

def k0_off466 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2226 : Index := Scalar.indexCast v2224
  let c0_515 : Index := 0#32
  ![v2226.toNat, 0]
def k0_off467 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2231 : Index := Scalar.indexCast v2224
  let c16_516 : Index := 16#32
  ![v2231.toNat, 16]
def k0_off468 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2236 : Index := Scalar.indexCast v2224
  let c32_517 : Index := 32#32
  ![v2236.toNat, 32]
def k0_off469 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2241 : Index := Scalar.indexCast v2224
  let c48_518 : Index := 48#32
  ![v2241.toNat, 48]
def k0_off470 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2246 : Index := Scalar.indexCast v2224
  let c64_519 : Index := 64#32
  ![v2246.toNat, 64]
def k0_off471 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2251 : Index := Scalar.indexCast v2224
  let c80_520 : Index := 80#32
  ![v2251.toNat, 80]
def k0_off472 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2256 : Index := Scalar.indexCast v2224
  let c96_521 : Index := 96#32
  ![v2256.toNat, 96]
def k0_off473 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2261 : Index := Scalar.indexCast v2224
  let c112_522 : Index := 112#32
  ![v2261.toNat, 112]
def k0_off474 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2266 : Index := Scalar.indexCast v2224
  let c128_523 : Index := 128#32
  ![v2266.toNat, 128]
def k0_off475 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2271 : Index := Scalar.indexCast v2224
  let c144_524 : Index := 144#32
  ![v2271.toNat, 144]
def k0_off476 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2276 : Index := Scalar.indexCast v2224
  let c160_525 : Index := 160#32
  ![v2276.toNat, 160]
def k0_off477 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2281 : Index := Scalar.indexCast v2224
  let c176_526 : Index := 176#32
  ![v2281.toNat, 176]
def k0_off478 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2286 : Index := Scalar.indexCast v2224
  let c192_527 : Index := 192#32
  ![v2286.toNat, 192]
def k0_off479 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2291 : Index := Scalar.indexCast v2224
  let c208_528 : Index := 208#32
  ![v2291.toNat, 208]
def k0_off480 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2296 : Index := Scalar.indexCast v2224
  let c224_529 : Index := 224#32
  ![v2296.toNat, 224]
def k0_off481 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_514 : BitVec 32 := 16#32
  let v2223 : BitVec 32 := Scalar.muli arg31 c16_i32_514
  let c14_i32 : BitVec 32 := 14#32
  let v2224 : BitVec 32 := Scalar.addi v2223 c14_i32
  let v2301 : Index := Scalar.indexCast v2224
  let c240_530 : Index := 240#32
  ![v2301.toNat, 240]
def k0_off482 (v2222 : BitVec 32) : Fin 2 → Nat :=
  let v2308 : Index := Scalar.indexCast v2222
  let c0_533 : Index := 0#32
  ![v2308.toNat, 0]

def k0_off483 (v2222 : BitVec 32) : Fin 2 → Nat :=
  let v2312 : Index := Scalar.indexCast v2222
  let c16_534 : Index := 16#32
  ![v2312.toNat, 16]
def k0_off484 (v2222 : BitVec 32) : Fin 2 → Nat :=
  let v2316 : Index := Scalar.indexCast v2222
  let c32_535 : Index := 32#32
  ![v2316.toNat, 32]
def k0_off485 (v2222 : BitVec 32) : Fin 2 → Nat :=
  let v2320 : Index := Scalar.indexCast v2222
  let c48_536 : Index := 48#32
  ![v2320.toNat, 48]
def k0_off486 (v2222 : BitVec 32) : Fin 2 → Nat :=
  let v2324 : Index := Scalar.indexCast v2222
  let c64_537 : Index := 64#32
  ![v2324.toNat, 64]
def k0_off487 (v2222 : BitVec 32) : Fin 2 → Nat :=
  let v2328 : Index := Scalar.indexCast v2222
  let c80_538 : Index := 80#32
  ![v2328.toNat, 80]
def k0_off488 (v2222 : BitVec 32) : Fin 2 → Nat :=
  let v2332 : Index := Scalar.indexCast v2222
  let c96_539 : Index := 96#32
  ![v2332.toNat, 96]
def k0_off489 (v2222 : BitVec 32) : Fin 2 → Nat :=
  let v2336 : Index := Scalar.indexCast v2222
  let c112_540 : Index := 112#32
  ![v2336.toNat, 112]
def k0_off490 (v2222 : BitVec 32) : Fin 2 → Nat :=
  let v2340 : Index := Scalar.indexCast v2222
  let c128_541 : Index := 128#32
  ![v2340.toNat, 128]
def k0_off491 (v2222 : BitVec 32) : Fin 2 → Nat :=
  let v2344 : Index := Scalar.indexCast v2222
  let c144_542 : Index := 144#32
  ![v2344.toNat, 144]
def k0_off492 (v2222 : BitVec 32) : Fin 2 → Nat :=
  let v2348 : Index := Scalar.indexCast v2222
  let c160_543 : Index := 160#32
  ![v2348.toNat, 160]
def k0_off493 (v2222 : BitVec 32) : Fin 2 → Nat :=
  let v2352 : Index := Scalar.indexCast v2222
  let c176_544 : Index := 176#32
  ![v2352.toNat, 176]
def k0_off494 (v2222 : BitVec 32) : Fin 2 → Nat :=
  let v2356 : Index := Scalar.indexCast v2222
  let c192_545 : Index := 192#32
  ![v2356.toNat, 192]
def k0_off495 (v2222 : BitVec 32) : Fin 2 → Nat :=
  let v2360 : Index := Scalar.indexCast v2222
  let c208_546 : Index := 208#32
  ![v2360.toNat, 208]
def k0_off496 (v2222 : BitVec 32) : Fin 2 → Nat :=
  let v2364 : Index := Scalar.indexCast v2222
  let c224_547 : Index := 224#32
  ![v2364.toNat, 224]
def k0_off497 (v2222 : BitVec 32) : Fin 2 → Nat :=
  let v2368 : Index := Scalar.indexCast v2222
  let c240_548 : Index := 240#32
  ![v2368.toNat, 240]
def k0_off498 (v2222 : BitVec 32) : Fin 2 → Nat :=
  let v2373 : Index := Scalar.indexCast v2222
  let c0_549 : Index := 0#32
  ![v2373.toNat, 0]

def k0_chk15 (v2222 : BitVec 32) : Prop :=
  (∀ a, (k0_off482 v2222) a + S1x16.size a ≤ S256x256.size a) ∧
  (∀ a, (k0_off483 v2222) a + S1x16.size a ≤ S256x256.size a) ∧
  (∀ a, (k0_off484 v2222) a + S1x16.size a ≤ S256x256.size a) ∧
  (∀ a, (k0_off485 v2222) a + S1x16.size a ≤ S256x256.size a) ∧
  (∀ a, (k0_off486 v2222) a + S1x16.size a ≤ S256x256.size a) ∧
  (∀ a, (k0_off487 v2222) a + S1x16.size a ≤ S256x256.size a) ∧
  (∀ a, (k0_off488 v2222) a + S1x16.size a ≤ S256x256.size a) ∧
  (∀ a, (k0_off489 v2222) a + S1x16.size a ≤ S256x256.size a) ∧
  (∀ a, (k0_off490 v2222) a + S1x16.size a ≤ S256x256.size a) ∧
  (∀ a, (k0_off491 v2222) a + S1x16.size a ≤ S256x256.size a) ∧
  (∀ a, (k0_off492 v2222) a + S1x16.size a ≤ S256x256.size a) ∧
  (∀ a, (k0_off493 v2222) a + S1x16.size a ≤ S256x256.size a) ∧
  (∀ a, (k0_off494 v2222) a + S1x16.size a ≤ S256x256.size a) ∧
  (∀ a, (k0_off495 v2222) a + S1x16.size a ≤ S256x256.size a) ∧
  (∀ a, (k0_off496 v2222) a + S1x16.size a ≤ S256x256.size a) ∧
  (∀ a, (k0_off497 v2222) a + S1x16.size a ≤ S256x256.size a) ∧
  (∀ a, (k0_off498 v2222) a + S1x16.size a ≤ S256x16.size a)
theorem k0_off482_inb : ∀ (v2222 : BitVec 32) (k0_hw15 : k0_chk15 v2222), ∀ a, (k0_off482 v2222) a + S1x16.size a ≤ S256x256.size a := fun v2222 k0_hw15 => k0_hw15.1
theorem k0_off483_inb : ∀ (v2222 : BitVec 32) (k0_hw15 : k0_chk15 v2222), ∀ a, (k0_off483 v2222) a + S1x16.size a ≤ S256x256.size a := fun v2222 k0_hw15 => k0_hw15.2.1
theorem k0_off484_inb : ∀ (v2222 : BitVec 32) (k0_hw15 : k0_chk15 v2222), ∀ a, (k0_off484 v2222) a + S1x16.size a ≤ S256x256.size a := fun v2222 k0_hw15 => k0_hw15.2.2.1
theorem k0_off485_inb : ∀ (v2222 : BitVec 32) (k0_hw15 : k0_chk15 v2222), ∀ a, (k0_off485 v2222) a + S1x16.size a ≤ S256x256.size a := fun v2222 k0_hw15 => k0_hw15.2.2.2.1
theorem k0_off486_inb : ∀ (v2222 : BitVec 32) (k0_hw15 : k0_chk15 v2222), ∀ a, (k0_off486 v2222) a + S1x16.size a ≤ S256x256.size a := fun v2222 k0_hw15 => k0_hw15.2.2.2.2.1
theorem k0_off487_inb : ∀ (v2222 : BitVec 32) (k0_hw15 : k0_chk15 v2222), ∀ a, (k0_off487 v2222) a + S1x16.size a ≤ S256x256.size a := fun v2222 k0_hw15 => k0_hw15.2.2.2.2.2.1
theorem k0_off488_inb : ∀ (v2222 : BitVec 32) (k0_hw15 : k0_chk15 v2222), ∀ a, (k0_off488 v2222) a + S1x16.size a ≤ S256x256.size a := fun v2222 k0_hw15 => k0_hw15.2.2.2.2.2.2.1
theorem k0_off489_inb : ∀ (v2222 : BitVec 32) (k0_hw15 : k0_chk15 v2222), ∀ a, (k0_off489 v2222) a + S1x16.size a ≤ S256x256.size a := fun v2222 k0_hw15 => k0_hw15.2.2.2.2.2.2.2.1
theorem k0_off490_inb : ∀ (v2222 : BitVec 32) (k0_hw15 : k0_chk15 v2222), ∀ a, (k0_off490 v2222) a + S1x16.size a ≤ S256x256.size a := fun v2222 k0_hw15 => k0_hw15.2.2.2.2.2.2.2.2.1
theorem k0_off491_inb : ∀ (v2222 : BitVec 32) (k0_hw15 : k0_chk15 v2222), ∀ a, (k0_off491 v2222) a + S1x16.size a ≤ S256x256.size a := fun v2222 k0_hw15 => k0_hw15.2.2.2.2.2.2.2.2.2.1
theorem k0_off492_inb : ∀ (v2222 : BitVec 32) (k0_hw15 : k0_chk15 v2222), ∀ a, (k0_off492 v2222) a + S1x16.size a ≤ S256x256.size a := fun v2222 k0_hw15 => k0_hw15.2.2.2.2.2.2.2.2.2.2.1
theorem k0_off493_inb : ∀ (v2222 : BitVec 32) (k0_hw15 : k0_chk15 v2222), ∀ a, (k0_off493 v2222) a + S1x16.size a ≤ S256x256.size a := fun v2222 k0_hw15 => k0_hw15.2.2.2.2.2.2.2.2.2.2.2.1
theorem k0_off494_inb : ∀ (v2222 : BitVec 32) (k0_hw15 : k0_chk15 v2222), ∀ a, (k0_off494 v2222) a + S1x16.size a ≤ S256x256.size a := fun v2222 k0_hw15 => k0_hw15.2.2.2.2.2.2.2.2.2.2.2.2.1
theorem k0_off495_inb : ∀ (v2222 : BitVec 32) (k0_hw15 : k0_chk15 v2222), ∀ a, (k0_off495 v2222) a + S1x16.size a ≤ S256x256.size a := fun v2222 k0_hw15 => k0_hw15.2.2.2.2.2.2.2.2.2.2.2.2.2.1
theorem k0_off496_inb : ∀ (v2222 : BitVec 32) (k0_hw15 : k0_chk15 v2222), ∀ a, (k0_off496 v2222) a + S1x16.size a ≤ S256x256.size a := fun v2222 k0_hw15 => k0_hw15.2.2.2.2.2.2.2.2.2.2.2.2.2.2.1
theorem k0_off497_inb : ∀ (v2222 : BitVec 32) (k0_hw15 : k0_chk15 v2222), ∀ a, (k0_off497 v2222) a + S1x16.size a ≤ S256x256.size a := fun v2222 k0_hw15 => k0_hw15.2.2.2.2.2.2.2.2.2.2.2.2.2.2.2.1
theorem k0_off498_inb : ∀ (v2222 : BitVec 32) (k0_hw15 : k0_chk15 v2222), ∀ a, (k0_off498 v2222) a + S1x16.size a ≤ S256x16.size a := fun v2222 k0_hw15 => k0_hw15.2.2.2.2.2.2.2.2.2.2.2.2.2.2.2.2

def k0_off499 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2382 : Index := Scalar.indexCast v2380
  let c0_551 : Index := 0#32
  ![v2382.toNat, 0]
def k0_off500 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2387 : Index := Scalar.indexCast v2380
  let c16_552 : Index := 16#32
  ![v2387.toNat, 16]
def k0_off501 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2392 : Index := Scalar.indexCast v2380
  let c32_553 : Index := 32#32
  ![v2392.toNat, 32]
def k0_off502 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2397 : Index := Scalar.indexCast v2380
  let c48_554 : Index := 48#32
  ![v2397.toNat, 48]
def k0_off503 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2402 : Index := Scalar.indexCast v2380
  let c64_555 : Index := 64#32
  ![v2402.toNat, 64]
def k0_off504 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2407 : Index := Scalar.indexCast v2380
  let c80_556 : Index := 80#32
  ![v2407.toNat, 80]
def k0_off505 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2412 : Index := Scalar.indexCast v2380
  let c96_557 : Index := 96#32
  ![v2412.toNat, 96]
def k0_off506 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2417 : Index := Scalar.indexCast v2380
  let c112_558 : Index := 112#32
  ![v2417.toNat, 112]
def k0_off507 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2422 : Index := Scalar.indexCast v2380
  let c128_559 : Index := 128#32
  ![v2422.toNat, 128]
def k0_off508 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2427 : Index := Scalar.indexCast v2380
  let c144_560 : Index := 144#32
  ![v2427.toNat, 144]
def k0_off509 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2432 : Index := Scalar.indexCast v2380
  let c160_561 : Index := 160#32
  ![v2432.toNat, 160]
def k0_off510 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2437 : Index := Scalar.indexCast v2380
  let c176_562 : Index := 176#32
  ![v2437.toNat, 176]
def k0_off511 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2442 : Index := Scalar.indexCast v2380
  let c192_563 : Index := 192#32
  ![v2442.toNat, 192]
def k0_off512 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2447 : Index := Scalar.indexCast v2380
  let c208_564 : Index := 208#32
  ![v2447.toNat, 208]
def k0_off513 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2452 : Index := Scalar.indexCast v2380
  let c224_565 : Index := 224#32
  ![v2452.toNat, 224]
def k0_off514 (k0_t2 : Fin k0_t2_loop.trips) : Fin 2 → Nat :=
  let c0_i32_19 : BitVec 32 := 0#32
  let c1_i32_20 : BitVec 32 := 1#32
  let arg31 : BitVec 32 := Scf.iv c0_i32_19 c1_i32_20 k0_t2
  let c16_i32_550 : BitVec 32 := 16#32
  let v2379 : BitVec 32 := Scalar.muli arg31 c16_i32_550
  let c15_i32 : BitVec 32 := 15#32
  let v2380 : BitVec 32 := Scalar.addi v2379 c15_i32
  let v2457 : Index := Scalar.indexCast v2380
  let c240_566 : Index := 240#32
  ![v2457.toNat, 240]
def k0_off515 (v2378 : BitVec 32) : Fin 2 → Nat :=
  let v2464 : Index := Scalar.indexCast v2378
  let c0_569 : Index := 0#32
  ![v2464.toNat, 0]

def k0_off516 (v2378 : BitVec 32) : Fin 2 → Nat :=
  let v2468 : Index := Scalar.indexCast v2378
  let c16_570 : Index := 16#32
  ![v2468.toNat, 16]
def k0_off517 (v2378 : BitVec 32) : Fin 2 → Nat :=
  let v2472 : Index := Scalar.indexCast v2378
  let c32_571 : Index := 32#32
  ![v2472.toNat, 32]
def k0_off518 (v2378 : BitVec 32) : Fin 2 → Nat :=
  let v2476 : Index := Scalar.indexCast v2378
  let c48_572 : Index := 48#32
  ![v2476.toNat, 48]
def k0_off519 (v2378 : BitVec 32) : Fin 2 → Nat :=
  let v2480 : Index := Scalar.indexCast v2378
  let c64_573 : Index := 64#32
  ![v2480.toNat, 64]
def k0_off520 (v2378 : BitVec 32) : Fin 2 → Nat :=
  let v2484 : Index := Scalar.indexCast v2378
  let c80_574 : Index := 80#32
  ![v2484.toNat, 80]
def k0_off521 (v2378 : BitVec 32) : Fin 2 → Nat :=
  let v2488 : Index := Scalar.indexCast v2378
  let c96_575 : Index := 96#32
  ![v2488.toNat, 96]
def k0_off522 (v2378 : BitVec 32) : Fin 2 → Nat :=
  let v2492 : Index := Scalar.indexCast v2378
  let c112_576 : Index := 112#32
  ![v2492.toNat, 112]
def k0_off523 (v2378 : BitVec 32) : Fin 2 → Nat :=
  let v2496 : Index := Scalar.indexCast v2378
  let c128_577 : Index := 128#32
  ![v2496.toNat, 128]
def k0_off524 (v2378 : BitVec 32) : Fin 2 → Nat :=
  let v2500 : Index := Scalar.indexCast v2378
  let c144_578 : Index := 144#32
  ![v2500.toNat, 144]
def k0_off525 (v2378 : BitVec 32) : Fin 2 → Nat :=
  let v2504 : Index := Scalar.indexCast v2378
  let c160_579 : Index := 160#32
  ![v2504.toNat, 160]
def k0_off526 (v2378 : BitVec 32) : Fin 2 → Nat :=
  let v2508 : Index := Scalar.indexCast v2378
  let c176_580 : Index := 176#32
  ![v2508.toNat, 176]
def k0_off527 (v2378 : BitVec 32) : Fin 2 → Nat :=
  let v2512 : Index := Scalar.indexCast v2378
  let c192_581 : Index := 192#32
  ![v2512.toNat, 192]
def k0_off528 (v2378 : BitVec 32) : Fin 2 → Nat :=
  let v2516 : Index := Scalar.indexCast v2378
  let c208_582 : Index := 208#32
  ![v2516.toNat, 208]
def k0_off529 (v2378 : BitVec 32) : Fin 2 → Nat :=
  let v2520 : Index := Scalar.indexCast v2378
  let c224_583 : Index := 224#32
  ![v2520.toNat, 224]
def k0_off530 (v2378 : BitVec 32) : Fin 2 → Nat :=
  let v2524 : Index := Scalar.indexCast v2378
  let c240_584 : Index := 240#32
  ![v2524.toNat, 240]
def k0_off531 (v2378 : BitVec 32) : Fin 2 → Nat :=
  let v2529 : Index := Scalar.indexCast v2378
  let c0_585 : Index := 0#32
  ![v2529.toNat, 0]

def k0_chk16 (v2378 : BitVec 32) : Prop :=
  (∀ a, (k0_off515 v2378) a + S1x16.size a ≤ S256x256.size a) ∧
  (∀ a, (k0_off516 v2378) a + S1x16.size a ≤ S256x256.size a) ∧
  (∀ a, (k0_off517 v2378) a + S1x16.size a ≤ S256x256.size a) ∧
  (∀ a, (k0_off518 v2378) a + S1x16.size a ≤ S256x256.size a) ∧
  (∀ a, (k0_off519 v2378) a + S1x16.size a ≤ S256x256.size a) ∧
  (∀ a, (k0_off520 v2378) a + S1x16.size a ≤ S256x256.size a) ∧
  (∀ a, (k0_off521 v2378) a + S1x16.size a ≤ S256x256.size a) ∧
  (∀ a, (k0_off522 v2378) a + S1x16.size a ≤ S256x256.size a) ∧
  (∀ a, (k0_off523 v2378) a + S1x16.size a ≤ S256x256.size a) ∧
  (∀ a, (k0_off524 v2378) a + S1x16.size a ≤ S256x256.size a) ∧
  (∀ a, (k0_off525 v2378) a + S1x16.size a ≤ S256x256.size a) ∧
  (∀ a, (k0_off526 v2378) a + S1x16.size a ≤ S256x256.size a) ∧
  (∀ a, (k0_off527 v2378) a + S1x16.size a ≤ S256x256.size a) ∧
  (∀ a, (k0_off528 v2378) a + S1x16.size a ≤ S256x256.size a) ∧
  (∀ a, (k0_off529 v2378) a + S1x16.size a ≤ S256x256.size a) ∧
  (∀ a, (k0_off530 v2378) a + S1x16.size a ≤ S256x256.size a) ∧
  (∀ a, (k0_off531 v2378) a + S1x16.size a ≤ S256x16.size a)
theorem k0_off515_inb : ∀ (v2378 : BitVec 32) (k0_hw16 : k0_chk16 v2378), ∀ a, (k0_off515 v2378) a + S1x16.size a ≤ S256x256.size a := fun v2378 k0_hw16 => k0_hw16.1
theorem k0_off516_inb : ∀ (v2378 : BitVec 32) (k0_hw16 : k0_chk16 v2378), ∀ a, (k0_off516 v2378) a + S1x16.size a ≤ S256x256.size a := fun v2378 k0_hw16 => k0_hw16.2.1
theorem k0_off517_inb : ∀ (v2378 : BitVec 32) (k0_hw16 : k0_chk16 v2378), ∀ a, (k0_off517 v2378) a + S1x16.size a ≤ S256x256.size a := fun v2378 k0_hw16 => k0_hw16.2.2.1
theorem k0_off518_inb : ∀ (v2378 : BitVec 32) (k0_hw16 : k0_chk16 v2378), ∀ a, (k0_off518 v2378) a + S1x16.size a ≤ S256x256.size a := fun v2378 k0_hw16 => k0_hw16.2.2.2.1
theorem k0_off519_inb : ∀ (v2378 : BitVec 32) (k0_hw16 : k0_chk16 v2378), ∀ a, (k0_off519 v2378) a + S1x16.size a ≤ S256x256.size a := fun v2378 k0_hw16 => k0_hw16.2.2.2.2.1
theorem k0_off520_inb : ∀ (v2378 : BitVec 32) (k0_hw16 : k0_chk16 v2378), ∀ a, (k0_off520 v2378) a + S1x16.size a ≤ S256x256.size a := fun v2378 k0_hw16 => k0_hw16.2.2.2.2.2.1
theorem k0_off521_inb : ∀ (v2378 : BitVec 32) (k0_hw16 : k0_chk16 v2378), ∀ a, (k0_off521 v2378) a + S1x16.size a ≤ S256x256.size a := fun v2378 k0_hw16 => k0_hw16.2.2.2.2.2.2.1
theorem k0_off522_inb : ∀ (v2378 : BitVec 32) (k0_hw16 : k0_chk16 v2378), ∀ a, (k0_off522 v2378) a + S1x16.size a ≤ S256x256.size a := fun v2378 k0_hw16 => k0_hw16.2.2.2.2.2.2.2.1
theorem k0_off523_inb : ∀ (v2378 : BitVec 32) (k0_hw16 : k0_chk16 v2378), ∀ a, (k0_off523 v2378) a + S1x16.size a ≤ S256x256.size a := fun v2378 k0_hw16 => k0_hw16.2.2.2.2.2.2.2.2.1
theorem k0_off524_inb : ∀ (v2378 : BitVec 32) (k0_hw16 : k0_chk16 v2378), ∀ a, (k0_off524 v2378) a + S1x16.size a ≤ S256x256.size a := fun v2378 k0_hw16 => k0_hw16.2.2.2.2.2.2.2.2.2.1
theorem k0_off525_inb : ∀ (v2378 : BitVec 32) (k0_hw16 : k0_chk16 v2378), ∀ a, (k0_off525 v2378) a + S1x16.size a ≤ S256x256.size a := fun v2378 k0_hw16 => k0_hw16.2.2.2.2.2.2.2.2.2.2.1
theorem k0_off526_inb : ∀ (v2378 : BitVec 32) (k0_hw16 : k0_chk16 v2378), ∀ a, (k0_off526 v2378) a + S1x16.size a ≤ S256x256.size a := fun v2378 k0_hw16 => k0_hw16.2.2.2.2.2.2.2.2.2.2.2.1
theorem k0_off527_inb : ∀ (v2378 : BitVec 32) (k0_hw16 : k0_chk16 v2378), ∀ a, (k0_off527 v2378) a + S1x16.size a ≤ S256x256.size a := fun v2378 k0_hw16 => k0_hw16.2.2.2.2.2.2.2.2.2.2.2.2.1
theorem k0_off528_inb : ∀ (v2378 : BitVec 32) (k0_hw16 : k0_chk16 v2378), ∀ a, (k0_off528 v2378) a + S1x16.size a ≤ S256x256.size a := fun v2378 k0_hw16 => k0_hw16.2.2.2.2.2.2.2.2.2.2.2.2.2.1
theorem k0_off529_inb : ∀ (v2378 : BitVec 32) (k0_hw16 : k0_chk16 v2378), ∀ a, (k0_off529 v2378) a + S1x16.size a ≤ S256x256.size a := fun v2378 k0_hw16 => k0_hw16.2.2.2.2.2.2.2.2.2.2.2.2.2.2.1
theorem k0_off530_inb : ∀ (v2378 : BitVec 32) (k0_hw16 : k0_chk16 v2378), ∀ a, (k0_off530 v2378) a + S1x16.size a ≤ S256x256.size a := fun v2378 k0_hw16 => k0_hw16.2.2.2.2.2.2.2.2.2.2.2.2.2.2.2.1
theorem k0_off531_inb : ∀ (v2378 : BitVec 32) (k0_hw16 : k0_chk16 v2378), ∀ a, (k0_off531 v2378) a + S1x16.size a ≤ S256x16.size a := fun v2378 k0_hw16 => k0_hw16.2.2.2.2.2.2.2.2.2.2.2.2.2.2.2.2

@[reducible] def k0_t3_loop (i : grid0.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_15 : BitVec 32 := 2#32
  let v18 : BitVec 1 := Scalar.cmpi .slt v1 c2_i32_15
  let c40_i32 : BitVec 32 := 40#32
  let c39_i32 : BitVec 32 := 39#32
  let v19 : BitVec 32 := Scalar.select v18 c40_i32 c39_i32
  let v20 : BitVec 32 := Scalar.subi v19 c0_i32
  let c1_i32 : BitVec 32 := 1#32
  let v22 : BitVec 32 := Scalar.divsi v20 c1_i32
  let v23 : BitVec 32 := Scalar.muli v22 c1_i32
  let v24 : BitVec 32 := Scalar.addi c0_i32 v23
  let v21 : BitVec 32 := Scalar.addi c0_i32 v20
  let c1_i32_18 : BitVec 32 := 1#32
  ⟨v24, v21, c1_i32_18⟩
def k0_off532 (i : grid0.Coords) (k0_t3 : Fin (k0_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c2_i32_15 : BitVec 32 := 2#32
  let v18 : BitVec 1 := Scalar.cmpi .slt v1 c2_i32_15
  let c40_i32 : BitVec 32 := 40#32
  let c39_i32 : BitVec 32 := 39#32
  let v19 : BitVec 32 := Scalar.select v18 c40_i32 c39_i32
  let v20 : BitVec 32 := Scalar.subi v19 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_18 : BitVec 32 := 1#32
  let arg12 : BitVec 32 := Scf.iv v24 c1_i32_18 k0_t3
  let c32_i32 : BitVec 32 := 32#32
  let v27 : BitVec 32 := Scalar.muli arg12 c32_i32
  let v28 : BitVec 32 := Scalar.addi v1 v27
  let c80_i32 : BitVec 32 := 80#32
  let v29 : BitVec 32 := Scalar.muli v28 c80_i32
  let c0_i32_22_r4 : BitVec 32 := 0#32
  ![v29.toNat, 0]
@[reducible] def k0_t4_loop : Scf.Loop 32 :=
  let c0_i32_19 : BitVec 32 := 0#32
  let c5_i32 : BitVec 32 := 5#32
  let v30 : BitVec 32 := Scalar.addi c0_i32_19 c5_i32
  let c1_i32_20 : BitVec 32 := 1#32
  ⟨c0_i32_19, v30, c1_i32_20⟩
def k0_off533 (i : grid0.Coords) (k0_t3 : Fin (k0_t3_loop i).trips) (k0_t4 : Fin k0_t4_loop.trips) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_15 : BitVec 32 := 2#32
  let v18 : BitVec 1 := Scalar.cmpi .slt v1 c2_i32_15
  let c40_i32 : BitVec 32 := 40#32
  let c39_i32 : BitVec 32 := 39#32
  let v19 : BitVec 32 := Scalar.select v18 c40_i32 c39_i32
  let v20 : BitVec 32 := Scalar.subi v19 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_18 : BitVec 32 := 1#32
  let arg12 : BitVec 32 := Scf.iv v24 c1_i32_18 k0_t3
  let v33 : Index := Scalar.indexCast arg12
  let c0_i32_19 : BitVec 32 := 0#32
  let c1_i32_20 : BitVec 32 := 1#32
  let arg31 : BitVec 32 := Scf.iv c0_i32_19 c1_i32_20 k0_t4
  let c16_i32 : BitVec 32 := 16#32
  let v32 : BitVec 32 := Scalar.muli arg31 c16_i32
  let v34 : Index := Scalar.indexCast v32
  ![v33.toNat, v34.toNat]
def k0_off534 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v42 : Index := Scalar.indexCast v40
  let c0 : Index := 0#32
  ![v42.toNat, 0]
def k0_off535 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v47 : Index := Scalar.indexCast v40
  let c16 : Index := 16#32
  ![v47.toNat, 16]
def k0_off536 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v52 : Index := Scalar.indexCast v40
  let c32 : Index := 32#32
  ![v52.toNat, 32]
def k0_off537 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v57 : Index := Scalar.indexCast v40
  let c48 : Index := 48#32
  ![v57.toNat, 48]
def k0_off538 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v62 : Index := Scalar.indexCast v40
  let c64 : Index := 64#32
  ![v62.toNat, 64]
def k0_off539 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v67 : Index := Scalar.indexCast v40
  let c80 : Index := 80#32
  ![v67.toNat, 80]
def k0_off540 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v72 : Index := Scalar.indexCast v40
  let c96 : Index := 96#32
  ![v72.toNat, 96]
def k0_off541 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v77 : Index := Scalar.indexCast v40
  let c112 : Index := 112#32
  ![v77.toNat, 112]
def k0_off542 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v82 : Index := Scalar.indexCast v40
  let c128 : Index := 128#32
  ![v82.toNat, 128]
def k0_off543 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v87 : Index := Scalar.indexCast v40
  let c144 : Index := 144#32
  ![v87.toNat, 144]
def k0_off544 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v92 : Index := Scalar.indexCast v40
  let c160 : Index := 160#32
  ![v92.toNat, 160]
def k0_off545 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v97 : Index := Scalar.indexCast v40
  let c176 : Index := 176#32
  ![v97.toNat, 176]
def k0_off546 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v102 : Index := Scalar.indexCast v40
  let c192 : Index := 192#32
  ![v102.toNat, 192]
def k0_off547 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v107 : Index := Scalar.indexCast v40
  let c208 : Index := 208#32
  ![v107.toNat, 208]
def k0_off548 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v112 : Index := Scalar.indexCast v40
  let c224 : Index := 224#32
  ![v112.toNat, 224]
def k0_off549 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_22 : BitVec 32 := 16#32
  let v39 : BitVec 32 := Scalar.muli arg31 c16_i32_22
  let c0_i32_23 : BitVec 32 := 0#32
  let v40 : BitVec 32 := Scalar.addi v39 c0_i32_23
  let v117 : Index := Scalar.indexCast v40
  let c240 : Index := 240#32
  ![v117.toNat, 240]
def k0_off550 (v38 : BitVec 32) : Fin 2 → Nat :=
  let v124 : Index := Scalar.indexCast v38
  let c0_26 : Index := 0#32
  ![v124.toNat, 0]

def k0_off551 (v38 : BitVec 32) : Fin 2 → Nat :=
  let v128 : Index := Scalar.indexCast v38
  let c16_27 : Index := 16#32
  ![v128.toNat, 16]
def k0_off552 (v38 : BitVec 32) : Fin 2 → Nat :=
  let v132 : Index := Scalar.indexCast v38
  let c32_28 : Index := 32#32
  ![v132.toNat, 32]
def k0_off553 (v38 : BitVec 32) : Fin 2 → Nat :=
  let v136 : Index := Scalar.indexCast v38
  let c48_29 : Index := 48#32
  ![v136.toNat, 48]
def k0_off554 (v38 : BitVec 32) : Fin 2 → Nat :=
  let v140 : Index := Scalar.indexCast v38
  let c64_30 : Index := 64#32
  ![v140.toNat, 64]
def k0_off555 (v38 : BitVec 32) : Fin 2 → Nat :=
  let v144 : Index := Scalar.indexCast v38
  let c80_31 : Index := 80#32
  ![v144.toNat, 80]
def k0_off556 (v38 : BitVec 32) : Fin 2 → Nat :=
  let v148 : Index := Scalar.indexCast v38
  let c96_32 : Index := 96#32
  ![v148.toNat, 96]
def k0_off557 (v38 : BitVec 32) : Fin 2 → Nat :=
  let v152 : Index := Scalar.indexCast v38
  let c112_33 : Index := 112#32
  ![v152.toNat, 112]
def k0_off558 (v38 : BitVec 32) : Fin 2 → Nat :=
  let v156 : Index := Scalar.indexCast v38
  let c128_34 : Index := 128#32
  ![v156.toNat, 128]
def k0_off559 (v38 : BitVec 32) : Fin 2 → Nat :=
  let v160 : Index := Scalar.indexCast v38
  let c144_35 : Index := 144#32
  ![v160.toNat, 144]
def k0_off560 (v38 : BitVec 32) : Fin 2 → Nat :=
  let v164 : Index := Scalar.indexCast v38
  let c160_36 : Index := 160#32
  ![v164.toNat, 160]
def k0_off561 (v38 : BitVec 32) : Fin 2 → Nat :=
  let v168 : Index := Scalar.indexCast v38
  let c176_37 : Index := 176#32
  ![v168.toNat, 176]
def k0_off562 (v38 : BitVec 32) : Fin 2 → Nat :=
  let v172 : Index := Scalar.indexCast v38
  let c192_38 : Index := 192#32
  ![v172.toNat, 192]
def k0_off563 (v38 : BitVec 32) : Fin 2 → Nat :=
  let v176 : Index := Scalar.indexCast v38
  let c208_39 : Index := 208#32
  ![v176.toNat, 208]
def k0_off564 (v38 : BitVec 32) : Fin 2 → Nat :=
  let v180 : Index := Scalar.indexCast v38
  let c224_40 : Index := 224#32
  ![v180.toNat, 224]
def k0_off565 (v38 : BitVec 32) : Fin 2 → Nat :=
  let v184 : Index := Scalar.indexCast v38
  let c240_41 : Index := 240#32
  ![v184.toNat, 240]
def k0_off566 (v38 : BitVec 32) : Fin 2 → Nat :=
  let v189 : Index := Scalar.indexCast v38
  let c0_42 : Index := 0#32
  ![v189.toNat, 0]

def k0_chk17 (i : grid0.Coords) (k0_t3 : Fin (k0_t3_loop i).trips) (v38 : BitVec 32) : Prop :=
  (∀ a, (k0_off550 v38) a + S1x16.size a ≤ S256x256.size a) ∧
  (∀ a, (k0_off551 v38) a + S1x16.size a ≤ S256x256.size a) ∧
  (∀ a, (k0_off552 v38) a + S1x16.size a ≤ S256x256.size a) ∧
  (∀ a, (k0_off553 v38) a + S1x16.size a ≤ S256x256.size a) ∧
  (∀ a, (k0_off554 v38) a + S1x16.size a ≤ S256x256.size a) ∧
  (∀ a, (k0_off555 v38) a + S1x16.size a ≤ S256x256.size a) ∧
  (∀ a, (k0_off556 v38) a + S1x16.size a ≤ S256x256.size a) ∧
  (∀ a, (k0_off557 v38) a + S1x16.size a ≤ S256x256.size a) ∧
  (∀ a, (k0_off558 v38) a + S1x16.size a ≤ S256x256.size a) ∧
  (∀ a, (k0_off559 v38) a + S1x16.size a ≤ S256x256.size a) ∧
  (∀ a, (k0_off560 v38) a + S1x16.size a ≤ S256x256.size a) ∧
  (∀ a, (k0_off561 v38) a + S1x16.size a ≤ S256x256.size a) ∧
  (∀ a, (k0_off562 v38) a + S1x16.size a ≤ S256x256.size a) ∧
  (∀ a, (k0_off563 v38) a + S1x16.size a ≤ S256x256.size a) ∧
  (∀ a, (k0_off564 v38) a + S1x16.size a ≤ S256x256.size a) ∧
  (∀ a, (k0_off565 v38) a + S1x16.size a ≤ S256x256.size a) ∧
  (∀ a, (k0_off566 v38) a + S1x16.size a ≤ S256x16.size a)
theorem k0_off550_inb : ∀ (i : grid0.Coords) (k0_t3 : Fin (k0_t3_loop i).trips) (v38 : BitVec 32) (k0_hw17 : k0_chk17 i k0_t3 v38), ∀ a, (k0_off550 v38) a + S1x16.size a ≤ S256x256.size a := fun i k0_t3 v38 k0_hw17 => k0_hw17.1
theorem k0_off551_inb : ∀ (i : grid0.Coords) (k0_t3 : Fin (k0_t3_loop i).trips) (v38 : BitVec 32) (k0_hw17 : k0_chk17 i k0_t3 v38), ∀ a, (k0_off551 v38) a + S1x16.size a ≤ S256x256.size a := fun i k0_t3 v38 k0_hw17 => k0_hw17.2.1
theorem k0_off552_inb : ∀ (i : grid0.Coords) (k0_t3 : Fin (k0_t3_loop i).trips) (v38 : BitVec 32) (k0_hw17 : k0_chk17 i k0_t3 v38), ∀ a, (k0_off552 v38) a + S1x16.size a ≤ S256x256.size a := fun i k0_t3 v38 k0_hw17 => k0_hw17.2.2.1
theorem k0_off553_inb : ∀ (i : grid0.Coords) (k0_t3 : Fin (k0_t3_loop i).trips) (v38 : BitVec 32) (k0_hw17 : k0_chk17 i k0_t3 v38), ∀ a, (k0_off553 v38) a + S1x16.size a ≤ S256x256.size a := fun i k0_t3 v38 k0_hw17 => k0_hw17.2.2.2.1
theorem k0_off554_inb : ∀ (i : grid0.Coords) (k0_t3 : Fin (k0_t3_loop i).trips) (v38 : BitVec 32) (k0_hw17 : k0_chk17 i k0_t3 v38), ∀ a, (k0_off554 v38) a + S1x16.size a ≤ S256x256.size a := fun i k0_t3 v38 k0_hw17 => k0_hw17.2.2.2.2.1
theorem k0_off555_inb : ∀ (i : grid0.Coords) (k0_t3 : Fin (k0_t3_loop i).trips) (v38 : BitVec 32) (k0_hw17 : k0_chk17 i k0_t3 v38), ∀ a, (k0_off555 v38) a + S1x16.size a ≤ S256x256.size a := fun i k0_t3 v38 k0_hw17 => k0_hw17.2.2.2.2.2.1
theorem k0_off556_inb : ∀ (i : grid0.Coords) (k0_t3 : Fin (k0_t3_loop i).trips) (v38 : BitVec 32) (k0_hw17 : k0_chk17 i k0_t3 v38), ∀ a, (k0_off556 v38) a + S1x16.size a ≤ S256x256.size a := fun i k0_t3 v38 k0_hw17 => k0_hw17.2.2.2.2.2.2.1
theorem k0_off557_inb : ∀ (i : grid0.Coords) (k0_t3 : Fin (k0_t3_loop i).trips) (v38 : BitVec 32) (k0_hw17 : k0_chk17 i k0_t3 v38), ∀ a, (k0_off557 v38) a + S1x16.size a ≤ S256x256.size a := fun i k0_t3 v38 k0_hw17 => k0_hw17.2.2.2.2.2.2.2.1
theorem k0_off558_inb : ∀ (i : grid0.Coords) (k0_t3 : Fin (k0_t3_loop i).trips) (v38 : BitVec 32) (k0_hw17 : k0_chk17 i k0_t3 v38), ∀ a, (k0_off558 v38) a + S1x16.size a ≤ S256x256.size a := fun i k0_t3 v38 k0_hw17 => k0_hw17.2.2.2.2.2.2.2.2.1
theorem k0_off559_inb : ∀ (i : grid0.Coords) (k0_t3 : Fin (k0_t3_loop i).trips) (v38 : BitVec 32) (k0_hw17 : k0_chk17 i k0_t3 v38), ∀ a, (k0_off559 v38) a + S1x16.size a ≤ S256x256.size a := fun i k0_t3 v38 k0_hw17 => k0_hw17.2.2.2.2.2.2.2.2.2.1
theorem k0_off560_inb : ∀ (i : grid0.Coords) (k0_t3 : Fin (k0_t3_loop i).trips) (v38 : BitVec 32) (k0_hw17 : k0_chk17 i k0_t3 v38), ∀ a, (k0_off560 v38) a + S1x16.size a ≤ S256x256.size a := fun i k0_t3 v38 k0_hw17 => k0_hw17.2.2.2.2.2.2.2.2.2.2.1
theorem k0_off561_inb : ∀ (i : grid0.Coords) (k0_t3 : Fin (k0_t3_loop i).trips) (v38 : BitVec 32) (k0_hw17 : k0_chk17 i k0_t3 v38), ∀ a, (k0_off561 v38) a + S1x16.size a ≤ S256x256.size a := fun i k0_t3 v38 k0_hw17 => k0_hw17.2.2.2.2.2.2.2.2.2.2.2.1
theorem k0_off562_inb : ∀ (i : grid0.Coords) (k0_t3 : Fin (k0_t3_loop i).trips) (v38 : BitVec 32) (k0_hw17 : k0_chk17 i k0_t3 v38), ∀ a, (k0_off562 v38) a + S1x16.size a ≤ S256x256.size a := fun i k0_t3 v38 k0_hw17 => k0_hw17.2.2.2.2.2.2.2.2.2.2.2.2.1
theorem k0_off563_inb : ∀ (i : grid0.Coords) (k0_t3 : Fin (k0_t3_loop i).trips) (v38 : BitVec 32) (k0_hw17 : k0_chk17 i k0_t3 v38), ∀ a, (k0_off563 v38) a + S1x16.size a ≤ S256x256.size a := fun i k0_t3 v38 k0_hw17 => k0_hw17.2.2.2.2.2.2.2.2.2.2.2.2.2.1
theorem k0_off564_inb : ∀ (i : grid0.Coords) (k0_t3 : Fin (k0_t3_loop i).trips) (v38 : BitVec 32) (k0_hw17 : k0_chk17 i k0_t3 v38), ∀ a, (k0_off564 v38) a + S1x16.size a ≤ S256x256.size a := fun i k0_t3 v38 k0_hw17 => k0_hw17.2.2.2.2.2.2.2.2.2.2.2.2.2.2.1
theorem k0_off565_inb : ∀ (i : grid0.Coords) (k0_t3 : Fin (k0_t3_loop i).trips) (v38 : BitVec 32) (k0_hw17 : k0_chk17 i k0_t3 v38), ∀ a, (k0_off565 v38) a + S1x16.size a ≤ S256x256.size a := fun i k0_t3 v38 k0_hw17 => k0_hw17.2.2.2.2.2.2.2.2.2.2.2.2.2.2.2.1
theorem k0_off566_inb : ∀ (i : grid0.Coords) (k0_t3 : Fin (k0_t3_loop i).trips) (v38 : BitVec 32) (k0_hw17 : k0_chk17 i k0_t3 v38), ∀ a, (k0_off566 v38) a + S1x16.size a ≤ S256x16.size a := fun i k0_t3 v38 k0_hw17 => k0_hw17.2.2.2.2.2.2.2.2.2.2.2.2.2.2.2.2

def k0_off567 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v198 : Index := Scalar.indexCast v196
  let c0_45 : Index := 0#32
  ![v198.toNat, 0]
def k0_off568 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v203 : Index := Scalar.indexCast v196
  let c16_46 : Index := 16#32
  ![v203.toNat, 16]
def k0_off569 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v208 : Index := Scalar.indexCast v196
  let c32_47 : Index := 32#32
  ![v208.toNat, 32]
def k0_off570 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v213 : Index := Scalar.indexCast v196
  let c48_48 : Index := 48#32
  ![v213.toNat, 48]
def k0_off571 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v218 : Index := Scalar.indexCast v196
  let c64_49 : Index := 64#32
  ![v218.toNat, 64]
def k0_off572 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v223 : Index := Scalar.indexCast v196
  let c80_50 : Index := 80#32
  ![v223.toNat, 80]
def k0_off573 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v228 : Index := Scalar.indexCast v196
  let c96_51 : Index := 96#32
  ![v228.toNat, 96]
def k0_off574 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v233 : Index := Scalar.indexCast v196
  let c112_52 : Index := 112#32
  ![v233.toNat, 112]
def k0_off575 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v238 : Index := Scalar.indexCast v196
  let c128_53 : Index := 128#32
  ![v238.toNat, 128]
def k0_off576 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v243 : Index := Scalar.indexCast v196
  let c144_54 : Index := 144#32
  ![v243.toNat, 144]
def k0_off577 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v248 : Index := Scalar.indexCast v196
  let c160_55 : Index := 160#32
  ![v248.toNat, 160]
def k0_off578 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v253 : Index := Scalar.indexCast v196
  let c176_56 : Index := 176#32
  ![v253.toNat, 176]
def k0_off579 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v258 : Index := Scalar.indexCast v196
  let c192_57 : Index := 192#32
  ![v258.toNat, 192]
def k0_off580 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v263 : Index := Scalar.indexCast v196
  let c208_58 : Index := 208#32
  ![v263.toNat, 208]
def k0_off581 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v268 : Index := Scalar.indexCast v196
  let c224_59 : Index := 224#32
  ![v268.toNat, 224]
def k0_off582 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_43 : BitVec 32 := 16#32
  let v195 : BitVec 32 := Scalar.muli arg31 c16_i32_43
  let c1_i32_44 : BitVec 32 := 1#32
  let v196 : BitVec 32 := Scalar.addi v195 c1_i32_44
  let v273 : Index := Scalar.indexCast v196
  let c240_60 : Index := 240#32
  ![v273.toNat, 240]
def k0_off583 (v194 : BitVec 32) : Fin 2 → Nat :=
  let v280 : Index := Scalar.indexCast v194
  let c0_63 : Index := 0#32
  ![v280.toNat, 0]

def k0_off584 (v194 : BitVec 32) : Fin 2 → Nat :=
  let v284 : Index := Scalar.indexCast v194
  let c16_64 : Index := 16#32
  ![v284.toNat, 16]
def k0_off585 (v194 : BitVec 32) : Fin 2 → Nat :=
  let v288 : Index := Scalar.indexCast v194
  let c32_65 : Index := 32#32
  ![v288.toNat, 32]
def k0_off586 (v194 : BitVec 32) : Fin 2 → Nat :=
  let v292 : Index := Scalar.indexCast v194
  let c48_66 : Index := 48#32
  ![v292.toNat, 48]
def k0_off587 (v194 : BitVec 32) : Fin 2 → Nat :=
  let v296 : Index := Scalar.indexCast v194
  let c64_67 : Index := 64#32
  ![v296.toNat, 64]
def k0_off588 (v194 : BitVec 32) : Fin 2 → Nat :=
  let v300 : Index := Scalar.indexCast v194
  let c80_68 : Index := 80#32
  ![v300.toNat, 80]
def k0_off589 (v194 : BitVec 32) : Fin 2 → Nat :=
  let v304 : Index := Scalar.indexCast v194
  let c96_69 : Index := 96#32
  ![v304.toNat, 96]
def k0_off590 (v194 : BitVec 32) : Fin 2 → Nat :=
  let v308 : Index := Scalar.indexCast v194
  let c112_70 : Index := 112#32
  ![v308.toNat, 112]
def k0_off591 (v194 : BitVec 32) : Fin 2 → Nat :=
  let v312 : Index := Scalar.indexCast v194
  let c128_71 : Index := 128#32
  ![v312.toNat, 128]
def k0_off592 (v194 : BitVec 32) : Fin 2 → Nat :=
  let v316 : Index := Scalar.indexCast v194
  let c144_72 : Index := 144#32
  ![v316.toNat, 144]
def k0_off593 (v194 : BitVec 32) : Fin 2 → Nat :=
  let v320 : Index := Scalar.indexCast v194
  let c160_73 : Index := 160#32
  ![v320.toNat, 160]
def k0_off594 (v194 : BitVec 32) : Fin 2 → Nat :=
  let v324 : Index := Scalar.indexCast v194
  let c176_74 : Index := 176#32
  ![v324.toNat, 176]
def k0_off595 (v194 : BitVec 32) : Fin 2 → Nat :=
  let v328 : Index := Scalar.indexCast v194
  let c192_75 : Index := 192#32
  ![v328.toNat, 192]
def k0_off596 (v194 : BitVec 32) : Fin 2 → Nat :=
  let v332 : Index := Scalar.indexCast v194
  let c208_76 : Index := 208#32
  ![v332.toNat, 208]
def k0_off597 (v194 : BitVec 32) : Fin 2 → Nat :=
  let v336 : Index := Scalar.indexCast v194
  let c224_77 : Index := 224#32
  ![v336.toNat, 224]
def k0_off598 (v194 : BitVec 32) : Fin 2 → Nat :=
  let v340 : Index := Scalar.indexCast v194
  let c240_78 : Index := 240#32
  ![v340.toNat, 240]
def k0_off599 (v194 : BitVec 32) : Fin 2 → Nat :=
  let v345 : Index := Scalar.indexCast v194
  let c0_79 : Index := 0#32
  ![v345.toNat, 0]

def k0_chk18 (i : grid0.Coords) (k0_t3 : Fin (k0_t3_loop i).trips) (v194 : BitVec 32) : Prop :=
  (∀ a, (k0_off583 v194) a + S1x16.size a ≤ S256x256.size a) ∧
  (∀ a, (k0_off584 v194) a + S1x16.size a ≤ S256x256.size a) ∧
  (∀ a, (k0_off585 v194) a + S1x16.size a ≤ S256x256.size a) ∧
  (∀ a, (k0_off586 v194) a + S1x16.size a ≤ S256x256.size a) ∧
  (∀ a, (k0_off587 v194) a + S1x16.size a ≤ S256x256.size a) ∧
  (∀ a, (k0_off588 v194) a + S1x16.size a ≤ S256x256.size a) ∧
  (∀ a, (k0_off589 v194) a + S1x16.size a ≤ S256x256.size a) ∧
  (∀ a, (k0_off590 v194) a + S1x16.size a ≤ S256x256.size a) ∧
  (∀ a, (k0_off591 v194) a + S1x16.size a ≤ S256x256.size a) ∧
  (∀ a, (k0_off592 v194) a + S1x16.size a ≤ S256x256.size a) ∧
  (∀ a, (k0_off593 v194) a + S1x16.size a ≤ S256x256.size a) ∧
  (∀ a, (k0_off594 v194) a + S1x16.size a ≤ S256x256.size a) ∧
  (∀ a, (k0_off595 v194) a + S1x16.size a ≤ S256x256.size a) ∧
  (∀ a, (k0_off596 v194) a + S1x16.size a ≤ S256x256.size a) ∧
  (∀ a, (k0_off597 v194) a + S1x16.size a ≤ S256x256.size a) ∧
  (∀ a, (k0_off598 v194) a + S1x16.size a ≤ S256x256.size a) ∧
  (∀ a, (k0_off599 v194) a + S1x16.size a ≤ S256x16.size a)
theorem k0_off583_inb : ∀ (i : grid0.Coords) (k0_t3 : Fin (k0_t3_loop i).trips) (v194 : BitVec 32) (k0_hw18 : k0_chk18 i k0_t3 v194), ∀ a, (k0_off583 v194) a + S1x16.size a ≤ S256x256.size a := fun i k0_t3 v194 k0_hw18 => k0_hw18.1
theorem k0_off584_inb : ∀ (i : grid0.Coords) (k0_t3 : Fin (k0_t3_loop i).trips) (v194 : BitVec 32) (k0_hw18 : k0_chk18 i k0_t3 v194), ∀ a, (k0_off584 v194) a + S1x16.size a ≤ S256x256.size a := fun i k0_t3 v194 k0_hw18 => k0_hw18.2.1
theorem k0_off585_inb : ∀ (i : grid0.Coords) (k0_t3 : Fin (k0_t3_loop i).trips) (v194 : BitVec 32) (k0_hw18 : k0_chk18 i k0_t3 v194), ∀ a, (k0_off585 v194) a + S1x16.size a ≤ S256x256.size a := fun i k0_t3 v194 k0_hw18 => k0_hw18.2.2.1
theorem k0_off586_inb : ∀ (i : grid0.Coords) (k0_t3 : Fin (k0_t3_loop i).trips) (v194 : BitVec 32) (k0_hw18 : k0_chk18 i k0_t3 v194), ∀ a, (k0_off586 v194) a + S1x16.size a ≤ S256x256.size a := fun i k0_t3 v194 k0_hw18 => k0_hw18.2.2.2.1
theorem k0_off587_inb : ∀ (i : grid0.Coords) (k0_t3 : Fin (k0_t3_loop i).trips) (v194 : BitVec 32) (k0_hw18 : k0_chk18 i k0_t3 v194), ∀ a, (k0_off587 v194) a + S1x16.size a ≤ S256x256.size a := fun i k0_t3 v194 k0_hw18 => k0_hw18.2.2.2.2.1
theorem k0_off588_inb : ∀ (i : grid0.Coords) (k0_t3 : Fin (k0_t3_loop i).trips) (v194 : BitVec 32) (k0_hw18 : k0_chk18 i k0_t3 v194), ∀ a, (k0_off588 v194) a + S1x16.size a ≤ S256x256.size a := fun i k0_t3 v194 k0_hw18 => k0_hw18.2.2.2.2.2.1
theorem k0_off589_inb : ∀ (i : grid0.Coords) (k0_t3 : Fin (k0_t3_loop i).trips) (v194 : BitVec 32) (k0_hw18 : k0_chk18 i k0_t3 v194), ∀ a, (k0_off589 v194) a + S1x16.size a ≤ S256x256.size a := fun i k0_t3 v194 k0_hw18 => k0_hw18.2.2.2.2.2.2.1
theorem k0_off590_inb : ∀ (i : grid0.Coords) (k0_t3 : Fin (k0_t3_loop i).trips) (v194 : BitVec 32) (k0_hw18 : k0_chk18 i k0_t3 v194), ∀ a, (k0_off590 v194) a + S1x16.size a ≤ S256x256.size a := fun i k0_t3 v194 k0_hw18 => k0_hw18.2.2.2.2.2.2.2.1
theorem k0_off591_inb : ∀ (i : grid0.Coords) (k0_t3 : Fin (k0_t3_loop i).trips) (v194 : BitVec 32) (k0_hw18 : k0_chk18 i k0_t3 v194), ∀ a, (k0_off591 v194) a + S1x16.size a ≤ S256x256.size a := fun i k0_t3 v194 k0_hw18 => k0_hw18.2.2.2.2.2.2.2.2.1
theorem k0_off592_inb : ∀ (i : grid0.Coords) (k0_t3 : Fin (k0_t3_loop i).trips) (v194 : BitVec 32) (k0_hw18 : k0_chk18 i k0_t3 v194), ∀ a, (k0_off592 v194) a + S1x16.size a ≤ S256x256.size a := fun i k0_t3 v194 k0_hw18 => k0_hw18.2.2.2.2.2.2.2.2.2.1
theorem k0_off593_inb : ∀ (i : grid0.Coords) (k0_t3 : Fin (k0_t3_loop i).trips) (v194 : BitVec 32) (k0_hw18 : k0_chk18 i k0_t3 v194), ∀ a, (k0_off593 v194) a + S1x16.size a ≤ S256x256.size a := fun i k0_t3 v194 k0_hw18 => k0_hw18.2.2.2.2.2.2.2.2.2.2.1
theorem k0_off594_inb : ∀ (i : grid0.Coords) (k0_t3 : Fin (k0_t3_loop i).trips) (v194 : BitVec 32) (k0_hw18 : k0_chk18 i k0_t3 v194), ∀ a, (k0_off594 v194) a + S1x16.size a ≤ S256x256.size a := fun i k0_t3 v194 k0_hw18 => k0_hw18.2.2.2.2.2.2.2.2.2.2.2.1
theorem k0_off595_inb : ∀ (i : grid0.Coords) (k0_t3 : Fin (k0_t3_loop i).trips) (v194 : BitVec 32) (k0_hw18 : k0_chk18 i k0_t3 v194), ∀ a, (k0_off595 v194) a + S1x16.size a ≤ S256x256.size a := fun i k0_t3 v194 k0_hw18 => k0_hw18.2.2.2.2.2.2.2.2.2.2.2.2.1
theorem k0_off596_inb : ∀ (i : grid0.Coords) (k0_t3 : Fin (k0_t3_loop i).trips) (v194 : BitVec 32) (k0_hw18 : k0_chk18 i k0_t3 v194), ∀ a, (k0_off596 v194) a + S1x16.size a ≤ S256x256.size a := fun i k0_t3 v194 k0_hw18 => k0_hw18.2.2.2.2.2.2.2.2.2.2.2.2.2.1
theorem k0_off597_inb : ∀ (i : grid0.Coords) (k0_t3 : Fin (k0_t3_loop i).trips) (v194 : BitVec 32) (k0_hw18 : k0_chk18 i k0_t3 v194), ∀ a, (k0_off597 v194) a + S1x16.size a ≤ S256x256.size a := fun i k0_t3 v194 k0_hw18 => k0_hw18.2.2.2.2.2.2.2.2.2.2.2.2.2.2.1
theorem k0_off598_inb : ∀ (i : grid0.Coords) (k0_t3 : Fin (k0_t3_loop i).trips) (v194 : BitVec 32) (k0_hw18 : k0_chk18 i k0_t3 v194), ∀ a, (k0_off598 v194) a + S1x16.size a ≤ S256x256.size a := fun i k0_t3 v194 k0_hw18 => k0_hw18.2.2.2.2.2.2.2.2.2.2.2.2.2.2.2.1
theorem k0_off599_inb : ∀ (i : grid0.Coords) (k0_t3 : Fin (k0_t3_loop i).trips) (v194 : BitVec 32) (k0_hw18 : k0_chk18 i k0_t3 v194), ∀ a, (k0_off599 v194) a + S1x16.size a ≤ S256x16.size a := fun i k0_t3 v194 k0_hw18 => k0_hw18.2.2.2.2.2.2.2.2.2.2.2.2.2.2.2.2

def k0_off600 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v354 : Index := Scalar.indexCast v352
  let c0_82 : Index := 0#32
  ![v354.toNat, 0]
def k0_off601 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v359 : Index := Scalar.indexCast v352
  let c16_83 : Index := 16#32
  ![v359.toNat, 16]
def k0_off602 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v364 : Index := Scalar.indexCast v352
  let c32_84 : Index := 32#32
  ![v364.toNat, 32]
def k0_off603 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v369 : Index := Scalar.indexCast v352
  let c48_85 : Index := 48#32
  ![v369.toNat, 48]
def k0_off604 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v374 : Index := Scalar.indexCast v352
  let c64_86 : Index := 64#32
  ![v374.toNat, 64]
def k0_off605 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v379 : Index := Scalar.indexCast v352
  let c80_87 : Index := 80#32
  ![v379.toNat, 80]
def k0_off606 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v384 : Index := Scalar.indexCast v352
  let c96_88 : Index := 96#32
  ![v384.toNat, 96]
def k0_off607 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v389 : Index := Scalar.indexCast v352
  let c112_89 : Index := 112#32
  ![v389.toNat, 112]
def k0_off608 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v394 : Index := Scalar.indexCast v352
  let c128_90 : Index := 128#32
  ![v394.toNat, 128]
def k0_off609 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v399 : Index := Scalar.indexCast v352
  let c144_91 : Index := 144#32
  ![v399.toNat, 144]
def k0_off610 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v404 : Index := Scalar.indexCast v352
  let c160_92 : Index := 160#32
  ![v404.toNat, 160]
def k0_off611 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v409 : Index := Scalar.indexCast v352
  let c176_93 : Index := 176#32
  ![v409.toNat, 176]
def k0_off612 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v414 : Index := Scalar.indexCast v352
  let c192_94 : Index := 192#32
  ![v414.toNat, 192]
def k0_off613 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v419 : Index := Scalar.indexCast v352
  let c208_95 : Index := 208#32
  ![v419.toNat, 208]
def k0_off614 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v424 : Index := Scalar.indexCast v352
  let c224_96 : Index := 224#32
  ![v424.toNat, 224]
def k0_off615 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_80 : BitVec 32 := 16#32
  let v351 : BitVec 32 := Scalar.muli arg31 c16_i32_80
  let c2_i32_81 : BitVec 32 := 2#32
  let v352 : BitVec 32 := Scalar.addi v351 c2_i32_81
  let v429 : Index := Scalar.indexCast v352
  let c240_97 : Index := 240#32
  ![v429.toNat, 240]
def k0_off616 (v350 : BitVec 32) : Fin 2 → Nat :=
  let v436 : Index := Scalar.indexCast v350
  let c0_100 : Index := 0#32
  ![v436.toNat, 0]

def k0_off617 (v350 : BitVec 32) : Fin 2 → Nat :=
  let v440 : Index := Scalar.indexCast v350
  let c16_101 : Index := 16#32
  ![v440.toNat, 16]
def k0_off618 (v350 : BitVec 32) : Fin 2 → Nat :=
  let v444 : Index := Scalar.indexCast v350
  let c32_102 : Index := 32#32
  ![v444.toNat, 32]
def k0_off619 (v350 : BitVec 32) : Fin 2 → Nat :=
  let v448 : Index := Scalar.indexCast v350
  let c48_103 : Index := 48#32
  ![v448.toNat, 48]
def k0_off620 (v350 : BitVec 32) : Fin 2 → Nat :=
  let v452 : Index := Scalar.indexCast v350
  let c64_104 : Index := 64#32
  ![v452.toNat, 64]
def k0_off621 (v350 : BitVec 32) : Fin 2 → Nat :=
  let v456 : Index := Scalar.indexCast v350
  let c80_105 : Index := 80#32
  ![v456.toNat, 80]
def k0_off622 (v350 : BitVec 32) : Fin 2 → Nat :=
  let v460 : Index := Scalar.indexCast v350
  let c96_106 : Index := 96#32
  ![v460.toNat, 96]
def k0_off623 (v350 : BitVec 32) : Fin 2 → Nat :=
  let v464 : Index := Scalar.indexCast v350
  let c112_107 : Index := 112#32
  ![v464.toNat, 112]
def k0_off624 (v350 : BitVec 32) : Fin 2 → Nat :=
  let v468 : Index := Scalar.indexCast v350
  let c128_108 : Index := 128#32
  ![v468.toNat, 128]
def k0_off625 (v350 : BitVec 32) : Fin 2 → Nat :=
  let v472 : Index := Scalar.indexCast v350
  let c144_109 : Index := 144#32
  ![v472.toNat, 144]
def k0_off626 (v350 : BitVec 32) : Fin 2 → Nat :=
  let v476 : Index := Scalar.indexCast v350
  let c160_110 : Index := 160#32
  ![v476.toNat, 160]
def k0_off627 (v350 : BitVec 32) : Fin 2 → Nat :=
  let v480 : Index := Scalar.indexCast v350
  let c176_111 : Index := 176#32
  ![v480.toNat, 176]
def k0_off628 (v350 : BitVec 32) : Fin 2 → Nat :=
  let v484 : Index := Scalar.indexCast v350
  let c192_112 : Index := 192#32
  ![v484.toNat, 192]
def k0_off629 (v350 : BitVec 32) : Fin 2 → Nat :=
  let v488 : Index := Scalar.indexCast v350
  let c208_113 : Index := 208#32
  ![v488.toNat, 208]
def k0_off630 (v350 : BitVec 32) : Fin 2 → Nat :=
  let v492 : Index := Scalar.indexCast v350
  let c224_114 : Index := 224#32
  ![v492.toNat, 224]
def k0_off631 (v350 : BitVec 32) : Fin 2 → Nat :=
  let v496 : Index := Scalar.indexCast v350
  let c240_115 : Index := 240#32
  ![v496.toNat, 240]
def k0_off632 (v350 : BitVec 32) : Fin 2 → Nat :=
  let v501 : Index := Scalar.indexCast v350
  let c0_116 : Index := 0#32
  ![v501.toNat, 0]

def k0_chk19 (i : grid0.Coords) (k0_t3 : Fin (k0_t3_loop i).trips) (v350 : BitVec 32) : Prop :=
  (∀ a, (k0_off616 v350) a + S1x16.size a ≤ S256x256.size a) ∧
  (∀ a, (k0_off617 v350) a + S1x16.size a ≤ S256x256.size a) ∧
  (∀ a, (k0_off618 v350) a + S1x16.size a ≤ S256x256.size a) ∧
  (∀ a, (k0_off619 v350) a + S1x16.size a ≤ S256x256.size a) ∧
  (∀ a, (k0_off620 v350) a + S1x16.size a ≤ S256x256.size a) ∧
  (∀ a, (k0_off621 v350) a + S1x16.size a ≤ S256x256.size a) ∧
  (∀ a, (k0_off622 v350) a + S1x16.size a ≤ S256x256.size a) ∧
  (∀ a, (k0_off623 v350) a + S1x16.size a ≤ S256x256.size a) ∧
  (∀ a, (k0_off624 v350) a + S1x16.size a ≤ S256x256.size a) ∧
  (∀ a, (k0_off625 v350) a + S1x16.size a ≤ S256x256.size a) ∧
  (∀ a, (k0_off626 v350) a + S1x16.size a ≤ S256x256.size a) ∧
  (∀ a, (k0_off627 v350) a + S1x16.size a ≤ S256x256.size a) ∧
  (∀ a, (k0_off628 v350) a + S1x16.size a ≤ S256x256.size a) ∧
  (∀ a, (k0_off629 v350) a + S1x16.size a ≤ S256x256.size a) ∧
  (∀ a, (k0_off630 v350) a + S1x16.size a ≤ S256x256.size a) ∧
  (∀ a, (k0_off631 v350) a + S1x16.size a ≤ S256x256.size a) ∧
  (∀ a, (k0_off632 v350) a + S1x16.size a ≤ S256x16.size a)
theorem k0_off616_inb : ∀ (i : grid0.Coords) (k0_t3 : Fin (k0_t3_loop i).trips) (v350 : BitVec 32) (k0_hw19 : k0_chk19 i k0_t3 v350), ∀ a, (k0_off616 v350) a + S1x16.size a ≤ S256x256.size a := fun i k0_t3 v350 k0_hw19 => k0_hw19.1
theorem k0_off617_inb : ∀ (i : grid0.Coords) (k0_t3 : Fin (k0_t3_loop i).trips) (v350 : BitVec 32) (k0_hw19 : k0_chk19 i k0_t3 v350), ∀ a, (k0_off617 v350) a + S1x16.size a ≤ S256x256.size a := fun i k0_t3 v350 k0_hw19 => k0_hw19.2.1
theorem k0_off618_inb : ∀ (i : grid0.Coords) (k0_t3 : Fin (k0_t3_loop i).trips) (v350 : BitVec 32) (k0_hw19 : k0_chk19 i k0_t3 v350), ∀ a, (k0_off618 v350) a + S1x16.size a ≤ S256x256.size a := fun i k0_t3 v350 k0_hw19 => k0_hw19.2.2.1
theorem k0_off619_inb : ∀ (i : grid0.Coords) (k0_t3 : Fin (k0_t3_loop i).trips) (v350 : BitVec 32) (k0_hw19 : k0_chk19 i k0_t3 v350), ∀ a, (k0_off619 v350) a + S1x16.size a ≤ S256x256.size a := fun i k0_t3 v350 k0_hw19 => k0_hw19.2.2.2.1
theorem k0_off620_inb : ∀ (i : grid0.Coords) (k0_t3 : Fin (k0_t3_loop i).trips) (v350 : BitVec 32) (k0_hw19 : k0_chk19 i k0_t3 v350), ∀ a, (k0_off620 v350) a + S1x16.size a ≤ S256x256.size a := fun i k0_t3 v350 k0_hw19 => k0_hw19.2.2.2.2.1
theorem k0_off621_inb : ∀ (i : grid0.Coords) (k0_t3 : Fin (k0_t3_loop i).trips) (v350 : BitVec 32) (k0_hw19 : k0_chk19 i k0_t3 v350), ∀ a, (k0_off621 v350) a + S1x16.size a ≤ S256x256.size a := fun i k0_t3 v350 k0_hw19 => k0_hw19.2.2.2.2.2.1
theorem k0_off622_inb : ∀ (i : grid0.Coords) (k0_t3 : Fin (k0_t3_loop i).trips) (v350 : BitVec 32) (k0_hw19 : k0_chk19 i k0_t3 v350), ∀ a, (k0_off622 v350) a + S1x16.size a ≤ S256x256.size a := fun i k0_t3 v350 k0_hw19 => k0_hw19.2.2.2.2.2.2.1
theorem k0_off623_inb : ∀ (i : grid0.Coords) (k0_t3 : Fin (k0_t3_loop i).trips) (v350 : BitVec 32) (k0_hw19 : k0_chk19 i k0_t3 v350), ∀ a, (k0_off623 v350) a + S1x16.size a ≤ S256x256.size a := fun i k0_t3 v350 k0_hw19 => k0_hw19.2.2.2.2.2.2.2.1
theorem k0_off624_inb : ∀ (i : grid0.Coords) (k0_t3 : Fin (k0_t3_loop i).trips) (v350 : BitVec 32) (k0_hw19 : k0_chk19 i k0_t3 v350), ∀ a, (k0_off624 v350) a + S1x16.size a ≤ S256x256.size a := fun i k0_t3 v350 k0_hw19 => k0_hw19.2.2.2.2.2.2.2.2.1
theorem k0_off625_inb : ∀ (i : grid0.Coords) (k0_t3 : Fin (k0_t3_loop i).trips) (v350 : BitVec 32) (k0_hw19 : k0_chk19 i k0_t3 v350), ∀ a, (k0_off625 v350) a + S1x16.size a ≤ S256x256.size a := fun i k0_t3 v350 k0_hw19 => k0_hw19.2.2.2.2.2.2.2.2.2.1
theorem k0_off626_inb : ∀ (i : grid0.Coords) (k0_t3 : Fin (k0_t3_loop i).trips) (v350 : BitVec 32) (k0_hw19 : k0_chk19 i k0_t3 v350), ∀ a, (k0_off626 v350) a + S1x16.size a ≤ S256x256.size a := fun i k0_t3 v350 k0_hw19 => k0_hw19.2.2.2.2.2.2.2.2.2.2.1
theorem k0_off627_inb : ∀ (i : grid0.Coords) (k0_t3 : Fin (k0_t3_loop i).trips) (v350 : BitVec 32) (k0_hw19 : k0_chk19 i k0_t3 v350), ∀ a, (k0_off627 v350) a + S1x16.size a ≤ S256x256.size a := fun i k0_t3 v350 k0_hw19 => k0_hw19.2.2.2.2.2.2.2.2.2.2.2.1
theorem k0_off628_inb : ∀ (i : grid0.Coords) (k0_t3 : Fin (k0_t3_loop i).trips) (v350 : BitVec 32) (k0_hw19 : k0_chk19 i k0_t3 v350), ∀ a, (k0_off628 v350) a + S1x16.size a ≤ S256x256.size a := fun i k0_t3 v350 k0_hw19 => k0_hw19.2.2.2.2.2.2.2.2.2.2.2.2.1
theorem k0_off629_inb : ∀ (i : grid0.Coords) (k0_t3 : Fin (k0_t3_loop i).trips) (v350 : BitVec 32) (k0_hw19 : k0_chk19 i k0_t3 v350), ∀ a, (k0_off629 v350) a + S1x16.size a ≤ S256x256.size a := fun i k0_t3 v350 k0_hw19 => k0_hw19.2.2.2.2.2.2.2.2.2.2.2.2.2.1
theorem k0_off630_inb : ∀ (i : grid0.Coords) (k0_t3 : Fin (k0_t3_loop i).trips) (v350 : BitVec 32) (k0_hw19 : k0_chk19 i k0_t3 v350), ∀ a, (k0_off630 v350) a + S1x16.size a ≤ S256x256.size a := fun i k0_t3 v350 k0_hw19 => k0_hw19.2.2.2.2.2.2.2.2.2.2.2.2.2.2.1
theorem k0_off631_inb : ∀ (i : grid0.Coords) (k0_t3 : Fin (k0_t3_loop i).trips) (v350 : BitVec 32) (k0_hw19 : k0_chk19 i k0_t3 v350), ∀ a, (k0_off631 v350) a + S1x16.size a ≤ S256x256.size a := fun i k0_t3 v350 k0_hw19 => k0_hw19.2.2.2.2.2.2.2.2.2.2.2.2.2.2.2.1
theorem k0_off632_inb : ∀ (i : grid0.Coords) (k0_t3 : Fin (k0_t3_loop i).trips) (v350 : BitVec 32) (k0_hw19 : k0_chk19 i k0_t3 v350), ∀ a, (k0_off632 v350) a + S1x16.size a ≤ S256x16.size a := fun i k0_t3 v350 k0_hw19 => k0_hw19.2.2.2.2.2.2.2.2.2.2.2.2.2.2.2.2

def k0_off633 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v510 : Index := Scalar.indexCast v508
  let c0_118 : Index := 0#32
  ![v510.toNat, 0]
def k0_off634 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v515 : Index := Scalar.indexCast v508
  let c16_119 : Index := 16#32
  ![v515.toNat, 16]
def k0_off635 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v520 : Index := Scalar.indexCast v508
  let c32_120 : Index := 32#32
  ![v520.toNat, 32]
def k0_off636 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v525 : Index := Scalar.indexCast v508
  let c48_121 : Index := 48#32
  ![v525.toNat, 48]
def k0_off637 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v530 : Index := Scalar.indexCast v508
  let c64_122 : Index := 64#32
  ![v530.toNat, 64]
def k0_off638 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v535 : Index := Scalar.indexCast v508
  let c80_123 : Index := 80#32
  ![v535.toNat, 80]
def k0_off639 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v540 : Index := Scalar.indexCast v508
  let c96_124 : Index := 96#32
  ![v540.toNat, 96]
def k0_off640 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v545 : Index := Scalar.indexCast v508
  let c112_125 : Index := 112#32
  ![v545.toNat, 112]
def k0_off641 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v550 : Index := Scalar.indexCast v508
  let c128_126 : Index := 128#32
  ![v550.toNat, 128]
def k0_off642 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v555 : Index := Scalar.indexCast v508
  let c144_127 : Index := 144#32
  ![v555.toNat, 144]
def k0_off643 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v560 : Index := Scalar.indexCast v508
  let c160_128 : Index := 160#32
  ![v560.toNat, 160]
def k0_off644 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v565 : Index := Scalar.indexCast v508
  let c176_129 : Index := 176#32
  ![v565.toNat, 176]
def k0_off645 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v570 : Index := Scalar.indexCast v508
  let c192_130 : Index := 192#32
  ![v570.toNat, 192]
def k0_off646 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v575 : Index := Scalar.indexCast v508
  let c208_131 : Index := 208#32
  ![v575.toNat, 208]
def k0_off647 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v580 : Index := Scalar.indexCast v508
  let c224_132 : Index := 224#32
  ![v580.toNat, 224]
def k0_off648 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_117 : BitVec 32 := 16#32
  let v507 : BitVec 32 := Scalar.muli arg31 c16_i32_117
  let c3_i32 : BitVec 32 := 3#32
  let v508 : BitVec 32 := Scalar.addi v507 c3_i32
  let v585 : Index := Scalar.indexCast v508
  let c240_133 : Index := 240#32
  ![v585.toNat, 240]
def k0_off649 (v506 : BitVec 32) : Fin 2 → Nat :=
  let v592 : Index := Scalar.indexCast v506
  let c0_136 : Index := 0#32
  ![v592.toNat, 0]

def k0_off650 (v506 : BitVec 32) : Fin 2 → Nat :=
  let v596 : Index := Scalar.indexCast v506
  let c16_137 : Index := 16#32
  ![v596.toNat, 16]
def k0_off651 (v506 : BitVec 32) : Fin 2 → Nat :=
  let v600 : Index := Scalar.indexCast v506
  let c32_138 : Index := 32#32
  ![v600.toNat, 32]
def k0_off652 (v506 : BitVec 32) : Fin 2 → Nat :=
  let v604 : Index := Scalar.indexCast v506
  let c48_139 : Index := 48#32
  ![v604.toNat, 48]
def k0_off653 (v506 : BitVec 32) : Fin 2 → Nat :=
  let v608 : Index := Scalar.indexCast v506
  let c64_140 : Index := 64#32
  ![v608.toNat, 64]
def k0_off654 (v506 : BitVec 32) : Fin 2 → Nat :=
  let v612 : Index := Scalar.indexCast v506
  let c80_141 : Index := 80#32
  ![v612.toNat, 80]
def k0_off655 (v506 : BitVec 32) : Fin 2 → Nat :=
  let v616 : Index := Scalar.indexCast v506
  let c96_142 : Index := 96#32
  ![v616.toNat, 96]
def k0_off656 (v506 : BitVec 32) : Fin 2 → Nat :=
  let v620 : Index := Scalar.indexCast v506
  let c112_143 : Index := 112#32
  ![v620.toNat, 112]
def k0_off657 (v506 : BitVec 32) : Fin 2 → Nat :=
  let v624 : Index := Scalar.indexCast v506
  let c128_144 : Index := 128#32
  ![v624.toNat, 128]
def k0_off658 (v506 : BitVec 32) : Fin 2 → Nat :=
  let v628 : Index := Scalar.indexCast v506
  let c144_145 : Index := 144#32
  ![v628.toNat, 144]
def k0_off659 (v506 : BitVec 32) : Fin 2 → Nat :=
  let v632 : Index := Scalar.indexCast v506
  let c160_146 : Index := 160#32
  ![v632.toNat, 160]
def k0_off660 (v506 : BitVec 32) : Fin 2 → Nat :=
  let v636 : Index := Scalar.indexCast v506
  let c176_147 : Index := 176#32
  ![v636.toNat, 176]
def k0_off661 (v506 : BitVec 32) : Fin 2 → Nat :=
  let v640 : Index := Scalar.indexCast v506
  let c192_148 : Index := 192#32
  ![v640.toNat, 192]
def k0_off662 (v506 : BitVec 32) : Fin 2 → Nat :=
  let v644 : Index := Scalar.indexCast v506
  let c208_149 : Index := 208#32
  ![v644.toNat, 208]
def k0_off663 (v506 : BitVec 32) : Fin 2 → Nat :=
  let v648 : Index := Scalar.indexCast v506
  let c224_150 : Index := 224#32
  ![v648.toNat, 224]
def k0_off664 (v506 : BitVec 32) : Fin 2 → Nat :=
  let v652 : Index := Scalar.indexCast v506
  let c240_151 : Index := 240#32
  ![v652.toNat, 240]
def k0_off665 (v506 : BitVec 32) : Fin 2 → Nat :=
  let v657 : Index := Scalar.indexCast v506
  let c0_152 : Index := 0#32
  ![v657.toNat, 0]

def k0_chk20 (i : grid0.Coords) (k0_t3 : Fin (k0_t3_loop i).trips) (v506 : BitVec 32) : Prop :=
  (∀ a, (k0_off649 v506) a + S1x16.size a ≤ S256x256.size a) ∧
  (∀ a, (k0_off650 v506) a + S1x16.size a ≤ S256x256.size a) ∧
  (∀ a, (k0_off651 v506) a + S1x16.size a ≤ S256x256.size a) ∧
  (∀ a, (k0_off652 v506) a + S1x16.size a ≤ S256x256.size a) ∧
  (∀ a, (k0_off653 v506) a + S1x16.size a ≤ S256x256.size a) ∧
  (∀ a, (k0_off654 v506) a + S1x16.size a ≤ S256x256.size a) ∧
  (∀ a, (k0_off655 v506) a + S1x16.size a ≤ S256x256.size a) ∧
  (∀ a, (k0_off656 v506) a + S1x16.size a ≤ S256x256.size a) ∧
  (∀ a, (k0_off657 v506) a + S1x16.size a ≤ S256x256.size a) ∧
  (∀ a, (k0_off658 v506) a + S1x16.size a ≤ S256x256.size a) ∧
  (∀ a, (k0_off659 v506) a + S1x16.size a ≤ S256x256.size a) ∧
  (∀ a, (k0_off660 v506) a + S1x16.size a ≤ S256x256.size a) ∧
  (∀ a, (k0_off661 v506) a + S1x16.size a ≤ S256x256.size a) ∧
  (∀ a, (k0_off662 v506) a + S1x16.size a ≤ S256x256.size a) ∧
  (∀ a, (k0_off663 v506) a + S1x16.size a ≤ S256x256.size a) ∧
  (∀ a, (k0_off664 v506) a + S1x16.size a ≤ S256x256.size a) ∧
  (∀ a, (k0_off665 v506) a + S1x16.size a ≤ S256x16.size a)
theorem k0_off649_inb : ∀ (i : grid0.Coords) (k0_t3 : Fin (k0_t3_loop i).trips) (v506 : BitVec 32) (k0_hw20 : k0_chk20 i k0_t3 v506), ∀ a, (k0_off649 v506) a + S1x16.size a ≤ S256x256.size a := fun i k0_t3 v506 k0_hw20 => k0_hw20.1
theorem k0_off650_inb : ∀ (i : grid0.Coords) (k0_t3 : Fin (k0_t3_loop i).trips) (v506 : BitVec 32) (k0_hw20 : k0_chk20 i k0_t3 v506), ∀ a, (k0_off650 v506) a + S1x16.size a ≤ S256x256.size a := fun i k0_t3 v506 k0_hw20 => k0_hw20.2.1
theorem k0_off651_inb : ∀ (i : grid0.Coords) (k0_t3 : Fin (k0_t3_loop i).trips) (v506 : BitVec 32) (k0_hw20 : k0_chk20 i k0_t3 v506), ∀ a, (k0_off651 v506) a + S1x16.size a ≤ S256x256.size a := fun i k0_t3 v506 k0_hw20 => k0_hw20.2.2.1
theorem k0_off652_inb : ∀ (i : grid0.Coords) (k0_t3 : Fin (k0_t3_loop i).trips) (v506 : BitVec 32) (k0_hw20 : k0_chk20 i k0_t3 v506), ∀ a, (k0_off652 v506) a + S1x16.size a ≤ S256x256.size a := fun i k0_t3 v506 k0_hw20 => k0_hw20.2.2.2.1
theorem k0_off653_inb : ∀ (i : grid0.Coords) (k0_t3 : Fin (k0_t3_loop i).trips) (v506 : BitVec 32) (k0_hw20 : k0_chk20 i k0_t3 v506), ∀ a, (k0_off653 v506) a + S1x16.size a ≤ S256x256.size a := fun i k0_t3 v506 k0_hw20 => k0_hw20.2.2.2.2.1
theorem k0_off654_inb : ∀ (i : grid0.Coords) (k0_t3 : Fin (k0_t3_loop i).trips) (v506 : BitVec 32) (k0_hw20 : k0_chk20 i k0_t3 v506), ∀ a, (k0_off654 v506) a + S1x16.size a ≤ S256x256.size a := fun i k0_t3 v506 k0_hw20 => k0_hw20.2.2.2.2.2.1
theorem k0_off655_inb : ∀ (i : grid0.Coords) (k0_t3 : Fin (k0_t3_loop i).trips) (v506 : BitVec 32) (k0_hw20 : k0_chk20 i k0_t3 v506), ∀ a, (k0_off655 v506) a + S1x16.size a ≤ S256x256.size a := fun i k0_t3 v506 k0_hw20 => k0_hw20.2.2.2.2.2.2.1
theorem k0_off656_inb : ∀ (i : grid0.Coords) (k0_t3 : Fin (k0_t3_loop i).trips) (v506 : BitVec 32) (k0_hw20 : k0_chk20 i k0_t3 v506), ∀ a, (k0_off656 v506) a + S1x16.size a ≤ S256x256.size a := fun i k0_t3 v506 k0_hw20 => k0_hw20.2.2.2.2.2.2.2.1
theorem k0_off657_inb : ∀ (i : grid0.Coords) (k0_t3 : Fin (k0_t3_loop i).trips) (v506 : BitVec 32) (k0_hw20 : k0_chk20 i k0_t3 v506), ∀ a, (k0_off657 v506) a + S1x16.size a ≤ S256x256.size a := fun i k0_t3 v506 k0_hw20 => k0_hw20.2.2.2.2.2.2.2.2.1
theorem k0_off658_inb : ∀ (i : grid0.Coords) (k0_t3 : Fin (k0_t3_loop i).trips) (v506 : BitVec 32) (k0_hw20 : k0_chk20 i k0_t3 v506), ∀ a, (k0_off658 v506) a + S1x16.size a ≤ S256x256.size a := fun i k0_t3 v506 k0_hw20 => k0_hw20.2.2.2.2.2.2.2.2.2.1
theorem k0_off659_inb : ∀ (i : grid0.Coords) (k0_t3 : Fin (k0_t3_loop i).trips) (v506 : BitVec 32) (k0_hw20 : k0_chk20 i k0_t3 v506), ∀ a, (k0_off659 v506) a + S1x16.size a ≤ S256x256.size a := fun i k0_t3 v506 k0_hw20 => k0_hw20.2.2.2.2.2.2.2.2.2.2.1
theorem k0_off660_inb : ∀ (i : grid0.Coords) (k0_t3 : Fin (k0_t3_loop i).trips) (v506 : BitVec 32) (k0_hw20 : k0_chk20 i k0_t3 v506), ∀ a, (k0_off660 v506) a + S1x16.size a ≤ S256x256.size a := fun i k0_t3 v506 k0_hw20 => k0_hw20.2.2.2.2.2.2.2.2.2.2.2.1
theorem k0_off661_inb : ∀ (i : grid0.Coords) (k0_t3 : Fin (k0_t3_loop i).trips) (v506 : BitVec 32) (k0_hw20 : k0_chk20 i k0_t3 v506), ∀ a, (k0_off661 v506) a + S1x16.size a ≤ S256x256.size a := fun i k0_t3 v506 k0_hw20 => k0_hw20.2.2.2.2.2.2.2.2.2.2.2.2.1
theorem k0_off662_inb : ∀ (i : grid0.Coords) (k0_t3 : Fin (k0_t3_loop i).trips) (v506 : BitVec 32) (k0_hw20 : k0_chk20 i k0_t3 v506), ∀ a, (k0_off662 v506) a + S1x16.size a ≤ S256x256.size a := fun i k0_t3 v506 k0_hw20 => k0_hw20.2.2.2.2.2.2.2.2.2.2.2.2.2.1
theorem k0_off663_inb : ∀ (i : grid0.Coords) (k0_t3 : Fin (k0_t3_loop i).trips) (v506 : BitVec 32) (k0_hw20 : k0_chk20 i k0_t3 v506), ∀ a, (k0_off663 v506) a + S1x16.size a ≤ S256x256.size a := fun i k0_t3 v506 k0_hw20 => k0_hw20.2.2.2.2.2.2.2.2.2.2.2.2.2.2.1
theorem k0_off664_inb : ∀ (i : grid0.Coords) (k0_t3 : Fin (k0_t3_loop i).trips) (v506 : BitVec 32) (k0_hw20 : k0_chk20 i k0_t3 v506), ∀ a, (k0_off664 v506) a + S1x16.size a ≤ S256x256.size a := fun i k0_t3 v506 k0_hw20 => k0_hw20.2.2.2.2.2.2.2.2.2.2.2.2.2.2.2.1
theorem k0_off665_inb : ∀ (i : grid0.Coords) (k0_t3 : Fin (k0_t3_loop i).trips) (v506 : BitVec 32) (k0_hw20 : k0_chk20 i k0_t3 v506), ∀ a, (k0_off665 v506) a + S1x16.size a ≤ S256x16.size a := fun i k0_t3 v506 k0_hw20 => k0_hw20.2.2.2.2.2.2.2.2.2.2.2.2.2.2.2.2

def k0_off666 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v666 : Index := Scalar.indexCast v664
  let c0_154 : Index := 0#32
  ![v666.toNat, 0]
def k0_off667 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v671 : Index := Scalar.indexCast v664
  let c16_155 : Index := 16#32
  ![v671.toNat, 16]
def k0_off668 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v676 : Index := Scalar.indexCast v664
  let c32_156 : Index := 32#32
  ![v676.toNat, 32]
def k0_off669 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v681 : Index := Scalar.indexCast v664
  let c48_157 : Index := 48#32
  ![v681.toNat, 48]
def k0_off670 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v686 : Index := Scalar.indexCast v664
  let c64_158 : Index := 64#32
  ![v686.toNat, 64]
def k0_off671 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v691 : Index := Scalar.indexCast v664
  let c80_159 : Index := 80#32
  ![v691.toNat, 80]
def k0_off672 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v696 : Index := Scalar.indexCast v664
  let c96_160 : Index := 96#32
  ![v696.toNat, 96]
def k0_off673 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v701 : Index := Scalar.indexCast v664
  let c112_161 : Index := 112#32
  ![v701.toNat, 112]
def k0_off674 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v706 : Index := Scalar.indexCast v664
  let c128_162 : Index := 128#32
  ![v706.toNat, 128]
def k0_off675 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v711 : Index := Scalar.indexCast v664
  let c144_163 : Index := 144#32
  ![v711.toNat, 144]
def k0_off676 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v716 : Index := Scalar.indexCast v664
  let c160_164 : Index := 160#32
  ![v716.toNat, 160]
def k0_off677 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v721 : Index := Scalar.indexCast v664
  let c176_165 : Index := 176#32
  ![v721.toNat, 176]
def k0_off678 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v726 : Index := Scalar.indexCast v664
  let c192_166 : Index := 192#32
  ![v726.toNat, 192]
def k0_off679 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v731 : Index := Scalar.indexCast v664
  let c208_167 : Index := 208#32
  ![v731.toNat, 208]
def k0_off680 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v736 : Index := Scalar.indexCast v664
  let c224_168 : Index := 224#32
  ![v736.toNat, 224]
def k0_off681 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_153 : BitVec 32 := 16#32
  let v663 : BitVec 32 := Scalar.muli arg31 c16_i32_153
  let c4_i32 : BitVec 32 := 4#32
  let v664 : BitVec 32 := Scalar.addi v663 c4_i32
  let v741 : Index := Scalar.indexCast v664
  let c240_169 : Index := 240#32
  ![v741.toNat, 240]
def k0_off682 (v662 : BitVec 32) : Fin 2 → Nat :=
  let v748 : Index := Scalar.indexCast v662
  let c0_172 : Index := 0#32
  ![v748.toNat, 0]

def k0_off683 (v662 : BitVec 32) : Fin 2 → Nat :=
  let v752 : Index := Scalar.indexCast v662
  let c16_173 : Index := 16#32
  ![v752.toNat, 16]
def k0_off684 (v662 : BitVec 32) : Fin 2 → Nat :=
  let v756 : Index := Scalar.indexCast v662
  let c32_174 : Index := 32#32
  ![v756.toNat, 32]
def k0_off685 (v662 : BitVec 32) : Fin 2 → Nat :=
  let v760 : Index := Scalar.indexCast v662
  let c48_175 : Index := 48#32
  ![v760.toNat, 48]
def k0_off686 (v662 : BitVec 32) : Fin 2 → Nat :=
  let v764 : Index := Scalar.indexCast v662
  let c64_176 : Index := 64#32
  ![v764.toNat, 64]
def k0_off687 (v662 : BitVec 32) : Fin 2 → Nat :=
  let v768 : Index := Scalar.indexCast v662
  let c80_177 : Index := 80#32
  ![v768.toNat, 80]
def k0_off688 (v662 : BitVec 32) : Fin 2 → Nat :=
  let v772 : Index := Scalar.indexCast v662
  let c96_178 : Index := 96#32
  ![v772.toNat, 96]
def k0_off689 (v662 : BitVec 32) : Fin 2 → Nat :=
  let v776 : Index := Scalar.indexCast v662
  let c112_179 : Index := 112#32
  ![v776.toNat, 112]
def k0_off690 (v662 : BitVec 32) : Fin 2 → Nat :=
  let v780 : Index := Scalar.indexCast v662
  let c128_180 : Index := 128#32
  ![v780.toNat, 128]
def k0_off691 (v662 : BitVec 32) : Fin 2 → Nat :=
  let v784 : Index := Scalar.indexCast v662
  let c144_181 : Index := 144#32
  ![v784.toNat, 144]
def k0_off692 (v662 : BitVec 32) : Fin 2 → Nat :=
  let v788 : Index := Scalar.indexCast v662
  let c160_182 : Index := 160#32
  ![v788.toNat, 160]
def k0_off693 (v662 : BitVec 32) : Fin 2 → Nat :=
  let v792 : Index := Scalar.indexCast v662
  let c176_183 : Index := 176#32
  ![v792.toNat, 176]
def k0_off694 (v662 : BitVec 32) : Fin 2 → Nat :=
  let v796 : Index := Scalar.indexCast v662
  let c192_184 : Index := 192#32
  ![v796.toNat, 192]
def k0_off695 (v662 : BitVec 32) : Fin 2 → Nat :=
  let v800 : Index := Scalar.indexCast v662
  let c208_185 : Index := 208#32
  ![v800.toNat, 208]
def k0_off696 (v662 : BitVec 32) : Fin 2 → Nat :=
  let v804 : Index := Scalar.indexCast v662
  let c224_186 : Index := 224#32
  ![v804.toNat, 224]
def k0_off697 (v662 : BitVec 32) : Fin 2 → Nat :=
  let v808 : Index := Scalar.indexCast v662
  let c240_187 : Index := 240#32
  ![v808.toNat, 240]
def k0_off698 (v662 : BitVec 32) : Fin 2 → Nat :=
  let v813 : Index := Scalar.indexCast v662
  let c0_188 : Index := 0#32
  ![v813.toNat, 0]

def k0_chk21 (i : grid0.Coords) (k0_t3 : Fin (k0_t3_loop i).trips) (v662 : BitVec 32) : Prop :=
  (∀ a, (k0_off682 v662) a + S1x16.size a ≤ S256x256.size a) ∧
  (∀ a, (k0_off683 v662) a + S1x16.size a ≤ S256x256.size a) ∧
  (∀ a, (k0_off684 v662) a + S1x16.size a ≤ S256x256.size a) ∧
  (∀ a, (k0_off685 v662) a + S1x16.size a ≤ S256x256.size a) ∧
  (∀ a, (k0_off686 v662) a + S1x16.size a ≤ S256x256.size a) ∧
  (∀ a, (k0_off687 v662) a + S1x16.size a ≤ S256x256.size a) ∧
  (∀ a, (k0_off688 v662) a + S1x16.size a ≤ S256x256.size a) ∧
  (∀ a, (k0_off689 v662) a + S1x16.size a ≤ S256x256.size a) ∧
  (∀ a, (k0_off690 v662) a + S1x16.size a ≤ S256x256.size a) ∧
  (∀ a, (k0_off691 v662) a + S1x16.size a ≤ S256x256.size a) ∧
  (∀ a, (k0_off692 v662) a + S1x16.size a ≤ S256x256.size a) ∧
  (∀ a, (k0_off693 v662) a + S1x16.size a ≤ S256x256.size a) ∧
  (∀ a, (k0_off694 v662) a + S1x16.size a ≤ S256x256.size a) ∧
  (∀ a, (k0_off695 v662) a + S1x16.size a ≤ S256x256.size a) ∧
  (∀ a, (k0_off696 v662) a + S1x16.size a ≤ S256x256.size a) ∧
  (∀ a, (k0_off697 v662) a + S1x16.size a ≤ S256x256.size a) ∧
  (∀ a, (k0_off698 v662) a + S1x16.size a ≤ S256x16.size a)
theorem k0_off682_inb : ∀ (i : grid0.Coords) (k0_t3 : Fin (k0_t3_loop i).trips) (v662 : BitVec 32) (k0_hw21 : k0_chk21 i k0_t3 v662), ∀ a, (k0_off682 v662) a + S1x16.size a ≤ S256x256.size a := fun i k0_t3 v662 k0_hw21 => k0_hw21.1
theorem k0_off683_inb : ∀ (i : grid0.Coords) (k0_t3 : Fin (k0_t3_loop i).trips) (v662 : BitVec 32) (k0_hw21 : k0_chk21 i k0_t3 v662), ∀ a, (k0_off683 v662) a + S1x16.size a ≤ S256x256.size a := fun i k0_t3 v662 k0_hw21 => k0_hw21.2.1
theorem k0_off684_inb : ∀ (i : grid0.Coords) (k0_t3 : Fin (k0_t3_loop i).trips) (v662 : BitVec 32) (k0_hw21 : k0_chk21 i k0_t3 v662), ∀ a, (k0_off684 v662) a + S1x16.size a ≤ S256x256.size a := fun i k0_t3 v662 k0_hw21 => k0_hw21.2.2.1
theorem k0_off685_inb : ∀ (i : grid0.Coords) (k0_t3 : Fin (k0_t3_loop i).trips) (v662 : BitVec 32) (k0_hw21 : k0_chk21 i k0_t3 v662), ∀ a, (k0_off685 v662) a + S1x16.size a ≤ S256x256.size a := fun i k0_t3 v662 k0_hw21 => k0_hw21.2.2.2.1
theorem k0_off686_inb : ∀ (i : grid0.Coords) (k0_t3 : Fin (k0_t3_loop i).trips) (v662 : BitVec 32) (k0_hw21 : k0_chk21 i k0_t3 v662), ∀ a, (k0_off686 v662) a + S1x16.size a ≤ S256x256.size a := fun i k0_t3 v662 k0_hw21 => k0_hw21.2.2.2.2.1
theorem k0_off687_inb : ∀ (i : grid0.Coords) (k0_t3 : Fin (k0_t3_loop i).trips) (v662 : BitVec 32) (k0_hw21 : k0_chk21 i k0_t3 v662), ∀ a, (k0_off687 v662) a + S1x16.size a ≤ S256x256.size a := fun i k0_t3 v662 k0_hw21 => k0_hw21.2.2.2.2.2.1
theorem k0_off688_inb : ∀ (i : grid0.Coords) (k0_t3 : Fin (k0_t3_loop i).trips) (v662 : BitVec 32) (k0_hw21 : k0_chk21 i k0_t3 v662), ∀ a, (k0_off688 v662) a + S1x16.size a ≤ S256x256.size a := fun i k0_t3 v662 k0_hw21 => k0_hw21.2.2.2.2.2.2.1
theorem k0_off689_inb : ∀ (i : grid0.Coords) (k0_t3 : Fin (k0_t3_loop i).trips) (v662 : BitVec 32) (k0_hw21 : k0_chk21 i k0_t3 v662), ∀ a, (k0_off689 v662) a + S1x16.size a ≤ S256x256.size a := fun i k0_t3 v662 k0_hw21 => k0_hw21.2.2.2.2.2.2.2.1
theorem k0_off690_inb : ∀ (i : grid0.Coords) (k0_t3 : Fin (k0_t3_loop i).trips) (v662 : BitVec 32) (k0_hw21 : k0_chk21 i k0_t3 v662), ∀ a, (k0_off690 v662) a + S1x16.size a ≤ S256x256.size a := fun i k0_t3 v662 k0_hw21 => k0_hw21.2.2.2.2.2.2.2.2.1
theorem k0_off691_inb : ∀ (i : grid0.Coords) (k0_t3 : Fin (k0_t3_loop i).trips) (v662 : BitVec 32) (k0_hw21 : k0_chk21 i k0_t3 v662), ∀ a, (k0_off691 v662) a + S1x16.size a ≤ S256x256.size a := fun i k0_t3 v662 k0_hw21 => k0_hw21.2.2.2.2.2.2.2.2.2.1
theorem k0_off692_inb : ∀ (i : grid0.Coords) (k0_t3 : Fin (k0_t3_loop i).trips) (v662 : BitVec 32) (k0_hw21 : k0_chk21 i k0_t3 v662), ∀ a, (k0_off692 v662) a + S1x16.size a ≤ S256x256.size a := fun i k0_t3 v662 k0_hw21 => k0_hw21.2.2.2.2.2.2.2.2.2.2.1
theorem k0_off693_inb : ∀ (i : grid0.Coords) (k0_t3 : Fin (k0_t3_loop i).trips) (v662 : BitVec 32) (k0_hw21 : k0_chk21 i k0_t3 v662), ∀ a, (k0_off693 v662) a + S1x16.size a ≤ S256x256.size a := fun i k0_t3 v662 k0_hw21 => k0_hw21.2.2.2.2.2.2.2.2.2.2.2.1
theorem k0_off694_inb : ∀ (i : grid0.Coords) (k0_t3 : Fin (k0_t3_loop i).trips) (v662 : BitVec 32) (k0_hw21 : k0_chk21 i k0_t3 v662), ∀ a, (k0_off694 v662) a + S1x16.size a ≤ S256x256.size a := fun i k0_t3 v662 k0_hw21 => k0_hw21.2.2.2.2.2.2.2.2.2.2.2.2.1
theorem k0_off695_inb : ∀ (i : grid0.Coords) (k0_t3 : Fin (k0_t3_loop i).trips) (v662 : BitVec 32) (k0_hw21 : k0_chk21 i k0_t3 v662), ∀ a, (k0_off695 v662) a + S1x16.size a ≤ S256x256.size a := fun i k0_t3 v662 k0_hw21 => k0_hw21.2.2.2.2.2.2.2.2.2.2.2.2.2.1
theorem k0_off696_inb : ∀ (i : grid0.Coords) (k0_t3 : Fin (k0_t3_loop i).trips) (v662 : BitVec 32) (k0_hw21 : k0_chk21 i k0_t3 v662), ∀ a, (k0_off696 v662) a + S1x16.size a ≤ S256x256.size a := fun i k0_t3 v662 k0_hw21 => k0_hw21.2.2.2.2.2.2.2.2.2.2.2.2.2.2.1
theorem k0_off697_inb : ∀ (i : grid0.Coords) (k0_t3 : Fin (k0_t3_loop i).trips) (v662 : BitVec 32) (k0_hw21 : k0_chk21 i k0_t3 v662), ∀ a, (k0_off697 v662) a + S1x16.size a ≤ S256x256.size a := fun i k0_t3 v662 k0_hw21 => k0_hw21.2.2.2.2.2.2.2.2.2.2.2.2.2.2.2.1
theorem k0_off698_inb : ∀ (i : grid0.Coords) (k0_t3 : Fin (k0_t3_loop i).trips) (v662 : BitVec 32) (k0_hw21 : k0_chk21 i k0_t3 v662), ∀ a, (k0_off698 v662) a + S1x16.size a ≤ S256x16.size a := fun i k0_t3 v662 k0_hw21 => k0_hw21.2.2.2.2.2.2.2.2.2.2.2.2.2.2.2.2

def k0_off699 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v822 : Index := Scalar.indexCast v820
  let c0_191 : Index := 0#32
  ![v822.toNat, 0]
def k0_off700 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v827 : Index := Scalar.indexCast v820
  let c16_192 : Index := 16#32
  ![v827.toNat, 16]
def k0_off701 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v832 : Index := Scalar.indexCast v820
  let c32_193 : Index := 32#32
  ![v832.toNat, 32]
def k0_off702 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v837 : Index := Scalar.indexCast v820
  let c48_194 : Index := 48#32
  ![v837.toNat, 48]
def k0_off703 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v842 : Index := Scalar.indexCast v820
  let c64_195 : Index := 64#32
  ![v842.toNat, 64]
def k0_off704 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v847 : Index := Scalar.indexCast v820
  let c80_196 : Index := 80#32
  ![v847.toNat, 80]
def k0_off705 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v852 : Index := Scalar.indexCast v820
  let c96_197 : Index := 96#32
  ![v852.toNat, 96]
def k0_off706 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v857 : Index := Scalar.indexCast v820
  let c112_198 : Index := 112#32
  ![v857.toNat, 112]
def k0_off707 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v862 : Index := Scalar.indexCast v820
  let c128_199 : Index := 128#32
  ![v862.toNat, 128]
def k0_off708 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v867 : Index := Scalar.indexCast v820
  let c144_200 : Index := 144#32
  ![v867.toNat, 144]
def k0_off709 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v872 : Index := Scalar.indexCast v820
  let c160_201 : Index := 160#32
  ![v872.toNat, 160]
def k0_off710 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v877 : Index := Scalar.indexCast v820
  let c176_202 : Index := 176#32
  ![v877.toNat, 176]
def k0_off711 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v882 : Index := Scalar.indexCast v820
  let c192_203 : Index := 192#32
  ![v882.toNat, 192]
def k0_off712 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v887 : Index := Scalar.indexCast v820
  let c208_204 : Index := 208#32
  ![v887.toNat, 208]
def k0_off713 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v892 : Index := Scalar.indexCast v820
  let c224_205 : Index := 224#32
  ![v892.toNat, 224]
def k0_off714 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_189 : BitVec 32 := 16#32
  let v819 : BitVec 32 := Scalar.muli arg31 c16_i32_189
  let c5_i32_190 : BitVec 32 := 5#32
  let v820 : BitVec 32 := Scalar.addi v819 c5_i32_190
  let v897 : Index := Scalar.indexCast v820
  let c240_206 : Index := 240#32
  ![v897.toNat, 240]
def k0_off715 (v818 : BitVec 32) : Fin 2 → Nat :=
  let v904 : Index := Scalar.indexCast v818
  let c0_209 : Index := 0#32
  ![v904.toNat, 0]

def k0_off716 (v818 : BitVec 32) : Fin 2 → Nat :=
  let v908 : Index := Scalar.indexCast v818
  let c16_210 : Index := 16#32
  ![v908.toNat, 16]
def k0_off717 (v818 : BitVec 32) : Fin 2 → Nat :=
  let v912 : Index := Scalar.indexCast v818
  let c32_211 : Index := 32#32
  ![v912.toNat, 32]
def k0_off718 (v818 : BitVec 32) : Fin 2 → Nat :=
  let v916 : Index := Scalar.indexCast v818
  let c48_212 : Index := 48#32
  ![v916.toNat, 48]
def k0_off719 (v818 : BitVec 32) : Fin 2 → Nat :=
  let v920 : Index := Scalar.indexCast v818
  let c64_213 : Index := 64#32
  ![v920.toNat, 64]
def k0_off720 (v818 : BitVec 32) : Fin 2 → Nat :=
  let v924 : Index := Scalar.indexCast v818
  let c80_214 : Index := 80#32
  ![v924.toNat, 80]
def k0_off721 (v818 : BitVec 32) : Fin 2 → Nat :=
  let v928 : Index := Scalar.indexCast v818
  let c96_215 : Index := 96#32
  ![v928.toNat, 96]
def k0_off722 (v818 : BitVec 32) : Fin 2 → Nat :=
  let v932 : Index := Scalar.indexCast v818
  let c112_216 : Index := 112#32
  ![v932.toNat, 112]
def k0_off723 (v818 : BitVec 32) : Fin 2 → Nat :=
  let v936 : Index := Scalar.indexCast v818
  let c128_217 : Index := 128#32
  ![v936.toNat, 128]
def k0_off724 (v818 : BitVec 32) : Fin 2 → Nat :=
  let v940 : Index := Scalar.indexCast v818
  let c144_218 : Index := 144#32
  ![v940.toNat, 144]
def k0_off725 (v818 : BitVec 32) : Fin 2 → Nat :=
  let v944 : Index := Scalar.indexCast v818
  let c160_219 : Index := 160#32
  ![v944.toNat, 160]
def k0_off726 (v818 : BitVec 32) : Fin 2 → Nat :=
  let v948 : Index := Scalar.indexCast v818
  let c176_220 : Index := 176#32
  ![v948.toNat, 176]
def k0_off727 (v818 : BitVec 32) : Fin 2 → Nat :=
  let v952 : Index := Scalar.indexCast v818
  let c192_221 : Index := 192#32
  ![v952.toNat, 192]
def k0_off728 (v818 : BitVec 32) : Fin 2 → Nat :=
  let v956 : Index := Scalar.indexCast v818
  let c208_222 : Index := 208#32
  ![v956.toNat, 208]
def k0_off729 (v818 : BitVec 32) : Fin 2 → Nat :=
  let v960 : Index := Scalar.indexCast v818
  let c224_223 : Index := 224#32
  ![v960.toNat, 224]
def k0_off730 (v818 : BitVec 32) : Fin 2 → Nat :=
  let v964 : Index := Scalar.indexCast v818
  let c240_224 : Index := 240#32
  ![v964.toNat, 240]
def k0_off731 (v818 : BitVec 32) : Fin 2 → Nat :=
  let v969 : Index := Scalar.indexCast v818
  let c0_225 : Index := 0#32
  ![v969.toNat, 0]

def k0_chk22 (i : grid0.Coords) (k0_t3 : Fin (k0_t3_loop i).trips) (v818 : BitVec 32) : Prop :=
  (∀ a, (k0_off715 v818) a + S1x16.size a ≤ S256x256.size a) ∧
  (∀ a, (k0_off716 v818) a + S1x16.size a ≤ S256x256.size a) ∧
  (∀ a, (k0_off717 v818) a + S1x16.size a ≤ S256x256.size a) ∧
  (∀ a, (k0_off718 v818) a + S1x16.size a ≤ S256x256.size a) ∧
  (∀ a, (k0_off719 v818) a + S1x16.size a ≤ S256x256.size a) ∧
  (∀ a, (k0_off720 v818) a + S1x16.size a ≤ S256x256.size a) ∧
  (∀ a, (k0_off721 v818) a + S1x16.size a ≤ S256x256.size a) ∧
  (∀ a, (k0_off722 v818) a + S1x16.size a ≤ S256x256.size a) ∧
  (∀ a, (k0_off723 v818) a + S1x16.size a ≤ S256x256.size a) ∧
  (∀ a, (k0_off724 v818) a + S1x16.size a ≤ S256x256.size a) ∧
  (∀ a, (k0_off725 v818) a + S1x16.size a ≤ S256x256.size a) ∧
  (∀ a, (k0_off726 v818) a + S1x16.size a ≤ S256x256.size a) ∧
  (∀ a, (k0_off727 v818) a + S1x16.size a ≤ S256x256.size a) ∧
  (∀ a, (k0_off728 v818) a + S1x16.size a ≤ S256x256.size a) ∧
  (∀ a, (k0_off729 v818) a + S1x16.size a ≤ S256x256.size a) ∧
  (∀ a, (k0_off730 v818) a + S1x16.size a ≤ S256x256.size a) ∧
  (∀ a, (k0_off731 v818) a + S1x16.size a ≤ S256x16.size a)
theorem k0_off715_inb : ∀ (i : grid0.Coords) (k0_t3 : Fin (k0_t3_loop i).trips) (v818 : BitVec 32) (k0_hw22 : k0_chk22 i k0_t3 v818), ∀ a, (k0_off715 v818) a + S1x16.size a ≤ S256x256.size a := fun i k0_t3 v818 k0_hw22 => k0_hw22.1
theorem k0_off716_inb : ∀ (i : grid0.Coords) (k0_t3 : Fin (k0_t3_loop i).trips) (v818 : BitVec 32) (k0_hw22 : k0_chk22 i k0_t3 v818), ∀ a, (k0_off716 v818) a + S1x16.size a ≤ S256x256.size a := fun i k0_t3 v818 k0_hw22 => k0_hw22.2.1
theorem k0_off717_inb : ∀ (i : grid0.Coords) (k0_t3 : Fin (k0_t3_loop i).trips) (v818 : BitVec 32) (k0_hw22 : k0_chk22 i k0_t3 v818), ∀ a, (k0_off717 v818) a + S1x16.size a ≤ S256x256.size a := fun i k0_t3 v818 k0_hw22 => k0_hw22.2.2.1
theorem k0_off718_inb : ∀ (i : grid0.Coords) (k0_t3 : Fin (k0_t3_loop i).trips) (v818 : BitVec 32) (k0_hw22 : k0_chk22 i k0_t3 v818), ∀ a, (k0_off718 v818) a + S1x16.size a ≤ S256x256.size a := fun i k0_t3 v818 k0_hw22 => k0_hw22.2.2.2.1
theorem k0_off719_inb : ∀ (i : grid0.Coords) (k0_t3 : Fin (k0_t3_loop i).trips) (v818 : BitVec 32) (k0_hw22 : k0_chk22 i k0_t3 v818), ∀ a, (k0_off719 v818) a + S1x16.size a ≤ S256x256.size a := fun i k0_t3 v818 k0_hw22 => k0_hw22.2.2.2.2.1
theorem k0_off720_inb : ∀ (i : grid0.Coords) (k0_t3 : Fin (k0_t3_loop i).trips) (v818 : BitVec 32) (k0_hw22 : k0_chk22 i k0_t3 v818), ∀ a, (k0_off720 v818) a + S1x16.size a ≤ S256x256.size a := fun i k0_t3 v818 k0_hw22 => k0_hw22.2.2.2.2.2.1
theorem k0_off721_inb : ∀ (i : grid0.Coords) (k0_t3 : Fin (k0_t3_loop i).trips) (v818 : BitVec 32) (k0_hw22 : k0_chk22 i k0_t3 v818), ∀ a, (k0_off721 v818) a + S1x16.size a ≤ S256x256.size a := fun i k0_t3 v818 k0_hw22 => k0_hw22.2.2.2.2.2.2.1
theorem k0_off722_inb : ∀ (i : grid0.Coords) (k0_t3 : Fin (k0_t3_loop i).trips) (v818 : BitVec 32) (k0_hw22 : k0_chk22 i k0_t3 v818), ∀ a, (k0_off722 v818) a + S1x16.size a ≤ S256x256.size a := fun i k0_t3 v818 k0_hw22 => k0_hw22.2.2.2.2.2.2.2.1
theorem k0_off723_inb : ∀ (i : grid0.Coords) (k0_t3 : Fin (k0_t3_loop i).trips) (v818 : BitVec 32) (k0_hw22 : k0_chk22 i k0_t3 v818), ∀ a, (k0_off723 v818) a + S1x16.size a ≤ S256x256.size a := fun i k0_t3 v818 k0_hw22 => k0_hw22.2.2.2.2.2.2.2.2.1
theorem k0_off724_inb : ∀ (i : grid0.Coords) (k0_t3 : Fin (k0_t3_loop i).trips) (v818 : BitVec 32) (k0_hw22 : k0_chk22 i k0_t3 v818), ∀ a, (k0_off724 v818) a + S1x16.size a ≤ S256x256.size a := fun i k0_t3 v818 k0_hw22 => k0_hw22.2.2.2.2.2.2.2.2.2.1
theorem k0_off725_inb : ∀ (i : grid0.Coords) (k0_t3 : Fin (k0_t3_loop i).trips) (v818 : BitVec 32) (k0_hw22 : k0_chk22 i k0_t3 v818), ∀ a, (k0_off725 v818) a + S1x16.size a ≤ S256x256.size a := fun i k0_t3 v818 k0_hw22 => k0_hw22.2.2.2.2.2.2.2.2.2.2.1
theorem k0_off726_inb : ∀ (i : grid0.Coords) (k0_t3 : Fin (k0_t3_loop i).trips) (v818 : BitVec 32) (k0_hw22 : k0_chk22 i k0_t3 v818), ∀ a, (k0_off726 v818) a + S1x16.size a ≤ S256x256.size a := fun i k0_t3 v818 k0_hw22 => k0_hw22.2.2.2.2.2.2.2.2.2.2.2.1
theorem k0_off727_inb : ∀ (i : grid0.Coords) (k0_t3 : Fin (k0_t3_loop i).trips) (v818 : BitVec 32) (k0_hw22 : k0_chk22 i k0_t3 v818), ∀ a, (k0_off727 v818) a + S1x16.size a ≤ S256x256.size a := fun i k0_t3 v818 k0_hw22 => k0_hw22.2.2.2.2.2.2.2.2.2.2.2.2.1
theorem k0_off728_inb : ∀ (i : grid0.Coords) (k0_t3 : Fin (k0_t3_loop i).trips) (v818 : BitVec 32) (k0_hw22 : k0_chk22 i k0_t3 v818), ∀ a, (k0_off728 v818) a + S1x16.size a ≤ S256x256.size a := fun i k0_t3 v818 k0_hw22 => k0_hw22.2.2.2.2.2.2.2.2.2.2.2.2.2.1
theorem k0_off729_inb : ∀ (i : grid0.Coords) (k0_t3 : Fin (k0_t3_loop i).trips) (v818 : BitVec 32) (k0_hw22 : k0_chk22 i k0_t3 v818), ∀ a, (k0_off729 v818) a + S1x16.size a ≤ S256x256.size a := fun i k0_t3 v818 k0_hw22 => k0_hw22.2.2.2.2.2.2.2.2.2.2.2.2.2.2.1
theorem k0_off730_inb : ∀ (i : grid0.Coords) (k0_t3 : Fin (k0_t3_loop i).trips) (v818 : BitVec 32) (k0_hw22 : k0_chk22 i k0_t3 v818), ∀ a, (k0_off730 v818) a + S1x16.size a ≤ S256x256.size a := fun i k0_t3 v818 k0_hw22 => k0_hw22.2.2.2.2.2.2.2.2.2.2.2.2.2.2.2.1
theorem k0_off731_inb : ∀ (i : grid0.Coords) (k0_t3 : Fin (k0_t3_loop i).trips) (v818 : BitVec 32) (k0_hw22 : k0_chk22 i k0_t3 v818), ∀ a, (k0_off731 v818) a + S1x16.size a ≤ S256x16.size a := fun i k0_t3 v818 k0_hw22 => k0_hw22.2.2.2.2.2.2.2.2.2.2.2.2.2.2.2.2

def k0_off732 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v978 : Index := Scalar.indexCast v976
  let c0_227 : Index := 0#32
  ![v978.toNat, 0]
def k0_off733 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v983 : Index := Scalar.indexCast v976
  let c16_228 : Index := 16#32
  ![v983.toNat, 16]
def k0_off734 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v988 : Index := Scalar.indexCast v976
  let c32_229 : Index := 32#32
  ![v988.toNat, 32]
def k0_off735 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v993 : Index := Scalar.indexCast v976
  let c48_230 : Index := 48#32
  ![v993.toNat, 48]
def k0_off736 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v998 : Index := Scalar.indexCast v976
  let c64_231 : Index := 64#32
  ![v998.toNat, 64]
def k0_off737 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1003 : Index := Scalar.indexCast v976
  let c80_232 : Index := 80#32
  ![v1003.toNat, 80]
def k0_off738 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1008 : Index := Scalar.indexCast v976
  let c96_233 : Index := 96#32
  ![v1008.toNat, 96]
def k0_off739 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1013 : Index := Scalar.indexCast v976
  let c112_234 : Index := 112#32
  ![v1013.toNat, 112]
def k0_off740 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1018 : Index := Scalar.indexCast v976
  let c128_235 : Index := 128#32
  ![v1018.toNat, 128]
def k0_off741 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1023 : Index := Scalar.indexCast v976
  let c144_236 : Index := 144#32
  ![v1023.toNat, 144]
def k0_off742 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1028 : Index := Scalar.indexCast v976
  let c160_237 : Index := 160#32
  ![v1028.toNat, 160]
def k0_off743 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1033 : Index := Scalar.indexCast v976
  let c176_238 : Index := 176#32
  ![v1033.toNat, 176]
def k0_off744 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1038 : Index := Scalar.indexCast v976
  let c192_239 : Index := 192#32
  ![v1038.toNat, 192]
def k0_off745 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1043 : Index := Scalar.indexCast v976
  let c208_240 : Index := 208#32
  ![v1043.toNat, 208]
def k0_off746 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1048 : Index := Scalar.indexCast v976
  let c224_241 : Index := 224#32
  ![v1048.toNat, 224]
def k0_off747 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_226 : BitVec 32 := 16#32
  let v975 : BitVec 32 := Scalar.muli arg31 c16_i32_226
  let c6_i32 : BitVec 32 := 6#32
  let v976 : BitVec 32 := Scalar.addi v975 c6_i32
  let v1053 : Index := Scalar.indexCast v976
  let c240_242 : Index := 240#32
  ![v1053.toNat, 240]
def k0_off748 (v974 : BitVec 32) : Fin 2 → Nat :=
  let v1060 : Index := Scalar.indexCast v974
  let c0_245 : Index := 0#32
  ![v1060.toNat, 0]

def k0_off749 (v974 : BitVec 32) : Fin 2 → Nat :=
  let v1064 : Index := Scalar.indexCast v974
  let c16_246 : Index := 16#32
  ![v1064.toNat, 16]
def k0_off750 (v974 : BitVec 32) : Fin 2 → Nat :=
  let v1068 : Index := Scalar.indexCast v974
  let c32_247 : Index := 32#32
  ![v1068.toNat, 32]
def k0_off751 (v974 : BitVec 32) : Fin 2 → Nat :=
  let v1072 : Index := Scalar.indexCast v974
  let c48_248 : Index := 48#32
  ![v1072.toNat, 48]
def k0_off752 (v974 : BitVec 32) : Fin 2 → Nat :=
  let v1076 : Index := Scalar.indexCast v974
  let c64_249 : Index := 64#32
  ![v1076.toNat, 64]
def k0_off753 (v974 : BitVec 32) : Fin 2 → Nat :=
  let v1080 : Index := Scalar.indexCast v974
  let c80_250 : Index := 80#32
  ![v1080.toNat, 80]
def k0_off754 (v974 : BitVec 32) : Fin 2 → Nat :=
  let v1084 : Index := Scalar.indexCast v974
  let c96_251 : Index := 96#32
  ![v1084.toNat, 96]
def k0_off755 (v974 : BitVec 32) : Fin 2 → Nat :=
  let v1088 : Index := Scalar.indexCast v974
  let c112_252 : Index := 112#32
  ![v1088.toNat, 112]
def k0_off756 (v974 : BitVec 32) : Fin 2 → Nat :=
  let v1092 : Index := Scalar.indexCast v974
  let c128_253 : Index := 128#32
  ![v1092.toNat, 128]
def k0_off757 (v974 : BitVec 32) : Fin 2 → Nat :=
  let v1096 : Index := Scalar.indexCast v974
  let c144_254 : Index := 144#32
  ![v1096.toNat, 144]
def k0_off758 (v974 : BitVec 32) : Fin 2 → Nat :=
  let v1100 : Index := Scalar.indexCast v974
  let c160_255 : Index := 160#32
  ![v1100.toNat, 160]
def k0_off759 (v974 : BitVec 32) : Fin 2 → Nat :=
  let v1104 : Index := Scalar.indexCast v974
  let c176_256 : Index := 176#32
  ![v1104.toNat, 176]
def k0_off760 (v974 : BitVec 32) : Fin 2 → Nat :=
  let v1108 : Index := Scalar.indexCast v974
  let c192_257 : Index := 192#32
  ![v1108.toNat, 192]
def k0_off761 (v974 : BitVec 32) : Fin 2 → Nat :=
  let v1112 : Index := Scalar.indexCast v974
  let c208_258 : Index := 208#32
  ![v1112.toNat, 208]
def k0_off762 (v974 : BitVec 32) : Fin 2 → Nat :=
  let v1116 : Index := Scalar.indexCast v974
  let c224_259 : Index := 224#32
  ![v1116.toNat, 224]
def k0_off763 (v974 : BitVec 32) : Fin 2 → Nat :=
  let v1120 : Index := Scalar.indexCast v974
  let c240_260 : Index := 240#32
  ![v1120.toNat, 240]
def k0_off764 (v974 : BitVec 32) : Fin 2 → Nat :=
  let v1125 : Index := Scalar.indexCast v974
  let c0_261 : Index := 0#32
  ![v1125.toNat, 0]

def k0_chk23 (i : grid0.Coords) (k0_t3 : Fin (k0_t3_loop i).trips) (v974 : BitVec 32) : Prop :=
  (∀ a, (k0_off748 v974) a + S1x16.size a ≤ S256x256.size a) ∧
  (∀ a, (k0_off749 v974) a + S1x16.size a ≤ S256x256.size a) ∧
  (∀ a, (k0_off750 v974) a + S1x16.size a ≤ S256x256.size a) ∧
  (∀ a, (k0_off751 v974) a + S1x16.size a ≤ S256x256.size a) ∧
  (∀ a, (k0_off752 v974) a + S1x16.size a ≤ S256x256.size a) ∧
  (∀ a, (k0_off753 v974) a + S1x16.size a ≤ S256x256.size a) ∧
  (∀ a, (k0_off754 v974) a + S1x16.size a ≤ S256x256.size a) ∧
  (∀ a, (k0_off755 v974) a + S1x16.size a ≤ S256x256.size a) ∧
  (∀ a, (k0_off756 v974) a + S1x16.size a ≤ S256x256.size a) ∧
  (∀ a, (k0_off757 v974) a + S1x16.size a ≤ S256x256.size a) ∧
  (∀ a, (k0_off758 v974) a + S1x16.size a ≤ S256x256.size a) ∧
  (∀ a, (k0_off759 v974) a + S1x16.size a ≤ S256x256.size a) ∧
  (∀ a, (k0_off760 v974) a + S1x16.size a ≤ S256x256.size a) ∧
  (∀ a, (k0_off761 v974) a + S1x16.size a ≤ S256x256.size a) ∧
  (∀ a, (k0_off762 v974) a + S1x16.size a ≤ S256x256.size a) ∧
  (∀ a, (k0_off763 v974) a + S1x16.size a ≤ S256x256.size a) ∧
  (∀ a, (k0_off764 v974) a + S1x16.size a ≤ S256x16.size a)
theorem k0_off748_inb : ∀ (i : grid0.Coords) (k0_t3 : Fin (k0_t3_loop i).trips) (v974 : BitVec 32) (k0_hw23 : k0_chk23 i k0_t3 v974), ∀ a, (k0_off748 v974) a + S1x16.size a ≤ S256x256.size a := fun i k0_t3 v974 k0_hw23 => k0_hw23.1
theorem k0_off749_inb : ∀ (i : grid0.Coords) (k0_t3 : Fin (k0_t3_loop i).trips) (v974 : BitVec 32) (k0_hw23 : k0_chk23 i k0_t3 v974), ∀ a, (k0_off749 v974) a + S1x16.size a ≤ S256x256.size a := fun i k0_t3 v974 k0_hw23 => k0_hw23.2.1
theorem k0_off750_inb : ∀ (i : grid0.Coords) (k0_t3 : Fin (k0_t3_loop i).trips) (v974 : BitVec 32) (k0_hw23 : k0_chk23 i k0_t3 v974), ∀ a, (k0_off750 v974) a + S1x16.size a ≤ S256x256.size a := fun i k0_t3 v974 k0_hw23 => k0_hw23.2.2.1
theorem k0_off751_inb : ∀ (i : grid0.Coords) (k0_t3 : Fin (k0_t3_loop i).trips) (v974 : BitVec 32) (k0_hw23 : k0_chk23 i k0_t3 v974), ∀ a, (k0_off751 v974) a + S1x16.size a ≤ S256x256.size a := fun i k0_t3 v974 k0_hw23 => k0_hw23.2.2.2.1
theorem k0_off752_inb : ∀ (i : grid0.Coords) (k0_t3 : Fin (k0_t3_loop i).trips) (v974 : BitVec 32) (k0_hw23 : k0_chk23 i k0_t3 v974), ∀ a, (k0_off752 v974) a + S1x16.size a ≤ S256x256.size a := fun i k0_t3 v974 k0_hw23 => k0_hw23.2.2.2.2.1
theorem k0_off753_inb : ∀ (i : grid0.Coords) (k0_t3 : Fin (k0_t3_loop i).trips) (v974 : BitVec 32) (k0_hw23 : k0_chk23 i k0_t3 v974), ∀ a, (k0_off753 v974) a + S1x16.size a ≤ S256x256.size a := fun i k0_t3 v974 k0_hw23 => k0_hw23.2.2.2.2.2.1
theorem k0_off754_inb : ∀ (i : grid0.Coords) (k0_t3 : Fin (k0_t3_loop i).trips) (v974 : BitVec 32) (k0_hw23 : k0_chk23 i k0_t3 v974), ∀ a, (k0_off754 v974) a + S1x16.size a ≤ S256x256.size a := fun i k0_t3 v974 k0_hw23 => k0_hw23.2.2.2.2.2.2.1
theorem k0_off755_inb : ∀ (i : grid0.Coords) (k0_t3 : Fin (k0_t3_loop i).trips) (v974 : BitVec 32) (k0_hw23 : k0_chk23 i k0_t3 v974), ∀ a, (k0_off755 v974) a + S1x16.size a ≤ S256x256.size a := fun i k0_t3 v974 k0_hw23 => k0_hw23.2.2.2.2.2.2.2.1
theorem k0_off756_inb : ∀ (i : grid0.Coords) (k0_t3 : Fin (k0_t3_loop i).trips) (v974 : BitVec 32) (k0_hw23 : k0_chk23 i k0_t3 v974), ∀ a, (k0_off756 v974) a + S1x16.size a ≤ S256x256.size a := fun i k0_t3 v974 k0_hw23 => k0_hw23.2.2.2.2.2.2.2.2.1
theorem k0_off757_inb : ∀ (i : grid0.Coords) (k0_t3 : Fin (k0_t3_loop i).trips) (v974 : BitVec 32) (k0_hw23 : k0_chk23 i k0_t3 v974), ∀ a, (k0_off757 v974) a + S1x16.size a ≤ S256x256.size a := fun i k0_t3 v974 k0_hw23 => k0_hw23.2.2.2.2.2.2.2.2.2.1
theorem k0_off758_inb : ∀ (i : grid0.Coords) (k0_t3 : Fin (k0_t3_loop i).trips) (v974 : BitVec 32) (k0_hw23 : k0_chk23 i k0_t3 v974), ∀ a, (k0_off758 v974) a + S1x16.size a ≤ S256x256.size a := fun i k0_t3 v974 k0_hw23 => k0_hw23.2.2.2.2.2.2.2.2.2.2.1
theorem k0_off759_inb : ∀ (i : grid0.Coords) (k0_t3 : Fin (k0_t3_loop i).trips) (v974 : BitVec 32) (k0_hw23 : k0_chk23 i k0_t3 v974), ∀ a, (k0_off759 v974) a + S1x16.size a ≤ S256x256.size a := fun i k0_t3 v974 k0_hw23 => k0_hw23.2.2.2.2.2.2.2.2.2.2.2.1
theorem k0_off760_inb : ∀ (i : grid0.Coords) (k0_t3 : Fin (k0_t3_loop i).trips) (v974 : BitVec 32) (k0_hw23 : k0_chk23 i k0_t3 v974), ∀ a, (k0_off760 v974) a + S1x16.size a ≤ S256x256.size a := fun i k0_t3 v974 k0_hw23 => k0_hw23.2.2.2.2.2.2.2.2.2.2.2.2.1
theorem k0_off761_inb : ∀ (i : grid0.Coords) (k0_t3 : Fin (k0_t3_loop i).trips) (v974 : BitVec 32) (k0_hw23 : k0_chk23 i k0_t3 v974), ∀ a, (k0_off761 v974) a + S1x16.size a ≤ S256x256.size a := fun i k0_t3 v974 k0_hw23 => k0_hw23.2.2.2.2.2.2.2.2.2.2.2.2.2.1
theorem k0_off762_inb : ∀ (i : grid0.Coords) (k0_t3 : Fin (k0_t3_loop i).trips) (v974 : BitVec 32) (k0_hw23 : k0_chk23 i k0_t3 v974), ∀ a, (k0_off762 v974) a + S1x16.size a ≤ S256x256.size a := fun i k0_t3 v974 k0_hw23 => k0_hw23.2.2.2.2.2.2.2.2.2.2.2.2.2.2.1
theorem k0_off763_inb : ∀ (i : grid0.Coords) (k0_t3 : Fin (k0_t3_loop i).trips) (v974 : BitVec 32) (k0_hw23 : k0_chk23 i k0_t3 v974), ∀ a, (k0_off763 v974) a + S1x16.size a ≤ S256x256.size a := fun i k0_t3 v974 k0_hw23 => k0_hw23.2.2.2.2.2.2.2.2.2.2.2.2.2.2.2.1
theorem k0_off764_inb : ∀ (i : grid0.Coords) (k0_t3 : Fin (k0_t3_loop i).trips) (v974 : BitVec 32) (k0_hw23 : k0_chk23 i k0_t3 v974), ∀ a, (k0_off764 v974) a + S1x16.size a ≤ S256x16.size a := fun i k0_t3 v974 k0_hw23 => k0_hw23.2.2.2.2.2.2.2.2.2.2.2.2.2.2.2.2

def k0_off765 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1134 : Index := Scalar.indexCast v1132
  let c0_263 : Index := 0#32
  ![v1134.toNat, 0]
def k0_off766 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1139 : Index := Scalar.indexCast v1132
  let c16_264 : Index := 16#32
  ![v1139.toNat, 16]
def k0_off767 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1144 : Index := Scalar.indexCast v1132
  let c32_265 : Index := 32#32
  ![v1144.toNat, 32]
def k0_off768 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1149 : Index := Scalar.indexCast v1132
  let c48_266 : Index := 48#32
  ![v1149.toNat, 48]
def k0_off769 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1154 : Index := Scalar.indexCast v1132
  let c64_267 : Index := 64#32
  ![v1154.toNat, 64]
def k0_off770 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1159 : Index := Scalar.indexCast v1132
  let c80_268 : Index := 80#32
  ![v1159.toNat, 80]
def k0_off771 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1164 : Index := Scalar.indexCast v1132
  let c96_269 : Index := 96#32
  ![v1164.toNat, 96]
def k0_off772 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1169 : Index := Scalar.indexCast v1132
  let c112_270 : Index := 112#32
  ![v1169.toNat, 112]
def k0_off773 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1174 : Index := Scalar.indexCast v1132
  let c128_271 : Index := 128#32
  ![v1174.toNat, 128]
def k0_off774 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1179 : Index := Scalar.indexCast v1132
  let c144_272 : Index := 144#32
  ![v1179.toNat, 144]
def k0_off775 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1184 : Index := Scalar.indexCast v1132
  let c160_273 : Index := 160#32
  ![v1184.toNat, 160]
def k0_off776 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1189 : Index := Scalar.indexCast v1132
  let c176_274 : Index := 176#32
  ![v1189.toNat, 176]
def k0_off777 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1194 : Index := Scalar.indexCast v1132
  let c192_275 : Index := 192#32
  ![v1194.toNat, 192]
def k0_off778 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1199 : Index := Scalar.indexCast v1132
  let c208_276 : Index := 208#32
  ![v1199.toNat, 208]
def k0_off779 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1204 : Index := Scalar.indexCast v1132
  let c224_277 : Index := 224#32
  ![v1204.toNat, 224]
def k0_off780 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_262 : BitVec 32 := 16#32
  let v1131 : BitVec 32 := Scalar.muli arg31 c16_i32_262
  let c7_i32 : BitVec 32 := 7#32
  let v1132 : BitVec 32 := Scalar.addi v1131 c7_i32
  let v1209 : Index := Scalar.indexCast v1132
  let c240_278 : Index := 240#32
  ![v1209.toNat, 240]
def k0_off781 (v1130 : BitVec 32) : Fin 2 → Nat :=
  let v1216 : Index := Scalar.indexCast v1130
  let c0_281 : Index := 0#32
  ![v1216.toNat, 0]

def k0_off782 (v1130 : BitVec 32) : Fin 2 → Nat :=
  let v1220 : Index := Scalar.indexCast v1130
  let c16_282 : Index := 16#32
  ![v1220.toNat, 16]
def k0_off783 (v1130 : BitVec 32) : Fin 2 → Nat :=
  let v1224 : Index := Scalar.indexCast v1130
  let c32_283 : Index := 32#32
  ![v1224.toNat, 32]
def k0_off784 (v1130 : BitVec 32) : Fin 2 → Nat :=
  let v1228 : Index := Scalar.indexCast v1130
  let c48_284 : Index := 48#32
  ![v1228.toNat, 48]
def k0_off785 (v1130 : BitVec 32) : Fin 2 → Nat :=
  let v1232 : Index := Scalar.indexCast v1130
  let c64_285 : Index := 64#32
  ![v1232.toNat, 64]
def k0_off786 (v1130 : BitVec 32) : Fin 2 → Nat :=
  let v1236 : Index := Scalar.indexCast v1130
  let c80_286 : Index := 80#32
  ![v1236.toNat, 80]
def k0_off787 (v1130 : BitVec 32) : Fin 2 → Nat :=
  let v1240 : Index := Scalar.indexCast v1130
  let c96_287 : Index := 96#32
  ![v1240.toNat, 96]
def k0_off788 (v1130 : BitVec 32) : Fin 2 → Nat :=
  let v1244 : Index := Scalar.indexCast v1130
  let c112_288 : Index := 112#32
  ![v1244.toNat, 112]
def k0_off789 (v1130 : BitVec 32) : Fin 2 → Nat :=
  let v1248 : Index := Scalar.indexCast v1130
  let c128_289 : Index := 128#32
  ![v1248.toNat, 128]
def k0_off790 (v1130 : BitVec 32) : Fin 2 → Nat :=
  let v1252 : Index := Scalar.indexCast v1130
  let c144_290 : Index := 144#32
  ![v1252.toNat, 144]
def k0_off791 (v1130 : BitVec 32) : Fin 2 → Nat :=
  let v1256 : Index := Scalar.indexCast v1130
  let c160_291 : Index := 160#32
  ![v1256.toNat, 160]
def k0_off792 (v1130 : BitVec 32) : Fin 2 → Nat :=
  let v1260 : Index := Scalar.indexCast v1130
  let c176_292 : Index := 176#32
  ![v1260.toNat, 176]
def k0_off793 (v1130 : BitVec 32) : Fin 2 → Nat :=
  let v1264 : Index := Scalar.indexCast v1130
  let c192_293 : Index := 192#32
  ![v1264.toNat, 192]
def k0_off794 (v1130 : BitVec 32) : Fin 2 → Nat :=
  let v1268 : Index := Scalar.indexCast v1130
  let c208_294 : Index := 208#32
  ![v1268.toNat, 208]
def k0_off795 (v1130 : BitVec 32) : Fin 2 → Nat :=
  let v1272 : Index := Scalar.indexCast v1130
  let c224_295 : Index := 224#32
  ![v1272.toNat, 224]
def k0_off796 (v1130 : BitVec 32) : Fin 2 → Nat :=
  let v1276 : Index := Scalar.indexCast v1130
  let c240_296 : Index := 240#32
  ![v1276.toNat, 240]
def k0_off797 (v1130 : BitVec 32) : Fin 2 → Nat :=
  let v1281 : Index := Scalar.indexCast v1130
  let c0_297 : Index := 0#32
  ![v1281.toNat, 0]

def k0_chk24 (i : grid0.Coords) (k0_t3 : Fin (k0_t3_loop i).trips) (v1130 : BitVec 32) : Prop :=
  (∀ a, (k0_off781 v1130) a + S1x16.size a ≤ S256x256.size a) ∧
  (∀ a, (k0_off782 v1130) a + S1x16.size a ≤ S256x256.size a) ∧
  (∀ a, (k0_off783 v1130) a + S1x16.size a ≤ S256x256.size a) ∧
  (∀ a, (k0_off784 v1130) a + S1x16.size a ≤ S256x256.size a) ∧
  (∀ a, (k0_off785 v1130) a + S1x16.size a ≤ S256x256.size a) ∧
  (∀ a, (k0_off786 v1130) a + S1x16.size a ≤ S256x256.size a) ∧
  (∀ a, (k0_off787 v1130) a + S1x16.size a ≤ S256x256.size a) ∧
  (∀ a, (k0_off788 v1130) a + S1x16.size a ≤ S256x256.size a) ∧
  (∀ a, (k0_off789 v1130) a + S1x16.size a ≤ S256x256.size a) ∧
  (∀ a, (k0_off790 v1130) a + S1x16.size a ≤ S256x256.size a) ∧
  (∀ a, (k0_off791 v1130) a + S1x16.size a ≤ S256x256.size a) ∧
  (∀ a, (k0_off792 v1130) a + S1x16.size a ≤ S256x256.size a) ∧
  (∀ a, (k0_off793 v1130) a + S1x16.size a ≤ S256x256.size a) ∧
  (∀ a, (k0_off794 v1130) a + S1x16.size a ≤ S256x256.size a) ∧
  (∀ a, (k0_off795 v1130) a + S1x16.size a ≤ S256x256.size a) ∧
  (∀ a, (k0_off796 v1130) a + S1x16.size a ≤ S256x256.size a) ∧
  (∀ a, (k0_off797 v1130) a + S1x16.size a ≤ S256x16.size a)
theorem k0_off781_inb : ∀ (i : grid0.Coords) (k0_t3 : Fin (k0_t3_loop i).trips) (v1130 : BitVec 32) (k0_hw24 : k0_chk24 i k0_t3 v1130), ∀ a, (k0_off781 v1130) a + S1x16.size a ≤ S256x256.size a := fun i k0_t3 v1130 k0_hw24 => k0_hw24.1
theorem k0_off782_inb : ∀ (i : grid0.Coords) (k0_t3 : Fin (k0_t3_loop i).trips) (v1130 : BitVec 32) (k0_hw24 : k0_chk24 i k0_t3 v1130), ∀ a, (k0_off782 v1130) a + S1x16.size a ≤ S256x256.size a := fun i k0_t3 v1130 k0_hw24 => k0_hw24.2.1
theorem k0_off783_inb : ∀ (i : grid0.Coords) (k0_t3 : Fin (k0_t3_loop i).trips) (v1130 : BitVec 32) (k0_hw24 : k0_chk24 i k0_t3 v1130), ∀ a, (k0_off783 v1130) a + S1x16.size a ≤ S256x256.size a := fun i k0_t3 v1130 k0_hw24 => k0_hw24.2.2.1
theorem k0_off784_inb : ∀ (i : grid0.Coords) (k0_t3 : Fin (k0_t3_loop i).trips) (v1130 : BitVec 32) (k0_hw24 : k0_chk24 i k0_t3 v1130), ∀ a, (k0_off784 v1130) a + S1x16.size a ≤ S256x256.size a := fun i k0_t3 v1130 k0_hw24 => k0_hw24.2.2.2.1
theorem k0_off785_inb : ∀ (i : grid0.Coords) (k0_t3 : Fin (k0_t3_loop i).trips) (v1130 : BitVec 32) (k0_hw24 : k0_chk24 i k0_t3 v1130), ∀ a, (k0_off785 v1130) a + S1x16.size a ≤ S256x256.size a := fun i k0_t3 v1130 k0_hw24 => k0_hw24.2.2.2.2.1
theorem k0_off786_inb : ∀ (i : grid0.Coords) (k0_t3 : Fin (k0_t3_loop i).trips) (v1130 : BitVec 32) (k0_hw24 : k0_chk24 i k0_t3 v1130), ∀ a, (k0_off786 v1130) a + S1x16.size a ≤ S256x256.size a := fun i k0_t3 v1130 k0_hw24 => k0_hw24.2.2.2.2.2.1
theorem k0_off787_inb : ∀ (i : grid0.Coords) (k0_t3 : Fin (k0_t3_loop i).trips) (v1130 : BitVec 32) (k0_hw24 : k0_chk24 i k0_t3 v1130), ∀ a, (k0_off787 v1130) a + S1x16.size a ≤ S256x256.size a := fun i k0_t3 v1130 k0_hw24 => k0_hw24.2.2.2.2.2.2.1
theorem k0_off788_inb : ∀ (i : grid0.Coords) (k0_t3 : Fin (k0_t3_loop i).trips) (v1130 : BitVec 32) (k0_hw24 : k0_chk24 i k0_t3 v1130), ∀ a, (k0_off788 v1130) a + S1x16.size a ≤ S256x256.size a := fun i k0_t3 v1130 k0_hw24 => k0_hw24.2.2.2.2.2.2.2.1
theorem k0_off789_inb : ∀ (i : grid0.Coords) (k0_t3 : Fin (k0_t3_loop i).trips) (v1130 : BitVec 32) (k0_hw24 : k0_chk24 i k0_t3 v1130), ∀ a, (k0_off789 v1130) a + S1x16.size a ≤ S256x256.size a := fun i k0_t3 v1130 k0_hw24 => k0_hw24.2.2.2.2.2.2.2.2.1
theorem k0_off790_inb : ∀ (i : grid0.Coords) (k0_t3 : Fin (k0_t3_loop i).trips) (v1130 : BitVec 32) (k0_hw24 : k0_chk24 i k0_t3 v1130), ∀ a, (k0_off790 v1130) a + S1x16.size a ≤ S256x256.size a := fun i k0_t3 v1130 k0_hw24 => k0_hw24.2.2.2.2.2.2.2.2.2.1
theorem k0_off791_inb : ∀ (i : grid0.Coords) (k0_t3 : Fin (k0_t3_loop i).trips) (v1130 : BitVec 32) (k0_hw24 : k0_chk24 i k0_t3 v1130), ∀ a, (k0_off791 v1130) a + S1x16.size a ≤ S256x256.size a := fun i k0_t3 v1130 k0_hw24 => k0_hw24.2.2.2.2.2.2.2.2.2.2.1
theorem k0_off792_inb : ∀ (i : grid0.Coords) (k0_t3 : Fin (k0_t3_loop i).trips) (v1130 : BitVec 32) (k0_hw24 : k0_chk24 i k0_t3 v1130), ∀ a, (k0_off792 v1130) a + S1x16.size a ≤ S256x256.size a := fun i k0_t3 v1130 k0_hw24 => k0_hw24.2.2.2.2.2.2.2.2.2.2.2.1
theorem k0_off793_inb : ∀ (i : grid0.Coords) (k0_t3 : Fin (k0_t3_loop i).trips) (v1130 : BitVec 32) (k0_hw24 : k0_chk24 i k0_t3 v1130), ∀ a, (k0_off793 v1130) a + S1x16.size a ≤ S256x256.size a := fun i k0_t3 v1130 k0_hw24 => k0_hw24.2.2.2.2.2.2.2.2.2.2.2.2.1
theorem k0_off794_inb : ∀ (i : grid0.Coords) (k0_t3 : Fin (k0_t3_loop i).trips) (v1130 : BitVec 32) (k0_hw24 : k0_chk24 i k0_t3 v1130), ∀ a, (k0_off794 v1130) a + S1x16.size a ≤ S256x256.size a := fun i k0_t3 v1130 k0_hw24 => k0_hw24.2.2.2.2.2.2.2.2.2.2.2.2.2.1
theorem k0_off795_inb : ∀ (i : grid0.Coords) (k0_t3 : Fin (k0_t3_loop i).trips) (v1130 : BitVec 32) (k0_hw24 : k0_chk24 i k0_t3 v1130), ∀ a, (k0_off795 v1130) a + S1x16.size a ≤ S256x256.size a := fun i k0_t3 v1130 k0_hw24 => k0_hw24.2.2.2.2.2.2.2.2.2.2.2.2.2.2.1
theorem k0_off796_inb : ∀ (i : grid0.Coords) (k0_t3 : Fin (k0_t3_loop i).trips) (v1130 : BitVec 32) (k0_hw24 : k0_chk24 i k0_t3 v1130), ∀ a, (k0_off796 v1130) a + S1x16.size a ≤ S256x256.size a := fun i k0_t3 v1130 k0_hw24 => k0_hw24.2.2.2.2.2.2.2.2.2.2.2.2.2.2.2.1
theorem k0_off797_inb : ∀ (i : grid0.Coords) (k0_t3 : Fin (k0_t3_loop i).trips) (v1130 : BitVec 32) (k0_hw24 : k0_chk24 i k0_t3 v1130), ∀ a, (k0_off797 v1130) a + S1x16.size a ≤ S256x16.size a := fun i k0_t3 v1130 k0_hw24 => k0_hw24.2.2.2.2.2.2.2.2.2.2.2.2.2.2.2.2

def k0_off798 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1290 : Index := Scalar.indexCast v1288
  let c0_299 : Index := 0#32
  ![v1290.toNat, 0]
def k0_off799 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1295 : Index := Scalar.indexCast v1288
  let c16_300 : Index := 16#32
  ![v1295.toNat, 16]
def k0_off800 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1300 : Index := Scalar.indexCast v1288
  let c32_301 : Index := 32#32
  ![v1300.toNat, 32]
def k0_off801 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1305 : Index := Scalar.indexCast v1288
  let c48_302 : Index := 48#32
  ![v1305.toNat, 48]
def k0_off802 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1310 : Index := Scalar.indexCast v1288
  let c64_303 : Index := 64#32
  ![v1310.toNat, 64]
def k0_off803 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1315 : Index := Scalar.indexCast v1288
  let c80_304 : Index := 80#32
  ![v1315.toNat, 80]
def k0_off804 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1320 : Index := Scalar.indexCast v1288
  let c96_305 : Index := 96#32
  ![v1320.toNat, 96]
def k0_off805 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1325 : Index := Scalar.indexCast v1288
  let c112_306 : Index := 112#32
  ![v1325.toNat, 112]
def k0_off806 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1330 : Index := Scalar.indexCast v1288
  let c128_307 : Index := 128#32
  ![v1330.toNat, 128]
def k0_off807 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1335 : Index := Scalar.indexCast v1288
  let c144_308 : Index := 144#32
  ![v1335.toNat, 144]
def k0_off808 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1340 : Index := Scalar.indexCast v1288
  let c160_309 : Index := 160#32
  ![v1340.toNat, 160]
def k0_off809 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1345 : Index := Scalar.indexCast v1288
  let c176_310 : Index := 176#32
  ![v1345.toNat, 176]
def k0_off810 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1350 : Index := Scalar.indexCast v1288
  let c192_311 : Index := 192#32
  ![v1350.toNat, 192]
def k0_off811 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1355 : Index := Scalar.indexCast v1288
  let c208_312 : Index := 208#32
  ![v1355.toNat, 208]
def k0_off812 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1360 : Index := Scalar.indexCast v1288
  let c224_313 : Index := 224#32
  ![v1360.toNat, 224]
def k0_off813 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_298 : BitVec 32 := 16#32
  let v1287 : BitVec 32 := Scalar.muli arg31 c16_i32_298
  let c8_i32 : BitVec 32 := 8#32
  let v1288 : BitVec 32 := Scalar.addi v1287 c8_i32
  let v1365 : Index := Scalar.indexCast v1288
  let c240_314 : Index := 240#32
  ![v1365.toNat, 240]
def k0_off814 (v1286 : BitVec 32) : Fin 2 → Nat :=
  let v1372 : Index := Scalar.indexCast v1286
  let c0_317 : Index := 0#32
  ![v1372.toNat, 0]

def k0_off815 (v1286 : BitVec 32) : Fin 2 → Nat :=
  let v1376 : Index := Scalar.indexCast v1286
  let c16_318 : Index := 16#32
  ![v1376.toNat, 16]
def k0_off816 (v1286 : BitVec 32) : Fin 2 → Nat :=
  let v1380 : Index := Scalar.indexCast v1286
  let c32_319 : Index := 32#32
  ![v1380.toNat, 32]
def k0_off817 (v1286 : BitVec 32) : Fin 2 → Nat :=
  let v1384 : Index := Scalar.indexCast v1286
  let c48_320 : Index := 48#32
  ![v1384.toNat, 48]
def k0_off818 (v1286 : BitVec 32) : Fin 2 → Nat :=
  let v1388 : Index := Scalar.indexCast v1286
  let c64_321 : Index := 64#32
  ![v1388.toNat, 64]
def k0_off819 (v1286 : BitVec 32) : Fin 2 → Nat :=
  let v1392 : Index := Scalar.indexCast v1286
  let c80_322 : Index := 80#32
  ![v1392.toNat, 80]
def k0_off820 (v1286 : BitVec 32) : Fin 2 → Nat :=
  let v1396 : Index := Scalar.indexCast v1286
  let c96_323 : Index := 96#32
  ![v1396.toNat, 96]
def k0_off821 (v1286 : BitVec 32) : Fin 2 → Nat :=
  let v1400 : Index := Scalar.indexCast v1286
  let c112_324 : Index := 112#32
  ![v1400.toNat, 112]
def k0_off822 (v1286 : BitVec 32) : Fin 2 → Nat :=
  let v1404 : Index := Scalar.indexCast v1286
  let c128_325 : Index := 128#32
  ![v1404.toNat, 128]
def k0_off823 (v1286 : BitVec 32) : Fin 2 → Nat :=
  let v1408 : Index := Scalar.indexCast v1286
  let c144_326 : Index := 144#32
  ![v1408.toNat, 144]
def k0_off824 (v1286 : BitVec 32) : Fin 2 → Nat :=
  let v1412 : Index := Scalar.indexCast v1286
  let c160_327 : Index := 160#32
  ![v1412.toNat, 160]
def k0_off825 (v1286 : BitVec 32) : Fin 2 → Nat :=
  let v1416 : Index := Scalar.indexCast v1286
  let c176_328 : Index := 176#32
  ![v1416.toNat, 176]
def k0_off826 (v1286 : BitVec 32) : Fin 2 → Nat :=
  let v1420 : Index := Scalar.indexCast v1286
  let c192_329 : Index := 192#32
  ![v1420.toNat, 192]
def k0_off827 (v1286 : BitVec 32) : Fin 2 → Nat :=
  let v1424 : Index := Scalar.indexCast v1286
  let c208_330 : Index := 208#32
  ![v1424.toNat, 208]
def k0_off828 (v1286 : BitVec 32) : Fin 2 → Nat :=
  let v1428 : Index := Scalar.indexCast v1286
  let c224_331 : Index := 224#32
  ![v1428.toNat, 224]
def k0_off829 (v1286 : BitVec 32) : Fin 2 → Nat :=
  let v1432 : Index := Scalar.indexCast v1286
  let c240_332 : Index := 240#32
  ![v1432.toNat, 240]
def k0_off830 (v1286 : BitVec 32) : Fin 2 → Nat :=
  let v1437 : Index := Scalar.indexCast v1286
  let c0_333 : Index := 0#32
  ![v1437.toNat, 0]

def k0_chk25 (i : grid0.Coords) (k0_t3 : Fin (k0_t3_loop i).trips) (v1286 : BitVec 32) : Prop :=
  (∀ a, (k0_off814 v1286) a + S1x16.size a ≤ S256x256.size a) ∧
  (∀ a, (k0_off815 v1286) a + S1x16.size a ≤ S256x256.size a) ∧
  (∀ a, (k0_off816 v1286) a + S1x16.size a ≤ S256x256.size a) ∧
  (∀ a, (k0_off817 v1286) a + S1x16.size a ≤ S256x256.size a) ∧
  (∀ a, (k0_off818 v1286) a + S1x16.size a ≤ S256x256.size a) ∧
  (∀ a, (k0_off819 v1286) a + S1x16.size a ≤ S256x256.size a) ∧
  (∀ a, (k0_off820 v1286) a + S1x16.size a ≤ S256x256.size a) ∧
  (∀ a, (k0_off821 v1286) a + S1x16.size a ≤ S256x256.size a) ∧
  (∀ a, (k0_off822 v1286) a + S1x16.size a ≤ S256x256.size a) ∧
  (∀ a, (k0_off823 v1286) a + S1x16.size a ≤ S256x256.size a) ∧
  (∀ a, (k0_off824 v1286) a + S1x16.size a ≤ S256x256.size a) ∧
  (∀ a, (k0_off825 v1286) a + S1x16.size a ≤ S256x256.size a) ∧
  (∀ a, (k0_off826 v1286) a + S1x16.size a ≤ S256x256.size a) ∧
  (∀ a, (k0_off827 v1286) a + S1x16.size a ≤ S256x256.size a) ∧
  (∀ a, (k0_off828 v1286) a + S1x16.size a ≤ S256x256.size a) ∧
  (∀ a, (k0_off829 v1286) a + S1x16.size a ≤ S256x256.size a) ∧
  (∀ a, (k0_off830 v1286) a + S1x16.size a ≤ S256x16.size a)
theorem k0_off814_inb : ∀ (i : grid0.Coords) (k0_t3 : Fin (k0_t3_loop i).trips) (v1286 : BitVec 32) (k0_hw25 : k0_chk25 i k0_t3 v1286), ∀ a, (k0_off814 v1286) a + S1x16.size a ≤ S256x256.size a := fun i k0_t3 v1286 k0_hw25 => k0_hw25.1
theorem k0_off815_inb : ∀ (i : grid0.Coords) (k0_t3 : Fin (k0_t3_loop i).trips) (v1286 : BitVec 32) (k0_hw25 : k0_chk25 i k0_t3 v1286), ∀ a, (k0_off815 v1286) a + S1x16.size a ≤ S256x256.size a := fun i k0_t3 v1286 k0_hw25 => k0_hw25.2.1
theorem k0_off816_inb : ∀ (i : grid0.Coords) (k0_t3 : Fin (k0_t3_loop i).trips) (v1286 : BitVec 32) (k0_hw25 : k0_chk25 i k0_t3 v1286), ∀ a, (k0_off816 v1286) a + S1x16.size a ≤ S256x256.size a := fun i k0_t3 v1286 k0_hw25 => k0_hw25.2.2.1
theorem k0_off817_inb : ∀ (i : grid0.Coords) (k0_t3 : Fin (k0_t3_loop i).trips) (v1286 : BitVec 32) (k0_hw25 : k0_chk25 i k0_t3 v1286), ∀ a, (k0_off817 v1286) a + S1x16.size a ≤ S256x256.size a := fun i k0_t3 v1286 k0_hw25 => k0_hw25.2.2.2.1
theorem k0_off818_inb : ∀ (i : grid0.Coords) (k0_t3 : Fin (k0_t3_loop i).trips) (v1286 : BitVec 32) (k0_hw25 : k0_chk25 i k0_t3 v1286), ∀ a, (k0_off818 v1286) a + S1x16.size a ≤ S256x256.size a := fun i k0_t3 v1286 k0_hw25 => k0_hw25.2.2.2.2.1
theorem k0_off819_inb : ∀ (i : grid0.Coords) (k0_t3 : Fin (k0_t3_loop i).trips) (v1286 : BitVec 32) (k0_hw25 : k0_chk25 i k0_t3 v1286), ∀ a, (k0_off819 v1286) a + S1x16.size a ≤ S256x256.size a := fun i k0_t3 v1286 k0_hw25 => k0_hw25.2.2.2.2.2.1
theorem k0_off820_inb : ∀ (i : grid0.Coords) (k0_t3 : Fin (k0_t3_loop i).trips) (v1286 : BitVec 32) (k0_hw25 : k0_chk25 i k0_t3 v1286), ∀ a, (k0_off820 v1286) a + S1x16.size a ≤ S256x256.size a := fun i k0_t3 v1286 k0_hw25 => k0_hw25.2.2.2.2.2.2.1
theorem k0_off821_inb : ∀ (i : grid0.Coords) (k0_t3 : Fin (k0_t3_loop i).trips) (v1286 : BitVec 32) (k0_hw25 : k0_chk25 i k0_t3 v1286), ∀ a, (k0_off821 v1286) a + S1x16.size a ≤ S256x256.size a := fun i k0_t3 v1286 k0_hw25 => k0_hw25.2.2.2.2.2.2.2.1
theorem k0_off822_inb : ∀ (i : grid0.Coords) (k0_t3 : Fin (k0_t3_loop i).trips) (v1286 : BitVec 32) (k0_hw25 : k0_chk25 i k0_t3 v1286), ∀ a, (k0_off822 v1286) a + S1x16.size a ≤ S256x256.size a := fun i k0_t3 v1286 k0_hw25 => k0_hw25.2.2.2.2.2.2.2.2.1
theorem k0_off823_inb : ∀ (i : grid0.Coords) (k0_t3 : Fin (k0_t3_loop i).trips) (v1286 : BitVec 32) (k0_hw25 : k0_chk25 i k0_t3 v1286), ∀ a, (k0_off823 v1286) a + S1x16.size a ≤ S256x256.size a := fun i k0_t3 v1286 k0_hw25 => k0_hw25.2.2.2.2.2.2.2.2.2.1
theorem k0_off824_inb : ∀ (i : grid0.Coords) (k0_t3 : Fin (k0_t3_loop i).trips) (v1286 : BitVec 32) (k0_hw25 : k0_chk25 i k0_t3 v1286), ∀ a, (k0_off824 v1286) a + S1x16.size a ≤ S256x256.size a := fun i k0_t3 v1286 k0_hw25 => k0_hw25.2.2.2.2.2.2.2.2.2.2.1
theorem k0_off825_inb : ∀ (i : grid0.Coords) (k0_t3 : Fin (k0_t3_loop i).trips) (v1286 : BitVec 32) (k0_hw25 : k0_chk25 i k0_t3 v1286), ∀ a, (k0_off825 v1286) a + S1x16.size a ≤ S256x256.size a := fun i k0_t3 v1286 k0_hw25 => k0_hw25.2.2.2.2.2.2.2.2.2.2.2.1
theorem k0_off826_inb : ∀ (i : grid0.Coords) (k0_t3 : Fin (k0_t3_loop i).trips) (v1286 : BitVec 32) (k0_hw25 : k0_chk25 i k0_t3 v1286), ∀ a, (k0_off826 v1286) a + S1x16.size a ≤ S256x256.size a := fun i k0_t3 v1286 k0_hw25 => k0_hw25.2.2.2.2.2.2.2.2.2.2.2.2.1
theorem k0_off827_inb : ∀ (i : grid0.Coords) (k0_t3 : Fin (k0_t3_loop i).trips) (v1286 : BitVec 32) (k0_hw25 : k0_chk25 i k0_t3 v1286), ∀ a, (k0_off827 v1286) a + S1x16.size a ≤ S256x256.size a := fun i k0_t3 v1286 k0_hw25 => k0_hw25.2.2.2.2.2.2.2.2.2.2.2.2.2.1
theorem k0_off828_inb : ∀ (i : grid0.Coords) (k0_t3 : Fin (k0_t3_loop i).trips) (v1286 : BitVec 32) (k0_hw25 : k0_chk25 i k0_t3 v1286), ∀ a, (k0_off828 v1286) a + S1x16.size a ≤ S256x256.size a := fun i k0_t3 v1286 k0_hw25 => k0_hw25.2.2.2.2.2.2.2.2.2.2.2.2.2.2.1
theorem k0_off829_inb : ∀ (i : grid0.Coords) (k0_t3 : Fin (k0_t3_loop i).trips) (v1286 : BitVec 32) (k0_hw25 : k0_chk25 i k0_t3 v1286), ∀ a, (k0_off829 v1286) a + S1x16.size a ≤ S256x256.size a := fun i k0_t3 v1286 k0_hw25 => k0_hw25.2.2.2.2.2.2.2.2.2.2.2.2.2.2.2.1
theorem k0_off830_inb : ∀ (i : grid0.Coords) (k0_t3 : Fin (k0_t3_loop i).trips) (v1286 : BitVec 32) (k0_hw25 : k0_chk25 i k0_t3 v1286), ∀ a, (k0_off830 v1286) a + S1x16.size a ≤ S256x16.size a := fun i k0_t3 v1286 k0_hw25 => k0_hw25.2.2.2.2.2.2.2.2.2.2.2.2.2.2.2.2

def k0_off831 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1446 : Index := Scalar.indexCast v1444
  let c0_335 : Index := 0#32
  ![v1446.toNat, 0]
def k0_off832 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1451 : Index := Scalar.indexCast v1444
  let c16_336 : Index := 16#32
  ![v1451.toNat, 16]
def k0_off833 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1456 : Index := Scalar.indexCast v1444
  let c32_337 : Index := 32#32
  ![v1456.toNat, 32]
def k0_off834 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1461 : Index := Scalar.indexCast v1444
  let c48_338 : Index := 48#32
  ![v1461.toNat, 48]
def k0_off835 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1466 : Index := Scalar.indexCast v1444
  let c64_339 : Index := 64#32
  ![v1466.toNat, 64]
def k0_off836 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1471 : Index := Scalar.indexCast v1444
  let c80_340 : Index := 80#32
  ![v1471.toNat, 80]
def k0_off837 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1476 : Index := Scalar.indexCast v1444
  let c96_341 : Index := 96#32
  ![v1476.toNat, 96]
def k0_off838 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1481 : Index := Scalar.indexCast v1444
  let c112_342 : Index := 112#32
  ![v1481.toNat, 112]
def k0_off839 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1486 : Index := Scalar.indexCast v1444
  let c128_343 : Index := 128#32
  ![v1486.toNat, 128]
def k0_off840 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1491 : Index := Scalar.indexCast v1444
  let c144_344 : Index := 144#32
  ![v1491.toNat, 144]
def k0_off841 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1496 : Index := Scalar.indexCast v1444
  let c160_345 : Index := 160#32
  ![v1496.toNat, 160]
def k0_off842 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1501 : Index := Scalar.indexCast v1444
  let c176_346 : Index := 176#32
  ![v1501.toNat, 176]
def k0_off843 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1506 : Index := Scalar.indexCast v1444
  let c192_347 : Index := 192#32
  ![v1506.toNat, 192]
def k0_off844 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1511 : Index := Scalar.indexCast v1444
  let c208_348 : Index := 208#32
  ![v1511.toNat, 208]
def k0_off845 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1516 : Index := Scalar.indexCast v1444
  let c224_349 : Index := 224#32
  ![v1516.toNat, 224]
def k0_off846 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_334 : BitVec 32 := 16#32
  let v1443 : BitVec 32 := Scalar.muli arg31 c16_i32_334
  let c9_i32 : BitVec 32 := 9#32
  let v1444 : BitVec 32 := Scalar.addi v1443 c9_i32
  let v1521 : Index := Scalar.indexCast v1444
  let c240_350 : Index := 240#32
  ![v1521.toNat, 240]
def k0_off847 (v1442 : BitVec 32) : Fin 2 → Nat :=
  let v1528 : Index := Scalar.indexCast v1442
  let c0_353 : Index := 0#32
  ![v1528.toNat, 0]

def k0_off848 (v1442 : BitVec 32) : Fin 2 → Nat :=
  let v1532 : Index := Scalar.indexCast v1442
  let c16_354 : Index := 16#32
  ![v1532.toNat, 16]
def k0_off849 (v1442 : BitVec 32) : Fin 2 → Nat :=
  let v1536 : Index := Scalar.indexCast v1442
  let c32_355 : Index := 32#32
  ![v1536.toNat, 32]
def k0_off850 (v1442 : BitVec 32) : Fin 2 → Nat :=
  let v1540 : Index := Scalar.indexCast v1442
  let c48_356 : Index := 48#32
  ![v1540.toNat, 48]
def k0_off851 (v1442 : BitVec 32) : Fin 2 → Nat :=
  let v1544 : Index := Scalar.indexCast v1442
  let c64_357 : Index := 64#32
  ![v1544.toNat, 64]
def k0_off852 (v1442 : BitVec 32) : Fin 2 → Nat :=
  let v1548 : Index := Scalar.indexCast v1442
  let c80_358 : Index := 80#32
  ![v1548.toNat, 80]
def k0_off853 (v1442 : BitVec 32) : Fin 2 → Nat :=
  let v1552 : Index := Scalar.indexCast v1442
  let c96_359 : Index := 96#32
  ![v1552.toNat, 96]
def k0_off854 (v1442 : BitVec 32) : Fin 2 → Nat :=
  let v1556 : Index := Scalar.indexCast v1442
  let c112_360 : Index := 112#32
  ![v1556.toNat, 112]
def k0_off855 (v1442 : BitVec 32) : Fin 2 → Nat :=
  let v1560 : Index := Scalar.indexCast v1442
  let c128_361 : Index := 128#32
  ![v1560.toNat, 128]
def k0_off856 (v1442 : BitVec 32) : Fin 2 → Nat :=
  let v1564 : Index := Scalar.indexCast v1442
  let c144_362 : Index := 144#32
  ![v1564.toNat, 144]
def k0_off857 (v1442 : BitVec 32) : Fin 2 → Nat :=
  let v1568 : Index := Scalar.indexCast v1442
  let c160_363 : Index := 160#32
  ![v1568.toNat, 160]
def k0_off858 (v1442 : BitVec 32) : Fin 2 → Nat :=
  let v1572 : Index := Scalar.indexCast v1442
  let c176_364 : Index := 176#32
  ![v1572.toNat, 176]
def k0_off859 (v1442 : BitVec 32) : Fin 2 → Nat :=
  let v1576 : Index := Scalar.indexCast v1442
  let c192_365 : Index := 192#32
  ![v1576.toNat, 192]
def k0_off860 (v1442 : BitVec 32) : Fin 2 → Nat :=
  let v1580 : Index := Scalar.indexCast v1442
  let c208_366 : Index := 208#32
  ![v1580.toNat, 208]
def k0_off861 (v1442 : BitVec 32) : Fin 2 → Nat :=
  let v1584 : Index := Scalar.indexCast v1442
  let c224_367 : Index := 224#32
  ![v1584.toNat, 224]
def k0_off862 (v1442 : BitVec 32) : Fin 2 → Nat :=
  let v1588 : Index := Scalar.indexCast v1442
  let c240_368 : Index := 240#32
  ![v1588.toNat, 240]
def k0_off863 (v1442 : BitVec 32) : Fin 2 → Nat :=
  let v1593 : Index := Scalar.indexCast v1442
  let c0_369 : Index := 0#32
  ![v1593.toNat, 0]

def k0_chk26 (i : grid0.Coords) (k0_t3 : Fin (k0_t3_loop i).trips) (v1442 : BitVec 32) : Prop :=
  (∀ a, (k0_off847 v1442) a + S1x16.size a ≤ S256x256.size a) ∧
  (∀ a, (k0_off848 v1442) a + S1x16.size a ≤ S256x256.size a) ∧
  (∀ a, (k0_off849 v1442) a + S1x16.size a ≤ S256x256.size a) ∧
  (∀ a, (k0_off850 v1442) a + S1x16.size a ≤ S256x256.size a) ∧
  (∀ a, (k0_off851 v1442) a + S1x16.size a ≤ S256x256.size a) ∧
  (∀ a, (k0_off852 v1442) a + S1x16.size a ≤ S256x256.size a) ∧
  (∀ a, (k0_off853 v1442) a + S1x16.size a ≤ S256x256.size a) ∧
  (∀ a, (k0_off854 v1442) a + S1x16.size a ≤ S256x256.size a) ∧
  (∀ a, (k0_off855 v1442) a + S1x16.size a ≤ S256x256.size a) ∧
  (∀ a, (k0_off856 v1442) a + S1x16.size a ≤ S256x256.size a) ∧
  (∀ a, (k0_off857 v1442) a + S1x16.size a ≤ S256x256.size a) ∧
  (∀ a, (k0_off858 v1442) a + S1x16.size a ≤ S256x256.size a) ∧
  (∀ a, (k0_off859 v1442) a + S1x16.size a ≤ S256x256.size a) ∧
  (∀ a, (k0_off860 v1442) a + S1x16.size a ≤ S256x256.size a) ∧
  (∀ a, (k0_off861 v1442) a + S1x16.size a ≤ S256x256.size a) ∧
  (∀ a, (k0_off862 v1442) a + S1x16.size a ≤ S256x256.size a) ∧
  (∀ a, (k0_off863 v1442) a + S1x16.size a ≤ S256x16.size a)
theorem k0_off847_inb : ∀ (i : grid0.Coords) (k0_t3 : Fin (k0_t3_loop i).trips) (v1442 : BitVec 32) (k0_hw26 : k0_chk26 i k0_t3 v1442), ∀ a, (k0_off847 v1442) a + S1x16.size a ≤ S256x256.size a := fun i k0_t3 v1442 k0_hw26 => k0_hw26.1
theorem k0_off848_inb : ∀ (i : grid0.Coords) (k0_t3 : Fin (k0_t3_loop i).trips) (v1442 : BitVec 32) (k0_hw26 : k0_chk26 i k0_t3 v1442), ∀ a, (k0_off848 v1442) a + S1x16.size a ≤ S256x256.size a := fun i k0_t3 v1442 k0_hw26 => k0_hw26.2.1
theorem k0_off849_inb : ∀ (i : grid0.Coords) (k0_t3 : Fin (k0_t3_loop i).trips) (v1442 : BitVec 32) (k0_hw26 : k0_chk26 i k0_t3 v1442), ∀ a, (k0_off849 v1442) a + S1x16.size a ≤ S256x256.size a := fun i k0_t3 v1442 k0_hw26 => k0_hw26.2.2.1
theorem k0_off850_inb : ∀ (i : grid0.Coords) (k0_t3 : Fin (k0_t3_loop i).trips) (v1442 : BitVec 32) (k0_hw26 : k0_chk26 i k0_t3 v1442), ∀ a, (k0_off850 v1442) a + S1x16.size a ≤ S256x256.size a := fun i k0_t3 v1442 k0_hw26 => k0_hw26.2.2.2.1
theorem k0_off851_inb : ∀ (i : grid0.Coords) (k0_t3 : Fin (k0_t3_loop i).trips) (v1442 : BitVec 32) (k0_hw26 : k0_chk26 i k0_t3 v1442), ∀ a, (k0_off851 v1442) a + S1x16.size a ≤ S256x256.size a := fun i k0_t3 v1442 k0_hw26 => k0_hw26.2.2.2.2.1
theorem k0_off852_inb : ∀ (i : grid0.Coords) (k0_t3 : Fin (k0_t3_loop i).trips) (v1442 : BitVec 32) (k0_hw26 : k0_chk26 i k0_t3 v1442), ∀ a, (k0_off852 v1442) a + S1x16.size a ≤ S256x256.size a := fun i k0_t3 v1442 k0_hw26 => k0_hw26.2.2.2.2.2.1
theorem k0_off853_inb : ∀ (i : grid0.Coords) (k0_t3 : Fin (k0_t3_loop i).trips) (v1442 : BitVec 32) (k0_hw26 : k0_chk26 i k0_t3 v1442), ∀ a, (k0_off853 v1442) a + S1x16.size a ≤ S256x256.size a := fun i k0_t3 v1442 k0_hw26 => k0_hw26.2.2.2.2.2.2.1
theorem k0_off854_inb : ∀ (i : grid0.Coords) (k0_t3 : Fin (k0_t3_loop i).trips) (v1442 : BitVec 32) (k0_hw26 : k0_chk26 i k0_t3 v1442), ∀ a, (k0_off854 v1442) a + S1x16.size a ≤ S256x256.size a := fun i k0_t3 v1442 k0_hw26 => k0_hw26.2.2.2.2.2.2.2.1
theorem k0_off855_inb : ∀ (i : grid0.Coords) (k0_t3 : Fin (k0_t3_loop i).trips) (v1442 : BitVec 32) (k0_hw26 : k0_chk26 i k0_t3 v1442), ∀ a, (k0_off855 v1442) a + S1x16.size a ≤ S256x256.size a := fun i k0_t3 v1442 k0_hw26 => k0_hw26.2.2.2.2.2.2.2.2.1
theorem k0_off856_inb : ∀ (i : grid0.Coords) (k0_t3 : Fin (k0_t3_loop i).trips) (v1442 : BitVec 32) (k0_hw26 : k0_chk26 i k0_t3 v1442), ∀ a, (k0_off856 v1442) a + S1x16.size a ≤ S256x256.size a := fun i k0_t3 v1442 k0_hw26 => k0_hw26.2.2.2.2.2.2.2.2.2.1
theorem k0_off857_inb : ∀ (i : grid0.Coords) (k0_t3 : Fin (k0_t3_loop i).trips) (v1442 : BitVec 32) (k0_hw26 : k0_chk26 i k0_t3 v1442), ∀ a, (k0_off857 v1442) a + S1x16.size a ≤ S256x256.size a := fun i k0_t3 v1442 k0_hw26 => k0_hw26.2.2.2.2.2.2.2.2.2.2.1
theorem k0_off858_inb : ∀ (i : grid0.Coords) (k0_t3 : Fin (k0_t3_loop i).trips) (v1442 : BitVec 32) (k0_hw26 : k0_chk26 i k0_t3 v1442), ∀ a, (k0_off858 v1442) a + S1x16.size a ≤ S256x256.size a := fun i k0_t3 v1442 k0_hw26 => k0_hw26.2.2.2.2.2.2.2.2.2.2.2.1
theorem k0_off859_inb : ∀ (i : grid0.Coords) (k0_t3 : Fin (k0_t3_loop i).trips) (v1442 : BitVec 32) (k0_hw26 : k0_chk26 i k0_t3 v1442), ∀ a, (k0_off859 v1442) a + S1x16.size a ≤ S256x256.size a := fun i k0_t3 v1442 k0_hw26 => k0_hw26.2.2.2.2.2.2.2.2.2.2.2.2.1
theorem k0_off860_inb : ∀ (i : grid0.Coords) (k0_t3 : Fin (k0_t3_loop i).trips) (v1442 : BitVec 32) (k0_hw26 : k0_chk26 i k0_t3 v1442), ∀ a, (k0_off860 v1442) a + S1x16.size a ≤ S256x256.size a := fun i k0_t3 v1442 k0_hw26 => k0_hw26.2.2.2.2.2.2.2.2.2.2.2.2.2.1
theorem k0_off861_inb : ∀ (i : grid0.Coords) (k0_t3 : Fin (k0_t3_loop i).trips) (v1442 : BitVec 32) (k0_hw26 : k0_chk26 i k0_t3 v1442), ∀ a, (k0_off861 v1442) a + S1x16.size a ≤ S256x256.size a := fun i k0_t3 v1442 k0_hw26 => k0_hw26.2.2.2.2.2.2.2.2.2.2.2.2.2.2.1
theorem k0_off862_inb : ∀ (i : grid0.Coords) (k0_t3 : Fin (k0_t3_loop i).trips) (v1442 : BitVec 32) (k0_hw26 : k0_chk26 i k0_t3 v1442), ∀ a, (k0_off862 v1442) a + S1x16.size a ≤ S256x256.size a := fun i k0_t3 v1442 k0_hw26 => k0_hw26.2.2.2.2.2.2.2.2.2.2.2.2.2.2.2.1
theorem k0_off863_inb : ∀ (i : grid0.Coords) (k0_t3 : Fin (k0_t3_loop i).trips) (v1442 : BitVec 32) (k0_hw26 : k0_chk26 i k0_t3 v1442), ∀ a, (k0_off863 v1442) a + S1x16.size a ≤ S256x16.size a := fun i k0_t3 v1442 k0_hw26 => k0_hw26.2.2.2.2.2.2.2.2.2.2.2.2.2.2.2.2

def k0_off864 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1602 : Index := Scalar.indexCast v1600
  let c0_371 : Index := 0#32
  ![v1602.toNat, 0]
def k0_off865 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1607 : Index := Scalar.indexCast v1600
  let c16_372 : Index := 16#32
  ![v1607.toNat, 16]
def k0_off866 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1612 : Index := Scalar.indexCast v1600
  let c32_373 : Index := 32#32
  ![v1612.toNat, 32]
def k0_off867 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1617 : Index := Scalar.indexCast v1600
  let c48_374 : Index := 48#32
  ![v1617.toNat, 48]
def k0_off868 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1622 : Index := Scalar.indexCast v1600
  let c64_375 : Index := 64#32
  ![v1622.toNat, 64]
def k0_off869 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1627 : Index := Scalar.indexCast v1600
  let c80_376 : Index := 80#32
  ![v1627.toNat, 80]
def k0_off870 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1632 : Index := Scalar.indexCast v1600
  let c96_377 : Index := 96#32
  ![v1632.toNat, 96]
def k0_off871 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1637 : Index := Scalar.indexCast v1600
  let c112_378 : Index := 112#32
  ![v1637.toNat, 112]
def k0_off872 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1642 : Index := Scalar.indexCast v1600
  let c128_379 : Index := 128#32
  ![v1642.toNat, 128]
def k0_off873 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1647 : Index := Scalar.indexCast v1600
  let c144_380 : Index := 144#32
  ![v1647.toNat, 144]
def k0_off874 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1652 : Index := Scalar.indexCast v1600
  let c160_381 : Index := 160#32
  ![v1652.toNat, 160]
def k0_off875 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1657 : Index := Scalar.indexCast v1600
  let c176_382 : Index := 176#32
  ![v1657.toNat, 176]
def k0_off876 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1662 : Index := Scalar.indexCast v1600
  let c192_383 : Index := 192#32
  ![v1662.toNat, 192]
def k0_off877 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1667 : Index := Scalar.indexCast v1600
  let c208_384 : Index := 208#32
  ![v1667.toNat, 208]
def k0_off878 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1672 : Index := Scalar.indexCast v1600
  let c224_385 : Index := 224#32
  ![v1672.toNat, 224]
def k0_off879 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_370 : BitVec 32 := 16#32
  let v1599 : BitVec 32 := Scalar.muli arg31 c16_i32_370
  let c10_i32 : BitVec 32 := 10#32
  let v1600 : BitVec 32 := Scalar.addi v1599 c10_i32
  let v1677 : Index := Scalar.indexCast v1600
  let c240_386 : Index := 240#32
  ![v1677.toNat, 240]
def k0_off880 (v1598 : BitVec 32) : Fin 2 → Nat :=
  let v1684 : Index := Scalar.indexCast v1598
  let c0_389 : Index := 0#32
  ![v1684.toNat, 0]

def k0_off881 (v1598 : BitVec 32) : Fin 2 → Nat :=
  let v1688 : Index := Scalar.indexCast v1598
  let c16_390 : Index := 16#32
  ![v1688.toNat, 16]
def k0_off882 (v1598 : BitVec 32) : Fin 2 → Nat :=
  let v1692 : Index := Scalar.indexCast v1598
  let c32_391 : Index := 32#32
  ![v1692.toNat, 32]
def k0_off883 (v1598 : BitVec 32) : Fin 2 → Nat :=
  let v1696 : Index := Scalar.indexCast v1598
  let c48_392 : Index := 48#32
  ![v1696.toNat, 48]
def k0_off884 (v1598 : BitVec 32) : Fin 2 → Nat :=
  let v1700 : Index := Scalar.indexCast v1598
  let c64_393 : Index := 64#32
  ![v1700.toNat, 64]
def k0_off885 (v1598 : BitVec 32) : Fin 2 → Nat :=
  let v1704 : Index := Scalar.indexCast v1598
  let c80_394 : Index := 80#32
  ![v1704.toNat, 80]
def k0_off886 (v1598 : BitVec 32) : Fin 2 → Nat :=
  let v1708 : Index := Scalar.indexCast v1598
  let c96_395 : Index := 96#32
  ![v1708.toNat, 96]
def k0_off887 (v1598 : BitVec 32) : Fin 2 → Nat :=
  let v1712 : Index := Scalar.indexCast v1598
  let c112_396 : Index := 112#32
  ![v1712.toNat, 112]
def k0_off888 (v1598 : BitVec 32) : Fin 2 → Nat :=
  let v1716 : Index := Scalar.indexCast v1598
  let c128_397 : Index := 128#32
  ![v1716.toNat, 128]
def k0_off889 (v1598 : BitVec 32) : Fin 2 → Nat :=
  let v1720 : Index := Scalar.indexCast v1598
  let c144_398 : Index := 144#32
  ![v1720.toNat, 144]
def k0_off890 (v1598 : BitVec 32) : Fin 2 → Nat :=
  let v1724 : Index := Scalar.indexCast v1598
  let c160_399 : Index := 160#32
  ![v1724.toNat, 160]
def k0_off891 (v1598 : BitVec 32) : Fin 2 → Nat :=
  let v1728 : Index := Scalar.indexCast v1598
  let c176_400 : Index := 176#32
  ![v1728.toNat, 176]
def k0_off892 (v1598 : BitVec 32) : Fin 2 → Nat :=
  let v1732 : Index := Scalar.indexCast v1598
  let c192_401 : Index := 192#32
  ![v1732.toNat, 192]
def k0_off893 (v1598 : BitVec 32) : Fin 2 → Nat :=
  let v1736 : Index := Scalar.indexCast v1598
  let c208_402 : Index := 208#32
  ![v1736.toNat, 208]
def k0_off894 (v1598 : BitVec 32) : Fin 2 → Nat :=
  let v1740 : Index := Scalar.indexCast v1598
  let c224_403 : Index := 224#32
  ![v1740.toNat, 224]
def k0_off895 (v1598 : BitVec 32) : Fin 2 → Nat :=
  let v1744 : Index := Scalar.indexCast v1598
  let c240_404 : Index := 240#32
  ![v1744.toNat, 240]
def k0_off896 (v1598 : BitVec 32) : Fin 2 → Nat :=
  let v1749 : Index := Scalar.indexCast v1598
  let c0_405 : Index := 0#32
  ![v1749.toNat, 0]

def k0_chk27 (i : grid0.Coords) (k0_t3 : Fin (k0_t3_loop i).trips) (v1598 : BitVec 32) : Prop :=
  (∀ a, (k0_off880 v1598) a + S1x16.size a ≤ S256x256.size a) ∧
  (∀ a, (k0_off881 v1598) a + S1x16.size a ≤ S256x256.size a) ∧
  (∀ a, (k0_off882 v1598) a + S1x16.size a ≤ S256x256.size a) ∧
  (∀ a, (k0_off883 v1598) a + S1x16.size a ≤ S256x256.size a) ∧
  (∀ a, (k0_off884 v1598) a + S1x16.size a ≤ S256x256.size a) ∧
  (∀ a, (k0_off885 v1598) a + S1x16.size a ≤ S256x256.size a) ∧
  (∀ a, (k0_off886 v1598) a + S1x16.size a ≤ S256x256.size a) ∧
  (∀ a, (k0_off887 v1598) a + S1x16.size a ≤ S256x256.size a) ∧
  (∀ a, (k0_off888 v1598) a + S1x16.size a ≤ S256x256.size a) ∧
  (∀ a, (k0_off889 v1598) a + S1x16.size a ≤ S256x256.size a) ∧
  (∀ a, (k0_off890 v1598) a + S1x16.size a ≤ S256x256.size a) ∧
  (∀ a, (k0_off891 v1598) a + S1x16.size a ≤ S256x256.size a) ∧
  (∀ a, (k0_off892 v1598) a + S1x16.size a ≤ S256x256.size a) ∧
  (∀ a, (k0_off893 v1598) a + S1x16.size a ≤ S256x256.size a) ∧
  (∀ a, (k0_off894 v1598) a + S1x16.size a ≤ S256x256.size a) ∧
  (∀ a, (k0_off895 v1598) a + S1x16.size a ≤ S256x256.size a) ∧
  (∀ a, (k0_off896 v1598) a + S1x16.size a ≤ S256x16.size a)
theorem k0_off880_inb : ∀ (i : grid0.Coords) (k0_t3 : Fin (k0_t3_loop i).trips) (v1598 : BitVec 32) (k0_hw27 : k0_chk27 i k0_t3 v1598), ∀ a, (k0_off880 v1598) a + S1x16.size a ≤ S256x256.size a := fun i k0_t3 v1598 k0_hw27 => k0_hw27.1
theorem k0_off881_inb : ∀ (i : grid0.Coords) (k0_t3 : Fin (k0_t3_loop i).trips) (v1598 : BitVec 32) (k0_hw27 : k0_chk27 i k0_t3 v1598), ∀ a, (k0_off881 v1598) a + S1x16.size a ≤ S256x256.size a := fun i k0_t3 v1598 k0_hw27 => k0_hw27.2.1
theorem k0_off882_inb : ∀ (i : grid0.Coords) (k0_t3 : Fin (k0_t3_loop i).trips) (v1598 : BitVec 32) (k0_hw27 : k0_chk27 i k0_t3 v1598), ∀ a, (k0_off882 v1598) a + S1x16.size a ≤ S256x256.size a := fun i k0_t3 v1598 k0_hw27 => k0_hw27.2.2.1
theorem k0_off883_inb : ∀ (i : grid0.Coords) (k0_t3 : Fin (k0_t3_loop i).trips) (v1598 : BitVec 32) (k0_hw27 : k0_chk27 i k0_t3 v1598), ∀ a, (k0_off883 v1598) a + S1x16.size a ≤ S256x256.size a := fun i k0_t3 v1598 k0_hw27 => k0_hw27.2.2.2.1
theorem k0_off884_inb : ∀ (i : grid0.Coords) (k0_t3 : Fin (k0_t3_loop i).trips) (v1598 : BitVec 32) (k0_hw27 : k0_chk27 i k0_t3 v1598), ∀ a, (k0_off884 v1598) a + S1x16.size a ≤ S256x256.size a := fun i k0_t3 v1598 k0_hw27 => k0_hw27.2.2.2.2.1
theorem k0_off885_inb : ∀ (i : grid0.Coords) (k0_t3 : Fin (k0_t3_loop i).trips) (v1598 : BitVec 32) (k0_hw27 : k0_chk27 i k0_t3 v1598), ∀ a, (k0_off885 v1598) a + S1x16.size a ≤ S256x256.size a := fun i k0_t3 v1598 k0_hw27 => k0_hw27.2.2.2.2.2.1
theorem k0_off886_inb : ∀ (i : grid0.Coords) (k0_t3 : Fin (k0_t3_loop i).trips) (v1598 : BitVec 32) (k0_hw27 : k0_chk27 i k0_t3 v1598), ∀ a, (k0_off886 v1598) a + S1x16.size a ≤ S256x256.size a := fun i k0_t3 v1598 k0_hw27 => k0_hw27.2.2.2.2.2.2.1
theorem k0_off887_inb : ∀ (i : grid0.Coords) (k0_t3 : Fin (k0_t3_loop i).trips) (v1598 : BitVec 32) (k0_hw27 : k0_chk27 i k0_t3 v1598), ∀ a, (k0_off887 v1598) a + S1x16.size a ≤ S256x256.size a := fun i k0_t3 v1598 k0_hw27 => k0_hw27.2.2.2.2.2.2.2.1
theorem k0_off888_inb : ∀ (i : grid0.Coords) (k0_t3 : Fin (k0_t3_loop i).trips) (v1598 : BitVec 32) (k0_hw27 : k0_chk27 i k0_t3 v1598), ∀ a, (k0_off888 v1598) a + S1x16.size a ≤ S256x256.size a := fun i k0_t3 v1598 k0_hw27 => k0_hw27.2.2.2.2.2.2.2.2.1
theorem k0_off889_inb : ∀ (i : grid0.Coords) (k0_t3 : Fin (k0_t3_loop i).trips) (v1598 : BitVec 32) (k0_hw27 : k0_chk27 i k0_t3 v1598), ∀ a, (k0_off889 v1598) a + S1x16.size a ≤ S256x256.size a := fun i k0_t3 v1598 k0_hw27 => k0_hw27.2.2.2.2.2.2.2.2.2.1
theorem k0_off890_inb : ∀ (i : grid0.Coords) (k0_t3 : Fin (k0_t3_loop i).trips) (v1598 : BitVec 32) (k0_hw27 : k0_chk27 i k0_t3 v1598), ∀ a, (k0_off890 v1598) a + S1x16.size a ≤ S256x256.size a := fun i k0_t3 v1598 k0_hw27 => k0_hw27.2.2.2.2.2.2.2.2.2.2.1
theorem k0_off891_inb : ∀ (i : grid0.Coords) (k0_t3 : Fin (k0_t3_loop i).trips) (v1598 : BitVec 32) (k0_hw27 : k0_chk27 i k0_t3 v1598), ∀ a, (k0_off891 v1598) a + S1x16.size a ≤ S256x256.size a := fun i k0_t3 v1598 k0_hw27 => k0_hw27.2.2.2.2.2.2.2.2.2.2.2.1
theorem k0_off892_inb : ∀ (i : grid0.Coords) (k0_t3 : Fin (k0_t3_loop i).trips) (v1598 : BitVec 32) (k0_hw27 : k0_chk27 i k0_t3 v1598), ∀ a, (k0_off892 v1598) a + S1x16.size a ≤ S256x256.size a := fun i k0_t3 v1598 k0_hw27 => k0_hw27.2.2.2.2.2.2.2.2.2.2.2.2.1
theorem k0_off893_inb : ∀ (i : grid0.Coords) (k0_t3 : Fin (k0_t3_loop i).trips) (v1598 : BitVec 32) (k0_hw27 : k0_chk27 i k0_t3 v1598), ∀ a, (k0_off893 v1598) a + S1x16.size a ≤ S256x256.size a := fun i k0_t3 v1598 k0_hw27 => k0_hw27.2.2.2.2.2.2.2.2.2.2.2.2.2.1
theorem k0_off894_inb : ∀ (i : grid0.Coords) (k0_t3 : Fin (k0_t3_loop i).trips) (v1598 : BitVec 32) (k0_hw27 : k0_chk27 i k0_t3 v1598), ∀ a, (k0_off894 v1598) a + S1x16.size a ≤ S256x256.size a := fun i k0_t3 v1598 k0_hw27 => k0_hw27.2.2.2.2.2.2.2.2.2.2.2.2.2.2.1
theorem k0_off895_inb : ∀ (i : grid0.Coords) (k0_t3 : Fin (k0_t3_loop i).trips) (v1598 : BitVec 32) (k0_hw27 : k0_chk27 i k0_t3 v1598), ∀ a, (k0_off895 v1598) a + S1x16.size a ≤ S256x256.size a := fun i k0_t3 v1598 k0_hw27 => k0_hw27.2.2.2.2.2.2.2.2.2.2.2.2.2.2.2.1
theorem k0_off896_inb : ∀ (i : grid0.Coords) (k0_t3 : Fin (k0_t3_loop i).trips) (v1598 : BitVec 32) (k0_hw27 : k0_chk27 i k0_t3 v1598), ∀ a, (k0_off896 v1598) a + S1x16.size a ≤ S256x16.size a := fun i k0_t3 v1598 k0_hw27 => k0_hw27.2.2.2.2.2.2.2.2.2.2.2.2.2.2.2.2

def k0_off897 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1758 : Index := Scalar.indexCast v1756
  let c0_407 : Index := 0#32
  ![v1758.toNat, 0]
def k0_off898 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1763 : Index := Scalar.indexCast v1756
  let c16_408 : Index := 16#32
  ![v1763.toNat, 16]
def k0_off899 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1768 : Index := Scalar.indexCast v1756
  let c32_409 : Index := 32#32
  ![v1768.toNat, 32]
def k0_off900 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1773 : Index := Scalar.indexCast v1756
  let c48_410 : Index := 48#32
  ![v1773.toNat, 48]
def k0_off901 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1778 : Index := Scalar.indexCast v1756
  let c64_411 : Index := 64#32
  ![v1778.toNat, 64]
def k0_off902 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1783 : Index := Scalar.indexCast v1756
  let c80_412 : Index := 80#32
  ![v1783.toNat, 80]
def k0_off903 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1788 : Index := Scalar.indexCast v1756
  let c96_413 : Index := 96#32
  ![v1788.toNat, 96]
def k0_off904 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1793 : Index := Scalar.indexCast v1756
  let c112_414 : Index := 112#32
  ![v1793.toNat, 112]
def k0_off905 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1798 : Index := Scalar.indexCast v1756
  let c128_415 : Index := 128#32
  ![v1798.toNat, 128]
def k0_off906 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1803 : Index := Scalar.indexCast v1756
  let c144_416 : Index := 144#32
  ![v1803.toNat, 144]
def k0_off907 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1808 : Index := Scalar.indexCast v1756
  let c160_417 : Index := 160#32
  ![v1808.toNat, 160]
def k0_off908 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1813 : Index := Scalar.indexCast v1756
  let c176_418 : Index := 176#32
  ![v1813.toNat, 176]
def k0_off909 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1818 : Index := Scalar.indexCast v1756
  let c192_419 : Index := 192#32
  ![v1818.toNat, 192]
def k0_off910 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1823 : Index := Scalar.indexCast v1756
  let c208_420 : Index := 208#32
  ![v1823.toNat, 208]
def k0_off911 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1828 : Index := Scalar.indexCast v1756
  let c224_421 : Index := 224#32
  ![v1828.toNat, 224]
def k0_off912 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_406 : BitVec 32 := 16#32
  let v1755 : BitVec 32 := Scalar.muli arg31 c16_i32_406
  let c11_i32 : BitVec 32 := 11#32
  let v1756 : BitVec 32 := Scalar.addi v1755 c11_i32
  let v1833 : Index := Scalar.indexCast v1756
  let c240_422 : Index := 240#32
  ![v1833.toNat, 240]
def k0_off913 (v1754 : BitVec 32) : Fin 2 → Nat :=
  let v1840 : Index := Scalar.indexCast v1754
  let c0_425 : Index := 0#32
  ![v1840.toNat, 0]

def k0_off914 (v1754 : BitVec 32) : Fin 2 → Nat :=
  let v1844 : Index := Scalar.indexCast v1754
  let c16_426 : Index := 16#32
  ![v1844.toNat, 16]
def k0_off915 (v1754 : BitVec 32) : Fin 2 → Nat :=
  let v1848 : Index := Scalar.indexCast v1754
  let c32_427 : Index := 32#32
  ![v1848.toNat, 32]
def k0_off916 (v1754 : BitVec 32) : Fin 2 → Nat :=
  let v1852 : Index := Scalar.indexCast v1754
  let c48_428 : Index := 48#32
  ![v1852.toNat, 48]
def k0_off917 (v1754 : BitVec 32) : Fin 2 → Nat :=
  let v1856 : Index := Scalar.indexCast v1754
  let c64_429 : Index := 64#32
  ![v1856.toNat, 64]
def k0_off918 (v1754 : BitVec 32) : Fin 2 → Nat :=
  let v1860 : Index := Scalar.indexCast v1754
  let c80_430 : Index := 80#32
  ![v1860.toNat, 80]
def k0_off919 (v1754 : BitVec 32) : Fin 2 → Nat :=
  let v1864 : Index := Scalar.indexCast v1754
  let c96_431 : Index := 96#32
  ![v1864.toNat, 96]
def k0_off920 (v1754 : BitVec 32) : Fin 2 → Nat :=
  let v1868 : Index := Scalar.indexCast v1754
  let c112_432 : Index := 112#32
  ![v1868.toNat, 112]
def k0_off921 (v1754 : BitVec 32) : Fin 2 → Nat :=
  let v1872 : Index := Scalar.indexCast v1754
  let c128_433 : Index := 128#32
  ![v1872.toNat, 128]
def k0_off922 (v1754 : BitVec 32) : Fin 2 → Nat :=
  let v1876 : Index := Scalar.indexCast v1754
  let c144_434 : Index := 144#32
  ![v1876.toNat, 144]
def k0_off923 (v1754 : BitVec 32) : Fin 2 → Nat :=
  let v1880 : Index := Scalar.indexCast v1754
  let c160_435 : Index := 160#32
  ![v1880.toNat, 160]
def k0_off924 (v1754 : BitVec 32) : Fin 2 → Nat :=
  let v1884 : Index := Scalar.indexCast v1754
  let c176_436 : Index := 176#32
  ![v1884.toNat, 176]
def k0_off925 (v1754 : BitVec 32) : Fin 2 → Nat :=
  let v1888 : Index := Scalar.indexCast v1754
  let c192_437 : Index := 192#32
  ![v1888.toNat, 192]
def k0_off926 (v1754 : BitVec 32) : Fin 2 → Nat :=
  let v1892 : Index := Scalar.indexCast v1754
  let c208_438 : Index := 208#32
  ![v1892.toNat, 208]
def k0_off927 (v1754 : BitVec 32) : Fin 2 → Nat :=
  let v1896 : Index := Scalar.indexCast v1754
  let c224_439 : Index := 224#32
  ![v1896.toNat, 224]
def k0_off928 (v1754 : BitVec 32) : Fin 2 → Nat :=
  let v1900 : Index := Scalar.indexCast v1754
  let c240_440 : Index := 240#32
  ![v1900.toNat, 240]
def k0_off929 (v1754 : BitVec 32) : Fin 2 → Nat :=
  let v1905 : Index := Scalar.indexCast v1754
  let c0_441 : Index := 0#32
  ![v1905.toNat, 0]

def k0_chk28 (i : grid0.Coords) (k0_t3 : Fin (k0_t3_loop i).trips) (v1754 : BitVec 32) : Prop :=
  (∀ a, (k0_off913 v1754) a + S1x16.size a ≤ S256x256.size a) ∧
  (∀ a, (k0_off914 v1754) a + S1x16.size a ≤ S256x256.size a) ∧
  (∀ a, (k0_off915 v1754) a + S1x16.size a ≤ S256x256.size a) ∧
  (∀ a, (k0_off916 v1754) a + S1x16.size a ≤ S256x256.size a) ∧
  (∀ a, (k0_off917 v1754) a + S1x16.size a ≤ S256x256.size a) ∧
  (∀ a, (k0_off918 v1754) a + S1x16.size a ≤ S256x256.size a) ∧
  (∀ a, (k0_off919 v1754) a + S1x16.size a ≤ S256x256.size a) ∧
  (∀ a, (k0_off920 v1754) a + S1x16.size a ≤ S256x256.size a) ∧
  (∀ a, (k0_off921 v1754) a + S1x16.size a ≤ S256x256.size a) ∧
  (∀ a, (k0_off922 v1754) a + S1x16.size a ≤ S256x256.size a) ∧
  (∀ a, (k0_off923 v1754) a + S1x16.size a ≤ S256x256.size a) ∧
  (∀ a, (k0_off924 v1754) a + S1x16.size a ≤ S256x256.size a) ∧
  (∀ a, (k0_off925 v1754) a + S1x16.size a ≤ S256x256.size a) ∧
  (∀ a, (k0_off926 v1754) a + S1x16.size a ≤ S256x256.size a) ∧
  (∀ a, (k0_off927 v1754) a + S1x16.size a ≤ S256x256.size a) ∧
  (∀ a, (k0_off928 v1754) a + S1x16.size a ≤ S256x256.size a) ∧
  (∀ a, (k0_off929 v1754) a + S1x16.size a ≤ S256x16.size a)
theorem k0_off913_inb : ∀ (i : grid0.Coords) (k0_t3 : Fin (k0_t3_loop i).trips) (v1754 : BitVec 32) (k0_hw28 : k0_chk28 i k0_t3 v1754), ∀ a, (k0_off913 v1754) a + S1x16.size a ≤ S256x256.size a := fun i k0_t3 v1754 k0_hw28 => k0_hw28.1
theorem k0_off914_inb : ∀ (i : grid0.Coords) (k0_t3 : Fin (k0_t3_loop i).trips) (v1754 : BitVec 32) (k0_hw28 : k0_chk28 i k0_t3 v1754), ∀ a, (k0_off914 v1754) a + S1x16.size a ≤ S256x256.size a := fun i k0_t3 v1754 k0_hw28 => k0_hw28.2.1
theorem k0_off915_inb : ∀ (i : grid0.Coords) (k0_t3 : Fin (k0_t3_loop i).trips) (v1754 : BitVec 32) (k0_hw28 : k0_chk28 i k0_t3 v1754), ∀ a, (k0_off915 v1754) a + S1x16.size a ≤ S256x256.size a := fun i k0_t3 v1754 k0_hw28 => k0_hw28.2.2.1
theorem k0_off916_inb : ∀ (i : grid0.Coords) (k0_t3 : Fin (k0_t3_loop i).trips) (v1754 : BitVec 32) (k0_hw28 : k0_chk28 i k0_t3 v1754), ∀ a, (k0_off916 v1754) a + S1x16.size a ≤ S256x256.size a := fun i k0_t3 v1754 k0_hw28 => k0_hw28.2.2.2.1
theorem k0_off917_inb : ∀ (i : grid0.Coords) (k0_t3 : Fin (k0_t3_loop i).trips) (v1754 : BitVec 32) (k0_hw28 : k0_chk28 i k0_t3 v1754), ∀ a, (k0_off917 v1754) a + S1x16.size a ≤ S256x256.size a := fun i k0_t3 v1754 k0_hw28 => k0_hw28.2.2.2.2.1
theorem k0_off918_inb : ∀ (i : grid0.Coords) (k0_t3 : Fin (k0_t3_loop i).trips) (v1754 : BitVec 32) (k0_hw28 : k0_chk28 i k0_t3 v1754), ∀ a, (k0_off918 v1754) a + S1x16.size a ≤ S256x256.size a := fun i k0_t3 v1754 k0_hw28 => k0_hw28.2.2.2.2.2.1
theorem k0_off919_inb : ∀ (i : grid0.Coords) (k0_t3 : Fin (k0_t3_loop i).trips) (v1754 : BitVec 32) (k0_hw28 : k0_chk28 i k0_t3 v1754), ∀ a, (k0_off919 v1754) a + S1x16.size a ≤ S256x256.size a := fun i k0_t3 v1754 k0_hw28 => k0_hw28.2.2.2.2.2.2.1
theorem k0_off920_inb : ∀ (i : grid0.Coords) (k0_t3 : Fin (k0_t3_loop i).trips) (v1754 : BitVec 32) (k0_hw28 : k0_chk28 i k0_t3 v1754), ∀ a, (k0_off920 v1754) a + S1x16.size a ≤ S256x256.size a := fun i k0_t3 v1754 k0_hw28 => k0_hw28.2.2.2.2.2.2.2.1
theorem k0_off921_inb : ∀ (i : grid0.Coords) (k0_t3 : Fin (k0_t3_loop i).trips) (v1754 : BitVec 32) (k0_hw28 : k0_chk28 i k0_t3 v1754), ∀ a, (k0_off921 v1754) a + S1x16.size a ≤ S256x256.size a := fun i k0_t3 v1754 k0_hw28 => k0_hw28.2.2.2.2.2.2.2.2.1
theorem k0_off922_inb : ∀ (i : grid0.Coords) (k0_t3 : Fin (k0_t3_loop i).trips) (v1754 : BitVec 32) (k0_hw28 : k0_chk28 i k0_t3 v1754), ∀ a, (k0_off922 v1754) a + S1x16.size a ≤ S256x256.size a := fun i k0_t3 v1754 k0_hw28 => k0_hw28.2.2.2.2.2.2.2.2.2.1
theorem k0_off923_inb : ∀ (i : grid0.Coords) (k0_t3 : Fin (k0_t3_loop i).trips) (v1754 : BitVec 32) (k0_hw28 : k0_chk28 i k0_t3 v1754), ∀ a, (k0_off923 v1754) a + S1x16.size a ≤ S256x256.size a := fun i k0_t3 v1754 k0_hw28 => k0_hw28.2.2.2.2.2.2.2.2.2.2.1
theorem k0_off924_inb : ∀ (i : grid0.Coords) (k0_t3 : Fin (k0_t3_loop i).trips) (v1754 : BitVec 32) (k0_hw28 : k0_chk28 i k0_t3 v1754), ∀ a, (k0_off924 v1754) a + S1x16.size a ≤ S256x256.size a := fun i k0_t3 v1754 k0_hw28 => k0_hw28.2.2.2.2.2.2.2.2.2.2.2.1
theorem k0_off925_inb : ∀ (i : grid0.Coords) (k0_t3 : Fin (k0_t3_loop i).trips) (v1754 : BitVec 32) (k0_hw28 : k0_chk28 i k0_t3 v1754), ∀ a, (k0_off925 v1754) a + S1x16.size a ≤ S256x256.size a := fun i k0_t3 v1754 k0_hw28 => k0_hw28.2.2.2.2.2.2.2.2.2.2.2.2.1
theorem k0_off926_inb : ∀ (i : grid0.Coords) (k0_t3 : Fin (k0_t3_loop i).trips) (v1754 : BitVec 32) (k0_hw28 : k0_chk28 i k0_t3 v1754), ∀ a, (k0_off926 v1754) a + S1x16.size a ≤ S256x256.size a := fun i k0_t3 v1754 k0_hw28 => k0_hw28.2.2.2.2.2.2.2.2.2.2.2.2.2.1
theorem k0_off927_inb : ∀ (i : grid0.Coords) (k0_t3 : Fin (k0_t3_loop i).trips) (v1754 : BitVec 32) (k0_hw28 : k0_chk28 i k0_t3 v1754), ∀ a, (k0_off927 v1754) a + S1x16.size a ≤ S256x256.size a := fun i k0_t3 v1754 k0_hw28 => k0_hw28.2.2.2.2.2.2.2.2.2.2.2.2.2.2.1
theorem k0_off928_inb : ∀ (i : grid0.Coords) (k0_t3 : Fin (k0_t3_loop i).trips) (v1754 : BitVec 32) (k0_hw28 : k0_chk28 i k0_t3 v1754), ∀ a, (k0_off928 v1754) a + S1x16.size a ≤ S256x256.size a := fun i k0_t3 v1754 k0_hw28 => k0_hw28.2.2.2.2.2.2.2.2.2.2.2.2.2.2.2.1
theorem k0_off929_inb : ∀ (i : grid0.Coords) (k0_t3 : Fin (k0_t3_loop i).trips) (v1754 : BitVec 32) (k0_hw28 : k0_chk28 i k0_t3 v1754), ∀ a, (k0_off929 v1754) a + S1x16.size a ≤ S256x16.size a := fun i k0_t3 v1754 k0_hw28 => k0_hw28.2.2.2.2.2.2.2.2.2.2.2.2.2.2.2.2

def k0_off930 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1914 : Index := Scalar.indexCast v1912
  let c0_443 : Index := 0#32
  ![v1914.toNat, 0]
def k0_off931 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1919 : Index := Scalar.indexCast v1912
  let c16_444 : Index := 16#32
  ![v1919.toNat, 16]
def k0_off932 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1924 : Index := Scalar.indexCast v1912
  let c32_445 : Index := 32#32
  ![v1924.toNat, 32]
def k0_off933 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1929 : Index := Scalar.indexCast v1912
  let c48_446 : Index := 48#32
  ![v1929.toNat, 48]
def k0_off934 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1934 : Index := Scalar.indexCast v1912
  let c64_447 : Index := 64#32
  ![v1934.toNat, 64]
def k0_off935 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1939 : Index := Scalar.indexCast v1912
  let c80_448 : Index := 80#32
  ![v1939.toNat, 80]
def k0_off936 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1944 : Index := Scalar.indexCast v1912
  let c96_449 : Index := 96#32
  ![v1944.toNat, 96]
def k0_off937 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1949 : Index := Scalar.indexCast v1912
  let c112_450 : Index := 112#32
  ![v1949.toNat, 112]
def k0_off938 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1954 : Index := Scalar.indexCast v1912
  let c128_451 : Index := 128#32
  ![v1954.toNat, 128]
def k0_off939 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1959 : Index := Scalar.indexCast v1912
  let c144_452 : Index := 144#32
  ![v1959.toNat, 144]
def k0_off940 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1964 : Index := Scalar.indexCast v1912
  let c160_453 : Index := 160#32
  ![v1964.toNat, 160]
def k0_off941 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1969 : Index := Scalar.indexCast v1912
  let c176_454 : Index := 176#32
  ![v1969.toNat, 176]
def k0_off942 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1974 : Index := Scalar.indexCast v1912
  let c192_455 : Index := 192#32
  ![v1974.toNat, 192]
def k0_off943 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1979 : Index := Scalar.indexCast v1912
  let c208_456 : Index := 208#32
  ![v1979.toNat, 208]
def k0_off944 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1984 : Index := Scalar.indexCast v1912
  let c224_457 : Index := 224#32
  ![v1984.toNat, 224]
def k0_off945 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_442 : BitVec 32 := 16#32
  let v1911 : BitVec 32 := Scalar.muli arg31 c16_i32_442
  let c12_i32 : BitVec 32 := 12#32
  let v1912 : BitVec 32 := Scalar.addi v1911 c12_i32
  let v1989 : Index := Scalar.indexCast v1912
  let c240_458 : Index := 240#32
  ![v1989.toNat, 240]
def k0_off946 (v1910 : BitVec 32) : Fin 2 → Nat :=
  let v1996 : Index := Scalar.indexCast v1910
  let c0_461 : Index := 0#32
  ![v1996.toNat, 0]

def k0_off947 (v1910 : BitVec 32) : Fin 2 → Nat :=
  let v2000 : Index := Scalar.indexCast v1910
  let c16_462 : Index := 16#32
  ![v2000.toNat, 16]
def k0_off948 (v1910 : BitVec 32) : Fin 2 → Nat :=
  let v2004 : Index := Scalar.indexCast v1910
  let c32_463 : Index := 32#32
  ![v2004.toNat, 32]
def k0_off949 (v1910 : BitVec 32) : Fin 2 → Nat :=
  let v2008 : Index := Scalar.indexCast v1910
  let c48_464 : Index := 48#32
  ![v2008.toNat, 48]
def k0_off950 (v1910 : BitVec 32) : Fin 2 → Nat :=
  let v2012 : Index := Scalar.indexCast v1910
  let c64_465 : Index := 64#32
  ![v2012.toNat, 64]
def k0_off951 (v1910 : BitVec 32) : Fin 2 → Nat :=
  let v2016 : Index := Scalar.indexCast v1910
  let c80_466 : Index := 80#32
  ![v2016.toNat, 80]
def k0_off952 (v1910 : BitVec 32) : Fin 2 → Nat :=
  let v2020 : Index := Scalar.indexCast v1910
  let c96_467 : Index := 96#32
  ![v2020.toNat, 96]
def k0_off953 (v1910 : BitVec 32) : Fin 2 → Nat :=
  let v2024 : Index := Scalar.indexCast v1910
  let c112_468 : Index := 112#32
  ![v2024.toNat, 112]
def k0_off954 (v1910 : BitVec 32) : Fin 2 → Nat :=
  let v2028 : Index := Scalar.indexCast v1910
  let c128_469 : Index := 128#32
  ![v2028.toNat, 128]
def k0_off955 (v1910 : BitVec 32) : Fin 2 → Nat :=
  let v2032 : Index := Scalar.indexCast v1910
  let c144_470 : Index := 144#32
  ![v2032.toNat, 144]
def k0_off956 (v1910 : BitVec 32) : Fin 2 → Nat :=
  let v2036 : Index := Scalar.indexCast v1910
  let c160_471 : Index := 160#32
  ![v2036.toNat, 160]
def k0_off957 (v1910 : BitVec 32) : Fin 2 → Nat :=
  let v2040 : Index := Scalar.indexCast v1910
  let c176_472 : Index := 176#32
  ![v2040.toNat, 176]
def k0_off958 (v1910 : BitVec 32) : Fin 2 → Nat :=
  let v2044 : Index := Scalar.indexCast v1910
  let c192_473 : Index := 192#32
  ![v2044.toNat, 192]
def k0_off959 (v1910 : BitVec 32) : Fin 2 → Nat :=
  let v2048 : Index := Scalar.indexCast v1910
  let c208_474 : Index := 208#32
  ![v2048.toNat, 208]
def k0_off960 (v1910 : BitVec 32) : Fin 2 → Nat :=
  let v2052 : Index := Scalar.indexCast v1910
  let c224_475 : Index := 224#32
  ![v2052.toNat, 224]
def k0_off961 (v1910 : BitVec 32) : Fin 2 → Nat :=
  let v2056 : Index := Scalar.indexCast v1910
  let c240_476 : Index := 240#32
  ![v2056.toNat, 240]
def k0_off962 (v1910 : BitVec 32) : Fin 2 → Nat :=
  let v2061 : Index := Scalar.indexCast v1910
  let c0_477 : Index := 0#32
  ![v2061.toNat, 0]

def k0_chk29 (i : grid0.Coords) (k0_t3 : Fin (k0_t3_loop i).trips) (v1910 : BitVec 32) : Prop :=
  (∀ a, (k0_off946 v1910) a + S1x16.size a ≤ S256x256.size a) ∧
  (∀ a, (k0_off947 v1910) a + S1x16.size a ≤ S256x256.size a) ∧
  (∀ a, (k0_off948 v1910) a + S1x16.size a ≤ S256x256.size a) ∧
  (∀ a, (k0_off949 v1910) a + S1x16.size a ≤ S256x256.size a) ∧
  (∀ a, (k0_off950 v1910) a + S1x16.size a ≤ S256x256.size a) ∧
  (∀ a, (k0_off951 v1910) a + S1x16.size a ≤ S256x256.size a) ∧
  (∀ a, (k0_off952 v1910) a + S1x16.size a ≤ S256x256.size a) ∧
  (∀ a, (k0_off953 v1910) a + S1x16.size a ≤ S256x256.size a) ∧
  (∀ a, (k0_off954 v1910) a + S1x16.size a ≤ S256x256.size a) ∧
  (∀ a, (k0_off955 v1910) a + S1x16.size a ≤ S256x256.size a) ∧
  (∀ a, (k0_off956 v1910) a + S1x16.size a ≤ S256x256.size a) ∧
  (∀ a, (k0_off957 v1910) a + S1x16.size a ≤ S256x256.size a) ∧
  (∀ a, (k0_off958 v1910) a + S1x16.size a ≤ S256x256.size a) ∧
  (∀ a, (k0_off959 v1910) a + S1x16.size a ≤ S256x256.size a) ∧
  (∀ a, (k0_off960 v1910) a + S1x16.size a ≤ S256x256.size a) ∧
  (∀ a, (k0_off961 v1910) a + S1x16.size a ≤ S256x256.size a) ∧
  (∀ a, (k0_off962 v1910) a + S1x16.size a ≤ S256x16.size a)
theorem k0_off946_inb : ∀ (i : grid0.Coords) (k0_t3 : Fin (k0_t3_loop i).trips) (v1910 : BitVec 32) (k0_hw29 : k0_chk29 i k0_t3 v1910), ∀ a, (k0_off946 v1910) a + S1x16.size a ≤ S256x256.size a := fun i k0_t3 v1910 k0_hw29 => k0_hw29.1
theorem k0_off947_inb : ∀ (i : grid0.Coords) (k0_t3 : Fin (k0_t3_loop i).trips) (v1910 : BitVec 32) (k0_hw29 : k0_chk29 i k0_t3 v1910), ∀ a, (k0_off947 v1910) a + S1x16.size a ≤ S256x256.size a := fun i k0_t3 v1910 k0_hw29 => k0_hw29.2.1
theorem k0_off948_inb : ∀ (i : grid0.Coords) (k0_t3 : Fin (k0_t3_loop i).trips) (v1910 : BitVec 32) (k0_hw29 : k0_chk29 i k0_t3 v1910), ∀ a, (k0_off948 v1910) a + S1x16.size a ≤ S256x256.size a := fun i k0_t3 v1910 k0_hw29 => k0_hw29.2.2.1
theorem k0_off949_inb : ∀ (i : grid0.Coords) (k0_t3 : Fin (k0_t3_loop i).trips) (v1910 : BitVec 32) (k0_hw29 : k0_chk29 i k0_t3 v1910), ∀ a, (k0_off949 v1910) a + S1x16.size a ≤ S256x256.size a := fun i k0_t3 v1910 k0_hw29 => k0_hw29.2.2.2.1
theorem k0_off950_inb : ∀ (i : grid0.Coords) (k0_t3 : Fin (k0_t3_loop i).trips) (v1910 : BitVec 32) (k0_hw29 : k0_chk29 i k0_t3 v1910), ∀ a, (k0_off950 v1910) a + S1x16.size a ≤ S256x256.size a := fun i k0_t3 v1910 k0_hw29 => k0_hw29.2.2.2.2.1
theorem k0_off951_inb : ∀ (i : grid0.Coords) (k0_t3 : Fin (k0_t3_loop i).trips) (v1910 : BitVec 32) (k0_hw29 : k0_chk29 i k0_t3 v1910), ∀ a, (k0_off951 v1910) a + S1x16.size a ≤ S256x256.size a := fun i k0_t3 v1910 k0_hw29 => k0_hw29.2.2.2.2.2.1
theorem k0_off952_inb : ∀ (i : grid0.Coords) (k0_t3 : Fin (k0_t3_loop i).trips) (v1910 : BitVec 32) (k0_hw29 : k0_chk29 i k0_t3 v1910), ∀ a, (k0_off952 v1910) a + S1x16.size a ≤ S256x256.size a := fun i k0_t3 v1910 k0_hw29 => k0_hw29.2.2.2.2.2.2.1
theorem k0_off953_inb : ∀ (i : grid0.Coords) (k0_t3 : Fin (k0_t3_loop i).trips) (v1910 : BitVec 32) (k0_hw29 : k0_chk29 i k0_t3 v1910), ∀ a, (k0_off953 v1910) a + S1x16.size a ≤ S256x256.size a := fun i k0_t3 v1910 k0_hw29 => k0_hw29.2.2.2.2.2.2.2.1
theorem k0_off954_inb : ∀ (i : grid0.Coords) (k0_t3 : Fin (k0_t3_loop i).trips) (v1910 : BitVec 32) (k0_hw29 : k0_chk29 i k0_t3 v1910), ∀ a, (k0_off954 v1910) a + S1x16.size a ≤ S256x256.size a := fun i k0_t3 v1910 k0_hw29 => k0_hw29.2.2.2.2.2.2.2.2.1
theorem k0_off955_inb : ∀ (i : grid0.Coords) (k0_t3 : Fin (k0_t3_loop i).trips) (v1910 : BitVec 32) (k0_hw29 : k0_chk29 i k0_t3 v1910), ∀ a, (k0_off955 v1910) a + S1x16.size a ≤ S256x256.size a := fun i k0_t3 v1910 k0_hw29 => k0_hw29.2.2.2.2.2.2.2.2.2.1
theorem k0_off956_inb : ∀ (i : grid0.Coords) (k0_t3 : Fin (k0_t3_loop i).trips) (v1910 : BitVec 32) (k0_hw29 : k0_chk29 i k0_t3 v1910), ∀ a, (k0_off956 v1910) a + S1x16.size a ≤ S256x256.size a := fun i k0_t3 v1910 k0_hw29 => k0_hw29.2.2.2.2.2.2.2.2.2.2.1
theorem k0_off957_inb : ∀ (i : grid0.Coords) (k0_t3 : Fin (k0_t3_loop i).trips) (v1910 : BitVec 32) (k0_hw29 : k0_chk29 i k0_t3 v1910), ∀ a, (k0_off957 v1910) a + S1x16.size a ≤ S256x256.size a := fun i k0_t3 v1910 k0_hw29 => k0_hw29.2.2.2.2.2.2.2.2.2.2.2.1
theorem k0_off958_inb : ∀ (i : grid0.Coords) (k0_t3 : Fin (k0_t3_loop i).trips) (v1910 : BitVec 32) (k0_hw29 : k0_chk29 i k0_t3 v1910), ∀ a, (k0_off958 v1910) a + S1x16.size a ≤ S256x256.size a := fun i k0_t3 v1910 k0_hw29 => k0_hw29.2.2.2.2.2.2.2.2.2.2.2.2.1
theorem k0_off959_inb : ∀ (i : grid0.Coords) (k0_t3 : Fin (k0_t3_loop i).trips) (v1910 : BitVec 32) (k0_hw29 : k0_chk29 i k0_t3 v1910), ∀ a, (k0_off959 v1910) a + S1x16.size a ≤ S256x256.size a := fun i k0_t3 v1910 k0_hw29 => k0_hw29.2.2.2.2.2.2.2.2.2.2.2.2.2.1
theorem k0_off960_inb : ∀ (i : grid0.Coords) (k0_t3 : Fin (k0_t3_loop i).trips) (v1910 : BitVec 32) (k0_hw29 : k0_chk29 i k0_t3 v1910), ∀ a, (k0_off960 v1910) a + S1x16.size a ≤ S256x256.size a := fun i k0_t3 v1910 k0_hw29 => k0_hw29.2.2.2.2.2.2.2.2.2.2.2.2.2.2.1
theorem k0_off961_inb : ∀ (i : grid0.Coords) (k0_t3 : Fin (k0_t3_loop i).trips) (v1910 : BitVec 32) (k0_hw29 : k0_chk29 i k0_t3 v1910), ∀ a, (k0_off961 v1910) a + S1x16.size a ≤ S256x256.size a := fun i k0_t3 v1910 k0_hw29 => k0_hw29.2.2.2.2.2.2.2.2.2.2.2.2.2.2.2.1
theorem k0_off962_inb : ∀ (i : grid0.Coords) (k0_t3 : Fin (k0_t3_loop i).trips) (v1910 : BitVec 32) (k0_hw29 : k0_chk29 i k0_t3 v1910), ∀ a, (k0_off962 v1910) a + S1x16.size a ≤ S256x16.size a := fun i k0_t3 v1910 k0_hw29 => k0_hw29.2.2.2.2.2.2.2.2.2.2.2.2.2.2.2.2

def k0_off963 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2070 : Index := Scalar.indexCast v2068
  let c0_479 : Index := 0#32
  ![v2070.toNat, 0]
def k0_off964 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2075 : Index := Scalar.indexCast v2068
  let c16_480 : Index := 16#32
  ![v2075.toNat, 16]
def k0_off965 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2080 : Index := Scalar.indexCast v2068
  let c32_481 : Index := 32#32
  ![v2080.toNat, 32]
def k0_off966 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2085 : Index := Scalar.indexCast v2068
  let c48_482 : Index := 48#32
  ![v2085.toNat, 48]
def k0_off967 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2090 : Index := Scalar.indexCast v2068
  let c64_483 : Index := 64#32
  ![v2090.toNat, 64]
def k0_off968 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2095 : Index := Scalar.indexCast v2068
  let c80_484 : Index := 80#32
  ![v2095.toNat, 80]
def k0_off969 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2100 : Index := Scalar.indexCast v2068
  let c96_485 : Index := 96#32
  ![v2100.toNat, 96]
def k0_off970 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2105 : Index := Scalar.indexCast v2068
  let c112_486 : Index := 112#32
  ![v2105.toNat, 112]
def k0_off971 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2110 : Index := Scalar.indexCast v2068
  let c128_487 : Index := 128#32
  ![v2110.toNat, 128]
def k0_off972 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2115 : Index := Scalar.indexCast v2068
  let c144_488 : Index := 144#32
  ![v2115.toNat, 144]
def k0_off973 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2120 : Index := Scalar.indexCast v2068
  let c160_489 : Index := 160#32
  ![v2120.toNat, 160]
def k0_off974 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2125 : Index := Scalar.indexCast v2068
  let c176_490 : Index := 176#32
  ![v2125.toNat, 176]
def k0_off975 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2130 : Index := Scalar.indexCast v2068
  let c192_491 : Index := 192#32
  ![v2130.toNat, 192]
def k0_off976 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2135 : Index := Scalar.indexCast v2068
  let c208_492 : Index := 208#32
  ![v2135.toNat, 208]
def k0_off977 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2140 : Index := Scalar.indexCast v2068
  let c224_493 : Index := 224#32
  ![v2140.toNat, 224]
def k0_off978 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_478 : BitVec 32 := 16#32
  let v2067 : BitVec 32 := Scalar.muli arg31 c16_i32_478
  let c13_i32 : BitVec 32 := 13#32
  let v2068 : BitVec 32 := Scalar.addi v2067 c13_i32
  let v2145 : Index := Scalar.indexCast v2068
  let c240_494 : Index := 240#32
  ![v2145.toNat, 240]
def k0_off979 (v2066 : BitVec 32) : Fin 2 → Nat :=
  let v2152 : Index := Scalar.indexCast v2066
  let c0_497 : Index := 0#32
  ![v2152.toNat, 0]

def k0_off980 (v2066 : BitVec 32) : Fin 2 → Nat :=
  let v2156 : Index := Scalar.indexCast v2066
  let c16_498 : Index := 16#32
  ![v2156.toNat, 16]
def k0_off981 (v2066 : BitVec 32) : Fin 2 → Nat :=
  let v2160 : Index := Scalar.indexCast v2066
  let c32_499 : Index := 32#32
  ![v2160.toNat, 32]
def k0_off982 (v2066 : BitVec 32) : Fin 2 → Nat :=
  let v2164 : Index := Scalar.indexCast v2066
  let c48_500 : Index := 48#32
  ![v2164.toNat, 48]
def k0_off983 (v2066 : BitVec 32) : Fin 2 → Nat :=
  let v2168 : Index := Scalar.indexCast v2066
  let c64_501 : Index := 64#32
  ![v2168.toNat, 64]
def k0_off984 (v2066 : BitVec 32) : Fin 2 → Nat :=
  let v2172 : Index := Scalar.indexCast v2066
  let c80_502 : Index := 80#32
  ![v2172.toNat, 80]
def k0_off985 (v2066 : BitVec 32) : Fin 2 → Nat :=
  let v2176 : Index := Scalar.indexCast v2066
  let c96_503 : Index := 96#32
  ![v2176.toNat, 96]
def k0_off986 (v2066 : BitVec 32) : Fin 2 → Nat :=
  let v2180 : Index := Scalar.indexCast v2066
  let c112_504 : Index := 112#32
  ![v2180.toNat, 112]
def k0_off987 (v2066 : BitVec 32) : Fin 2 → Nat :=
  let v2184 : Index := Scalar.indexCast v2066
  let c128_505 : Index := 128#32
  ![v2184.toNat, 128]
def k0_off988 (v2066 : BitVec 32) : Fin 2 → Nat :=
  let v2188 : Index := Scalar.indexCast v2066
  let c144_506 : Index := 144#32
  ![v2188.toNat, 144]
def k0_off989 (v2066 : BitVec 32) : Fin 2 → Nat :=
  let v2192 : Index := Scalar.indexCast v2066
  let c160_507 : Index := 160#32
  ![v2192.toNat, 160]
def k0_off990 (v2066 : BitVec 32) : Fin 2 → Nat :=
  let v2196 : Index := Scalar.indexCast v2066
  let c176_508 : Index := 176#32
  ![v2196.toNat, 176]
def k0_off991 (v2066 : BitVec 32) : Fin 2 → Nat :=
  let v2200 : Index := Scalar.indexCast v2066
  let c192_509 : Index := 192#32
  ![v2200.toNat, 192]
def k0_off992 (v2066 : BitVec 32) : Fin 2 → Nat :=
  let v2204 : Index := Scalar.indexCast v2066
  let c208_510 : Index := 208#32
  ![v2204.toNat, 208]
def k0_off993 (v2066 : BitVec 32) : Fin 2 → Nat :=
  let v2208 : Index := Scalar.indexCast v2066
  let c224_511 : Index := 224#32
  ![v2208.toNat, 224]
def k0_off994 (v2066 : BitVec 32) : Fin 2 → Nat :=
  let v2212 : Index := Scalar.indexCast v2066
  let c240_512 : Index := 240#32
  ![v2212.toNat, 240]
def k0_off995 (v2066 : BitVec 32) : Fin 2 → Nat :=
  let v2217 : Index := Scalar.indexCast v2066
  let c0_513 : Index := 0#32
  ![v2217.toNat, 0]

def k0_chk30 (i : grid0.Coords) (k0_t3 : Fin (k0_t3_loop i).trips) (v2066 : BitVec 32) : Prop :=
  (∀ a, (k0_off979 v2066) a + S1x16.size a ≤ S256x256.size a) ∧
  (∀ a, (k0_off980 v2066) a + S1x16.size a ≤ S256x256.size a) ∧
  (∀ a, (k0_off981 v2066) a + S1x16.size a ≤ S256x256.size a) ∧
  (∀ a, (k0_off982 v2066) a + S1x16.size a ≤ S256x256.size a) ∧
  (∀ a, (k0_off983 v2066) a + S1x16.size a ≤ S256x256.size a) ∧
  (∀ a, (k0_off984 v2066) a + S1x16.size a ≤ S256x256.size a) ∧
  (∀ a, (k0_off985 v2066) a + S1x16.size a ≤ S256x256.size a) ∧
  (∀ a, (k0_off986 v2066) a + S1x16.size a ≤ S256x256.size a) ∧
  (∀ a, (k0_off987 v2066) a + S1x16.size a ≤ S256x256.size a) ∧
  (∀ a, (k0_off988 v2066) a + S1x16.size a ≤ S256x256.size a) ∧
  (∀ a, (k0_off989 v2066) a + S1x16.size a ≤ S256x256.size a) ∧
  (∀ a, (k0_off990 v2066) a + S1x16.size a ≤ S256x256.size a) ∧
  (∀ a, (k0_off991 v2066) a + S1x16.size a ≤ S256x256.size a) ∧
  (∀ a, (k0_off992 v2066) a + S1x16.size a ≤ S256x256.size a) ∧
  (∀ a, (k0_off993 v2066) a + S1x16.size a ≤ S256x256.size a) ∧
  (∀ a, (k0_off994 v2066) a + S1x16.size a ≤ S256x256.size a) ∧
  (∀ a, (k0_off995 v2066) a + S1x16.size a ≤ S256x16.size a)
theorem k0_off979_inb : ∀ (i : grid0.Coords) (k0_t3 : Fin (k0_t3_loop i).trips) (v2066 : BitVec 32) (k0_hw30 : k0_chk30 i k0_t3 v2066), ∀ a, (k0_off979 v2066) a + S1x16.size a ≤ S256x256.size a := fun i k0_t3 v2066 k0_hw30 => k0_hw30.1
theorem k0_off980_inb : ∀ (i : grid0.Coords) (k0_t3 : Fin (k0_t3_loop i).trips) (v2066 : BitVec 32) (k0_hw30 : k0_chk30 i k0_t3 v2066), ∀ a, (k0_off980 v2066) a + S1x16.size a ≤ S256x256.size a := fun i k0_t3 v2066 k0_hw30 => k0_hw30.2.1
theorem k0_off981_inb : ∀ (i : grid0.Coords) (k0_t3 : Fin (k0_t3_loop i).trips) (v2066 : BitVec 32) (k0_hw30 : k0_chk30 i k0_t3 v2066), ∀ a, (k0_off981 v2066) a + S1x16.size a ≤ S256x256.size a := fun i k0_t3 v2066 k0_hw30 => k0_hw30.2.2.1
theorem k0_off982_inb : ∀ (i : grid0.Coords) (k0_t3 : Fin (k0_t3_loop i).trips) (v2066 : BitVec 32) (k0_hw30 : k0_chk30 i k0_t3 v2066), ∀ a, (k0_off982 v2066) a + S1x16.size a ≤ S256x256.size a := fun i k0_t3 v2066 k0_hw30 => k0_hw30.2.2.2.1
theorem k0_off983_inb : ∀ (i : grid0.Coords) (k0_t3 : Fin (k0_t3_loop i).trips) (v2066 : BitVec 32) (k0_hw30 : k0_chk30 i k0_t3 v2066), ∀ a, (k0_off983 v2066) a + S1x16.size a ≤ S256x256.size a := fun i k0_t3 v2066 k0_hw30 => k0_hw30.2.2.2.2.1
theorem k0_off984_inb : ∀ (i : grid0.Coords) (k0_t3 : Fin (k0_t3_loop i).trips) (v2066 : BitVec 32) (k0_hw30 : k0_chk30 i k0_t3 v2066), ∀ a, (k0_off984 v2066) a + S1x16.size a ≤ S256x256.size a := fun i k0_t3 v2066 k0_hw30 => k0_hw30.2.2.2.2.2.1
theorem k0_off985_inb : ∀ (i : grid0.Coords) (k0_t3 : Fin (k0_t3_loop i).trips) (v2066 : BitVec 32) (k0_hw30 : k0_chk30 i k0_t3 v2066), ∀ a, (k0_off985 v2066) a + S1x16.size a ≤ S256x256.size a := fun i k0_t3 v2066 k0_hw30 => k0_hw30.2.2.2.2.2.2.1
theorem k0_off986_inb : ∀ (i : grid0.Coords) (k0_t3 : Fin (k0_t3_loop i).trips) (v2066 : BitVec 32) (k0_hw30 : k0_chk30 i k0_t3 v2066), ∀ a, (k0_off986 v2066) a + S1x16.size a ≤ S256x256.size a := fun i k0_t3 v2066 k0_hw30 => k0_hw30.2.2.2.2.2.2.2.1
theorem k0_off987_inb : ∀ (i : grid0.Coords) (k0_t3 : Fin (k0_t3_loop i).trips) (v2066 : BitVec 32) (k0_hw30 : k0_chk30 i k0_t3 v2066), ∀ a, (k0_off987 v2066) a + S1x16.size a ≤ S256x256.size a := fun i k0_t3 v2066 k0_hw30 => k0_hw30.2.2.2.2.2.2.2.2.1
theorem k0_off988_inb : ∀ (i : grid0.Coords) (k0_t3 : Fin (k0_t3_loop i).trips) (v2066 : BitVec 32) (k0_hw30 : k0_chk30 i k0_t3 v2066), ∀ a, (k0_off988 v2066) a + S1x16.size a ≤ S256x256.size a := fun i k0_t3 v2066 k0_hw30 => k0_hw30.2.2.2.2.2.2.2.2.2.1
theorem k0_off989_inb : ∀ (i : grid0.Coords) (k0_t3 : Fin (k0_t3_loop i).trips) (v2066 : BitVec 32) (k0_hw30 : k0_chk30 i k0_t3 v2066), ∀ a, (k0_off989 v2066) a + S1x16.size a ≤ S256x256.size a := fun i k0_t3 v2066 k0_hw30 => k0_hw30.2.2.2.2.2.2.2.2.2.2.1
theorem k0_off990_inb : ∀ (i : grid0.Coords) (k0_t3 : Fin (k0_t3_loop i).trips) (v2066 : BitVec 32) (k0_hw30 : k0_chk30 i k0_t3 v2066), ∀ a, (k0_off990 v2066) a + S1x16.size a ≤ S256x256.size a := fun i k0_t3 v2066 k0_hw30 => k0_hw30.2.2.2.2.2.2.2.2.2.2.2.1
theorem k0_off991_inb : ∀ (i : grid0.Coords) (k0_t3 : Fin (k0_t3_loop i).trips) (v2066 : BitVec 32) (k0_hw30 : k0_chk30 i k0_t3 v2066), ∀ a, (k0_off991 v2066) a + S1x16.size a ≤ S256x256.size a := fun i k0_t3 v2066 k0_hw30 => k0_hw30.2.2.2.2.2.2.2.2.2.2.2.2.1
theorem k0_off992_inb : ∀ (i : grid0.Coords) (k0_t3 : Fin (k0_t3_loop i).trips) (v2066 : BitVec 32) (k0_hw30 : k0_chk30 i k0_t3 v2066), ∀ a, (k0_off992 v2066) a + S1x16.size a ≤ S256x256.size a := fun i k0_t3 v2066 k0_hw30 => k0_hw30.2.2.2.2.2.2.2.2.2.2.2.2.2.1
theorem k0_off993_inb : ∀ (i : grid0.Coords) (k0_t3 : Fin (k0_t3_loop i).trips) (v2066 : BitVec 32) (k0_hw30 : k0_chk30 i k0_t3 v2066), ∀ a, (k0_off993 v2066) a + S1x16.size a ≤ S256x256.size a := fun i k0_t3 v2066 k0_hw30 => k0_hw30.2.2.2.2.2.2.2.2.2.2.2.2.2.2.1
theorem k0_off994_inb : ∀ (i : grid0.Coords) (k0_t3 : Fin (k0_t3_loop i).trips) (v2066 : BitVec 32) (k0_hw30 : k0_chk30 i k0_t3 v2066), ∀ a, (k0_off994 v2066) a + S1x16.size a ≤ S256x256.size a := fun i k0_t3 v2066 k0_hw30 => k0_hw30.2.2.2.2.2.2.2.2.2.2.2.2.2.2.2.1
theorem k0_off995_inb : ∀ (i : grid0.Coords) (k0_t3 : Fin (k0_t3_loop i).trips) (v2066 : BitVec 32) (k0_hw30 : k0_chk30 i k0_t3 v2066), ∀ a, (k0_off995 v2066) a + S1x16.size a ≤ S256x16.size a := fun i k0_t3 v2066 k0_hw30 => k0_hw30.2.2.2.2.2.2.2.2.2.2.2.2.2.2.2.2

def k0_off996 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2226 : Index := Scalar.indexCast v2224
  let c0_515 : Index := 0#32
  ![v2226.toNat, 0]
def k0_off997 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2231 : Index := Scalar.indexCast v2224
  let c16_516 : Index := 16#32
  ![v2231.toNat, 16]
def k0_off998 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2236 : Index := Scalar.indexCast v2224
  let c32_517 : Index := 32#32
  ![v2236.toNat, 32]
def k0_off999 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2241 : Index := Scalar.indexCast v2224
  let c48_518 : Index := 48#32
  ![v2241.toNat, 48]
def k0_off1000 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2246 : Index := Scalar.indexCast v2224
  let c64_519 : Index := 64#32
  ![v2246.toNat, 64]
def k0_off1001 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2251 : Index := Scalar.indexCast v2224
  let c80_520 : Index := 80#32
  ![v2251.toNat, 80]
def k0_off1002 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2256 : Index := Scalar.indexCast v2224
  let c96_521 : Index := 96#32
  ![v2256.toNat, 96]
def k0_off1003 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2261 : Index := Scalar.indexCast v2224
  let c112_522 : Index := 112#32
  ![v2261.toNat, 112]
def k0_off1004 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2266 : Index := Scalar.indexCast v2224
  let c128_523 : Index := 128#32
  ![v2266.toNat, 128]
def k0_off1005 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2271 : Index := Scalar.indexCast v2224
  let c144_524 : Index := 144#32
  ![v2271.toNat, 144]
def k0_off1006 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2276 : Index := Scalar.indexCast v2224
  let c160_525 : Index := 160#32
  ![v2276.toNat, 160]
def k0_off1007 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2281 : Index := Scalar.indexCast v2224
  let c176_526 : Index := 176#32
  ![v2281.toNat, 176]
def k0_off1008 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2286 : Index := Scalar.indexCast v2224
  let c192_527 : Index := 192#32
  ![v2286.toNat, 192]
def k0_off1009 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2291 : Index := Scalar.indexCast v2224
  let c208_528 : Index := 208#32
  ![v2291.toNat, 208]
def k0_off1010 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2296 : Index := Scalar.indexCast v2224
  let c224_529 : Index := 224#32
  ![v2296.toNat, 224]
def k0_off1011 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_514 : BitVec 32 := 16#32
  let v2223 : BitVec 32 := Scalar.muli arg31 c16_i32_514
  let c14_i32 : BitVec 32 := 14#32
  let v2224 : BitVec 32 := Scalar.addi v2223 c14_i32
  let v2301 : Index := Scalar.indexCast v2224
  let c240_530 : Index := 240#32
  ![v2301.toNat, 240]
def k0_off1012 (v2222 : BitVec 32) : Fin 2 → Nat :=
  let v2308 : Index := Scalar.indexCast v2222
  let c0_533 : Index := 0#32
  ![v2308.toNat, 0]

def k0_off1013 (v2222 : BitVec 32) : Fin 2 → Nat :=
  let v2312 : Index := Scalar.indexCast v2222
  let c16_534 : Index := 16#32
  ![v2312.toNat, 16]
def k0_off1014 (v2222 : BitVec 32) : Fin 2 → Nat :=
  let v2316 : Index := Scalar.indexCast v2222
  let c32_535 : Index := 32#32
  ![v2316.toNat, 32]
def k0_off1015 (v2222 : BitVec 32) : Fin 2 → Nat :=
  let v2320 : Index := Scalar.indexCast v2222
  let c48_536 : Index := 48#32
  ![v2320.toNat, 48]
def k0_off1016 (v2222 : BitVec 32) : Fin 2 → Nat :=
  let v2324 : Index := Scalar.indexCast v2222
  let c64_537 : Index := 64#32
  ![v2324.toNat, 64]
def k0_off1017 (v2222 : BitVec 32) : Fin 2 → Nat :=
  let v2328 : Index := Scalar.indexCast v2222
  let c80_538 : Index := 80#32
  ![v2328.toNat, 80]
def k0_off1018 (v2222 : BitVec 32) : Fin 2 → Nat :=
  let v2332 : Index := Scalar.indexCast v2222
  let c96_539 : Index := 96#32
  ![v2332.toNat, 96]
def k0_off1019 (v2222 : BitVec 32) : Fin 2 → Nat :=
  let v2336 : Index := Scalar.indexCast v2222
  let c112_540 : Index := 112#32
  ![v2336.toNat, 112]
def k0_off1020 (v2222 : BitVec 32) : Fin 2 → Nat :=
  let v2340 : Index := Scalar.indexCast v2222
  let c128_541 : Index := 128#32
  ![v2340.toNat, 128]
def k0_off1021 (v2222 : BitVec 32) : Fin 2 → Nat :=
  let v2344 : Index := Scalar.indexCast v2222
  let c144_542 : Index := 144#32
  ![v2344.toNat, 144]
def k0_off1022 (v2222 : BitVec 32) : Fin 2 → Nat :=
  let v2348 : Index := Scalar.indexCast v2222
  let c160_543 : Index := 160#32
  ![v2348.toNat, 160]
def k0_off1023 (v2222 : BitVec 32) : Fin 2 → Nat :=
  let v2352 : Index := Scalar.indexCast v2222
  let c176_544 : Index := 176#32
  ![v2352.toNat, 176]
def k0_off1024 (v2222 : BitVec 32) : Fin 2 → Nat :=
  let v2356 : Index := Scalar.indexCast v2222
  let c192_545 : Index := 192#32
  ![v2356.toNat, 192]
def k0_off1025 (v2222 : BitVec 32) : Fin 2 → Nat :=
  let v2360 : Index := Scalar.indexCast v2222
  let c208_546 : Index := 208#32
  ![v2360.toNat, 208]
def k0_off1026 (v2222 : BitVec 32) : Fin 2 → Nat :=
  let v2364 : Index := Scalar.indexCast v2222
  let c224_547 : Index := 224#32
  ![v2364.toNat, 224]
def k0_off1027 (v2222 : BitVec 32) : Fin 2 → Nat :=
  let v2368 : Index := Scalar.indexCast v2222
  let c240_548 : Index := 240#32
  ![v2368.toNat, 240]
def k0_off1028 (v2222 : BitVec 32) : Fin 2 → Nat :=
  let v2373 : Index := Scalar.indexCast v2222
  let c0_549 : Index := 0#32
  ![v2373.toNat, 0]

def k0_chk31 (i : grid0.Coords) (k0_t3 : Fin (k0_t3_loop i).trips) (v2222 : BitVec 32) : Prop :=
  (∀ a, (k0_off1012 v2222) a + S1x16.size a ≤ S256x256.size a) ∧
  (∀ a, (k0_off1013 v2222) a + S1x16.size a ≤ S256x256.size a) ∧
  (∀ a, (k0_off1014 v2222) a + S1x16.size a ≤ S256x256.size a) ∧
  (∀ a, (k0_off1015 v2222) a + S1x16.size a ≤ S256x256.size a) ∧
  (∀ a, (k0_off1016 v2222) a + S1x16.size a ≤ S256x256.size a) ∧
  (∀ a, (k0_off1017 v2222) a + S1x16.size a ≤ S256x256.size a) ∧
  (∀ a, (k0_off1018 v2222) a + S1x16.size a ≤ S256x256.size a) ∧
  (∀ a, (k0_off1019 v2222) a + S1x16.size a ≤ S256x256.size a) ∧
  (∀ a, (k0_off1020 v2222) a + S1x16.size a ≤ S256x256.size a) ∧
  (∀ a, (k0_off1021 v2222) a + S1x16.size a ≤ S256x256.size a) ∧
  (∀ a, (k0_off1022 v2222) a + S1x16.size a ≤ S256x256.size a) ∧
  (∀ a, (k0_off1023 v2222) a + S1x16.size a ≤ S256x256.size a) ∧
  (∀ a, (k0_off1024 v2222) a + S1x16.size a ≤ S256x256.size a) ∧
  (∀ a, (k0_off1025 v2222) a + S1x16.size a ≤ S256x256.size a) ∧
  (∀ a, (k0_off1026 v2222) a + S1x16.size a ≤ S256x256.size a) ∧
  (∀ a, (k0_off1027 v2222) a + S1x16.size a ≤ S256x256.size a) ∧
  (∀ a, (k0_off1028 v2222) a + S1x16.size a ≤ S256x16.size a)
theorem k0_off1012_inb : ∀ (i : grid0.Coords) (k0_t3 : Fin (k0_t3_loop i).trips) (v2222 : BitVec 32) (k0_hw31 : k0_chk31 i k0_t3 v2222), ∀ a, (k0_off1012 v2222) a + S1x16.size a ≤ S256x256.size a := fun i k0_t3 v2222 k0_hw31 => k0_hw31.1
theorem k0_off1013_inb : ∀ (i : grid0.Coords) (k0_t3 : Fin (k0_t3_loop i).trips) (v2222 : BitVec 32) (k0_hw31 : k0_chk31 i k0_t3 v2222), ∀ a, (k0_off1013 v2222) a + S1x16.size a ≤ S256x256.size a := fun i k0_t3 v2222 k0_hw31 => k0_hw31.2.1
theorem k0_off1014_inb : ∀ (i : grid0.Coords) (k0_t3 : Fin (k0_t3_loop i).trips) (v2222 : BitVec 32) (k0_hw31 : k0_chk31 i k0_t3 v2222), ∀ a, (k0_off1014 v2222) a + S1x16.size a ≤ S256x256.size a := fun i k0_t3 v2222 k0_hw31 => k0_hw31.2.2.1
theorem k0_off1015_inb : ∀ (i : grid0.Coords) (k0_t3 : Fin (k0_t3_loop i).trips) (v2222 : BitVec 32) (k0_hw31 : k0_chk31 i k0_t3 v2222), ∀ a, (k0_off1015 v2222) a + S1x16.size a ≤ S256x256.size a := fun i k0_t3 v2222 k0_hw31 => k0_hw31.2.2.2.1
theorem k0_off1016_inb : ∀ (i : grid0.Coords) (k0_t3 : Fin (k0_t3_loop i).trips) (v2222 : BitVec 32) (k0_hw31 : k0_chk31 i k0_t3 v2222), ∀ a, (k0_off1016 v2222) a + S1x16.size a ≤ S256x256.size a := fun i k0_t3 v2222 k0_hw31 => k0_hw31.2.2.2.2.1
theorem k0_off1017_inb : ∀ (i : grid0.Coords) (k0_t3 : Fin (k0_t3_loop i).trips) (v2222 : BitVec 32) (k0_hw31 : k0_chk31 i k0_t3 v2222), ∀ a, (k0_off1017 v2222) a + S1x16.size a ≤ S256x256.size a := fun i k0_t3 v2222 k0_hw31 => k0_hw31.2.2.2.2.2.1
theorem k0_off1018_inb : ∀ (i : grid0.Coords) (k0_t3 : Fin (k0_t3_loop i).trips) (v2222 : BitVec 32) (k0_hw31 : k0_chk31 i k0_t3 v2222), ∀ a, (k0_off1018 v2222) a + S1x16.size a ≤ S256x256.size a := fun i k0_t3 v2222 k0_hw31 => k0_hw31.2.2.2.2.2.2.1
theorem k0_off1019_inb : ∀ (i : grid0.Coords) (k0_t3 : Fin (k0_t3_loop i).trips) (v2222 : BitVec 32) (k0_hw31 : k0_chk31 i k0_t3 v2222), ∀ a, (k0_off1019 v2222) a + S1x16.size a ≤ S256x256.size a := fun i k0_t3 v2222 k0_hw31 => k0_hw31.2.2.2.2.2.2.2.1
theorem k0_off1020_inb : ∀ (i : grid0.Coords) (k0_t3 : Fin (k0_t3_loop i).trips) (v2222 : BitVec 32) (k0_hw31 : k0_chk31 i k0_t3 v2222), ∀ a, (k0_off1020 v2222) a + S1x16.size a ≤ S256x256.size a := fun i k0_t3 v2222 k0_hw31 => k0_hw31.2.2.2.2.2.2.2.2.1
theorem k0_off1021_inb : ∀ (i : grid0.Coords) (k0_t3 : Fin (k0_t3_loop i).trips) (v2222 : BitVec 32) (k0_hw31 : k0_chk31 i k0_t3 v2222), ∀ a, (k0_off1021 v2222) a + S1x16.size a ≤ S256x256.size a := fun i k0_t3 v2222 k0_hw31 => k0_hw31.2.2.2.2.2.2.2.2.2.1
theorem k0_off1022_inb : ∀ (i : grid0.Coords) (k0_t3 : Fin (k0_t3_loop i).trips) (v2222 : BitVec 32) (k0_hw31 : k0_chk31 i k0_t3 v2222), ∀ a, (k0_off1022 v2222) a + S1x16.size a ≤ S256x256.size a := fun i k0_t3 v2222 k0_hw31 => k0_hw31.2.2.2.2.2.2.2.2.2.2.1
theorem k0_off1023_inb : ∀ (i : grid0.Coords) (k0_t3 : Fin (k0_t3_loop i).trips) (v2222 : BitVec 32) (k0_hw31 : k0_chk31 i k0_t3 v2222), ∀ a, (k0_off1023 v2222) a + S1x16.size a ≤ S256x256.size a := fun i k0_t3 v2222 k0_hw31 => k0_hw31.2.2.2.2.2.2.2.2.2.2.2.1
theorem k0_off1024_inb : ∀ (i : grid0.Coords) (k0_t3 : Fin (k0_t3_loop i).trips) (v2222 : BitVec 32) (k0_hw31 : k0_chk31 i k0_t3 v2222), ∀ a, (k0_off1024 v2222) a + S1x16.size a ≤ S256x256.size a := fun i k0_t3 v2222 k0_hw31 => k0_hw31.2.2.2.2.2.2.2.2.2.2.2.2.1
theorem k0_off1025_inb : ∀ (i : grid0.Coords) (k0_t3 : Fin (k0_t3_loop i).trips) (v2222 : BitVec 32) (k0_hw31 : k0_chk31 i k0_t3 v2222), ∀ a, (k0_off1025 v2222) a + S1x16.size a ≤ S256x256.size a := fun i k0_t3 v2222 k0_hw31 => k0_hw31.2.2.2.2.2.2.2.2.2.2.2.2.2.1
theorem k0_off1026_inb : ∀ (i : grid0.Coords) (k0_t3 : Fin (k0_t3_loop i).trips) (v2222 : BitVec 32) (k0_hw31 : k0_chk31 i k0_t3 v2222), ∀ a, (k0_off1026 v2222) a + S1x16.size a ≤ S256x256.size a := fun i k0_t3 v2222 k0_hw31 => k0_hw31.2.2.2.2.2.2.2.2.2.2.2.2.2.2.1
theorem k0_off1027_inb : ∀ (i : grid0.Coords) (k0_t3 : Fin (k0_t3_loop i).trips) (v2222 : BitVec 32) (k0_hw31 : k0_chk31 i k0_t3 v2222), ∀ a, (k0_off1027 v2222) a + S1x16.size a ≤ S256x256.size a := fun i k0_t3 v2222 k0_hw31 => k0_hw31.2.2.2.2.2.2.2.2.2.2.2.2.2.2.2.1
theorem k0_off1028_inb : ∀ (i : grid0.Coords) (k0_t3 : Fin (k0_t3_loop i).trips) (v2222 : BitVec 32) (k0_hw31 : k0_chk31 i k0_t3 v2222), ∀ a, (k0_off1028 v2222) a + S1x16.size a ≤ S256x16.size a := fun i k0_t3 v2222 k0_hw31 => k0_hw31.2.2.2.2.2.2.2.2.2.2.2.2.2.2.2.2

def k0_off1029 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2382 : Index := Scalar.indexCast v2380
  let c0_551 : Index := 0#32
  ![v2382.toNat, 0]
def k0_off1030 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2387 : Index := Scalar.indexCast v2380
  let c16_552 : Index := 16#32
  ![v2387.toNat, 16]
def k0_off1031 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2392 : Index := Scalar.indexCast v2380
  let c32_553 : Index := 32#32
  ![v2392.toNat, 32]
def k0_off1032 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2397 : Index := Scalar.indexCast v2380
  let c48_554 : Index := 48#32
  ![v2397.toNat, 48]
def k0_off1033 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2402 : Index := Scalar.indexCast v2380
  let c64_555 : Index := 64#32
  ![v2402.toNat, 64]
def k0_off1034 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2407 : Index := Scalar.indexCast v2380
  let c80_556 : Index := 80#32
  ![v2407.toNat, 80]
def k0_off1035 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2412 : Index := Scalar.indexCast v2380
  let c96_557 : Index := 96#32
  ![v2412.toNat, 96]
def k0_off1036 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2417 : Index := Scalar.indexCast v2380
  let c112_558 : Index := 112#32
  ![v2417.toNat, 112]
def k0_off1037 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2422 : Index := Scalar.indexCast v2380
  let c128_559 : Index := 128#32
  ![v2422.toNat, 128]
def k0_off1038 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2427 : Index := Scalar.indexCast v2380
  let c144_560 : Index := 144#32
  ![v2427.toNat, 144]
def k0_off1039 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2432 : Index := Scalar.indexCast v2380
  let c160_561 : Index := 160#32
  ![v2432.toNat, 160]
def k0_off1040 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2437 : Index := Scalar.indexCast v2380
  let c176_562 : Index := 176#32
  ![v2437.toNat, 176]
def k0_off1041 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2442 : Index := Scalar.indexCast v2380
  let c192_563 : Index := 192#32
  ![v2442.toNat, 192]
def k0_off1042 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2447 : Index := Scalar.indexCast v2380
  let c208_564 : Index := 208#32
  ![v2447.toNat, 208]
def k0_off1043 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2452 : Index := Scalar.indexCast v2380
  let c224_565 : Index := 224#32
  ![v2452.toNat, 224]
def k0_off1044 (k0_t4 : Fin k0_t4_loop.trips) : Fin 2 → Nat :=
  let c0_i32_19 : BitVec 32 := 0#32
  let c1_i32_20 : BitVec 32 := 1#32
  let arg31 : BitVec 32 := Scf.iv c0_i32_19 c1_i32_20 k0_t4
  let c16_i32_550 : BitVec 32 := 16#32
  let v2379 : BitVec 32 := Scalar.muli arg31 c16_i32_550
  let c15_i32 : BitVec 32 := 15#32
  let v2380 : BitVec 32 := Scalar.addi v2379 c15_i32
  let v2457 : Index := Scalar.indexCast v2380
  let c240_566 : Index := 240#32
  ![v2457.toNat, 240]
def k0_off1045 (v2378 : BitVec 32) : Fin 2 → Nat :=
  let v2464 : Index := Scalar.indexCast v2378
  let c0_569 : Index := 0#32
  ![v2464.toNat, 0]

def k0_off1046 (v2378 : BitVec 32) : Fin 2 → Nat :=
  let v2468 : Index := Scalar.indexCast v2378
  let c16_570 : Index := 16#32
  ![v2468.toNat, 16]
def k0_off1047 (v2378 : BitVec 32) : Fin 2 → Nat :=
  let v2472 : Index := Scalar.indexCast v2378
  let c32_571 : Index := 32#32
  ![v2472.toNat, 32]
def k0_off1048 (v2378 : BitVec 32) : Fin 2 → Nat :=
  let v2476 : Index := Scalar.indexCast v2378
  let c48_572 : Index := 48#32
  ![v2476.toNat, 48]
def k0_off1049 (v2378 : BitVec 32) : Fin 2 → Nat :=
  let v2480 : Index := Scalar.indexCast v2378
  let c64_573 : Index := 64#32
  ![v2480.toNat, 64]
def k0_off1050 (v2378 : BitVec 32) : Fin 2 → Nat :=
  let v2484 : Index := Scalar.indexCast v2378
  let c80_574 : Index := 80#32
  ![v2484.toNat, 80]
def k0_off1051 (v2378 : BitVec 32) : Fin 2 → Nat :=
  let v2488 : Index := Scalar.indexCast v2378
  let c96_575 : Index := 96#32
  ![v2488.toNat, 96]
def k0_off1052 (v2378 : BitVec 32) : Fin 2 → Nat :=
  let v2492 : Index := Scalar.indexCast v2378
  let c112_576 : Index := 112#32
  ![v2492.toNat, 112]
def k0_off1053 (v2378 : BitVec 32) : Fin 2 → Nat :=
  let v2496 : Index := Scalar.indexCast v2378
  let c128_577 : Index := 128#32
  ![v2496.toNat, 128]
def k0_off1054 (v2378 : BitVec 32) : Fin 2 → Nat :=
  let v2500 : Index := Scalar.indexCast v2378
  let c144_578 : Index := 144#32
  ![v2500.toNat, 144]
def k0_off1055 (v2378 : BitVec 32) : Fin 2 → Nat :=
  let v2504 : Index := Scalar.indexCast v2378
  let c160_579 : Index := 160#32
  ![v2504.toNat, 160]
def k0_off1056 (v2378 : BitVec 32) : Fin 2 → Nat :=
  let v2508 : Index := Scalar.indexCast v2378
  let c176_580 : Index := 176#32
  ![v2508.toNat, 176]
def k0_off1057 (v2378 : BitVec 32) : Fin 2 → Nat :=
  let v2512 : Index := Scalar.indexCast v2378
  let c192_581 : Index := 192#32
  ![v2512.toNat, 192]
def k0_off1058 (v2378 : BitVec 32) : Fin 2 → Nat :=
  let v2516 : Index := Scalar.indexCast v2378
  let c208_582 : Index := 208#32
  ![v2516.toNat, 208]
def k0_off1059 (v2378 : BitVec 32) : Fin 2 → Nat :=
  let v2520 : Index := Scalar.indexCast v2378
  let c224_583 : Index := 224#32
  ![v2520.toNat, 224]
def k0_off1060 (v2378 : BitVec 32) : Fin 2 → Nat :=
  let v2524 : Index := Scalar.indexCast v2378
  let c240_584 : Index := 240#32
  ![v2524.toNat, 240]
def k0_off1061 (v2378 : BitVec 32) : Fin 2 → Nat :=
  let v2529 : Index := Scalar.indexCast v2378
  let c0_585 : Index := 0#32
  ![v2529.toNat, 0]

def k0_chk32 (i : grid0.Coords) (k0_t3 : Fin (k0_t3_loop i).trips) (v2378 : BitVec 32) : Prop :=
  (∀ a, (k0_off1045 v2378) a + S1x16.size a ≤ S256x256.size a) ∧
  (∀ a, (k0_off1046 v2378) a + S1x16.size a ≤ S256x256.size a) ∧
  (∀ a, (k0_off1047 v2378) a + S1x16.size a ≤ S256x256.size a) ∧
  (∀ a, (k0_off1048 v2378) a + S1x16.size a ≤ S256x256.size a) ∧
  (∀ a, (k0_off1049 v2378) a + S1x16.size a ≤ S256x256.size a) ∧
  (∀ a, (k0_off1050 v2378) a + S1x16.size a ≤ S256x256.size a) ∧
  (∀ a, (k0_off1051 v2378) a + S1x16.size a ≤ S256x256.size a) ∧
  (∀ a, (k0_off1052 v2378) a + S1x16.size a ≤ S256x256.size a) ∧
  (∀ a, (k0_off1053 v2378) a + S1x16.size a ≤ S256x256.size a) ∧
  (∀ a, (k0_off1054 v2378) a + S1x16.size a ≤ S256x256.size a) ∧
  (∀ a, (k0_off1055 v2378) a + S1x16.size a ≤ S256x256.size a) ∧
  (∀ a, (k0_off1056 v2378) a + S1x16.size a ≤ S256x256.size a) ∧
  (∀ a, (k0_off1057 v2378) a + S1x16.size a ≤ S256x256.size a) ∧
  (∀ a, (k0_off1058 v2378) a + S1x16.size a ≤ S256x256.size a) ∧
  (∀ a, (k0_off1059 v2378) a + S1x16.size a ≤ S256x256.size a) ∧
  (∀ a, (k0_off1060 v2378) a + S1x16.size a ≤ S256x256.size a) ∧
  (∀ a, (k0_off1061 v2378) a + S1x16.size a ≤ S256x16.size a)
theorem k0_off1045_inb : ∀ (i : grid0.Coords) (k0_t3 : Fin (k0_t3_loop i).trips) (v2378 : BitVec 32) (k0_hw32 : k0_chk32 i k0_t3 v2378), ∀ a, (k0_off1045 v2378) a + S1x16.size a ≤ S256x256.size a := fun i k0_t3 v2378 k0_hw32 => k0_hw32.1
theorem k0_off1046_inb : ∀ (i : grid0.Coords) (k0_t3 : Fin (k0_t3_loop i).trips) (v2378 : BitVec 32) (k0_hw32 : k0_chk32 i k0_t3 v2378), ∀ a, (k0_off1046 v2378) a + S1x16.size a ≤ S256x256.size a := fun i k0_t3 v2378 k0_hw32 => k0_hw32.2.1
theorem k0_off1047_inb : ∀ (i : grid0.Coords) (k0_t3 : Fin (k0_t3_loop i).trips) (v2378 : BitVec 32) (k0_hw32 : k0_chk32 i k0_t3 v2378), ∀ a, (k0_off1047 v2378) a + S1x16.size a ≤ S256x256.size a := fun i k0_t3 v2378 k0_hw32 => k0_hw32.2.2.1
theorem k0_off1048_inb : ∀ (i : grid0.Coords) (k0_t3 : Fin (k0_t3_loop i).trips) (v2378 : BitVec 32) (k0_hw32 : k0_chk32 i k0_t3 v2378), ∀ a, (k0_off1048 v2378) a + S1x16.size a ≤ S256x256.size a := fun i k0_t3 v2378 k0_hw32 => k0_hw32.2.2.2.1
theorem k0_off1049_inb : ∀ (i : grid0.Coords) (k0_t3 : Fin (k0_t3_loop i).trips) (v2378 : BitVec 32) (k0_hw32 : k0_chk32 i k0_t3 v2378), ∀ a, (k0_off1049 v2378) a + S1x16.size a ≤ S256x256.size a := fun i k0_t3 v2378 k0_hw32 => k0_hw32.2.2.2.2.1
theorem k0_off1050_inb : ∀ (i : grid0.Coords) (k0_t3 : Fin (k0_t3_loop i).trips) (v2378 : BitVec 32) (k0_hw32 : k0_chk32 i k0_t3 v2378), ∀ a, (k0_off1050 v2378) a + S1x16.size a ≤ S256x256.size a := fun i k0_t3 v2378 k0_hw32 => k0_hw32.2.2.2.2.2.1
theorem k0_off1051_inb : ∀ (i : grid0.Coords) (k0_t3 : Fin (k0_t3_loop i).trips) (v2378 : BitVec 32) (k0_hw32 : k0_chk32 i k0_t3 v2378), ∀ a, (k0_off1051 v2378) a + S1x16.size a ≤ S256x256.size a := fun i k0_t3 v2378 k0_hw32 => k0_hw32.2.2.2.2.2.2.1
theorem k0_off1052_inb : ∀ (i : grid0.Coords) (k0_t3 : Fin (k0_t3_loop i).trips) (v2378 : BitVec 32) (k0_hw32 : k0_chk32 i k0_t3 v2378), ∀ a, (k0_off1052 v2378) a + S1x16.size a ≤ S256x256.size a := fun i k0_t3 v2378 k0_hw32 => k0_hw32.2.2.2.2.2.2.2.1
theorem k0_off1053_inb : ∀ (i : grid0.Coords) (k0_t3 : Fin (k0_t3_loop i).trips) (v2378 : BitVec 32) (k0_hw32 : k0_chk32 i k0_t3 v2378), ∀ a, (k0_off1053 v2378) a + S1x16.size a ≤ S256x256.size a := fun i k0_t3 v2378 k0_hw32 => k0_hw32.2.2.2.2.2.2.2.2.1
theorem k0_off1054_inb : ∀ (i : grid0.Coords) (k0_t3 : Fin (k0_t3_loop i).trips) (v2378 : BitVec 32) (k0_hw32 : k0_chk32 i k0_t3 v2378), ∀ a, (k0_off1054 v2378) a + S1x16.size a ≤ S256x256.size a := fun i k0_t3 v2378 k0_hw32 => k0_hw32.2.2.2.2.2.2.2.2.2.1
theorem k0_off1055_inb : ∀ (i : grid0.Coords) (k0_t3 : Fin (k0_t3_loop i).trips) (v2378 : BitVec 32) (k0_hw32 : k0_chk32 i k0_t3 v2378), ∀ a, (k0_off1055 v2378) a + S1x16.size a ≤ S256x256.size a := fun i k0_t3 v2378 k0_hw32 => k0_hw32.2.2.2.2.2.2.2.2.2.2.1
theorem k0_off1056_inb : ∀ (i : grid0.Coords) (k0_t3 : Fin (k0_t3_loop i).trips) (v2378 : BitVec 32) (k0_hw32 : k0_chk32 i k0_t3 v2378), ∀ a, (k0_off1056 v2378) a + S1x16.size a ≤ S256x256.size a := fun i k0_t3 v2378 k0_hw32 => k0_hw32.2.2.2.2.2.2.2.2.2.2.2.1
theorem k0_off1057_inb : ∀ (i : grid0.Coords) (k0_t3 : Fin (k0_t3_loop i).trips) (v2378 : BitVec 32) (k0_hw32 : k0_chk32 i k0_t3 v2378), ∀ a, (k0_off1057 v2378) a + S1x16.size a ≤ S256x256.size a := fun i k0_t3 v2378 k0_hw32 => k0_hw32.2.2.2.2.2.2.2.2.2.2.2.2.1
theorem k0_off1058_inb : ∀ (i : grid0.Coords) (k0_t3 : Fin (k0_t3_loop i).trips) (v2378 : BitVec 32) (k0_hw32 : k0_chk32 i k0_t3 v2378), ∀ a, (k0_off1058 v2378) a + S1x16.size a ≤ S256x256.size a := fun i k0_t3 v2378 k0_hw32 => k0_hw32.2.2.2.2.2.2.2.2.2.2.2.2.2.1
theorem k0_off1059_inb : ∀ (i : grid0.Coords) (k0_t3 : Fin (k0_t3_loop i).trips) (v2378 : BitVec 32) (k0_hw32 : k0_chk32 i k0_t3 v2378), ∀ a, (k0_off1059 v2378) a + S1x16.size a ≤ S256x256.size a := fun i k0_t3 v2378 k0_hw32 => k0_hw32.2.2.2.2.2.2.2.2.2.2.2.2.2.2.1
theorem k0_off1060_inb : ∀ (i : grid0.Coords) (k0_t3 : Fin (k0_t3_loop i).trips) (v2378 : BitVec 32) (k0_hw32 : k0_chk32 i k0_t3 v2378), ∀ a, (k0_off1060 v2378) a + S1x16.size a ≤ S256x256.size a := fun i k0_t3 v2378 k0_hw32 => k0_hw32.2.2.2.2.2.2.2.2.2.2.2.2.2.2.2.1
theorem k0_off1061_inb : ∀ (i : grid0.Coords) (k0_t3 : Fin (k0_t3_loop i).trips) (v2378 : BitVec 32) (k0_hw32 : k0_chk32 i k0_t3 v2378), ∀ a, (k0_off1061 v2378) a + S1x16.size a ≤ S256x16.size a := fun i k0_t3 v2378 k0_hw32 => k0_hw32.2.2.2.2.2.2.2.2.2.2.2.2.2.2.2.2

def k0_off1062 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r5 : BitVec 32 := 0#32
  let c0_i32_20_r5 : BitVec 32 := 0#32
  ![v1.toNat, 0, 0]
def k0_off1063 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r6 : BitVec 32 := 0#32
  let c0_i32_20_r6 : BitVec 32 := 0#32
  ![v1.toNat, 0, 0]
abbrev grid1 : Pipeline.Grid := .none

abbrev stage1_0 : Fin 1 → Memref sig .tc .vmem S32x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S1x256 : Shape := ⟨2, ![1, 256]⟩
abbrev S_ : Shape := ⟨0, ![]⟩
abbrev S100000x1 : Shape := ⟨2, ![100000, 1]⟩
abbrev S256x1 : Shape := ⟨2, ![256, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S100000x256, .f32⟩
  | .hbm, ⟨6, _⟩ => ⟨S1x256, .f32⟩
  | .hbm, ⟨7, _⟩ => ⟨S100000x256, .f32⟩
  | .hbm, ⟨8, _⟩ => ⟨S100000x256, .f32⟩
  | .hbm, ⟨9, _⟩ => ⟨S_, .f32⟩
  | .hbm, ⟨10, _⟩ => ⟨S256x256, .f32⟩
  | .hbm, ⟨11, _⟩ => ⟨S100000x1, .i32⟩
  | .hbm, ⟨12, _⟩ => ⟨S256x256, .f32⟩
  | .hbm, ⟨13, _⟩ => ⟨S_, .f32⟩
  | .hbm, ⟨14, _⟩ => ⟨S100000, .f32⟩
  | .hbm, ⟨15, _⟩ => ⟨S_, .f32⟩
  | .hbm, ⟨16, _⟩ => ⟨S256, .f32⟩
  | .hbm, ⟨17, _⟩ => ⟨S100000x1, .i32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .i1⟩
  | .hbm, ⟨23, _⟩ => ⟨S256x1, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S_, .f32⟩
  | .hbm, ⟨28, _⟩ => ⟨S256x256, .i1⟩
  | .hbm, ⟨29, _⟩ => ⟨S256x256, .f32⟩
  | .hbm, ⟨30, _⟩ => ⟨S256x256, .f32⟩
  | .hbm, ⟨31, _⟩ => ⟨S256x256, .i1⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .i1⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .i1⟩
  | .hbm, ⟨44, _⟩ => ⟨S_, .f32⟩
  | .hbm, ⟨45, _⟩ => ⟨S256x256, .f32⟩
  | .hbm, ⟨46, _⟩ => ⟨S256x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_call1_v0 : Ref sig .tc := ⟨.hbm, 31, rfl⟩
abbrev main_call1_cst : Ref sig .tc := ⟨.hbm, 32, rfl⟩
abbrev main_call1_call0_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_cst_1 : Ref sig .tc := ⟨.hbm, 38, rfl⟩
abbrev main_call1_call1_v0 : Ref sig .tc := ⟨.hbm, 39, rfl⟩
abbrev main_call1_v4 : Ref sig .tc := ⟨.hbm, 40, rfl⟩
abbrev main_call1_cst_2 : Ref sig .tc := ⟨.hbm, 41, rfl⟩
abbrev main_call1_v5 : Ref sig .tc := ⟨.hbm, 42, rfl⟩
abbrev main_call1_v6 : Ref sig .tc := ⟨.hbm, 43, rfl⟩
abbrev main_call1_cst_3 : Ref sig .tc := ⟨.hbm, 44, rfl⟩
abbrev main_call1_call2_v0 : Ref sig .tc := ⟨.hbm, 45, rfl⟩
abbrev main_v19 : Ref sig .tc := ⟨.hbm, 46, rfl⟩

abbrev nD : Nat := 1
abbrev τ : Topo := Topo.v7x

variable {F : FTy → Type} [FloatOps F]
-- ==== Proof.Same.lean ====
/-
  The kernel as it runs and the kernel on exact arithmetic are one text, so one program over any floats: their bodies, their calls and
  their main lines agree.
-/
module

public import proofs.«01_k».proof.Proof.Gen.KernelIdeal
public import proofs.«01_k».proof.Proof.Gen.Kernel

@[expose] public section

noncomputable section

namespace Cert.Same

open Idealize.ShloMosaic Idealize.SL.Sem

variable {F : FTy → Type} [FloatOps F]

set_option maxRecDepth 1000000
set_option maxHeartbeats 40000000

/-- The finishing call's body, -/
theorem finish_eq : @Cert.Kernel.cc1__tc_finish_body F _ Cert.Kernel.Gen.facts = @Cert.KernelIdeal.cc1__tc_finish_body F _ Cert.KernelIdeal.Gen.facts := by exact rfl

/-- a worker's, -/
theorem worker_eq : @Cert.Kernel.cc0_body F _ Cert.Kernel.Gen.facts = @Cert.KernelIdeal.cc0_body F _ Cert.KernelIdeal.Gen.facts := by exact rfl

/-- the two as called, -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  rw [worker_eq, finish_eq]
  funext p ℓ a
  match p, ℓ, a with
  | .tc, 0, _ => rfl
  | .tc, 1, (t, s) => rfl
  | .scScalar _, 0, _ => rfl
  | .scScalar _, 1, _ => rfl
  | .scVector c s, 0, _ => rfl
  | .scVector c s, 1, _ => rfl

theorem defs_eq : @Cert.Kernel.defs F _ Cert.Kernel.Gen.facts = @Cert.KernelIdeal.defs F _ Cert.KernelIdeal.Gen.facts := by
  unfold Cert.Kernel.defs Cert.KernelIdeal.defs
  rw [defs₀_eq]
  rfl

/-- and the main lines. -/
theorem main_eq : @Cert.Kernel.main F _ Cert.Kernel.Gen.facts = @Cert.KernelIdeal.main F _ Cert.KernelIdeal.Gen.facts := by exact rfl

theorem threads_eq : @Cert.Kernel.threads F _ Cert.Kernel.Gen.facts = @Cert.KernelIdeal.threads F _ Cert.KernelIdeal.Gen.facts := by
  unfold Cert.Kernel.threads Cert.KernelIdeal.threads
  rw [main_eq]
  rfl

/-- What every run of the one satisfies, every run of the other does. -/
theorem run_eq (m : (ℓ : Loc Cert.KernelIdeal.nD Cert.KernelIdeal.τ Cert.KernelIdeal.sig) → Buf (Elt F) ℓ) (ρ : Dev Cert.KernelIdeal.nD → PrngReg) :
    θ_run (Cert.Kernel.defs (F := F)) (Cert.Kernel.threads (F := F)) ⟨m, fun _ => 0, ρ⟩
      = θ_run (Cert.KernelIdeal.defs (F := F)) (Cert.KernelIdeal.threads (F := F)) ⟨m, fun _ => 0, ρ⟩ := by
  rw [← defs_eq, ← threads_eq]
  rfl

end Cert.Same
-- ==== Proof.RowKI.lean ====
/-
  One row of a chunk, as the kernel's unrolled text repeats it: the program of a row over its number in the group, and the printed group of
  sixteen rows as sixteen of it.
-/
module

public import proofs.«01_k».proof.Proof.Gen.KernelIdeal.Skeleton

@[expose] public section

noncomputable section

namespace Cert.KernelIdeal.Row

open Idealize.ShloMosaic Idealize.SL.Sem
open Cert.KernelIdeal Cert.KernelIdeal.Gen

variable {F : FTy → Type} [FloatOps F]

/-- The offsets of a row's sixteen lanes at a column group, in the chunk. -/
def rowOff (k : Fin k0_t2_loop.trips) (r : Fin 16) (c : Fin 16) : Fin 2 → Nat :=
  ![(Scalar.indexCast (Scalar.addi (Scalar.muli (Scf.iv 0#32 1#32 k) 16#32) (BitVec.ofNat 32 r.val)) : Index).toNat, 16 * c.val]

/-- The offsets of a segment's sixteen lanes at a column group, in the table of sums (and, at group 0, in that of counts). -/
def segOff (v : BitVec 32) (c : Fin 16) : Fin 2 → Nat := ![(Scalar.indexCast v : Index).toNat, 16 * c.val]

theorem rowOff_inb : ∀ (k : Fin k0_t2_loop.trips) (r c : Fin 16), ∀ a, rowOff k r c a + S1x16.size a ≤ S80x256.size a := by decide +kernel

theorem iv_lt {v : BitVec 32} (h : k0_chk1 v) : v.toNat < 256 := by
  have h0 := h.1 0
  have : v.toNat + 1 ≤ 256 := h0
  omega

theorem segOff_inb {v : BitVec 32} (h : k0_chk1 v) (c : Fin 16) : ∀ a, segOff v c a + S1x16.size a ≤ S256x256.size a := by
  have := iv_lt h
  have hc := c.isLt
  intro a
  match a with
  | 0 => show v.toNat + 1 ≤ 256; omega
  | 1 => show 16 * c.val + 16 ≤ 256; omega

theorem cntOff_inb {v : BitVec 32} (h : k0_chk1 v) : ∀ a, segOff v 0 a + S1x16.size a ≤ S256x16.size a := by
  have := iv_lt h
  intro a
  match a with
  | 0 => show v.toNat + 1 ≤ 256; omega
  | 1 => show 16 * 0 + 16 ≤ 16; omega

theorem idx_slices : ∀ r : Fin 16, S16.Slices ![r.val] S1 := by decide

/-- A loop's carried values: the segment last met, the count of its rows so far, and their sums by column group. -/
structure St (F : FTy → Type) where
  cur : BitVec 32
  run : F .f32
  acc : Fin 16 → FVec F S16 .f32

/-- A family with one of its members replaced. -/
def upd {α : Type} (f : Fin 16 → α) (c : Fin 16) (v : α) : Fin 16 → α := fun c' => cond (Nat.beq c'.val c.val) v (f c')

section Prog

variable {i : grid0.Coords} (arg9 : Memref sig .scVector .vmem S80x256 .f32) (arg10 : Memref sig .scVector .vmem S256x256 .f32)
  (arg11 : Memref sig .scVector .vmem S256x16 .f32)

abbrev RP (F : FTy → Type) (i : grid0.Coords) : Type → Type _ := Prog (TpuEff nD τ sig (Elt F) Λ₀ (.scVector ((i 0).castLE hcore0) ((i 1).castLE hsub0)))

/-- A step at each of the column groups listed, in turn. -/
def runCols {σ : Type} (f : Fin 16 → σ → RP F i σ) : List (Fin 16) → σ → RP F i σ
  | [], s => pure s
  | c :: cs, s => f c s >>= runCols f cs

abbrev cols : List (Fin 16) := [0, 1, 2, 3, 4, 5, 6, 7, 8, 9, 10, 11, 12, 13, 14, 15]

/-- A column group's new sums: the row's lanes where the segment changes, else the sums so far with them. -/
def colStep (k : Fin k0_t2_loop.trips) (r : Fin 16) (new : BitVec 1) (c : Fin 16) (acc : Fin 16 → FVec F S16 .f32) : RP F i (Fin 16 → FVec F S16 .f32) := do
  let v ← Prog.lift (.load arg9 (Rect.unit (s := S80x256) (rowOff k r c) S1x16.size (rowOff_inb k r c)).toLoadRect (View.loadsAt_vmem h_S1x16))
  pure (upd acc c (Scalar.select new (shapeCast S16 v shapeCasts_S1x16_S16) (addf (acc c) (shapeCast S16 v shapeCasts_S1x16_S16))))

/-- A column group's sums stored at the segment. -/
def outStep (seg : BitVec 32) (h : k0_chk1 seg) (acc : Fin 16 → FVec F S16 .f32) (c : Fin 16) (_ : PUnit) : RP F i PUnit := do
  let _ ← Prog.lift (.load arg10 (Rect.unit (s := S256x256) (segOff seg c) S1x16.size (segOff_inb h c)).toLoadRect (View.loadsAt_vmem h_S1x16))
  Prog.lift (.store arg10 (Rect.unit (s := S256x256) (segOff seg c) S1x16.size (segOff_inb h c)) (shapeCast S1x16 (acc c) shapeCasts_S16_S1x16)
    Finset.univ (View.stores_vmem_bits_univ h_S1x16 rfl) (.inl rfl))

/-- A lane of a vector of ids. -/
def seg (ids : IVec S16 32) (r : Fin 16) : BitVec 32 := extractAt ![0] (extractStridedSlice S1 ![r.val] ids (idx_slices r)) inpos_S1_p0

/-- One row: its segment checked, its columns taken in, the sums and the count stored at the segment. -/
def row (k : Fin k0_t2_loop.trips) (ids : IVec S16 32) (r : Fin 16) (s : St F) : RP F i (St F) := do
  have h : k0_chk1 (seg ids r) := (← Prog.lift (TpuEff.assume (k0_chk1 (seg ids r)) (k0_chk1.dec (seg ids r)))).down
  let new : BitVec 1 := Scalar.cmpi .ne (seg ids r) s.cur
  let acc ← runCols (colStep arg9 k r new) cols s.acc
  let run : F .f32 := Scalar.select new (Scalar.ofBits .f32 0x3F800000#32) (Scalar.addf s.run (Scalar.ofBits .f32 0x3F800000#32))
  runCols (outStep arg10 (seg ids r) h acc) cols ⟨⟩
  let _ ← Prog.lift (.load arg11 (Rect.unit (s := S256x16) (segOff (seg ids r) 0) S1x16.size (cntOff_inb h)).toLoadRect (View.loadsAt_vmem h_S1x16))
  Prog.lift (.store arg11 (Rect.unit (s := S256x16) (segOff (seg ids r) 0) S1x16.size (cntOff_inb h)) (shapeCast S1x16 (broadcast S16 run) shapeCasts_S16_S1x16)
    Finset.univ (View.stores_vmem_bits_univ h_S1x16 rfl) (.inl rfl))
  pure ⟨seg ids r, run, acc⟩

end Prog

/-- The carried values as the loops pass them, and back. -/
def mk16 (a0 a1 a2 a3 a4 a5 a6 a7 a8 a9 a10 a11 a12 a13 a14 a15 : FVec F S16 .f32) : Fin 16 → FVec F S16 .f32 := fun c =>
  match c.val with
  | 0 => a0
  | 1 => a1
  | 2 => a2
  | 3 => a3
  | 4 => a4
  | 5 => a5
  | 6 => a6
  | 7 => a7
  | 8 => a8
  | 9 => a9
  | 10 => a10
  | 11 => a11
  | 12 => a12
  | 13 => a13
  | 14 => a14
  | _ => a15

abbrev Tup (F : FTy → Type) : Type := BitVec 32 × F .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

def St.of : Tup F → St F := fun (cur, run, a0, a1, a2, a3, a4, a5, a6, a7, a8, a9, a10, a11, a12, a13, a14, a15) => ⟨cur, run, mk16 a0 a1 a2 a3 a4 a5 a6 a7 a8 a9 a10 a11 a12 a13 a14 a15⟩
def St.tup (s : St F) : Tup F := (s.cur, s.run, s.acc 0, s.acc 1, s.acc 2, s.acc 3, s.acc 4, s.acc 5, s.acc 6, s.acc 7, s.acc 8, s.acc 9, s.acc 10, s.acc 11, s.acc 12, s.acc 13, s.acc 14, s.acc 15)

section Prog
variable {i : grid0.Coords} (arg8 : Memref sig .scVector .vmem S40x128 .i32) (arg9 : Memref sig .scVector .vmem S80x256 .f32) (arg10 : Memref sig .scVector .vmem S256x256 .f32)
  (arg11 : Memref sig .scVector .vmem S256x16 .f32)

/-- A group of sixteen rows: their segments loaded, then the rows in turn. -/
def group (j : Fin (k0_t1_loop i).trips) (k : Fin k0_t2_loop.trips) (s : St F) : RP F i (St F) := do
  let v : Vec F S1x16 .i32 ← Prog.lift (.load arg8 (Rect.unit (s := S40x128) (k0_off3 i j k) S1x16.size (k0_off3_inb i j k)).toLoadRect (View.loadsAt_vmem h_S1x16))
  runCols (row arg9 arg10 arg11 k (shapeCast S16 v shapeCasts_S1x16_S16)) cols s

end Prog

end Cert.KernelIdeal.Row

end
-- ==== Proof.RowEq.lean ====
/-
  The printed loop body of a group of sixteen rows is the program of the group: the two texts taken in step, one operation at a time.
-/
module
public import proofs.«01_k».proof.Proof.RowKI
@[expose] public section
noncomputable section
namespace Cert.KernelIdeal.Row
open Idealize.ShloMosaic Idealize.SL.Sem
open Cert.KernelIdeal Cert.KernelIdeal.Gen
variable {F : FTy → Type} [FloatOps F]

/-- Two programs agree when their first operations do and what follows does at every answer. -/
theorem op_congr.{v} {E : Type → Type v} {α β : Type} {e e' : E β} {k k' : β → Prog E α} (he : e = e') (hk : ∀ x, k x = k' x) :
    Prog.op e k = Prog.op e' k' := by
  rw [he, funext hk]

set_option maxRecDepth 1000000 in
set_option maxHeartbeats 40000000 in
/-- A group's printed text, over the carried values as the loops pass them, is `group`. -/
theorem body_eq (i : grid0.Coords) (arg2 : Memref sig .scVector .hbm S100000x256 .f32) (harg2 : arg2.IsWhole) (arg3 : Memref sig .scVector .hbm S32x40x128 .i32) (harg3 : arg3.IsWhole) (arg4 : Memref sig .scVector .hbm S256x256 .f32) (harg4 : arg4.IsWhole) (arg5 : Memref sig .scVector .hbm S256x16 .f32) (harg5 : arg5.IsWhole) (arg6 : Memref sig .scVector .hbm S32x256x256 .f32) (harg6 : arg6.IsWhole) (arg7 : Memref sig .scVector .hbm S32x256x16 .f32) (harg7 : arg7.IsWhole) (arg8 : Memref sig .scVector .vmem S40x128 .i32) (harg8 : arg8.IsWhole) (arg9 : Memref sig .scVector .vmem S80x256 .f32) (harg9 : arg9.IsWhole) (arg10 : Memref sig .scVector .vmem S256x256 .f32) (harg10 : arg10.IsWhole) (arg11 : Memref sig .scVector .vmem S256x16 .f32) (harg11 : arg11.IsWhole) (v27_r0 : DmaSems sig S_) (v27_r1 : DmaSems sig S_) (v27_r2 : DmaSems sig S_) (v32_r3 : DmaSems sig S_) (v32_r4 : DmaSems sig S_) (v27_r5 : DmaSems sig S_) (v27_r6 : DmaSems sig S_)
    (j : Fin (k0_t1_loop i).trips) (k : Fin k0_t2_loop.trips) (s : Tup F) :
    k0_t2_body (F := F) i arg2 harg2 arg3 harg3 arg4 harg4 arg5 harg5 arg6 harg6 arg7 harg7 arg8 harg8 arg9 harg9 arg10 harg10 arg11 harg11 v27_r0 v27_r1 v27_r2 v32_r3 v32_r4 v27_r5 v27_r6 j (Scf.iv 0#32 1#32 j) k s
      = (group arg8 arg9 arg10 arg11 j k (St.of s) >>= fun s => pure s.tup) := by
  obtain ⟨cur, run, a0, a1, a2, a3, a4, a5, a6, a7, a8, a9, a10, a11, a12, a13, a14, a15⟩ := s
  unfold k0_t2_body group
  iterate 817 (refine op_congr rfl fun _ => ?_)
  rfl

end Cert.KernelIdeal.Row

end
-- ==== Proof.Held.lean ====
/-
  A buffer held whole by one thread, stated by what a memref over it reads: the load of a rectangle returns those elements, and a store
  through one leaves the written values under it and the rest as they were.
-/
module

public import Idealize.ShloMosaic.Lib.Tactic
public import Idealize.ShloMosaic.Lib.WritesUnit
public import Idealize.ShloMosaic.Lib.SparseCore

@[expose] public section

noncomputable section

namespace Cert.Held

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl]

/-- Thread `c` holds the buffer of `v` whole, and `v` reads `x` off it. -/
def held (Ix : Type) [DecidableEq Ix] (Name : Type) [DecidableEq Name] (U : Type) [URA U] (Lvl : Type) [Preorder Lvl]
    (c : Thread nD τ) {cs : CoreSpace} {s : Shape} {e : EltTy} (v : Memref sig c.2.kind cs s e) (x : s.Idx → Val e) : sProp (MT nD τ sig Ix Val Name U Lvl) :=
  iprop(∃ f : Buf Val (v.view.loc c), ⌜v.view.read Val f = x⌝ ∗ v.view.loc c ↦{fullShare} f)

/-- What a store of `w` through the unit-stride rectangle at `off` leaves of `x`. -/
def put {α : Type} {s : Shape} (off size : Fin s.rank → ℕ) (w : ((a : Fin s.rank) → Fin (size a)) → α) (x : s.Idx → α) : s.Idx → α := fun y =>
  if h : ∀ a, off a ≤ (y a).val ∧ (y a).val < off a + size a then w (Rect.unitLocal y h) else x y

variable {defs : Defs nD τ sig Val Λ} (𝒱 : Variants) (c : Thread nD τ) (bd : Option 𝒱.V) (E : Set Name)
variable {α : Type} {Q : α → sProp (MT nD τ sig Ix Val Name U Lvl)} {cs : CoreSpace} {s : Shape} {e : EltTy}

theorem wp_load {m : Memref sig c.2.kind cs s e} {r : Rect s} {hl : m.view.LoadsAt r} {k : (r.shape.Idx → Val e) → Prog (TpuEff nD τ sig Val Λ c.2) α}
    {x : s.Idx → Val e} :
    held Ix Name U Lvl c m x ⊢ iprop((held Ix Name U Lvl c m x -∗ wp frame (wpE defs 𝒱 c bd) E (k (fun y => x (r.emb y))) Q)
        -∗ wp frame (wpE defs 𝒱 c bd) E (.op (.load m r hl) k) Q) := by
  unfold held
  iintro ⟨%f, %hf, H⟩ HK
  iapply (wp_load_rect (defs := defs) 𝒱 c bd E (m := m) (r := r) (S := Finset.univ) (Finset.subset_univ _)) $$ H
  iintro H
  have he : (m.access r).read Val f = fun y => x (r.emb y) := by subst hf; rfl
  rw [he]
  iapply HK
  iexists f
  isplitr
  · ipureintro; exact hf
  · iexact H

theorem wp_store {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {x : s.Idx → Val e} :
    held Ix Name U Lvl c m x ⊢ iprop((held Ix Name U Lvl c m (put off size w x) -∗ wp frame (wpE defs 𝒱 c bd) E (k ⟨⟩) Q)
        -∗ wp frame (wpE defs 𝒱 c bd) E (.op (.store m (Rect.unit off size inb) w Finset.univ hx hm) k) Q) := by
  unfold held
  iintro ⟨%f, %hf, H⟩ HK
  iapply (Idealize.ShloMosaic.wp_store (defs := defs) 𝒱 c bd E (m := m) (r := Rect.unit off size inb) (Mk := Finset.univ) (S := Finset.univ) (Finset.subset_univ _)) $$ H
  iintro H
  iapply HK
  iexists _
  isplitr
  rotate_left
  · iexact H
  · ipureintro
    funext y
    subst hf
    exact View.read_writes_cons_unit m.view f inb w [] y rfl

end Cert.Held

end
-- ==== Proof.RowRun.lean ====
/-
  One row, then a group of sixteen, run on a vector subcore: what the carried values and the two tables become, as functions of what they were.
-/
module

public import proofs.«01_k».proof.Proof.RowKI
public import proofs.«01_k».proof.Proof.Held
public import Idealize.ShloMosaic.Lib.SparseCore.Quiescent
public import Idealize.ShloMosaic.Lib.Transfers
public import Idealize.ShloMosaic.Lib.Pipeline.Value

@[expose] public section

noncomputable section

namespace Cert.KernelIdeal.Row

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Held (held put)

variable {F : FTy → Type} [FloatOps F]

/-! ## The values -/

/-- A worker's state: the carried values and the two tables it keeps. -/
structure Wk (F : FTy → Type) where
  st : St F
  sums : S256x256.Idx → F .f32
  cnts : S256x16.Idx → F .f32

/-- The column group of a column, -/
def cgrp (n : Fin 256) : Fin 16 := ⟨n.val / 16, by omega⟩
/-- and its lane. -/
def clane (n : Fin 256) : S16.Idx := fun | 0 => ⟨n.val % 16, Nat.mod_lt _ (by decide)⟩

/-- A row taken in: `seg` its segment, `x` its values by column group. -/
def rowStep (seg : BitVec 32) (x : Fin 16 → FVec F S16 .f32) (w : Wk F) : Wk F :=
  let new : BitVec 1 := Scalar.cmpi .ne seg w.st.cur
  let acc : Fin 16 → FVec F S16 .f32 := fun c => Scalar.select new (x c) (addf (w.st.acc c) (x c))
  let run : F .f32 := Scalar.select new (Scalar.ofBits .f32 0x3F800000#32) (Scalar.addf w.st.run (Scalar.ofBits .f32 0x3F800000#32))
  { st := ⟨seg, run, acc⟩
    sums := fun y => if (y 0).val = seg.toNat then acc (cgrp (y 1)) (clane (y 1)) else w.sums y
    cnts := fun y => if (y 0).val = seg.toNat then run else w.cnts y }

/-- Row `r` of group `k` of the chunk `X`, by column group. -/
def rowVals (X : S80x256.Idx → F .f32) (k : Fin k0_t2_loop.trips) (r : Fin 16) : Fin 16 → FVec F S16 .f32 := fun c =>
  shapeCast S16 (fun y => X ((Rect.unit (s := S80x256) (rowOff k r c) S1x16.size (rowOff_inb k r c)).emb y)) shapeCasts_S1x16_S16

/-- The ids of group `k` of chunk `j`. -/
def grpIds (i : grid0.Coords) (I : S40x128.Idx → BitVec 32) (j : Fin (k0_t1_loop i).trips) (k : Fin k0_t2_loop.trips) : IVec S16 32 :=
  shapeCast S16 (fun y => I ((Rect.unit (s := S40x128) (k0_off3 i j k) S1x16.size (k0_off3_inb i j k)).emb y)) shapeCasts_S1x16_S16

/-- A group taken in. -/
def grpStep (i : grid0.Coords) (I : S40x128.Idx → BitVec 32) (X : S80x256.Idx → F .f32) (j : Fin (k0_t1_loop i).trips) (k : Fin k0_t2_loop.trips) (w : Wk F) : Wk F :=
  cols.foldl (fun w r => rowStep (seg (grpIds i I j k) r) (rowVals X k r) w) w

/-! ## The machine's side -/

abbrev UH : Type := URounds (GSem nD τ sig) ℕ
abbrev UU : Type := UH × (UR sig nD τ × Counters)

local notation "𝕄" => MT nD τ sig (HIx 1) (Elt F) ℕ UU ℕ

abbrev thr (d : Dev nD) (i : grid0.Coords) : Thread nD τ := V d ((i 0).castLE hcore0) ((i 1).castLE hsub0)

abbrev 𝒱₀ : Variants := Variants.none

variable (d : Dev nD) {i : grid0.Coords}

/-- A memref held by a subcore, at what it reads. -/
abbrev hld {s : Shape} {e : EltTy} (v : Memref sig .scVector .vmem s e) (x : s.Idx → Elt F e) : sProp 𝕄 :=
  held (nD := nD) (τ := τ) (HIx 1) ℕ UU ℕ (thr d i) v x

abbrev wpT {α : Type} (p : RP F i α) (Q : α → sProp 𝕄) : sProp 𝕄 := wp frame (wpE (defs₀ (F := F)) 𝒱₀ (thr d i) none) Set.univ p Q

/-- Steps at the listed column groups, over a state `g` the program's own value `π g` is part of: each takes the assertion of the state to that
    of the next. -/
theorem runCols_wp {σ γ : Type} (f : Fin 16 → σ → RP F i σ) (π : γ → σ) (step : Fin 16 → γ → γ) (I : γ → sProp 𝕄)
    (hf : ∀ c g (Q : σ → sProp 𝕄), I g ⊢ iprop((I (step c g) -∗ Q (π (step c g))) -∗ wpT d (f c (π g)) Q)) :
    ∀ (l : List (Fin 16)) (g : γ) (Q : σ → sProp 𝕄),
      I g ⊢ iprop((I (l.foldl (fun g c => step c g) g) -∗ Q (π (l.foldl (fun g c => step c g) g))) -∗ wpT d (runCols f l (π g)) Q)
  | [], g, Q => by
    unfold runCols wpT
    rw [wp_pure]
    iintro H HK
    imodintro
    simp only [List.foldl_nil]
    iapply HK; iexact H
  | c :: l, g, Q => by
    have ih := runCols_wp f π step I hf l (step c g) Q
    unfold runCols wpT
    rw [wp_bind]
    iintro H HK
    iapply (hf c g _) $$ H
    iintro H
    iapply ih $$ H
    iexact HK

section
variable (arg9 : Memref sig .scVector .vmem S80x256 .f32) (arg10 : Memref sig .scVector .vmem S256x256 .f32) (arg11 : Memref sig .scVector .vmem S256x16 .f32)

theorem colStep_wp (X : S80x256.Idx → F .f32) (k : Fin k0_t2_loop.trips) (r : Fin 16) (new : BitVec 1) (c : Fin 16) (acc : Fin 16 → FVec F S16 .f32)
    (Q : (Fin 16 → FVec F S16 .f32) → sProp 𝕄) :
    hld d (i := i) arg9 X ⊢ iprop((hld d (i := i) arg9 X -∗ Q (upd acc c (Scalar.select new (rowVals X k r c) (addf (acc c) (rowVals X k r c)))))
      -∗ wpT d (i := i) (colStep arg9 k r new c acc) Q) := by
  unfold colStep wpT rowVals
  simp only [Prog.lift, Prog.bind_op, Prog.bind_ret, Prog.pure_eq_ret]
  iintro H HK
  iapply (Cert.Held.wp_load 𝒱₀ (thr d i) none Set.univ) $$ H
  iintro H
  rw [wp_ret]
  imodintro
  iapply HK; iexact H

/-- A segment's sixteen sums at a column group, stored. -/
def outPut (sg : BitVec 32) (acc : Fin 16 → FVec F S16 .f32) (c : Fin 16) (X : S256x256.Idx → F .f32) : S256x256.Idx → F .f32 :=
  put (segOff sg c) S1x16.size (shapeCast S1x16 (acc c) shapeCasts_S16_S1x16) X

theorem outStep_wp (sg : BitVec 32) (h : k0_chk1 sg) (acc : Fin 16 → FVec F S16 .f32) (c : Fin 16) (X : S256x256.Idx → F .f32)
    (Q : PUnit → sProp 𝕄) :
    hld d (i := i) arg10 X ⊢ iprop((hld d (i := i) arg10 (outPut sg acc c X) -∗ Q ⟨⟩) -∗ wpT d (i := i) (outStep arg10 sg h acc c ⟨⟩) Q) := by
  unfold outStep wpT
  simp only [Prog.lift, Prog.bind_op, Prog.bind_ret, Prog.pure_eq_ret]
  iintro H HK
  iapply (Cert.Held.wp_load 𝒱₀ (thr d i) none Set.univ) $$ H
  iintro H
  iapply (Cert.Held.wp_store 𝒱₀ (thr d i) none Set.univ) $$ H
  iintro H
  rw [wp_ret]
  imodintro
  iapply HK; iexact H

end

theorem cols_upd (g : Fin 16 → FVec F S16 .f32 → FVec F S16 .f32) (acc : Fin 16 → FVec F S16 .f32) :
    cols.foldl (fun a c => upd a c (g c (a c))) acc = fun c => g c (acc c) := by
  funext c
  fin_cases c <;> rfl

theorem put_seg (sg : BitVec 32) (c : Fin 16) (a : FVec F S16 .f32) (X : S256x256.Idx → F .f32) (y : S256x256.Idx) :
    put (s := S256x256) (segOff sg c) S1x16.size (shapeCast S1x16 a shapeCasts_S16_S1x16) X y
      = if (y 0).val = sg.toNat ∧ cgrp (y 1) = c then a (clane (y 1)) else X y := by
  have h1 : (y 1).val < 256 := (y 1).isLt
  unfold put
  by_cases h : (y 0).val = sg.toNat ∧ cgrp (y 1) = c
  · have hc : (y 1).val / 16 = c.val := congrArg Fin.val h.2
    have hin : ∀ a : Fin 2, segOff sg c a ≤ (y a).val ∧ (y a).val < segOff sg c a + S1x16.size a := fun a => by
      match a with
      | 0 => show sg.toNat ≤ (y 0).val ∧ (y 0).val < sg.toNat + 1; omega
      | 1 => show 16 * c.val ≤ (y 1).val ∧ (y 1).val < 16 * c.val + 16; omega
    rw [if_pos h, dif_pos hin]
    refine (shapeCast_addUnit_apply ![16] a shapeCasts_S16_S1x16 _).trans (congrArg a (funext fun b => ?_))
    match b with
    | 0 => exact Fin.ext (show (y 1).val - 16 * c.val = (y 1).val % 16 by omega)
  · rw [if_neg h, dif_neg]
    intro hin
    have h0 : sg.toNat ≤ (y 0).val ∧ (y 0).val < sg.toNat + 1 := hin 0
    have h2 : 16 * c.val ≤ (y 1).val ∧ (y 1).val < 16 * c.val + 16 := hin 1
    exact h ⟨by omega, Fin.ext (show (y 1).val / 16 = c.val by omega)⟩

theorem put_cnt (sg : BitVec 32) (v : F .f32) (X : S256x16.Idx → F .f32) :
    put (s := S256x16) (segOff sg 0) S1x16.size (shapeCast S1x16 (broadcast S16 v) shapeCasts_S16_S1x16) X
      = fun y => if (y 0).val = sg.toNat then v else X y := by
  funext y
  have h1 : (y 1).val < 16 := (y 1).isLt
  unfold put
  by_cases h : (y 0).val = sg.toNat
  · have hin : ∀ a : Fin 2, segOff sg 0 a ≤ (y a).val ∧ (y a).val < segOff sg 0 a + S1x16.size a := fun a => by
      match a with
      | 0 => show sg.toNat ≤ (y 0).val ∧ (y 0).val < sg.toNat + 1; omega
      | 1 => show 16 * 0 ≤ (y 1).val ∧ (y 1).val < 16 * 0 + 16; omega
    rw [if_pos h, dif_pos hin]
    rfl
  · rw [if_neg h, dif_neg]
    intro hin
    have h0 : sg.toNat ≤ (y 0).val ∧ (y 0).val < sg.toNat + 1 := hin 0
    exact h (by omega)

theorem cols_out (sg : BitVec 32) (acc : Fin 16 → FVec F S16 .f32) (X : S256x256.Idx → F .f32) (l : List (Fin 16)) :
    l.foldl (fun X c => outPut sg acc c X) X
      = fun y => if (y 0).val = sg.toNat ∧ cgrp (y 1) ∈ l then acc (cgrp (y 1)) (clane (y 1)) else X y := by
  induction l generalizing X with
  | nil => funext y; simp
  | cons c l ih =>
    rw [List.foldl_cons, ih]
    funext y
    have e : outPut sg acc c X y = if (y 0).val = sg.toNat ∧ cgrp (y 1) = c then acc c (clane (y 1)) else X y := put_seg sg c (acc c) X y
    beta_reduce
    rw [e]
    by_cases h1 : (y 0).val = sg.toNat <;> by_cases h2 : cgrp (y 1) ∈ l <;> by_cases h3 : cgrp (y 1) = c <;>
      simp only [h1, h2, h3, List.mem_cons, true_and, false_and, or_true, true_or, or_false, if_true, if_false, ite_self]

theorem cols_all (c : Fin 16) : c ∈ cols := by fin_cases c <;> decide

section
variable (arg8 : Memref sig .scVector .vmem S40x128 .i32) (arg9 : Memref sig .scVector .vmem S80x256 .f32)
  (arg10 : Memref sig .scVector .vmem S256x256 .f32) (arg11 : Memref sig .scVector .vmem S256x16 .f32)

/-- What a subcore holds while it takes rows in. -/
def tables (X : S80x256.Idx → F .f32) (w : Wk F) : sProp 𝕄 :=
  iprop(hld d (i := i) arg9 X ∗ hld d (i := i) arg10 w.sums ∗ hld d (i := i) arg11 w.cnts)

theorem row_wp (X : S80x256.Idx → F .f32) (k : Fin k0_t2_loop.trips) (ids : IVec S16 32) (r : Fin 16) (h : k0_chk1 (seg ids r)) (w : Wk F)
    (Q : St F → sProp 𝕄) :
    tables d (i := i) arg9 arg10 arg11 X w
      ⊢ iprop((tables d (i := i) arg9 arg10 arg11 X (rowStep (seg ids r) (rowVals X k r) w) -∗ Q (rowStep (seg ids r) (rowVals X k r) w).st)
        -∗ wpT d (i := i) (row arg9 arg10 arg11 k ids r w.st) Q) := by
  unfold row wpT tables rowStep
  simp only [Prog.lift, Prog.bind_op, Prog.bind_ret, Prog.pure_eq_ret]
  iintro ⟨H9, H10, H11⟩ HK
  rw [wp_assume_of 𝒱₀ (thr d i) none Set.univ h, wp_bind]
  iapply (runCols_wp d _ (fun g => g) (fun c g => upd g c (Scalar.select (Scalar.cmpi .ne (seg ids r) w.st.cur) (rowVals X k r c) (addf (g c) (rowVals X k r c))))
    (fun _ => hld d (i := i) arg9 X) (fun c g Q => colStep_wp d arg9 X k r _ c g Q) cols w.st.acc _) $$ H9
  iintro H9
  rw [cols_upd (fun c a => Scalar.select (Scalar.cmpi .ne (seg ids r) w.st.cur) (rowVals X k r c) (addf a (rowVals X k r c))), wp_bind]
  iapply (runCols_wp d _ (fun _ => PUnit.unit) (fun c g => outPut (seg ids r) _ c g)
    (fun g => hld d (i := i) arg10 g) (fun c g Q => outStep_wp d arg10 (seg ids r) h _ c g Q) cols w.sums _) $$ H10
  iintro H10
  iapply (Cert.Held.wp_load 𝒱₀ (thr d i) none Set.univ) $$ H11
  iintro H11
  iapply (Cert.Held.wp_store 𝒱₀ (thr d i) none Set.univ) $$ H11
  iintro H11
  rw [wp_ret]
  imodintro
  iapply HK
  isplitl [H9]; · iexact H9
  rw [cols_out]
  simp only [cols_all, and_true]
  isplitl [H10]; · iexact H10
  ihave H := (Entails.of_eq (congrArg (hld d (i := i) arg11) (put_cnt (F := F) (seg ids r) _ w.cnts))) $$ H11
  iexact H

theorem chk_of_lt {v : BitVec 32} (h : v.toNat < 256) : k0_chk1 v := by
  have key : ∀ c : Fin 16, ∀ a, segOff v c a + S1x16.size a ≤ S256x256.size a := fun c a => by
    have hc := c.isLt
    match a with
    | 0 => show v.toNat + 1 ≤ 256; omega
    | 1 => show 16 * c.val + 16 ≤ 256; omega
  have keyc : ∀ a, segOff v 0 a + S1x16.size a ≤ S256x16.size a := fun a => by
    match a with
    | 0 => show v.toNat + 1 ≤ 256; omega
    | 1 => show 16 * 0 + 16 ≤ 16; omega
  exact ⟨key 0, key 1, key 2, key 3, key 4, key 5, key 6, key 7, key 8, key 9, key 10, key 11, key 12, key 13, key 14, key 15, keyc⟩

theorem seg_grpIds (i : grid0.Coords) (I : S40x128.Idx → BitVec 32) (j : Fin (k0_t1_loop i).trips) (k : Fin k0_t2_loop.trips) (r : Fin 16) :
    ∃ y, seg (grpIds i I j k) r = I y := ⟨_, rfl⟩

theorem group_wp (I : S40x128.Idx → BitVec 32) (hI : ∀ y, (I y).toNat < 256) (X : S80x256.Idx → F .f32) (j : Fin (k0_t1_loop i).trips) (k : Fin k0_t2_loop.trips) (w : Wk F)
    (Q : St F → sProp 𝕄) :
    iprop(hld d (i := i) arg8 I ∗ tables d (i := i) arg9 arg10 arg11 X w)
      ⊢ iprop((iprop(hld d (i := i) arg8 I ∗ tables d (i := i) arg9 arg10 arg11 X (grpStep i I X j k w)) -∗ Q (grpStep i I X j k w).st)
        -∗ wpT d (i := i) (group arg8 arg9 arg10 arg11 j k w.st) Q) := by
  have hk : ∀ r, k0_chk1 (seg (grpIds i I j k) r) := fun r => chk_of_lt (by obtain ⟨y, e⟩ := seg_grpIds i I j k r; rw [e]; exact hI y)
  unfold group wpT grpStep
  simp only [Prog.lift, Prog.bind_op, Prog.bind_ret]
  iintro ⟨H8, H⟩ HK
  iapply (Cert.Held.wp_load 𝒱₀ (thr d i) none Set.univ) $$ H8
  iintro H8
  iapply (runCols_wp d (row arg9 arg10 arg11 k (grpIds i I j k)) (fun w : Wk F => w.st) (fun r w => rowStep (seg (grpIds i I j k) r) (rowVals X k r) w)
    (fun w => tables d (i := i) arg9 arg10 arg11 X w) (fun r w Q => row_wp d arg9 arg10 arg11 X k (grpIds i I j k) r (hk r) w Q) cols w _) $$ H
  iintro H
  iapply HK
  isplitl [H8]; · iexact H8
  iexact H
end

end Cert.KernelIdeal.Row

end
-- ==== Proof.Copy.lean ====
/-
  A copy issued and waited for at once on a semaphore its thread holds at zero.
-/
module

public import proofs.«01_k».proof.Proof.Held
public import Idealize.ShloMosaic.Lib.Transfers

@[expose] public section

noncomputable section

namespace Cert.Held

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] [Infinite Name]
variable {U : Type} [URA U] {Lvl : Type} {Λ : Labels} [Preorder Lvl]

variable (EC : UEmb Counters (MT nD τ sig Ix Val Name U Lvl)) [EC.LandsIn (upEmb : UEmb _ (MT nD τ sig Ix Val Name U Lvl))]
variable {defs : Defs nD τ sig Val Λ} (𝒱 : Variants) (c : Thread nD τ) (bd : Option 𝒱.V)
variable {α : Type} {Q : α → sProp (MT nD τ sig Ix Val Name U Lvl)} {sp sp' spw : Space} {s sw : Shape} {e ew : EltTy}

include EC

/-- The copy of `src` to `dst` and its wait: from any elements of the two buffers covering the views', to the destination's written over. -/
theorem wp_copy {src : Memref sig c.2.kind sp s e} {dst : Memref sig c.2.kind sp' s e} {sem : DmaSem sig}
    {srcw : Memref sig c.2.kind spw sw ew}
    {h1 : src.view.WordExact} {h2 : dst.view.WordExact} {h3 : DmaTarget.Typed (nD := nD) sp (.dma sem) (.here dst)}
    {h4 : srcw.view.WordExact} {h5 : dst.view.WordExact}
    {k : PUnit → Prog (TpuEff nD τ sig Val Λ c.2) α} {q : PosShare TreeShare} {Ss : Finset (Idx (src.view.loc c))} {fs : Buf Val (src.view.loc c)}
    {Sd : Finset (Idx (dst.view.loc c))} {fd : Buf Val (dst.view.loc c)} (ι : Ix) (hn : 0 < s.numel) (hSs : src.view.set ⊆ Ss) (hSd : dst.view.set ⊆ Sd)
    {O : CellTallies nD τ sig Ix} {W : Waits sig Ix} :
    iprop((src.view.loc c ↦[Ss]{q} fs) ∗ (dst.view.loc c ↦[Sd]{fullShare} fd) ∗ semVal (c, .dma sem) 0 ∗ owes c O W ∗ Transfers.MayWaits c ι O)
      ⊢ iprop((((src.view.loc c ↦[Ss]{q} fs) ∗ (dst.view.loc c ↦[Sd]{fullShare} (dst.view.write Val fd (src.view.read Val fs) Finset.univ))
              ∗ semVal (c, .dma sem) 0 ∗ owes c O (insert (SemLoc.dma sem, ι) W)) -∗ wp frame (wpE defs 𝒱 c bd) Set.univ (k ⟨⟩) Q)
          -∗ wp frame (wpE defs 𝒱 c bd) Set.univ
            (.op (.enqueueDma src (.here dst) (.dma sem) h1 h2 h3) fun _ => .op (.waitDma2 sem srcw dst h4 h5) k) Q) := by
  iintro ⟨Hs, Hd, Hv, HO, HM⟩ HK
  ihave Hs2 := (pointsTo_split_subset (Val := Val) hSs).1 $$ Hs
  icases Hs2 with ⟨Hs, Hr⟩
  iapply (Transfers.wp_dmaLocal EC 𝒱 c bd ι dst.view.dmaCredit rfl (dst.view.dmaCredit_pos hn) hSd) $$ [Hs Hd Hv]
  · isplitl [Hs]; · iexact Hs
    isplitl [Hd]; · iexact Hd
    iexact Hv
  iintro HF
  iapply (Transfers.wp_waitLocalO EC 𝒱 c bd ι rfl) $$ [HF HO HM]
  · isplitl [HF]; · iexact HF
    isplitl [HO]; · iexact HO
    iapply (Transfers.MayWaits.elim (.dma sem)); iexact HM
  iintro ⟨⟨Hd, Hs⟩, Hv, HO⟩
  iapply HK
  isplitl [Hs Hr]
  · iapply (pointsTo_split_subset (Val := Val) hSs).2
    isplitl [Hs]; · iexact Hs
    iexact Hr
  isplitl [Hd]; · iexact Hd
  isplitl [Hv]; · iexact Hv
  iexact HO

/-- Such a copy into a buffer held whole, which then reads what the source reads. -/
theorem wp_copyIn {cs : CoreSpace} {src : Memref sig c.2.kind sp s e} {dst : Memref sig c.2.kind cs s e} {sem : DmaSem sig}
    {srcw : Memref sig c.2.kind spw sw ew}
    {h1 : src.view.WordExact} {h2 : dst.view.WordExact} {h3 : DmaTarget.Typed (nD := nD) sp (.dma sem) (.here dst)}
    {h4 : srcw.view.WordExact} {h5 : dst.view.WordExact}
    {k : PUnit → Prog (TpuEff nD τ sig Val Λ c.2) α} {q : PosShare TreeShare} {fs : Buf Val (src.view.loc c)}
    {x : s.Idx → Val e} (ι : Ix) (hn : 0 < s.numel) {O : CellTallies nD τ sig Ix} {W : Waits sig Ix} :
    iprop((src.view.loc c ↦{q} fs) ∗ held Ix Name U Lvl c dst x ∗ semVal (c, .dma sem) 0 ∗ owes c O W ∗ Transfers.MayWaits c ι O)
      ⊢ iprop((((src.view.loc c ↦{q} fs) ∗ held Ix Name U Lvl c dst (src.view.read Val fs)
              ∗ semVal (c, .dma sem) 0 ∗ owes c O (insert (SemLoc.dma sem, ι) W)) -∗ wp frame (wpE defs 𝒱 c bd) Set.univ (k ⟨⟩) Q)
          -∗ wp frame (wpE defs 𝒱 c bd) Set.univ
            (.op (.enqueueDma src (.here dst) (.dma sem) h1 h2 h3) fun _ => .op (.waitDma2 sem srcw dst h4 h5) k) Q) := by
  unfold held
  iintro ⟨Hs, ⟨%f, %hf, Hd⟩, Hv, HO, HM⟩ HK
  iapply (wp_copy EC 𝒱 c bd ι hn (Finset.subset_univ _) (Finset.subset_univ _)) $$ [Hs Hd Hv HO HM]
  · isplitl [Hs]; · iexact Hs
    isplitl [Hd]; · iexact Hd
    isplitl [Hv]; · iexact Hv
    isplitl [HO]; · iexact HO
    iexact HM
  iintro ⟨Hs, Hd, Hv, HO⟩
  iapply HK
  isplitl [Hs]; · iexact Hs
  isplitl [Hd]
  · iexists _
    isplitr
    rotate_left
    · iexact Hd
    · ipureintro
      exact View.read_write_univ ..
  isplitl [Hv]; · iexact Hv
  iexact HO

/-- Such a copy out of a buffer held whole. -/
theorem wp_copyOut {cs : CoreSpace} {src : Memref sig c.2.kind cs s e} {dst : Memref sig c.2.kind sp' s e} {sem : DmaSem sig}
    {srcw : Memref sig c.2.kind spw sw ew}
    {h1 : src.view.WordExact} {h2 : dst.view.WordExact} {h3 : DmaTarget.Typed (nD := nD) cs (.dma sem) (.here dst)}
    {h4 : srcw.view.WordExact} {h5 : dst.view.WordExact}
    {k : PUnit → Prog (TpuEff nD τ sig Val Λ c.2) α} {fd : Buf Val (dst.view.loc c)}
    {x : s.Idx → Val e} (ι : Ix) (hn : 0 < s.numel) {O : CellTallies nD τ sig Ix} {W : Waits sig Ix} :
    iprop(held Ix Name U Lvl c src x ∗ (dst.view.loc c ↦[dst.view.set]{fullShare} fd) ∗ semVal (c, .dma sem) 0 ∗ owes c O W ∗ Transfers.MayWaits c ι O)
      ⊢ iprop(((held Ix Name U Lvl c src x ∗ (dst.view.loc c ↦[dst.view.set]{fullShare} (dst.view.write Val fd x Finset.univ))
              ∗ semVal (c, .dma sem) 0 ∗ owes c O (insert (SemLoc.dma sem, ι) W)) -∗ wp frame (wpE defs 𝒱 c bd) Set.univ (k ⟨⟩) Q)
          -∗ wp frame (wpE defs 𝒱 c bd) Set.univ
            (.op (.enqueueDma src (.here dst) (.dma sem) h1 h2 h3) fun _ => .op (.waitDma2 sem srcw dst h4 h5) k) Q) := by
  unfold held
  iintro ⟨⟨%f, %hf, Hs⟩, Hd, Hv, HO, HM⟩ HK
  subst hf
  iapply (wp_copy EC 𝒱 c bd ι hn (Finset.subset_univ _) (Finset.Subset.refl _)) $$ [Hs Hd Hv HO HM]
  · isplitl [Hs]; · iexact Hs
    isplitl [Hd]; · iexact Hd
    isplitl [Hv]; · iexact Hv
    isplitl [HO]; · iexact HO
    iexact HM
  iintro ⟨Hs, Hd, Hv, HO⟩
  iapply HK
  isplitl [Hs]
  · iexists f
    isplitr
    · ipureintro; rfl
    · iexact Hs
  isplitl [Hd]; · iexact Hd
  isplitl [Hv]; · iexact Hv
  iexact HO

end Cert.Held

end
-- ==== Proof.Tile.lean ====
/-
  A subcore's whole run: the tables cleared and its ids fetched, its chunks taken in group by group, the tables written out.
-/
module

public import proofs.«01_k».proof.Proof.RowEq
public import proofs.«01_k».proof.Proof.RowRun
public import proofs.«01_k».proof.Proof.Copy

@[expose] public section

noncomputable section

namespace Cert.KernelIdeal.Row

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Held (held put)

variable {F : FTy → Type} [FloatOps F]

local notation "𝕄" => MT nD τ sig (HIx 1) (Elt F) ℕ UU ℕ

/-! ## The values -/

/-- Chunk `j` of a worker's rows. -/
def chunk (i : grid0.Coords) (x : S100000x256.Idx → F .f32) (j : Fin (k0_t1_loop i).trips) : S80x256.Idx → F .f32 := fun y =>
  x ((Rect.unit (s := S100000x256) (k0_off2 i j) S80x256.size (k0_off2_inb i j)).emb y)

/-- A worker's ids, a chunk's to a row. -/
def ids (i : grid0.Coords) (z : S32x40x128.Idx → BitVec 32) : S40x128.Idx → BitVec 32 := fun y =>
  z ((Rect.unit (s := S32x40x128) (k0_off1 i) S1x40x128.size (k0_off1_inb i)).emb (Shape.reshapeEquiv squeezes_S1x40x128_S40x128.numel_eq y))

/-- The first `n` groups of a chunk taken in, -/
def groups (i : grid0.Coords) (I : S40x128.Idx → BitVec 32) (X : S80x256.Idx → F .f32) (j : Fin (k0_t1_loop i).trips) (w : Wk F) (n : ℕ) : Wk F :=
  ((List.finRange k0_t2_loop.trips).take n).foldl (fun w k => grpStep i I X j k w) w

/-- and the first `n` chunks. -/
def chunks (i : grid0.Coords) (I : S40x128.Idx → BitVec 32) (x : S100000x256.Idx → F .f32) (w : Wk F) (n : ℕ) : Wk F :=
  ((List.finRange (k0_t1_loop i).trips).take n).foldl (fun w j => groups i I (chunk i x j) j w k0_t2_loop.trips) w

/-- A worker before its first row: no segment met, the tables as fetched. -/
def wk₀ (s : S256x256.Idx → F .f32) (c : S256x16.Idx → F .f32) : Wk F :=
  ⟨⟨4294967295#32, Scalar.ofBits .f32 0x00000000#32, fun _ => k0_pay1145⟩, s, c⟩

/-- A worker after its last. -/
def fin (i : grid0.Coords) (x : S100000x256.Idx → F .f32) (z : S32x40x128.Idx → BitVec 32) (s : S256x256.Idx → F .f32) (c : S256x16.Idx → F .f32) : Wk F :=
  chunks i (ids i z) x (wk₀ s c) (k0_t1_loop i).trips

theorem take_succ_foldl {α : Type} {n : ℕ} (f : α → Fin n → α) (w : α) (k : Fin n) :
    ((List.finRange n).take (k.val + 1)).foldl f w = f (((List.finRange n).take k.val).foldl f w) k := by
  rw [List.take_succ_eq_append_getElem (by simp), List.foldl_append]
  simp

theorem of_tup (s : St F) : St.of s.tup = s := by
  obtain ⟨cur, run, acc⟩ := s
  refine congrArg (fun a => (⟨cur, run, a⟩ : St F)) (funext fun c => ?_)
  show mk16 (acc 0) (acc 1) (acc 2) (acc 3) (acc 4) (acc 5) (acc 6) (acc 7) (acc 8) (acc 9) (acc 10) (acc 11) (acc 12) (acc 13) (acc 14) (acc 15) c = acc c
  fin_cases c <;> rfl

/-! ## The run -/

abbrev EC : UEmb Counters 𝕄 := countersEmb

variable (d : Dev nD) {i : grid0.Coords} (arg2 : Memref sig .scVector .hbm S100000x256 .f32) (harg2 : arg2.IsWhole) (arg3 : Memref sig .scVector .hbm S32x40x128 .i32) (harg3 : arg3.IsWhole) (arg4 : Memref sig .scVector .hbm S256x256 .f32) (harg4 : arg4.IsWhole) (arg5 : Memref sig .scVector .hbm S256x16 .f32) (harg5 : arg5.IsWhole) (arg6 : Memref sig .scVector .hbm S32x256x256 .f32) (harg6 : arg6.IsWhole) (arg7 : Memref sig .scVector .hbm S32x256x16 .f32) (harg7 : arg7.IsWhole) (arg8 : Memref sig .scVector .vmem S40x128 .i32) (harg8 : arg8.IsWhole) (arg9 : Memref sig .scVector .vmem S80x256 .f32) (harg9 : arg9.IsWhole) (arg10 : Memref sig .scVector .vmem S256x256 .f32) (harg10 : arg10.IsWhole) (arg11 : Memref sig .scVector .vmem S256x16 .f32) (harg11 : arg11.IsWhole) (v27_r0 : DmaSems sig S_) (v27_r1 : DmaSems sig S_) (v27_r2 : DmaSems sig S_) (v32_r3 : DmaSems sig S_) (v32_r4 : DmaSems sig S_) (v27_r5 : DmaSems sig S_) (v27_r6 : DmaSems sig S_)

section
variable (x : S100000x256.Idx → F .f32)

/-- The inner loop: a chunk's groups. -/
theorem t2_wp (I : S40x128.Idx → BitVec 32) (hI : ∀ y, (I y).toNat < 256) (X : S80x256.Idx → F .f32) (j : Fin (k0_t1_loop i).trips) (w : Wk F)
    {β : Type} (kk : Tup F → RP F i β) (Q : β → sProp 𝕄) :
    iprop(hld d (i := i) arg8 I ∗ tables d (i := i) arg9 arg10 arg11 X w)
      ⊢ iprop((iprop(hld d (i := i) arg8 I ∗ tables d (i := i) arg9 arg10 arg11 X (groups i I X j w k0_t2_loop.trips))
          -∗ wpT d (kk (groups i I X j w k0_t2_loop.trips).st.tup) Q)
        -∗ wpT d (i := i) (Scf.Loop.for k0_t2_loop k0_t2_ok w.st.tup (k0_t2_body i arg2 harg2 arg3 harg3 arg4 harg4 arg5 harg5 arg6 harg6 arg7 harg7 arg8 harg8 arg9 harg9 arg10 harg10 arg11 harg11 v27_r0 v27_r1 v27_r2 v32_r3 v32_r4 v27_r5 v27_r6 j (Scf.iv 0#32 1#32 j)) >>= kk) Q) := by
  unfold wpT
  iintro H HK
  iapply (Scf.wp_for_bind frame (wpE (defs₀ (F := F)) 𝒱₀ (thr d i) none) Set.univ _ _ _ k0_t2_ok w.st.tup (k0_t2_body i arg2 harg2 arg3 harg3 arg4 harg4 arg5 harg5 arg6 harg6 arg7 harg7 arg8 harg8 arg9 harg9 arg10 harg10 arg11 harg11 v27_r0 v27_r1 v27_r2 v32_r3 v32_r4 v27_r5 v27_r6 j (Scf.iv 0#32 1#32 j))
    (fun n acc => iprop(⌜acc = (groups i I X j w n).st.tup⌝ ∗ hld d (i := i) arg8 I ∗ tables d (i := i) arg9 arg10 arg11 X (groups i I X j w n))) ?_) $$ [H]
  · intro k acc
    rw [body_eq]
    have e : groups i I X j w (k.val + 1) = grpStep i I X j k (groups i I X j w k.val) := take_succ_foldl ..
    rw [e, wp_bind]
    iintro ⟨%h, H⟩
    subst h
    rw [of_tup]
    iapply (group_wp d arg8 arg9 arg10 arg11 I hI X j k (groups i I X j w k.val) _) $$ H
    iintro H
    rw [wp_pure]
    imodintro
    isplitr
    · ipureintro; rfl
    · iexact H
  · isplitr
    · ipureintro; rfl
    · iexact H
  iintro %acc ⟨%h, H⟩
  subst h
  iapply HK; iexact H

/-- A subcore's debts, and the waits it has taken since `W` all at no task's index. -/
abbrev owed (O : CellTallies nD τ sig (HIx 1)) (W : Waits sig (HIx 1)) : sProp 𝕄 :=
  iprop(∃ W', ⌜∀ p ∈ W', p ∈ W ∨ p.2 = none⌝ ∗ owes (thr d i) O W')

theorem owed_insert {W W' : Waits sig (HIx 1)} (h : ∀ p ∈ W', p ∈ W ∨ p.2 = none) (sm : SemLoc sig) :
    ∀ p ∈ insert (sm, none) W', p ∈ W ∨ p.2 = none := by
  intro p hp
  rcases Finset.mem_insert.mp hp with rfl | hp
  · exact .inr rfl
  · exact h p hp

/-- What a chunk's turn takes and leaves. -/
abbrev work (q : PosShare TreeShare) (f : Buf (Elt F) (arg2.view.loc (thr d i))) (I : S40x128.Idx → BitVec 32) (w : Wk F) (O : CellTallies nD τ sig (HIx 1)) (W : Waits sig (HIx 1)) : sProp 𝕄 :=
  iprop((arg2.view.loc (thr d i) ↦{q} f) ∗ hld d (i := i) arg8 I ∗ (∃ g, hld d (i := i) arg9 g) ∗ hld d (i := i) arg10 w.sums ∗ hld d (i := i) arg11 w.cnts
    ∗ semVal (thr d i, .dma v32_r3.sem) 0 ∗ owed d (i := i) O W)

set_option maxHeartbeats 1000000 in
/-- The outer loop: a worker's chunks. -/
theorem t1_wp (q : PosShare TreeShare) (f : Buf (Elt F) (arg2.view.loc (thr d i))) (I : S40x128.Idx → BitVec 32) (hI : ∀ y, (I y).toNat < 256) (w : Wk F)
    (O : CellTallies nD τ sig (HIx 1)) (W : Waits sig (HIx 1)) {β : Type} (kk : Tup F → RP F i β) (Q : β → sProp 𝕄) :
    iprop(Transfers.MayWaits (thr d i) none O ∗ work d arg2 arg8 arg9 arg10 arg11 v32_r3 q f I w O W)
      ⊢ iprop((work d arg2 arg8 arg9 arg10 arg11 v32_r3 q f I (chunks i I (arg2.view.read (Elt F) f) w (k0_t1_loop i).trips) O W
          -∗ wpT d (kk (chunks i I (arg2.view.read (Elt F) f) w (k0_t1_loop i).trips).st.tup) Q)
        -∗ wpT d (i := i) (Scf.Loop.for (k0_t1_loop i) (k0_t1_ok i) w.st.tup (k0_t1_body i arg2 harg2 arg3 harg3 arg4 harg4 arg5 harg5 arg6 harg6 arg7 harg7 arg8 harg8 arg9 harg9 arg10 harg10 arg11 harg11 v27_r0 v27_r1 v27_r2 v32_r3 v32_r4 v27_r5 v27_r6) >>= kk) Q) := by
  unfold wpT
  iintro ⟨#HM, H⟩ HK
  iapply (Scf.wp_for_bind frame (wpE (defs₀ (F := F)) 𝒱₀ (thr d i) none) Set.univ _ _ _ (k0_t1_ok i) w.st.tup (k0_t1_body i arg2 harg2 arg3 harg3 arg4 harg4 arg5 harg5 arg6 harg6 arg7 harg7 arg8 harg8 arg9 harg9 arg10 harg10 arg11 harg11 v27_r0 v27_r1 v27_r2 v32_r3 v32_r4 v27_r5 v27_r6)
    (fun n acc => iprop(⌜acc = (chunks i I (arg2.view.read (Elt F) f) w n).st.tup⌝ ∗ Transfers.MayWaits (thr d i) none O
      ∗ work d arg2 arg8 arg9 arg10 arg11 v32_r3 q f I (chunks i I (arg2.view.read (Elt F) f) w n) O W)) ?_) $$ [H]
  · intro j acc
    have e : chunks i I (arg2.view.read (Elt F) f) w (j.val + 1)
        = groups i I (chunk i (arg2.view.read (Elt F) f) j) j (chunks i I (arg2.view.read (Elt F) f) w j.val) k0_t2_loop.trips := take_succ_foldl ..
    rw [e]
    generalize chunks i I (arg2.view.read (Elt F) f) w j.val = w
    iintro ⟨%h, #HM, Hx, HI, ⟨%g, Hc⟩, Hs, Hn, Hv, ⟨%W', %hW, HO⟩⟩
    subst h
    unfold k0_t1_body
    simp only [Prog.lift, Prog.bind_op, Prog.bind_ret, Prog.pure_eq_ret]
    iapply (Cert.Held.wp_copyIn EC 𝒱₀ (thr d i) none
      (src := arg2.slice (Rect.unit (s := S100000x256) (k0_off2 i j) S80x256.size (k0_off2_inb i j)) (fun _ => rfl)) (q := q) (fs := f) none (show 0 < S80x256.numel by decide)) $$ [Hx Hc Hv HO]
    · isplitl [Hx]; · iexact Hx
      isplitl [Hc]; · iexact Hc
      isplitl [Hv]; · iexact Hv
      isplitl [HO]; · iexact HO
      iexact HM
    iintro ⟨Hx, Hc, Hv, HO⟩
    iapply (t2_wp d arg2 harg2 arg3 harg3 arg4 harg4 arg5 harg5 arg6 harg6 arg7 harg7 arg8 harg8 arg9 harg9 arg10 harg10 arg11 harg11 v27_r0 v27_r1 v27_r2 v32_r3 v32_r4 v27_r5 v27_r6 I hI (chunk i (arg2.view.read (Elt F) f) j) j w) $$ [HI Hc Hs Hn]
    · isplitl [HI]; · iexact HI
      unfold tables
      isplitl [Hc]; · iexact Hc
      isplitl [Hs]; · iexact Hs
      iexact Hn
    unfold tables
    iintro ⟨HI, Hc, Hs, Hn⟩
    unfold wpT
    dsimp only [St.tup]
    rw [wp_ret]
    imodintro
    isplitr
    · ipureintro; rfl
    isplitr; · iexact HM
    isplitl [Hx]; · iexact Hx
    isplitl [HI]; · iexact HI
    isplitl [Hc]; · iexists _; iexact Hc
    isplitl [Hs]; · iexact Hs
    isplitl [Hn]; · iexact Hn
    isplitl [Hv]; · iexact Hv
    iexists _
    isplitr
    rotate_left
    · iexact HO
    · ipureintro; exact owed_insert hW _
  · isplitr
    · ipureintro; rfl
    isplitr; · iexact HM
    iexact H
  iintro %acc ⟨%h, -, H⟩
  subst h
  iapply HK; iexact H

theorem t3_trips : ∀ i : grid0.Coords, (k0_t3_loop i).trips = 0 := by decide +kernel

/-- The slice of the sums' buffer a worker writes, -/
abbrev sumsOut (i : grid0.Coords) : Memref sig .scVector .hbm S256x256 .f32 :=
  (arg6.slice (Rect.unit (s := S32x256x256) (k0_off1062 i) S1x256x256.size (k0_off1062_inb i)) (fun _ => rfl)).squeeze S256x256 squeezes_S1x256x256_S256x256
/-- and of the counts'. -/
abbrev cntsOut (i : grid0.Coords) : Memref sig .scVector .hbm S256x16 .f32 :=
  (arg7.slice (Rect.unit (s := S32x256x16) (k0_off1063 i) S1x256x16.size (k0_off1063_inb i)) (fun _ => rfl)).squeeze S256x16 squeezes_S1x256x16_S256x16

/-- The operands a subcore reads, at shares of them, -/
abbrev reads (q : PosShare TreeShare) (f2 : Buf (Elt F) (arg2.view.loc (thr d i))) (f3 : Buf (Elt F) (arg3.view.loc (thr d i)))
    (f4 : Buf (Elt F) (arg4.view.loc (thr d i))) (f5 : Buf (Elt F) (arg5.view.loc (thr d i))) : sProp 𝕄 :=
  iprop((arg2.view.loc (thr d i) ↦{q} f2) ∗ (arg3.view.loc (thr d i) ↦{q} f3) ∗ (arg4.view.loc (thr d i) ↦{q} f4) ∗ (arg5.view.loc (thr d i) ↦{q} f5))
/-- its slices of the results, -/
abbrev outs (f6 : Buf (Elt F) ((sumsOut arg6 i).view.loc (thr d i))) (f7 : Buf (Elt F) ((cntsOut arg7 i).view.loc (thr d i))) : sProp 𝕄 :=
  iprop(((sumsOut arg6 i).view.loc (thr d i) ↦[(sumsOut arg6 i).view.set]{fullShare} f6) ∗ ((cntsOut arg7 i).view.loc (thr d i) ↦[(cntsOut arg7 i).view.set]{fullShare} f7))
/-- and its own memory and cells. -/
abbrev own : sProp 𝕄 :=
  iprop((∃ g, hld d (i := i) arg8 g) ∗ (∃ g, hld d (i := i) arg9 g) ∗ (∃ g, hld d (i := i) arg10 g) ∗ (∃ g, hld d (i := i) arg11 g)
    ∗ semVal (thr d i, .dma v27_r0.sem) 0 ∗ semVal (thr d i, .dma v27_r1.sem) 0 ∗ semVal (thr d i, .dma v27_r2.sem) 0
    ∗ semVal (thr d i, .dma v32_r3.sem) 0 ∗ semVal (thr d i, .dma v27_r5.sem) 0 ∗ semVal (thr d i, .dma v27_r6.sem) 0)

set_option maxHeartbeats 4000000 in
/-- The whole run. -/
theorem tile_wp (q : PosShare TreeShare) (f2 : Buf (Elt F) (arg2.view.loc (thr d i))) (f3 : Buf (Elt F) (arg3.view.loc (thr d i)))
    (f4 : Buf (Elt F) (arg4.view.loc (thr d i))) (f5 : Buf (Elt F) (arg5.view.loc (thr d i)))
    (f6 : Buf (Elt F) ((sumsOut arg6 i).view.loc (thr d i))) (f7 : Buf (Elt F) ((cntsOut arg7 i).view.loc (thr d i)))
    (hI : ∀ y, (ids i (arg3.view.read (Elt F) f3) y).toNat < 256) (O : CellTallies nD τ sig (HIx 1)) (W : Waits sig (HIx 1)) :
    iprop(Transfers.MayWaits (thr d i) none O ∗ reads d (i := i) arg2 arg3 arg4 arg5 q f2 f3 f4 f5 ∗ outs d (i := i) arg6 arg7 f6 f7
        ∗ own d (i := i) arg8 arg9 arg10 arg11 v27_r0 v27_r1 v27_r2 v32_r3 v27_r5 v27_r6 ∗ owes (thr d i) O W)
      ⊢ wpT d (cc0_body (F := F) i arg2 harg2 arg3 harg3 arg4 harg4 arg5 harg5 arg6 harg6 arg7 harg7 arg8 harg8 arg9 harg9 arg10 harg10 arg11 harg11 v27_r0 v27_r1 v27_r2 v32_r3 v32_r4 v27_r5 v27_r6) fun _ =>
        iprop(reads d (i := i) arg2 arg3 arg4 arg5 q f2 f3 f4 f5
          ∗ outs d (i := i) arg6 arg7
            ((sumsOut arg6 i).view.write (Elt F) f6 (fin i (arg2.view.read (Elt F) f2) (arg3.view.read (Elt F) f3) (arg4.view.read (Elt F) f4) (arg5.view.read (Elt F) f5)).sums Finset.univ)
            ((cntsOut arg7 i).view.write (Elt F) f7 (fin i (arg2.view.read (Elt F) f2) (arg3.view.read (Elt F) f3) (arg4.view.read (Elt F) f4) (arg5.view.read (Elt F) f5)).cnts Finset.univ)
          ∗ own d (i := i) arg8 arg9 arg10 arg11 v27_r0 v27_r1 v27_r2 v32_r3 v27_r5 v27_r6 ∗ owed d (i := i) O W) := by
  rw [cc0_body_eq_skeleton]
  unfold cc0_body_skel wpT
  rw [k0_part115_eq_skeleton]
  unfold k0_part115_skel
  simp only [Prog.lift, Prog.bind_op, Prog.bind_ret, Prog.pure_eq_ret]
  iintro ⟨#HM, ⟨H2, H3, H4, H5⟩, ⟨H6, H7⟩, ⟨⟨%g8, H8⟩, ⟨%g9, H9⟩, ⟨%g10, H10⟩, ⟨%g11, H11⟩, V0, V1, V2, V3, V5, V6⟩, HO⟩
  iapply (Cert.Held.wp_copyIn EC 𝒱₀ (thr d i) none (src := arg4) (q := q) (fs := f4) none (show 0 < S256x256.numel by decide)) $$ [H4 H10 V0 HO]
  · isplitl [H4]; · iexact H4
    isplitl [H10]; · iexact H10
    isplitl [V0]; · iexact V0
    isplitl [HO]; · iexact HO
    iexact HM
  iintro ⟨H4, H10, V0, HO⟩
  iapply (Cert.Held.wp_copyIn EC 𝒱₀ (thr d i) none (src := arg5) (q := q) (fs := f5) none (show 0 < S256x16.numel by decide)) $$ [H5 H11 V1 HO]
  · isplitl [H5]; · iexact H5
    isplitl [H11]; · iexact H11
    isplitl [V1]; · iexact V1
    isplitl [HO]; · iexact HO
    iexact HM
  iintro ⟨H5, H11, V1, HO⟩
  iapply (Cert.Held.wp_copyIn EC 𝒱₀ (thr d i) none
    (src := (arg3.slice (Rect.unit (s := S32x40x128) (k0_off1 i) S1x40x128.size (k0_off1_inb i)) (fun _ => rfl)).squeeze S40x128 squeezes_S1x40x128_S40x128)
    (q := q) (fs := f3) none (show 0 < S40x128.numel by decide)) $$ [H3 H8 V2 HO]
  · isplitl [H3]; · iexact H3
    isplitl [H8]; · iexact H8
    isplitl [V2]; · iexact V2
    isplitl [HO]; · iexact HO
    iexact HM
  iintro ⟨H3, H8, V2, HO⟩
  iapply (t1_wp d arg2 harg2 arg3 harg3 arg4 harg4 arg5 harg5 arg6 harg6 arg7 harg7 arg8 harg8 arg9 harg9 arg10 harg10 arg11 harg11 v27_r0 v27_r1 v27_r2 v32_r3 v32_r4 v27_r5 v27_r6 q f2 (ids i (arg3.view.read (Elt F) f3)) hI (wk₀ (arg4.view.read (Elt F) f4) (arg5.view.read (Elt F) f5)) O W) $$ [H2 H8 H9 H10 H11 V3 HO]
  · isplitr; · iexact HM
    isplitl [H2]; · iexact H2
    isplitl [H8]; · iexact H8
    isplitl [H9]; · iexists _; iexact H9
    isplitl [H10]; · iexact H10
    isplitl [H11]; · iexact H11
    isplitl [V3]; · iexact V3
    iexists _
    isplitr
    rotate_left
    · iexact HO
    · ipureintro
      exact owed_insert (owed_insert (owed_insert (fun p hp => .inl hp) _) _) _
  iintro ⟨H2, H8, H9, H10, H11, V3, ⟨%W', %hW, HO⟩⟩
  unfold wpT
  dsimp only [St.tup]
  iapply (Scf.wp_for_bind frame (wpE (defs₀ (F := F)) 𝒱₀ (thr d i) none) Set.univ _ _ _ (k0_t3_ok i) _ _ (fun _ _ => iprop(emp))
    (fun k => absurd k.isLt (by have := t3_trips i; unfold Scf.Loop.trips at this; omega)))
  · iempintro
  iintro %acc -
  iapply (Cert.Held.wp_copyOut EC 𝒱₀ (thr d i) none (src := arg10) (dst := sumsOut arg6 i) (fd := f6) none (show 0 < S256x256.numel by decide)) $$ [H6 H10 V5 HO]
  · isplitl [H10]; · iexact H10
    isplitl [H6]; · iexact H6
    isplitl [V5]; · iexact V5
    isplitl [HO]; · iexact HO
    iexact HM
  iintro ⟨H10, H6, V5, HO⟩
  iapply (Cert.Held.wp_copyOut EC 𝒱₀ (thr d i) none (src := arg11) (dst := cntsOut arg7 i) (fd := f7) none (show 0 < S256x16.numel by decide)) $$ [H7 H11 V6 HO]
  · isplitl [H11]; · iexact H11
    isplitl [H7]; · iexact H7
    isplitl [V6]; · iexact V6
    isplitl [HO]; · iexact HO
    iexact HM
  iintro ⟨H11, H7, V6, HO⟩
  rw [wp_ret]
  imodintro
  isplitl [H2 H3 H4 H5]
  · isplitl [H2]; · iexact H2
    isplitl [H3]; · iexact H3
    isplitl [H4]; · iexact H4
    iexact H5
  isplitl [H6 H7]
  · isplitl [H6]; · iexact H6
    iexact H7
  isplitr [HO]
  · isplitl [H8]; · iexists _; iexact H8
    isplitl [H9]; · iexact H9
    isplitl [H10]; · iexists _; iexact H10
    isplitl [H11]; · iexists _; iexact H11
    isplitl [V0]; · iexact V0
    isplitl [V1]; · iexact V1
    isplitl [V2]; · iexact V2
    isplitl [V3]; · iexact V3
    isplitl [V5]; · iexact V5
    iexact V6
  iexists _
  isplitr
  rotate_left
  · iexact HO
  · ipureintro
    exact owed_insert (owed_insert hW _) _

end

end Cert.KernelIdeal.Row

end
-- ==== Proof.Slices.lean ====
/-
  The workers and the slices of the two results they write: which elements are whose, that no element is two workers', that every element
  is some worker's, and the two results as functions of the operands.
-/
module

public import proofs.«01_k».proof.Proof.Tile
public import Idealize.ShloMosaic.Lib.ValueLayout

@[expose] public section

noncomputable section

namespace Cert.KernelIdeal.Row

open Idealize.ShloMosaic
open Cert.KernelIdeal Cert.KernelIdeal.Gen
open Idealize.ShloMosaic.ValueIdx

variable {F : FTy → Type} [FloatOps F]

/-- The coordinates of a worker, -/
def co (c : Fin (grid0.bound 0)) (s : Fin (grid0.bound 1)) : grid0.Coords :=
  fun | 0 => c | 1 => s | ⟨_ + 2, h⟩ => absurd h (Nat.not_lt.2 (Nat.le_add_left _ _))

/-- its number, -/
def wid (i : grid0.Coords) : Fin 32 := ⟨2 * (i 1).val + (i 0).val, by
  have h0 : (i 0).val < 2 := (i 0).isLt
  have h1 : (i 1).val < 16 := (i 1).isLt
  omega⟩

/-- and the worker of a number. -/
def ofWid (w : Fin 32) : grid0.Coords := co ⟨w.val % 2, Nat.mod_lt _ (by decide)⟩ ⟨w.val / 2, by have := w.isLt; show w.val / 2 < 16; omega⟩

theorem ofWid_wid (i : grid0.Coords) : ofWid (wid i) = i := by
  have h0 : (i 0).val < 2 := (i 0).isLt
  funext a
  match a with
  | 0 => exact Fin.ext (by show (2 * (i 1).val + (i 0).val) % 2 = (i 0).val; omega)
  | 1 => exact Fin.ext (by show (2 * (i 1).val + (i 0).val) / 2 = (i 1).val; omega)

theorem wid_co (c : Fin (grid0.bound 0)) (s : Fin (grid0.bound 1)) : (wid (co c s)).val = 2 * s.val + c.val := rfl

theorem ofWid_co (w : Fin 32) : wid (ofWid w) = w := Fin.ext (by show 2 * (w.val / 2) + w.val % 2 = w.val; omega)

/-- The sums the workers leave, a worker's to a row, -/
def sumsOf (x : S100000x256.Idx → F .f32) (z : S32x40x128.Idx → BitVec 32) (s : S256x256.Idx → F .f32) (c : S256x16.Idx → F .f32) : S32x256x256.Idx → F .f32 :=
  fun y => (fin (ofWid (y 0)) x z s c).sums (ix2 (y 1) (y 2))
/-- and the counts. -/
def cntsOf (x : S100000x256.Idx → F .f32) (z : S32x40x128.Idx → BitVec 32) (s : S256x256.Idx → F .f32) (c : S256x16.Idx → F .f32) : S32x256x16.Idx → F .f32 :=
  fun y => (fin (ofWid (y 0)) x z s c).cnts (ix2 (y 1) (y 2))

abbrev sumsM : Memref sig .scVector .hbm S32x256x256 .f32 := Memref.whole main_v6_0_scv
abbrev cntsM : Memref sig .scVector .hbm S32x256x16 .f32 := Memref.whole main_v6_1_scv

theorem sums_emb (i : grid0.Coords) (g : Fin 256) (k : Fin 256) : (sumsOut sumsM i).view.emb (ix2 g k : S256x256.Idx) = (ix3 (wid i) g k : S32x256x256.Idx) := by
  have h : Shape.reshapeEquiv squeezes_S1x256x256_S256x256.numel_eq (ix2 g k : S256x256.Idx) = (ix3 (0 : Fin 1) g k : S1x256x256.Idx) := reshapeEquiv_ix2_1ab _ g k
  show (Rect.unit (s := S32x256x256) (k0_off1062 i) S1x256x256.size (k0_off1062_inb i)).emb (Shape.reshapeEquiv squeezes_S1x256x256_S256x256.numel_eq (ix2 g k : S256x256.Idx)) = _
  rw [h]
  funext a
  refine Fin.ext ?_
  have o := congrFun (k0_off1062_eq i) a
  refine (congrArg (· + 1 * _) o : k0_off1062 i a + 1 * _ = _).trans ?_
  match a with
  | 0 => show 2 * (i 1).val + (i 0).val + 1 * 0 = 2 * (i 1).val + (i 0).val; omega
  | 1 => show 0 + 1 * g.val = g.val; omega
  | 2 => show 0 + 1 * k.val = k.val; omega

theorem cnts_emb (i : grid0.Coords) (g : Fin 256) (k : Fin 16) : (cntsOut cntsM i).view.emb (ix2 g k : S256x16.Idx) = (ix3 (wid i) g k : S32x256x16.Idx) := by
  have h : Shape.reshapeEquiv squeezes_S1x256x16_S256x16.numel_eq (ix2 g k : S256x16.Idx) = (ix3 (0 : Fin 1) g k : S1x256x16.Idx) := reshapeEquiv_ix2_1ab _ g k
  show (Rect.unit (s := S32x256x16) (k0_off1063 i) S1x256x16.size (k0_off1063_inb i)).emb (Shape.reshapeEquiv squeezes_S1x256x16_S256x16.numel_eq (ix2 g k : S256x16.Idx)) = _
  rw [h]
  funext a
  refine Fin.ext ?_
  have o := congrFun (k0_off1063_eq i) a
  refine (congrArg (· + 1 * _) o : k0_off1063 i a + 1 * _ = _).trans ?_
  match a with
  | 0 => show 2 * (i 1).val + (i 0).val + 1 * 0 = 2 * (i 1).val + (i 0).val; omega
  | 1 => show 0 + 1 * g.val = g.val; omega
  | 2 => show 0 + 1 * k.val = k.val; omega

/-- A worker's elements of the sums, -/
abbrev sumsSet (i : grid0.Coords) : Finset S32x256x256.Idx := (sumsOut sumsM i).view.set
/-- and of the counts. -/
abbrev cntsSet (i : grid0.Coords) : Finset S32x256x16.Idx := (cntsOut cntsM i).view.set

theorem mem_sumsSet {i : grid0.Coords} {y : S32x256x256.Idx} : y ∈ sumsSet i ↔ y 0 = wid i := by
  constructor
  · intro h
    obtain ⟨u, -, rfl⟩ := Finset.mem_map.mp h
    obtain ⟨g, k, rfl⟩ : ∃ (g : Fin 256) (k : Fin 256), u = (ix2 g k : S256x256.Idx) := ⟨u 0, u 1, eq_ix2 u⟩
    exact congrFun (sums_emb i g k) 0
  · intro h
    refine Finset.mem_map.mpr ⟨ix2 (y 1) (y 2), Finset.mem_univ _, (sums_emb i _ _).trans ?_⟩
    rw [← h]; exact (eq_ix3 y).symm

theorem mem_cntsSet {i : grid0.Coords} {y : S32x256x16.Idx} : y ∈ cntsSet i ↔ y 0 = wid i := by
  constructor
  · intro h
    obtain ⟨u, -, rfl⟩ := Finset.mem_map.mp h
    obtain ⟨g, k, rfl⟩ : ∃ (g : Fin 256) (k : Fin 16), u = (ix2 g k : S256x16.Idx) := ⟨u 0, u 1, eq_ix2 u⟩
    exact congrFun (cnts_emb i g k) 0
  · intro h
    refine Finset.mem_map.mpr ⟨ix2 (y 1) (y 2), Finset.mem_univ _, (cnts_emb i _ _).trans ?_⟩
    rw [← h]; exact (eq_ix3 y).symm

/-- The workers by core and subcore. -/
abbrev Wkr : Type := Fin 2 × Fin 16
abbrev coW (p : Wkr) : grid0.Coords := co p.1 p.2

theorem wid_inj {p q : Wkr} (h : wid (coW p) = wid (coW q)) : p = q := by
  have h := congrArg Fin.val h
  have h1 : 2 * p.2.val + p.1.val = 2 * q.2.val + q.1.val := h
  have := p.1.isLt
  have := q.1.isLt
  exact Prod.ext (Fin.ext (by omega)) (Fin.ext (by omega))

theorem wid_surj (w : Fin 32) : ∃ p : Wkr, wid (coW p) = w :=
  ⟨(⟨w.val % 2, Nat.mod_lt _ (by decide)⟩, ⟨w.val / 2, by have := w.isLt; omega⟩), ofWid_co w⟩

theorem sums_disjoint : ∀ p ∈ (Finset.univ : Finset Wkr), ∀ q ∈ (Finset.univ : Finset Wkr), p ≠ q → Disjoint (sumsSet (coW p)) (sumsSet (coW q)) :=
  fun _ _ _ _ h => Finset.disjoint_left.mpr fun _ h1 h2 => h (wid_inj ((mem_sumsSet.mp h1).symm.trans (mem_sumsSet.mp h2)))

theorem cnts_disjoint : ∀ p ∈ (Finset.univ : Finset Wkr), ∀ q ∈ (Finset.univ : Finset Wkr), p ≠ q → Disjoint (cntsSet (coW p)) (cntsSet (coW q)) :=
  fun _ _ _ _ h => Finset.disjoint_left.mpr fun _ h1 h2 => h (wid_inj ((mem_cntsSet.mp h1).symm.trans (mem_cntsSet.mp h2)))

theorem sums_cover : (Finset.univ : Finset Wkr).biUnion (fun p => sumsSet (coW p)) = Finset.univ :=
  Finset.eq_univ_of_forall fun y => Finset.mem_biUnion.mpr <|
    let ⟨p, hp⟩ := wid_surj (y 0)
    ⟨p, Finset.mem_univ _, mem_sumsSet.mpr hp.symm⟩

theorem cnts_cover : (Finset.univ : Finset Wkr).biUnion (fun p => cntsSet (coW p)) = Finset.univ :=
  Finset.eq_univ_of_forall fun y => Finset.mem_biUnion.mpr <|
    let ⟨p, hp⟩ := wid_surj (y 0)
    ⟨p, Finset.mem_univ _, mem_cntsSet.mpr hp.symm⟩

/-- What a worker writes out is its row of the sums, -/
theorem sums_written (i : grid0.Coords) (w : S256x256.Idx → Elt F .f32) (f : S32x256x256.Idx → Elt F .f32) :
    ∀ y ∈ sumsSet i, (sumsOut sumsM i).view.write (Elt F) f w Finset.univ y = w (ix2 (y 1) (y 2)) := by
  intro y h
  have e : y = (ix3 (wid i) (y 1) (y 2) : S32x256x256.Idx) := (eq_ix3 y).trans (congrArg (fun a => (ix3 a (y 1) (y 2) : S32x256x256.Idx)) (mem_sumsSet.mp h))
  have e' : y = (sumsOut sumsM i).view.emb (ix2 (y 1) (y 2) : S256x256.Idx) := e.trans (sums_emb i (y 1) (y 2)).symm
  refine (congrArg ((sumsOut sumsM i).view.write (Elt F) f w Finset.univ) e').trans ?_
  exact (sumsOut sumsM i).view.write_emb_of_mem (Val := Elt F) f w (Finset.mem_univ _)

/-- and of the counts. -/
theorem cnts_written (i : grid0.Coords) (w : S256x16.Idx → Elt F .f32) (f : S32x256x16.Idx → Elt F .f32) :
    ∀ y ∈ cntsSet i, (cntsOut cntsM i).view.write (Elt F) f w Finset.univ y = w (ix2 (y 1) (y 2)) := by
  intro y h
  have e : y = (ix3 (wid i) (y 1) (y 2) : S32x256x16.Idx) := (eq_ix3 y).trans (congrArg (fun a => (ix3 a (y 1) (y 2) : S32x256x16.Idx)) (mem_cntsSet.mp h))
  have e' : y = (cntsOut cntsM i).view.emb (ix2 (y 1) (y 2) : S256x16.Idx) := e.trans (cnts_emb i (y 1) (y 2)).symm
  refine (congrArg ((cntsOut cntsM i).view.write (Elt F) f w Finset.univ) e').trans ?_
  exact (cntsOut cntsM i).view.write_emb_of_mem (Val := Elt F) f w (Finset.mem_univ _)

theorem sumsOf_mem (x : S100000x256.Idx → F .f32) (z : S32x40x128.Idx → BitVec 32) (s : S256x256.Idx → F .f32) (c : S256x16.Idx → F .f32) {i : grid0.Coords}
    {y : S32x256x256.Idx} (h : y ∈ sumsSet i) : sumsOf x z s c y = (fin i x z s c).sums (ix2 (y 1) (y 2)) := by
  unfold sumsOf
  rw [mem_sumsSet.mp h, ofWid_wid]

theorem cntsOf_mem (x : S100000x256.Idx → F .f32) (z : S32x40x128.Idx → BitVec 32) (s : S256x256.Idx → F .f32) (c : S256x16.Idx → F .f32) {i : grid0.Coords}
    {y : S32x256x16.Idx} (h : y ∈ cntsSet i) : cntsOf x z s c y = (fin i x z s c).cnts (ix2 (y 1) (y 2)) := by
  unfold cntsOf
  rw [mem_cntsSet.mp h, ofWid_wid]

end Cert.KernelIdeal.Row

end
-- ==== Proof.Launch.lean ====
/-
  The launch of the row kernel: what the call hands each worker and what a worker hands back, a worker's run from its own memory and cells,
  and the launch's ghost state.
-/
module

public import proofs.«01_k».proof.Proof.Slices
public import proofs.«01_k».proof.Proof.Gen.KernelIdeal.Launch
public import Idealize.ShloMosaic.Lib.SparseCore.Quiescent
public import Idealize.ShloMosaic.Lib.SparseCore.Ops
public import Idealize.ShloMosaic.Lib.Transfers

@[expose] public section

noncomputable section

namespace Cert.KernelIdeal.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Held (held)

variable {F : FTy → Type} [FloatOps F]

/-! ## The program as the launch sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The finishing call's part of the ghost state. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb (UR sig nD τ) 𝕄).LandsIn (upEmb : UEmb _ 𝕄) := by unfold EP; infer_instance

/-! ## What the call carries -/

/-- The memory a device's arrays hold. -/
abbrev Mem (F : FTy → Type) : Type := (d : Dev nD) → (b : Ref sig .tc) → Buf (Elt F) ((SparseCore.T d : Thread nD τ).loc b)

abbrev xLoc (d : Dev nD) : Loc nD τ sig := (SparseCore.T d).loc main_arg0
abbrev zLoc (d : Dev nD) : Loc nD τ sig := (SparseCore.T d).loc main_v3
abbrev sLoc (d : Dev nD) : Loc nD τ sig := (SparseCore.T d).loc main_v4
abbrev cLoc (d : Dev nD) : Loc nD τ sig := (SparseCore.T d).loc main_v5
abbrev aLoc (d : Dev nD) : Loc nD τ sig := (SparseCore.T d).loc main_v6_0
abbrev bLoc (d : Dev nD) : Loc nD τ sig := (SparseCore.T d).loc main_v6_1

variable (M : Mem F)

/-- The operands, at a share, -/
def rd (d : Dev nD) (q : PosShare TreeShare) : sProp 𝕄 :=
  iprop((xLoc d ↦{q} M d main_arg0) ∗ (zLoc d ↦{q} M d main_v3) ∗ (sLoc d ↦{q} M d main_v4) ∗ (cLoc d ↦{q} M d main_v5))
/-- a worker's slices of the results, -/
def wr (d : Dev nD) (i : grid0.Coords) (f : Buf (Elt F) (aLoc d)) (g : Buf (Elt F) (bLoc d)) : sProp 𝕄 :=
  iprop((aLoc d ↦[sumsSet i]{fullShare} f) ∗ (bLoc d ↦[cntsSet i]{fullShare} g))
/-- the results, -/
def sumsM' (d : Dev nD) : Buf (Elt F) (aLoc d) := sumsOf (F := F) (M d main_arg0) (M d main_v3) (M d main_v4) (M d main_v5)
def cntsM' (d : Dev nD) : Buf (Elt F) (bLoc d) := cntsOf (F := F) (M d main_arg0) (M d main_v3) (M d main_v4) (M d main_v5)
/-- and a worker's share of the operands. -/
def tok (c : Fin 2) (s : Fin 16) : PosShare TreeShare := Transfers.shareTok fullShare (2 * 16) (finProdFinEquiv (c, s))

def goW (d : Dev nD) (c : Fin 2) (s : Fin 16) : sProp 𝕄 := iprop(rd M d (tok c s) ∗ wr d (co c s) (M d main_v6_0) (M d main_v6_1))
def tdW (d : Dev nD) (c : Fin 2) (s : Fin 16) : sProp 𝕄 := iprop(rd M d (tok c s) ∗ wr d (co c s) (sumsM' M d) (cntsM' M d))

instance (d : Dev nD) (c : Fin 2) (s : Fin 16) : BI.Storable (upEmb : UEmb _ 𝕄) (goW M d c s) := by unfold goW rd wr; infer_instance
instance (d : Dev nD) (c : Fin 2) (s : Fin 16) : BI.Storable (upEmb : UEmb _ 𝕄) (tdW M d c s) := by unfold tdW rd wr; infer_instance

/-- A core gets what its workers get and hands back what they hand back. -/
def P : (K (F := F)).Pay (nD := nD) (Val := Elt F) (Name := ℕ) (U := UU) where
  st := fun q d c => match q with | 0 => bigSep Finset.univ fun s : Fin 16 => goW M d (Fin.cast nCore_zero c) s
  dn := fun q d c => match q with | 0 => bigSep Finset.univ fun s : Fin 16 => tdW M d (Fin.cast nCore_zero c) s
  go := fun q d c s => match q with | 0 => goW M d (Fin.cast nCore_zero c) (Fin.cast nSub_zero s)
  td := fun q d c s => match q with | 0 => tdW M d (Fin.cast nCore_zero c) (Fin.cast nSub_zero s)
  x := fun _ _ => iprop(emp)

instance P_storable : (P (F := F) M).IsStorable where
  st q d c := match q with
    | 0 => (inferInstance : BI.Storable (upEmb : UEmb _ 𝕄) (bigSep Finset.univ fun s : Fin 16 => goW M d (Fin.cast nCore_zero c) s))
  dn q d c := match q with
    | 0 => (inferInstance : BI.Storable (upEmb : UEmb _ 𝕄) (bigSep Finset.univ fun s : Fin 16 => tdW M d (Fin.cast nCore_zero c) s))
  go q d c s := match q with
    | 0 => (inferInstance : BI.Storable (upEmb : UEmb _ 𝕄) (goW M d (Fin.cast nCore_zero c) (Fin.cast nSub_zero s)))
  td q d c s := match q with
    | 0 => (inferInstance : BI.Storable (upEmb : UEmb _ 𝕄) (tdW M d (Fin.cast nCore_zero c) (Fin.cast nSub_zero s)))

/-- What the run asks: every id a worker fetches names a segment. -/
def IdsOK : Prop := ∀ (d : Dev nD) (y : S32x40x128.Idx), (show BitVec 32 from M d main_v3 y).toNat < 256

/-! ## A worker's run -/

section Tile

variable (d : Dev nD) (i : grid0.Coords)

abbrev cV : Fin τ.nSC := (i 0).castLE hcore0
abbrev jV : Fin τ.nSub := (i 1).castLE hsub0

abbrev cell (s : DmaSem sig) : GSem nD τ sig := (V d (cV i) (jV i), .dma s)

omit [FloatOps F] in
theorem mem_cell {s : DmaSem sig} (h : (SemLoc.dma s : SemLoc sig).isScoped .scVector = true) : cell d i s ∈ ownCells (V d (cV i) (jV i)) :=
  (mem_ownCells (g := cell d i s)).mpr ⟨rfl, h⟩
theorem cell_ne {s t : DmaSem sig} (h : s ≠ t) : cell d i s ≠ cell d i t := fun e => h (SemLoc.dma.inj (Prod.mk.inj e).2)

omit [FloatOps F] in
theorem ownSems0_V :
    (ownSems0 (V d (cV i) (jV i)) : sProp 𝕄)
      = iprop(semVal (cell d i cc0_scoped0.sem) 0 ∗ semVal (cell d i cc0_scoped1.sem) 0 ∗ semVal (cell d i cc0_scoped2.sem) 0
          ∗ semVal (cell d i cc0_scoped3.sem) 0 ∗ semVal (cell d i cc0_scoped5.sem) 0 ∗ semVal (cell d i cc0_scoped6.sem) 0
          ∗ bigSep (((((((ownCells (V d (cV i) (jV i))).erase (cell d i cc0_scoped0.sem)).erase (cell d i cc0_scoped1.sem)).erase (cell d i cc0_scoped2.sem)).erase
              (cell d i cc0_scoped3.sem)).erase (cell d i cc0_scoped5.sem)).erase (cell d i cc0_scoped6.sem)) fun g => semVal g 0) := by
  unfold SparseCore.Cfg.ownSems0
  rw [SparseCore.bigSep_erase' (mem_cell d i (s := cc0_scoped0.sem) (by decide)),
    SparseCore.bigSep_erase' (Finset.mem_erase.mpr ⟨cell_ne d i (by decide), mem_cell d i (s := cc0_scoped1.sem) (by decide)⟩),
    SparseCore.bigSep_erase' (Finset.mem_erase.mpr ⟨cell_ne d i (by decide), Finset.mem_erase.mpr ⟨cell_ne d i (by decide), mem_cell d i (s := cc0_scoped2.sem) (by decide)⟩⟩),
    SparseCore.bigSep_erase' (Finset.mem_erase.mpr ⟨cell_ne d i (by decide), Finset.mem_erase.mpr ⟨cell_ne d i (by decide),
      Finset.mem_erase.mpr ⟨cell_ne d i (by decide), mem_cell d i (s := cc0_scoped3.sem) (by decide)⟩⟩⟩),
    SparseCore.bigSep_erase' (Finset.mem_erase.mpr ⟨cell_ne d i (by decide), Finset.mem_erase.mpr ⟨cell_ne d i (by decide),
      Finset.mem_erase.mpr ⟨cell_ne d i (by decide), Finset.mem_erase.mpr ⟨cell_ne d i (by decide), mem_cell d i (s := cc0_scoped5.sem) (by decide)⟩⟩⟩⟩),
    SparseCore.bigSep_erase' (Finset.mem_erase.mpr ⟨cell_ne d i (by decide), Finset.mem_erase.mpr ⟨cell_ne d i (by decide),
      Finset.mem_erase.mpr ⟨cell_ne d i (by decide), Finset.mem_erase.mpr ⟨cell_ne d i (by decide), Finset.mem_erase.mpr ⟨cell_ne d i (by decide),
        mem_cell d i (s := cc0_scoped6.sem) (by decide)⟩⟩⟩⟩⟩)]

abbrev dref (r : Ref sig .scVector) : DevRef τ sig := (Proc.scVector (cV i) (jV i)).devRef r
theorem dref_ne {r s : Ref sig .scVector} (h : r ≠ s) : dref i r ≠ dref i s := fun e => h (Proc.devRef_injective _ e)

omit [FloatOps F] in
theorem ownBufs_V :
    (ownBufs (V d (cV i) (jV i)) : sProp 𝕄)
      = iprop((∃ f, (V d (cV i) (jV i)).loc cc0_scratch0 ↦{fullShare} f) ∗ (∃ f, (V d (cV i) (jV i)).loc cc0_scratch1 ↦{fullShare} f)
          ∗ (∃ f, (V d (cV i) (jV i)).loc cc0_scratch2 ↦{fullShare} f) ∗ (∃ f, (V d (cV i) (jV i)).loc cc0_scratch3 ↦{fullShare} f)
          ∗ bigSep (((((ownRefs (τ := τ) (.scVector (cV i) (jV i))).erase (dref i cc0_scratch0)).erase (dref i cc0_scratch1)).erase (dref i cc0_scratch2)).erase (dref i cc0_scratch3))
              fun b => iprop(∃ f, ((d, b) : Loc nD τ sig) ↦{fullShare} f)) := by
  have hm {r : Ref sig .scVector} (h : (dref i r).owner = .proc (Proc.scVector (cV i) (jV i))) : dref i r ∈ ownRefs (τ := τ) (.scVector (cV i) (jV i)) :=
    SparseCore.Cfg.mem_ownRefs_of_owner (p := Proc.scVector (cV i) (jV i)) (b := dref i r) h
  unfold SparseCore.Cfg.ownBufs
  refine (SparseCore.bigSep_erase' (hm (r := cc0_scratch0) rfl)).trans ?_
  rw [SparseCore.bigSep_erase' (Finset.mem_erase.mpr ⟨dref_ne i (show (cc0_scratch1 : Ref sig .scVector) ≠ cc0_scratch0 by decide), hm (r := cc0_scratch1) rfl⟩),
    SparseCore.bigSep_erase' (Finset.mem_erase.mpr ⟨dref_ne i (show (cc0_scratch2 : Ref sig .scVector) ≠ cc0_scratch1 by decide),
      Finset.mem_erase.mpr ⟨dref_ne i (show (cc0_scratch2 : Ref sig .scVector) ≠ cc0_scratch0 by decide), hm (r := cc0_scratch2) rfl⟩⟩),
    SparseCore.bigSep_erase' (Finset.mem_erase.mpr ⟨dref_ne i (show (cc0_scratch3 : Ref sig .scVector) ≠ cc0_scratch2 by decide),
      Finset.mem_erase.mpr ⟨dref_ne i (show (cc0_scratch3 : Ref sig .scVector) ≠ cc0_scratch1 by decide),
        Finset.mem_erase.mpr ⟨dref_ne i (show (cc0_scratch3 : Ref sig .scVector) ≠ cc0_scratch0 by decide), hm (r := cc0_scratch3) rfl⟩⟩⟩)]

/-- A scratch buffer at some contents is one at what it reads, -/
theorem hld_of {s : Shape} {e : EltTy} (v : Memref sig .scVector .vmem s e) :
    iprop(∃ f : Buf (Elt F) (v.view.loc (thr d i)), v.view.loc (thr d i) ↦{fullShare} f) ⊢ iprop(∃ g, hld d (i := i) v g) := by
  iintro ⟨%f, H⟩
  iexists _
  unfold hld held
  iexists f
  isplitr
  · ipureintro; rfl
  · iexact H
/-- and back. -/
theorem of_hld {s : Shape} {e : EltTy} (v : Memref sig .scVector .vmem s e) :
    iprop(∃ g, hld d (i := i) v g) ⊢ iprop(∃ f : Buf (Elt F) (v.view.loc (thr d i)), v.view.loc (thr d i) ↦{fullShare} f) := by
  unfold hld held
  iintro ⟨%g, %f, -, H⟩
  iexists f; iexact H

abbrev b0 : Memref sig .scVector .vmem S40x128 .i32 := Memref.whole cc0_scratch0
abbrev b1 : Memref sig .scVector .vmem S80x256 .f32 := Memref.whole cc0_scratch1
abbrev b2 : Memref sig .scVector .vmem S256x256 .f32 := Memref.whole cc0_scratch2
abbrev b3 : Memref sig .scVector .vmem S256x16 .f32 := Memref.whole cc0_scratch3

abbrev xM : Memref sig .scVector .hbm S100000x256 .f32 := Memref.whole main_arg0_scv
abbrev zM : Memref sig .scVector .hbm S32x40x128 .i32 := Memref.whole main_v3_scv
abbrev sM : Memref sig .scVector .hbm S256x256 .f32 := Memref.whole main_v4_scv
abbrev cM : Memref sig .scVector .hbm S256x16 .f32 := Memref.whole main_v5_scv

theorem tile_body (hF : (K (F := F)).Facts) (hI : IdsOK M) (q : PosShare TreeShare) (O : CellTallies nD τ sig (HIx 1)) (W : Waits sig (HIx 1)) (hO : ∀ g, O g none = 0) :
    iprop(levAts (K (F := F)).L (K (F := F)).lev ∗ emp ∗ (rd M d q ∗ wr d i (M d main_v6_0) (M d main_v6_1))
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_body i xM (Memref.isWhole_whole _) zM (Memref.isWhole_whole _) sM (Memref.isWhole_whole _) cM (Memref.isWhole_whole _)
            sumsM (Memref.isWhole_whole _) cntsM (Memref.isWhole_whole _) b0 (Memref.isWhole_whole _) b1 (Memref.isWhole_whole _)
            b2 (Memref.isWhole_whole _) b3 (Memref.isWhole_whole _) cc0_scoped0 cc0_scoped1 cc0_scoped2 cc0_scoped3 cc0_scoped4 cc0_scoped5 cc0_scoped6)
          fun _ => iprop((rd M d q ∗ wr d i (sumsM' M d) (cntsM' M d)) ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i), ownSems0_V, ownBufs_V]
  unfold rd wr
  iintro ⟨#Hlv, -, ⟨⟨Hx, Hz, Hs, Hc⟩, Ha, Hb⟩, ⟨H0, H1, H2, H3, Hbufs⟩, ⟨V0, V1, V2, V3, V5, V6, Hsems⟩, HO⟩
  ihave #HM := ((K (F := F)).mayWaits_none (thr := V d (cV i) (jV i)) hO) $$ Hlv
  ihave H0 := (hld_of d i b0) $$ H0
  ihave H1 := (hld_of d i b1) $$ H1
  ihave H2 := (hld_of d i b2) $$ H2
  ihave H3 := (hld_of d i b3) $$ H3
  ihave Hw := (tile_wp d (i := i) xM (Memref.isWhole_whole _) zM (Memref.isWhole_whole _) sM (Memref.isWhole_whole _) cM (Memref.isWhole_whole _)
            sumsM (Memref.isWhole_whole _) cntsM (Memref.isWhole_whole _) b0 (Memref.isWhole_whole _) b1 (Memref.isWhole_whole _)
            b2 (Memref.isWhole_whole _) b3 (Memref.isWhole_whole _) cc0_scoped0 cc0_scoped1 cc0_scoped2 cc0_scoped3 cc0_scoped4 cc0_scoped5 cc0_scoped6
            q (M d main_arg0) (M d main_v3) (M d main_v4) (M d main_v5) (M d main_v6_0) (M d main_v6_1) (fun y => hI d _) O W)
    $$ [Hx Hz Hs Hc Ha Hb H0 H1 H2 H3 V0 V1 V2 V3 V5 V6 HO]
  · isplitr; · iexact HM
    isplitl [Hx Hz Hs Hc]
    · isplitl [Hx]; · iexact Hx
      isplitl [Hz]; · iexact Hz
      isplitl [Hs]; · iexact Hs
      iexact Hc
    isplitl [Ha Hb]
    · isplitl [Ha]; · iexact Ha
      iexact Hb
    isplitr [HO]
    · isplitl [H0]; · iexact H0
      isplitl [H1]; · iexact H1
      isplitl [H2]; · iexact H2
      isplitl [H3]; · iexact H3
      isplitl [V0]; · iexact V0
      isplitl [V1]; · iexact V1
      isplitl [V2]; · iexact V2
      isplitl [V3]; · iexact V3
      isplitl [V5]; · iexact V5
      iexact V6
    · iexact HO
  unfold wpT
  iapply (wp_wand frame _ _) $$ Hw
  iintro %_ ⟨⟨Hx, Hz, Hs, Hc⟩, ⟨Ha, Hb⟩, ⟨H0, H1, H2, H3, V0, V1, V2, V3, V5, V6⟩, HO⟩
  ihave H0 := (of_hld d i b0) $$ H0
  ihave H1 := (of_hld d i b1) $$ H1
  ihave H2 := (of_hld d i b2) $$ H2
  ihave H3 := (of_hld d i b3) $$ H3
  have ea : (aLoc d ↦[sumsSet i]{fullShare} (sumsOut sumsM i).view.write (Elt F) (M d main_v6_0) (fin i (xM.view.read (Elt F) (M d main_arg0))
      (zM.view.read (Elt F) (M d main_v3)) (sM.view.read (Elt F) (M d main_v4)) (cM.view.read (Elt F) (M d main_v5))).sums Finset.univ : sProp 𝕄)
      = (aLoc d ↦[sumsSet i]{fullShare} sumsM' M d) :=
    pointsTo_congr fun y h => (sums_written i _ _ y h).trans (sumsOf_mem _ _ _ _ h).symm
  have eb : (bLoc d ↦[cntsSet i]{fullShare} (cntsOut cntsM i).view.write (Elt F) (M d main_v6_1) (fin i (xM.view.read (Elt F) (M d main_arg0))
      (zM.view.read (Elt F) (M d main_v3)) (sM.view.read (Elt F) (M d main_v4)) (cM.view.read (Elt F) (M d main_v5))).cnts Finset.univ : sProp 𝕄)
      = (bLoc d ↦[cntsSet i]{fullShare} cntsM' M d) :=
    pointsTo_congr fun y h => (cnts_written i _ _ y h).trans (cntsOf_mem _ _ _ _ h).symm
  ihave Ha := (Entails.of_eq ea) $$ Ha
  ihave Hb := (Entails.of_eq eb) $$ Hb
  isplitl [Hx Hz Hs Hc Ha Hb]
  · isplitl [Hx Hz Hs Hc]
    · isplitl [Hx]; · iexact Hx
      isplitl [Hz]; · iexact Hz
      isplitl [Hs]; · iexact Hs
      iexact Hc
    isplitl [Ha]; · iexact Ha
    iexact Hb
  isplitl [H0 H1 H2 H3 Hbufs]
  · isplitl [H0]; · iexact H0
    isplitl [H1]; · iexact H1
    isplitl [H2]; · iexact H2
    isplitl [H3]; · iexact H3
    iexact Hbufs
  isplitr [HO]
  · isplitl [V0]; · iexact V0
    isplitl [V1]; · iexact V1
    isplitl [V2]; · iexact V2
    isplitl [V3]; · iexact V3
    isplitl [V5]; · iexact V5
    isplitl [V6]; · iexact V6
    iexact Hsems
  iexact HO

end Tile

theorem defs₀_vector (c : Fin τ.nSC) (s : Fin τ.nSub) :
    defs₀ (F := F) (.scVector c s) 0 ()
      = SparseCore.onTile hcore0 hsub0 (fun c s => cc0_body (co c s) xM (Memref.isWhole_whole _) zM (Memref.isWhole_whole _) sM (Memref.isWhole_whole _) cM (Memref.isWhole_whole _)
            sumsM (Memref.isWhole_whole _) cntsM (Memref.isWhole_whole _) b0 (Memref.isWhole_whole _) b1 (Memref.isWhole_whole _)
            b2 (Memref.isWhole_whole _) b3 (Memref.isWhole_whole _) cc0_scoped0 cc0_scoped1 cc0_scoped2 cc0_scoped3 cc0_scoped4 cc0_scoped5 cc0_scoped6) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hI : IdsOK M) : (K (F := F)).TileObl (D (F := F)) 𝒱 (P M) v₀ 0 := by
  intro d c i O W hO _ _
  simp only [show (P M).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body M d (co ⟨_, hc.1⟩ ⟨_, hc.2⟩) hF hI (tok (Fin.cast nCore_zero c) (Fin.cast nSub_zero i)) O W hO).trans (wp_mono frame _ _ fun _ => obl_post)

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P M) 0 := by
  intro d c
  show (bigSep Finset.univ fun s : Fin 16 => goW M d (Fin.cast nCore_zero c) s) ⊢ |={Set.univ}=> iprop(
      (bigSep Finset.univ fun i : Fin ((K (F := F)).nSub 0) => goW M d (Fin.cast nCore_zero c) (Fin.cast nSub_zero i))
      ∗ ((bigSep Finset.univ fun i : Fin ((K (F := F)).nSub 0) => tdW M d (Fin.cast nCore_zero c) (Fin.cast nSub_zero i))
          -∗ bigSep Finset.univ fun s : Fin 16 => tdW M d (Fin.cast nCore_zero c) s))
  rw [bigSep_subs (F := F) (fun s => goW M d (Fin.cast nCore_zero c) s), bigSep_subs (F := F) (fun s => tdW M d (Fin.cast nCore_zero c) s)]
  iintro H; imodintro
  isplitl [H]; · iexact H
  iintro H; iexact H

/-! ## The arrays dealt to the workers and collected -/

/-- What a call needs of the operands' arrays besides the workers' shares: the share no worker has. -/
def keep (d : Dev nD) : sProp 𝕄 := rd M d (Transfers.shareDrop fullShare (2 * 16))

theorem toks_prod (Φ : PosShare TreeShare → sProp 𝕄) :
    (bigSep Finset.univ fun k : Fin (2 * 16) => Φ (Transfers.shareTok fullShare (2 * 16) k)) = bigSep Finset.univ fun p : Wkr => Φ (tok p.1 p.2) :=
  bigSep_univ_equiv (finProdFinEquiv (m := 2) (n := 16)) fun k => Φ (Transfers.shareTok fullShare (2 * 16) k)

theorem rd_split (d : Dev nD) : rd M d fullShare ⊢ iprop(keep M d ∗ bigSep Finset.univ fun p : Wkr => rd M d (tok p.1 p.2)) := by
  have h {ℓ : Loc nD τ sig} (f : Buf (Elt F) ℓ) : (ℓ ↦{fullShare} f : sProp 𝕄)
      ⊢ iprop((ℓ ↦{Transfers.shareDrop fullShare (2 * 16)} f) ∗ bigSep Finset.univ fun p : Wkr => ℓ ↦{tok p.1 p.2} f) := by
    rw [← toks_prod (fun q => (ℓ ↦{q} f : sProp 𝕄))]
    exact Transfers.pointsTo_toks_split (Ix := HIx 1) (Name := ℕ) (U := UU) (Lvl := ℕ) fullShare (2 * 16)
  unfold keep rd
  rw [bigSep_sep', bigSep_sep', bigSep_sep']
  iintro ⟨Hx, Hz, Hs, Hc⟩
  ihave Hx := (h _) $$ Hx
  icases Hx with ⟨Hx, Hx'⟩
  ihave Hz := (h _) $$ Hz
  icases Hz with ⟨Hz, Hz'⟩
  ihave Hs := (h _) $$ Hs
  icases Hs with ⟨Hs, Hs'⟩
  ihave Hc := (h _) $$ Hc
  icases Hc with ⟨Hc, Hc'⟩
  isplitl [Hx Hz Hs Hc]
  · isplitl [Hx]; · iexact Hx
    isplitl [Hz]; · iexact Hz
    isplitl [Hs]; · iexact Hs
    iexact Hc
  isplitl [Hx']; · iexact Hx'
  isplitl [Hz']; · iexact Hz'
  isplitl [Hs']; · iexact Hs'
  iexact Hc'

theorem rd_join (d : Dev nD) : iprop(keep M d ∗ bigSep Finset.univ fun p : Wkr => rd M d (tok p.1 p.2)) ⊢ rd M d fullShare := by
  have h {ℓ : Loc nD τ sig} (f : Buf (Elt F) ℓ) :
      iprop((ℓ ↦{Transfers.shareDrop fullShare (2 * 16)} f) ∗ bigSep Finset.univ fun p : Wkr => ℓ ↦{tok p.1 p.2} f) ⊢ (ℓ ↦{fullShare} f : sProp 𝕄) := by
    rw [← toks_prod (fun q => (ℓ ↦{q} f : sProp 𝕄))]
    exact Transfers.pointsTo_toks_join (Ix := HIx 1) (Name := ℕ) (U := UU) (Lvl := ℕ) fullShare (2 * 16)
  unfold keep rd
  rw [bigSep_sep', bigSep_sep', bigSep_sep']
  iintro ⟨⟨Hx, Hz, Hs, Hc⟩, Hx', Hz', Hs', Hc'⟩
  isplitl [Hx Hx']
  · iapply (h _); isplitl [Hx] <;> iassumption
  isplitl [Hz Hz']
  · iapply (h _); isplitl [Hz] <;> iassumption
  isplitl [Hs Hs']
  · iapply (h _); isplitl [Hs] <;> iassumption
  iapply (h _); isplitl [Hc] <;> iassumption

theorem wr_all (d : Dev nD) (f : Buf (Elt F) (aLoc d)) (g : Buf (Elt F) (bLoc d)) :
    iprop((aLoc d ↦{fullShare} f) ∗ (bLoc d ↦{fullShare} g) : sProp 𝕄) = bigSep Finset.univ fun p : Wkr => wr d (coW p) f g := by
  unfold wr
  rw [bigSep_sep', ← pointsTo_biUnion Finset.univ (ℓ := aLoc d) (fun p : Wkr => sumsSet (coW p)) sums_disjoint, sums_cover,
    ← pointsTo_biUnion Finset.univ (ℓ := bLoc d) (fun p : Wkr => cntsSet (coW p)) cnts_disjoint, cnts_cover]

/-- The operands and the results' arrays whole are what the cores get, and the kept share; -/
theorem deal (d : Dev nD) : iprop(rd M d fullShare ∗ (aLoc d ↦{fullShare} M d main_v6_0) ∗ (bLoc d ↦{fullShare} M d main_v6_1))
    ⊢ iprop(keep M d ∗ bigSep Finset.univ fun c : Fin ((K (F := F)).nCore 0) => (P M).st 0 d c) := by
  show _ ⊢ iprop(keep M d ∗ bigSep Finset.univ fun c : Fin ((K (F := F)).nCore 0) => bigSep Finset.univ fun s : Fin 16 => goW M d (Fin.cast nCore_zero c) s)
  rw [bigSep_cores (F := F) (fun c => bigSep Finset.univ fun s : Fin 16 => goW M d c s), ← BI.bigSep_univ_prod (fun p : Wkr => goW M d p.1 p.2), wr_all]
  unfold goW
  rw [bigSep_sep']
  iintro ⟨Hr, Hw⟩
  ihave Hr := (rd_split M d) $$ Hr
  icases Hr with ⟨Hk, Hr⟩
  isplitl [Hk]; · iexact Hk
  isplitl [Hr]; · iexact Hr
  iexact Hw

/-- and what the cores hand back, with it, is the operands and the results. -/
theorem collect (d : Dev nD) : iprop(keep M d ∗ bigSep Finset.univ fun c : Fin ((K (F := F)).nCore 0) => (P M).dn 0 d c)
    ⊢ iprop(rd M d fullShare ∗ (aLoc d ↦{fullShare} sumsM' M d) ∗ (bLoc d ↦{fullShare} cntsM' M d)) := by
  show iprop(keep M d ∗ bigSep Finset.univ fun c : Fin ((K (F := F)).nCore 0) => bigSep Finset.univ fun s : Fin 16 => tdW M d (Fin.cast nCore_zero c) s) ⊢ _
  rw [bigSep_cores (F := F) (fun c => bigSep Finset.univ fun s : Fin 16 => tdW M d c s), ← BI.bigSep_univ_prod (fun p : Wkr => tdW M d p.1 p.2), wr_all]
  unfold tdW
  rw [bigSep_sep']
  iintro ⟨Hk, Hr, Hw⟩
  isplitr [Hw]
  · iapply (rd_join M d)
    isplitl [Hk] <;> iassumption
  iexact Hw

/-! ## The launch's ghost state -/

/-- The finishing call's arguments: it has none prefetched. -/
abbrev adm : (p : Fin 1) → (pcfgs (F := F) p).Adm := fun p => (cfgs p).toPCfg_adm

def u₀ : UU := (initOf (K (F := F)).hsCells (K (F := F)).hsToks, (initOf (Pipeline.cells (nD := nD) (τ := τ) cfgs cellOf_inj) (Pipeline.launchToks (nD := nD) (τ := τ) cfgs cellOf_inj), 1))

/-- The finishing call's cells and transfers, on a device. -/
def gh (d : Dev nD) : sProp 𝕄 := iprop(Pipeline.cellsGhost cfgs EP 0 d ∗ Pipeline.toksInit cfgs EP 0 d)

theorem ownU_split (a : UH) (b : UR sig nD τ) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem Px (thr : Thread nD τ) : (bigSep Finset.univ fun q : Fin 1 => (P (F := F) M).x q thr) = iprop(emp) :=
  bigSep_univ_of_subsingleton (0 : Fin 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => gh d)
        ∗ bigSep Finset.univ fun thr : Thread nD τ => bigSep Finset.univ fun q : Fin 1 => (P M).x q thr) := by
  unfold u₀
  iintro Hu
  ihave H := (ownU_split _ _) $$ Hu
  icases H with ⟨HH, HP⟩
  imod (Pipeline.fund_ghost (Ix := HIx 1) (Val := Elt F) (Name := ℕ) (U := UU) (Lvl := ℕ) cfgs EP cellOf_inj) $$ HP with ⟨Hg, Ht⟩
  imodintro
  isplitl [HH]; · iexact HH
  have e (Φ : Fin 1 → Dev nD → sProp 𝕄) : (bigSep Finset.univ fun c : Dev nD => bigSep Finset.univ fun p => Φ p c) = bigSep Finset.univ fun c => Φ 0 c :=
    bigSep_congr fun c _ => bigSep_univ_of_subsingleton (0 : Fin 1)
  ihave Hg := (Entails.of_eq (e _)) $$ Hg
  ihave Ht := (Entails.of_eq (e _)) $$ Ht
  isplitl [Hg Ht]
  · unfold gh
    rw [bigSep_sep']
    isplitl [Hg]; · iexact Hg
    iexact Ht
  simp only [Px]
  rw [bigSep_emp']
  iempintro

end Cert.KernelIdeal.Row

end
-- ==== Proof.Region.lean ====
/-
  The finishing call: what it leaves as a function of its operands' arrays, and its run from any contents of the device's arrays.
-/
module

public import proofs.«01_k».proof.Proof.Launch
public import proofs.«01_k».proof.Proof.Gen.KernelIdeal.Points
public import Idealize.ShloMosaic.Lib.Pipeline.RegionsLoop
public import Idealize.ShloMosaic.Lib.Pipeline.ValueKit.Geometry

@[expose] public section

noncomputable section

namespace Cert.KernelIdeal.Row

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Held (held put)

variable {F : FTy → Type} [FloatOps F]

local notation "𝕄" => MT nD τ sig (HIx 1) (Elt F) ℕ UU ℕ

/-! ## The body -/

section Body

variable (d : Dev nD)
  (arg0 : Memref sig .tc .vmem S32x256x256 .f32) (harg0 : arg0.IsWhole) (arg1 : Memref sig .tc .vmem S32x256x16 .f32) (harg1 : arg1.IsWhole)
  (arg2 : Memref sig .tc .vmem S256x256 .f32) (harg2 : arg2.IsWhole) (arg3 : Memref sig .tc .vmem S1x256 .f32) (harg3 : arg3.IsWhole)
  (arg4 : Memref sig .tc .vmem S256x256 .f32) (harg4 : arg4.IsWhole)

abbrev hldT {s : Shape} {e : EltTy} (v : Memref sig .tc .vmem s e) (x : s.Idx → Elt F e) : sProp 𝕄 := held (HIx 1) ℕ UU ℕ (SparseCore.T d : Thread nD τ) v x

theorem whole_emb {s : Shape} (off : Fin s.rank → ℕ) (h : off = fun _ => 0) (inb : ∀ a, off a + s.size a ≤ s.size a) (y : s.Idx) :
    (Rect.unit (s := s) off s.size inb).emb y = y := by
  subst h
  funext a
  exact Fin.ext (by show 0 + 1 * (y a).val = (y a).val; omega)

theorem put_whole {α : Type} {s : Shape} (off : Fin s.rank → ℕ) (h : off = fun _ => 0) (w : s.Idx → α) (x : s.Idx → α) : put off s.size w x = w := by
  subst h
  funext y
  unfold put
  rw [dif_pos fun a => ⟨Nat.zero_le _, by have := (y a).isLt; omega⟩]
  exact congrArg w (funext fun a => Fin.ext (by show (y a).val - 0 = (y a).val; omega))

theorem load_whole {s : Shape} {e : EltTy} {m : Memref sig .tc .vmem s e} {off : Fin s.rank → ℕ} (h : off = fun _ => 0) {inb : ∀ a, off a + s.size a ≤ s.size a}
    {hl : m.view.LoadsAt (Rect.unit (s := s) off s.size inb).toLoadRect} {α : Type} {Q : α → sProp 𝕄}
    {k : (s.Idx → Elt F e) → Prog (TpuEff nD τ sig (Elt F) Λ₀ (SparseCore.T d : Thread nD τ).2) α} {x : s.Idx → Elt F e} :
    hldT d m x ⊢ iprop((hldT d m x -∗ wp frame (wpE (defs₀ (F := F)) 𝒱₀ (SparseCore.T d) none) Set.univ (k x) Q)
        -∗ wp frame (wpE (defs₀ (F := F)) 𝒱₀ (SparseCore.T d) none) Set.univ (.op (.load m (Rect.unit (s := s) off s.size inb).toLoadRect hl) k) Q) := by
  have hw := Cert.Held.wp_load (Ix := HIx 1) (Name := ℕ) (U := UU) (Lvl := ℕ) (defs := defs₀ (F := F)) 𝒱₀ (SparseCore.T d : Thread nD τ) none Set.univ (m := m)
    (r := (Rect.unit (s := s) off s.size inb)) (hl := hl) (k := k) (x := x) (Q := Q)
  rw [show (fun y => x ((Rect.unit (s := s) off s.size inb).emb y)) = x from funext fun y => congrArg x (whole_emb off h inb y)] at hw
  exact hw

theorem finish_wp (a : S32x256x256.Idx → F .f32) (b : S32x256x16.Idx → F .f32) (w : S256x256.Idx → F .f32) (v : S1x256.Idx → F .f32) (o : S256x256.Idx → F .f32) :
    iprop(hldT d arg0 a ∗ hldT d arg1 b ∗ hldT d arg2 w ∗ hldT d arg3 v ∗ hldT d arg4 o)
      ⊢ wp frame (wpE (defs₀ (F := F)) 𝒱₀ (SparseCore.T d) none) Set.univ (cc1__tc_finish_body arg0 harg0 arg1 harg1 arg2 harg2 arg3 harg3 arg4 harg4)
          fun _ => iprop(hldT d arg0 a ∗ hldT d arg1 b ∗ hldT d arg2 w ∗ hldT d arg3 v ∗ hldT d arg4 (k1_pay1 a b w v)) := by
  rw [cc1__tc_finish_body_eq_skeleton]
  unfold cc1__tc_finish_body_skel
  simp only [Prog.lift, Prog.bind_op, Prog.bind_ret, Prog.pure_eq_ret]
  iintro ⟨H0, H1, H2, H3, H4⟩
  iapply (load_whole d (m := arg0) (by decide)) $$ H0
  iintro H0
  iapply (load_whole d (m := arg1) (by decide)) $$ H1
  iintro H1
  iapply (load_whole d (m := arg2) (by decide)) $$ H2
  iintro H2
  iapply (load_whole d (m := arg3) (by decide)) $$ H3
  iintro H3
  iapply (load_whole d (m := arg4) (by decide)) $$ H4
  iintro H4
  iapply (Cert.Held.wp_store (defs := defs₀ (F := F)) 𝒱₀ (SparseCore.T d) none Set.univ (m := arg4)) $$ H4
  iintro H4
  have e4 := put_whole (s := S256x256) ![0, 0] (by decide) (k1_pay1 a b w v) o
  ihave H4 := (Entails.of_eq (congrArg (hldT d arg4) e4)) $$ H4
  rw [wp_ret]
  imodintro
  isplitl [H0]; · iexact H0
  isplitl [H1]; · iexact H1
  isplitl [H2]; · iexact H2
  isplitl [H3]; · iexact H3
  iexact H4

end Body

/-! ## The arrays whole -/

theorem blk0 (f : S32x256x256.Idx → Elt F .f32) : ((cfg1.win 0).blk t1_0).view.read (Elt F) f = f :=
  funext fun y => congrArg f (funext fun a => Fin.ext (Window.rect_emb_val_of_index_zero (cfg1.win 0) t1_0 a (by fin_cases a <;> rfl) y))
theorem blk1 (f : S32x256x16.Idx → Elt F .f32) : ((cfg1.win 1).blk t1_0).view.read (Elt F) f = f :=
  funext fun y => congrArg f (funext fun a => Fin.ext (Window.rect_emb_val_of_index_zero (cfg1.win 1) t1_0 a (by fin_cases a <;> rfl) y))
theorem blk2 (f : S256x256.Idx → Elt F .f32) : ((cfg1.win 2).blk t1_0).view.read (Elt F) f = f :=
  funext fun y => congrArg f (funext fun a => Fin.ext (Window.rect_emb_val_of_index_zero (cfg1.win 2) t1_0 a (by fin_cases a <;> rfl) y))
theorem blk3 (f : S1x256.Idx → Elt F .f32) : ((cfg1.win 3).blk t1_0).view.read (Elt F) f = f :=
  funext fun y => congrArg f (funext fun a => Fin.ext (Window.rect_emb_val_of_index_zero (cfg1.win 3) t1_0 a (by fin_cases a <;> rfl) y))

/-! ## The call over the device's arrays -/

variable (M : Mem F)

/-- What the call leaves in its result. -/
def outM (d : Dev nD) : Buf (Elt F) ((SparseCore.T d : Thread nD τ).loc main_v8) :=
  k1_pay1 (F := F) (M d main_v6_0) (M d main_v6_1) (M d main_arg2) (M d main_v7)

/-- The call's data: its arrays as found; after the body the operands' blocks as fetched and the result's; nothing owed. -/
def dat (d : Dev nD) : Dat τ (Elt F) (HIx 1) ℕ UU ℕ cfg1 d where
  A w := M d (Pipeline.arrRef spec1 w)
  after w _ := match w with
    | ⟨0, _⟩ => M d main_v6_0
    | ⟨1, _⟩ => M d main_v6_1
    | ⟨2, _⟩ => M d main_arg2
    | ⟨3, _⟩ => M d main_v7
    | ⟨4, _⟩ => outM M d
  Φ _ := Pipeline.scopedRest (Ix := HIx 1) (Name := ℕ) (U := UU) (Lvl := ℕ) (Val := Elt F) spec1 d
  q _ := fullShare
  owed _ := 0
  recorded _ := {p | (K (F := F)).lev (SparseCore.T d, p.1) p.2 ≤ 8}

def pdats : (p : Fin 1) → (d : Dev nD) → Dat τ (Elt F) (HIx 1) ℕ UU ℕ (Pipeline.pin (pcfgs (F := F)) adm p) d
  | ⟨0, _⟩ => fun d => dat M d

theorem before0 (d : Dev nD) (x : (cfg1.win 0).block.Idx → Elt F (cfg1.win 0).elt) : (dat M d).before 0 t1_0 x = M d main_v6_0 := by
  unfold Dat.before; rw [if_pos (by decide)]; exact blk0 (F := F) _
theorem before1 (d : Dev nD) (x : (cfg1.win 1).block.Idx → Elt F (cfg1.win 1).elt) : (dat M d).before 1 t1_0 x = M d main_v6_1 := by
  unfold Dat.before; rw [if_pos (by decide)]; exact blk1 (F := F) _
theorem before2 (d : Dev nD) (x : (cfg1.win 2).block.Idx → Elt F (cfg1.win 2).elt) : (dat M d).before 2 t1_0 x = M d main_arg2 := by
  unfold Dat.before; rw [if_pos (by decide)]; exact blk2 (F := F) _
theorem before3 (d : Dev nD) (x : (cfg1.win 3).block.Idx → Elt F (cfg1.win 3).elt) : (dat M d).before 3 t1_0 x = M d main_v7 := by
  unfold Dat.before; rw [if_pos (by decide)]; exact blk3 (F := F) _

theorem owns_hld (d : Dev nD) {s : Shape} {e : EltTy} (v : Memref sig .tc .vmem s e) (h : v.IsWhole) {x x' : s.Idx → Elt F e} (hx : x = x') :
    (owns (SparseCore.T d : Thread nD τ) v fullShare x : sProp 𝕄) = hldT d v x' := by
  subst hx
  unfold owns hldT held
  rw [h.set_eq_univ]

theorem body_obligation (d : Dev nD) : BodyObligation (dat M d) (defs₀ (F := F)) 𝒱₀ none Set.univ := fun t => by
  obtain rfl := fin_N1 t
  rw [bigSep_W1, bigSep_W1]
  rw [show (dat M d).Φ t1_0.castSucc = (dat M d).Φ t1_0.succ from rfl, show (dat M d).owesAt none t1_0.succ = (dat M d).owesAt none t1_0.castSucc from rfl]
  iintro ⟨HΦ, Howes, ⟨%x0, H0⟩, ⟨%x1, H1⟩, ⟨%x2, H2⟩, ⟨%x3, H3⟩, ⟨%x4, H4⟩⟩
  have w0 := owns_hld (F := F) d (s := S32x256x256) (e := .f32) (win1_0.stage (cfg1.slots t1_0 0)) (hstage1_0 (cfg1.slots t1_0 0)) (before0 M d x0)
  have w1 := owns_hld (F := F) d (s := S32x256x16) (e := .f32) (win1_1.stage (cfg1.slots t1_0 1)) (hstage1_1 (cfg1.slots t1_0 1)) (before1 M d x1)
  have w2 := owns_hld (F := F) d (s := S256x256) (e := .f32) (win1_2.stage (cfg1.slots t1_0 2)) (hstage1_2 (cfg1.slots t1_0 2)) (before2 M d x2)
  have w3 := owns_hld (F := F) d (s := S1x256) (e := .f32) (win1_3.stage (cfg1.slots t1_0 3)) (hstage1_3 (cfg1.slots t1_0 3)) (before3 M d x3)
  have w4 := owns_hld (F := F) d (s := S256x256) (e := .f32) (win1_4.stage (cfg1.slots t1_0 4)) (hstage1_4 (cfg1.slots t1_0 4)) (rfl : (dat M d).before 4 t1_0 x4 = _)
  ihave H0 := (Entails.of_eq w0) $$ H0
  ihave H1 := (Entails.of_eq w1) $$ H1
  ihave H2 := (Entails.of_eq w2) $$ H2
  ihave H3 := (Entails.of_eq w3) $$ H3
  ihave H4 := (Entails.of_eq w4) $$ H4
  ihave Hw := (finish_wp d (win1_0.stage (cfg1.slots t1_0 0)) (hstage1_0 (cfg1.slots t1_0 0)) (win1_1.stage (cfg1.slots t1_0 1)) (hstage1_1 (cfg1.slots t1_0 1)) (win1_2.stage (cfg1.slots t1_0 2)) (hstage1_2 (cfg1.slots t1_0 2)) (win1_3.stage (cfg1.slots t1_0 3)) (hstage1_3 (cfg1.slots t1_0 3)) (win1_4.stage (cfg1.slots t1_0 4)) (hstage1_4 (cfg1.slots t1_0 4))
      (M d main_v6_0) (M d main_v6_1) (M d main_arg2) (M d main_v7) ((dat M d).before 4 t1_0 x4)) $$ [H0 H1 H2 H3 H4]
  · isplitl [H0]; · iexact H0
    isplitl [H1]; · iexact H1
    isplitl [H2]; · iexact H2
    isplitl [H3]; · iexact H3
    iexact H4
  iapply (wp_wand frame _ _) $$ Hw
  iintro %_ ⟨H0, H1, H2, H3, H4⟩
  isplitl [HΦ]; · iexact HΦ
  isplitl [Howes]; · iexact Howes
  isplitl [H0]; · iapply (Entails.of_eq (owns_hld (F := F) d (s := S32x256x256) (e := .f32) (win1_0.stage (cfg1.slots t1_0 0)) (hstage1_0 (cfg1.slots t1_0 0)) rfl).symm); iexact H0
  isplitl [H1]; · iapply (Entails.of_eq (owns_hld (F := F) d (s := S32x256x16) (e := .f32) (win1_1.stage (cfg1.slots t1_0 1)) (hstage1_1 (cfg1.slots t1_0 1)) rfl).symm); iexact H1
  isplitl [H2]; · iapply (Entails.of_eq (owns_hld (F := F) d (s := S256x256) (e := .f32) (win1_2.stage (cfg1.slots t1_0 2)) (hstage1_2 (cfg1.slots t1_0 2)) rfl).symm); iexact H2
  isplitl [H3]; · iapply (Entails.of_eq (owns_hld (F := F) d (s := S1x256) (e := .f32) (win1_3.stage (cfg1.slots t1_0 3)) (hstage1_3 (cfg1.slots t1_0 3)) rfl).symm); iexact H3
  iapply (Entails.of_eq (owns_hld (F := F) d (s := S256x256) (e := .f32) (win1_4.stage (cfg1.slots t1_0 4)) (hstage1_4 (cfg1.slots t1_0 4)) rfl).symm); iexact H4

/-! ## The call over the thread's state -/

/-- What the buffers are after the call. -/
def after (M : Mem F) : Mem F := fun d => Function.update (M d) main_v8 (outM M d)

theorem after_ne (d : Dev nD) (b : Ref sig .tc) (h : b ≠ main_v8) : after M d b = M d b := Function.update_of_ne h _ _
theorem after_out (d : Dev nD) : after M d main_v8 = outM M d := Function.update_self _ _ _

theorem arrAt_out (d : Dev nD) : (dat M d).arrAt 4 cfg1.N = outM M d :=
  Dat.arrAt_eq_of_after_last (dat M d) 4 t1_0 (by decide +kernel) (outM M d) fun _ => rfl

/-- What the core waited for before the call, within the levels met so far. -/
def owesB (d : Dev nD) : sProp 𝕄 :=
  iprop(∃ W, ⌜(K (F := F)).WBelow (SparseCore.T d) W 8⌝ ∗ owes (SparseCore.T d : Thread nD τ) (0 : CellTallies nD τ sig (HIx 1)) W)

set_option backward.isDefEq.respectTransparency.types false in
def reg (R : Dev nD → sProp 𝕄) : Pipeline.RegionSeg (pcfgs (F := F)) adm (pdats M) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation M d).loose
  hwaits := Pipeline.hwaits_of_owed_zero _ _ _ _ (K (F := F)).L (K (F := F)).lev 0 fun _ _ => rfl
  pre d := iprop(unscopedBufs d (M d) ∗ R d ∗ owesB (F := F) d)
  post d := iprop(unscopedBufs d (after M d) ∗ R d ∗ owesB (F := F) d)
  X _ := BI.emp
  Y _ := BI.emp
  Z d := iprop(Pipeline.unscopedRest (Ix := HIx 1) (Name := ℕ) (U := UU) (Lvl := ℕ) spec1 d (M d) ∗ R d)
  hentry d := by
    rw [Pipeline.ownSems0_none]
    have hsplit := Pipeline.arrays_of_unscopedBufs (p := 0) (pcfgs (F := F)) adm (pdats M) launch1.win launch1.arr_whole d
      ((pdats M 0 d).share_full fun _ => rfl) (M d) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesB
      icases HO with ⟨%W, %hW, HO⟩; iexists W; isplitr; · ipureintro; exact fun p hp => Or.inl (hW p hp)
      iexact HO
    isplitr; · iempintro
    isplitl [Hrest] <;> iassumption
  hin d := by
    rw [show (pdats M 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats M 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats M) ((pdats M 0 d).share_full fun _ => rfl) (M d) (after M d) ((pdats M 0 d).arrAt · cfg1.N)
      (fun w => by
        fin_cases w
        · exact ((pdats M 0 d).arrAt_in 0 rfl _).trans (after_ne M d main_v6_0 (by decide)).symm
        · exact ((pdats M 0 d).arrAt_in 1 rfl _).trans (after_ne M d main_v6_1 (by decide)).symm
        · exact ((pdats M 0 d).arrAt_in 2 rfl _).trans (after_ne M d main_arg2 (by decide)).symm
        · exact ((pdats M 0 d).arrAt_in 3 rfl _).trans (after_ne M d main_v7 (by decide)).symm
        · exact (arrAt_out M d).trans (after_out M d).symm)
      (fun b hb => after_ne M d b fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin owesB
    icases HO with ⟨%W, %hW, HO⟩; iexists W
    isplitr
    · ipureintro
      intro p hp
      rcases hW hp with h | h
      · exact h
      · obtain ⟨w, s, rfl⟩ := h
        exact Nat.zero_le 8
    · iexact HO

end Cert.KernelIdeal.Row

end
-- ==== Proof.Main.lean ====
/-
  The program whole: its host lines, the launch, the finishing call, and what every run of it leaves, from the launch memory.
-/
module

public import proofs.«01_k».proof.Proof.Region
public import Idealize.ShloMosaic.Lib.Pipeline.Frame

@[expose] public section

noncomputable section

namespace Cert.KernelIdeal.Row

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig (HIx 1) (Elt F) ℕ UU ℕ

/-! ## The host lines -/

/-- The lines before the launch, -/
def lines : List (HloOp τ sig (Elt F)) :=
  [StableHlo.nullary main_c (constantI S_ 32 0#32),
   StableHlo.TRef.unary (.of main_c : StableHlo.TRef sig ⟨S_, .i32⟩) main_call0.v0 id,
   StableHlo.TRef.binary (.of main_arg1 : StableHlo.TRef sig ⟨S100000, .i32⟩) main_call0.v0 main_call0.v1 (fun x v => pad S102400 ![0] ![2400] ![0] x v pads_S100000_S102400_024000 h_S_),
   StableHlo.reshape main_v0 main_v1 (rfl : (.i32 : EltTy) = .i32) shapeCasts_S102400_S40x32x80,
   StableHlo.unary main_v1 main_v2 ((transpose S32x40x80 [1, 0, 2] · transposes_S40x32x80_S32x40x80_1_0_2) : (⟨S40x32x80, .i32⟩ : BufTy).Contents (Elt F) → (⟨S32x40x80, .i32⟩ : BufTy).Contents (Elt F)),
   StableHlo.nullary main_c_0 (constantI S_ 32 0#32),
   StableHlo.TRef.unary (.of main_c_0 : StableHlo.TRef sig ⟨S_, .i32⟩) main_call1.v0 id,
   StableHlo.TRef.binary (.of main_v2 : StableHlo.TRef sig ⟨S32x40x80, .i32⟩) main_call1.v0 main_call1.v1 (fun x v => pad S32x40x128 ![0, 0, 0] ![0, 0, 48] ![0, 0, 0] x v pads_S32x40x80_S32x40x128_000_000_0480 h_S_),
   StableHlo.nullary main_cst (constant S_ .f32 0x00000000#32),
   StableHlo.unary main_cst main_v4 (broadcastInDim S256x256 ![] bcast_S_S256x256 : (⟨S_, .f32⟩ : BufTy).Contents (Elt F) → (⟨S256x256, .f32⟩ : BufTy).Contents (Elt F)),
   StableHlo.nullary main_cst_1 (constant S_ .f32 0x00000000#32),
   StableHlo.unary main_cst_1 main_v5 (broadcastInDim S256x16 ![] bcast_S_S256x16 : (⟨S_, .f32⟩ : BufTy).Contents (Elt F) → (⟨S256x16, .f32⟩ : BufTy).Contents (Elt F))]

/-- and the one after it. -/
def line : List (HloOp τ sig (Elt F)) := [StableHlo.reshape main_arg3 main_v7 (rfl : (.f32 : EltTy) = .f32) shapeCasts_S256_S1x256]

theorem main_eq (d : Dev nD) : main (F := F) d = (StableHlo.seq lines >>= fun _ => (K (F := F)).run d 0 >>= fun _ => StableHlo.seq line >>= fun _ =>
    SparseCore.liftProg (Prog.lift (.customCall (Pipeline.entry 0) ())) >>= fun _ => pure ⟨⟩) := by
  rfl

/-! ## The arrays between the lines -/

variable (m : (ℓ : Loc nD τ sig) → Buf (Elt F) ℓ) (ρ : Dev nD → PrngReg)

/-- At the launch, -/
def V₁ (d : Dev nD) : Valuation τ sig (Elt F) := StableHlo.after lines fun b => m (d, b)
abbrev M₁ : Mem F := fun d b => V₁ m d b
/-- after it, -/
def V₂ (d : Dev nD) : Valuation τ sig (Elt F) := Function.update (Function.update (V₁ m d) main_v6_0 (sumsM' (M₁ m) d)) main_v6_1 (cntsM' (M₁ m) d)
/-- at the finishing call. -/
def V₃ (d : Dev nD) : Valuation τ sig (Elt F) := StableHlo.after line (V₂ m d)
abbrev M₃ : Mem F := fun d b => V₃ m d b

/-- The launch's arrays. -/
def six : Finset (DevRef τ sig) := {(main_arg0 : DevRef τ sig), (main_v3 : DevRef τ sig), (main_v4 : DevRef τ sig), (main_v5 : DevRef τ sig), (main_v6_0 : DevRef τ sig), (main_v6_1 : DevRef τ sig)}

theorem six_sub : six ⊆ Pipeline.ucRefs τ sig := by decide

theorem held_six (d : Dev nD) (W : Valuation τ sig (Elt F)) : (StableHlo.held (SparseCore.T d : Thread nD τ) six W : sProp 𝕄)
    = iprop((xLoc d ↦{fullShare} W main_arg0) ∗ (zLoc d ↦{fullShare} W main_v3) ∗ (sLoc d ↦{fullShare} W main_v4) ∗ (cLoc d ↦{fullShare} W main_v5)
      ∗ (aLoc d ↦{fullShare} W main_v6_0) ∗ (bLoc d ↦{fullShare} W main_v6_1)) := by
  unfold StableHlo.held six
  rw [SparseCore.bigSep_insert' (by decide), SparseCore.bigSep_insert' (by decide), SparseCore.bigSep_insert' (by decide), SparseCore.bigSep_insert' (by decide), SparseCore.bigSep_insert' (by decide), bigSep_singleton]

theorem V₂_six (d : Dev nD) : (StableHlo.held (SparseCore.T d : Thread nD τ) six (V₂ m d) : sProp 𝕄)
    = iprop((xLoc d ↦{fullShare} V₁ m d main_arg0) ∗ (zLoc d ↦{fullShare} V₁ m d main_v3) ∗ (sLoc d ↦{fullShare} V₁ m d main_v4) ∗ (cLoc d ↦{fullShare} V₁ m d main_v5)
      ∗ (aLoc d ↦{fullShare} sumsM' (M₁ m) d) ∗ (bLoc d ↦{fullShare} cntsM' (M₁ m) d)) := by
  rw [held_six]
  have e (r : Ref sig .tc) (h0 : (r : DevRef τ sig) ≠ (main_v6_0 : DevRef τ sig)) (h1 : (r : DevRef τ sig) ≠ (main_v6_1 : DevRef τ sig)) : V₂ m d r = V₁ m d r :=
    (Function.update_of_ne h1 _ _).trans (Function.update_of_ne h0 _ _)
  rw [e main_arg0 (by decide) (by decide), e main_v3 (by decide) (by decide), e main_v4 (by decide) (by decide), e main_v5 (by decide) (by decide),
    show V₂ m d main_v6_0 = sumsM' (M₁ m) d from (Function.update_of_ne (by decide) _ _).trans (Function.update_self _ _ _),
    show V₂ m d main_v6_1 = cntsM' (M₁ m) d from Function.update_self _ _ _]

theorem V₂_rest (d : Dev nD) : (StableHlo.held (SparseCore.T d : Thread nD τ) (Pipeline.ucRefs τ sig \ six) (V₁ m d) : sProp 𝕄)
    = StableHlo.held (SparseCore.T d : Thread nD τ) (Pipeline.ucRefs τ sig \ six) (V₂ m d) :=
  StableHlo.held_congr _ fun b hb => by
    have h := (Finset.mem_sdiff.mp hb).2
    exact ((Function.update_of_ne (fun e => h (by rw [e]; decide)) _ _).trans (Function.update_of_ne (fun e => h (by rw [e]; decide)) _ _)).symm

/-- What a run leaves in the arrays. -/
def FIN (d : Dev nD) : sProp 𝕄 := unscopedBufs d (after (M₃ m) d)

theorem lines_sub' : (lines (F := F)).Forall fun op => op.bufs ⊆ StableHlo.tcRefs τ sig :=
  ⟨StableHlo.nullary_bufs_sub .., StableHlo.unary_bufs_sub .., StableHlo.binary_bufs_sub .., StableHlo.reshape_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.nullary_bufs_sub .., StableHlo.unary_bufs_sub ..⟩
theorem lines_sub : ∀ op ∈ lines (F := F), op.bufs ⊆ Pipeline.ucRefs τ sig := fun op h => Pipeline.sub_ucRefs op (List.forall_iff_forall_mem.mp lines_sub' op h)
theorem lines_fresh : ∀ op ∈ lines (F := F), op.fresh = ∅ := List.forall_iff_forall_mem.mp (StableHlo.forall_fresh_of_map rfl)
theorem line_sub' : (line (F := F)).Forall fun op => op.bufs ⊆ StableHlo.tcRefs τ sig := StableHlo.reshape_bufs_sub ..
theorem line_sub : ∀ op ∈ line (F := F), op.bufs ⊆ Pipeline.ucRefs τ sig := fun op h => Pipeline.sub_ucRefs op (List.forall_iff_forall_mem.mp line_sub' op h)
theorem line_fresh : ∀ op ∈ line (F := F), op.fresh = ∅ := List.forall_iff_forall_mem.mp (StableHlo.forall_fresh_of_map rfl)

/-- After the launch the core owes nothing. -/
theorem Otc_one (d : Dev nD) : (K (F := F)).Otc d 1 = 0 := by
  unfold SparseCore.Cfg.Otc
  rw [Fin.sum_univ_one, if_neg (by decide)]

theorem owesB_eq (d : Dev nD) : (iprop(∃ W, ⌜(K (F := F)).WBelow (SparseCore.T d) W 8⌝ ∗ owes (SparseCore.T d : Thread nD τ) ((K (F := F)).Otc d 1) W) : sProp 𝕄) = owesB (F := F) d := by
  rw [Otc_one]
  rfl

theorem hmain (κ : GSem nD τ sig → ℕ) (d : Dev nD) :
    iprop((K (F := F)).ctx EH (P (M₁ m)) κ ∗ (K (F := F)).tcSt EH d 0 ∗ (K (F := F)).tcRes m ρ d ∗ gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  have hu : (unscopedBufs d (fun b => m ((SparseCore.T d : Thread nD τ).loc b)) : sProp 𝕄) = StableHlo.held (SparseCore.T d : Thread nD τ) (Pipeline.ucRefs τ sig) fun b => m (d, b) :=
    Pipeline.unscopedBufs_held d fun b => m (d, b)
  rw [hu]
  iintro ⟨#Hctx, Hst, ⟨Hb, Hub, Hts, -⟩, HG⟩
  iapply (StableHlo.wp_seq 𝒱 none Set.univ d (Pipeline.ucRefs τ sig) _ lines lines_sub lines_fresh _) $$ [Hb Hub]
  · isplitl [Hb] <;> iassumption
  iintro ⟨Hb, Hub⟩
  have e1 : (StableHlo.held (d.tc : Thread nD τ) (Pipeline.ucRefs τ sig) (StableHlo.after lines fun b => m (d, b)) : sProp 𝕄) = _ :=
    StableHlo.held_sub_split (SparseCore.T d : Thread nD τ) six_sub (V₁ m d)
  ihave Hub := (Entails.of_eq e1) $$ Hub
  icases Hub with ⟨H6, Hrest⟩
  ihave H6 := (Entails.of_eq (held_six d (V₁ m d))) $$ H6
  ihave Hrest := (Entails.of_eq (V₂_rest m d)) $$ Hrest
  icases H6 with ⟨Hx, Hz, Hs, Hc, Ha, Hb'⟩
  ihave Hdeal := (deal (M₁ m) d) $$ [Hx Hz Hs Hc Ha Hb']
  · isplitl [Hx Hz Hs Hc]
    · unfold rd
      isplitl [Hx]; · iexact Hx
      isplitl [Hz]; · iexact Hz
      isplitl [Hs]; · iexact Hs
      iexact Hc
    isplitl [Ha] <;> iassumption
  icases Hdeal with ⟨Hkeep, Hgo⟩
  rw [wp_bind]
  iapply ((K (F := F)).wp_run (D (F := F)) 𝒱 (EH := EH) (P := P (M₁ m)) κ d 0) $$ [Hst Hgo Hkeep Hrest Hb Hts HG]
  isplitr; · iexact Hctx
  isplitl [Hst]; · iexact Hst
  isplitl [Hgo]; · iexact Hgo
  iintro ⟨Hst, Hdn⟩
  ihave Hcol := (collect (M₁ m) d) $$ [Hkeep Hdn]
  · isplitl [Hkeep] <;> iassumption
  unfold rd
  icases Hcol with ⟨⟨Hx, Hz, Hs, Hc⟩, Ha, Hb'⟩
  ihave H6 := (Entails.of_eq (V₂_six m d).symm) $$ [Hx Hz Hs Hc Ha Hb']
  · isplitl [Hx]; · iexact Hx
    isplitl [Hz]; · iexact Hz
    isplitl [Hs]; · iexact Hs
    isplitl [Hc]; · iexact Hc
    isplitl [Ha] <;> iassumption
  ihave Hub := (Entails.of_eq (StableHlo.held_sub_split (SparseCore.T d : Thread nD τ) six_sub (V₂ m d)).symm) $$ [H6 Hrest]
  · isplitl [H6] <;> iassumption
  iapply (StableHlo.wp_seq 𝒱 none Set.univ d (Pipeline.ucRefs τ sig) _ line line_sub line_fresh _) $$ [Hb Hub]
  · isplitl [Hb] <;> iassumption
  iintro ⟨Hb, Hub⟩
  rw [wp_bind]
  iapply ((K (F := F)).wp_liftProg (D (F := F)) 𝒱 (SparseCore.T d) Set.univ none (Prog.lift (.customCall (Pipeline.entry 0) ())) _)
  unfold SparseCore.Cfg.tcSt gh
  icases Hst with ⟨HO, Hst⟩
  icases HG with ⟨Hg, Ht⟩
  ihave Hlev := (SparseCore.Cfg.ctx_levAts (K := K (F := F)) (EH := EH) (P := P (M₁ m)) κ) $$ Hctx
  have e3 : (StableHlo.held (d.tc : Thread nD τ) (Pipeline.ucRefs τ sig) (StableHlo.after line (V₂ m d)) : sProp 𝕄) = unscopedBufs d (M₃ m d) :=
    (Pipeline.unscopedBufs_held d (V₃ m d)).symm
  ihave Hub := (Entails.of_eq e3) $$ Hub
  iapply (Pipeline.RegionSeg.wp (pcfgs (F := F)) adm (pdats (M₃ m)) none cellOf_inj EP defs₀ 𝒱₀ (K (F := F)).L (K (F := F)).lev (reg (M₃ m) fun _ => BI.emp) d none (fun _ h => nomatch h) Prog.ret _)
  isplitl [Hst Hts]
  · iintro ⟨Hb, Hpost⟩
    ihave Hpost := (Entails.of_eq (show (reg (M₃ m) fun _ => BI.emp).post d = iprop(unscopedBufs d (after (M₃ m) d) ∗ BI.emp ∗ owesB (F := F) d) from rfl)) $$ Hpost
    icases Hpost with ⟨Hub, -, HO⟩
    rw [wp_ret]
    imodintro
    rw [wp_pure]
    imodintro
    isplitl [HO Hst]
    · isplitl [HO]
      · iapply (Entails.of_eq (owesB_eq d).symm)
        iexact HO
      iexact Hst
    isplitl [Hub]
    · unfold FIN; iexact Hub
    isplitl [Hb] <;> iassumption
  isplitl [Hb]; · iexact Hb
  isplitl [Hub HO]
  · iapply (Entails.of_eq (show iprop(unscopedBufs d (M₃ m d) ∗ BI.emp ∗ owesB (F := F) d) = (reg (M₃ m) fun _ => BI.emp).pre d from rfl))
    isplitl [Hub]; · iexact Hub
    isplitr; · iempintro
    iapply (Entails.of_eq (owesB_eq d))
    iexact HO
  isplitl [Hlev]; · iexact Hlev
  isplitl [Hg] <;> iassumption

/-! ## What a run leaves -/

def fq (d : Dev nD) (s' : Phys nD τ sig (Elt F)) : Prop :=
  ∀ b : Ref sig .tc, ¬ b.isScoped → s'.mem.mem ((SparseCore.T d : Thread nD τ).loc b) = after (M₃ m) d b

theorem hfin (d : Dev nD) (s' : Phys nD τ sig (Elt F)) : iprop(FIN m d ∗ SI s') ⊢ (⌜fq m d s'⌝ : sProp 𝕄) := by
  have h (b : Ref sig .tc) (hb : ¬ b.isScoped) : iprop(FIN m d ∗ SI s') ⊢ (⌜s'.mem.mem ((SparseCore.T d : Thread nD τ).loc b) = after (M₃ m) d b⌝ : sProp 𝕄) := by
    unfold FIN unscopedBufs
    rw [SparseCore.bigSep_erase' (Finset.mem_filter.mpr ⟨Finset.mem_univ b, hb⟩)]
    iintro ⟨⟨Hb, -⟩, HSI⟩
    ihave H := (SI_pointsTo_agree (st := s') (ℓ := (SparseCore.T d : Thread nD τ).loc b) (I := Finset.univ) (q := fullShare) (f := after (M₃ m) d b)) $$ [HSI Hb]
    · isplitl [HSI] <;> iassumption
    icases H with %h1
    ipureintro
    exact funext fun i => h1 i (Finset.mem_univ i)
  exact fun a ha b hb => h b hb a ha

/-- Every run ends with the buffers as the finishing call leaves them, all semaphores at zero. -/
def QC : PUnit × MemSt nD τ sig (Elt F) → Prop := fun r =>
  (∀ d : Dev nD, ∀ b : Ref sig .tc, ¬ b.isScoped → r.2.mem ((SparseCore.T d : Thread nD τ).loc b) = after (M₃ m) d b) ∧ r.2.sem = fun _ => 0

theorem run_main [∀ e, Nonempty (Elt F e)] (hI : IdsOK (M₁ m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (M₁ m)) (A := ∅) facts v₀
    (fun q hq => match q with | 0 => nomatch hq)
    (fun q _ => match q with | 0 => tileObl (M₁ m) facts hI)
    (fun q _ => match q with | 0 => SparseCore.Cfg.VecSplit.of_plain (vecSplit (M₁ m)))
    m ρ main gh (FIN m) (u₀ (F := F)) (sep_elim_left.trans (hu₀ (M₁ m))) (hmain m ρ) (fq m) (hfin m) (QC m) (fun _ h hz => ⟨h, hz⟩)

end Cert.KernelIdeal.Row

end
-- ==== Proof.Lines.lean ====
/-
  What the host lines leave: the four operands as they were, the ids padded and dealt out to the workers, two arrays of zeros. So every run
  whose ids name segments ends with the operands unchanged and every semaphore at rest.
-/
module

public import proofs.«01_k».proof.Proof.Main

@[expose] public section

noncomputable section

namespace Cert.KernelIdeal.Row

open Idealize.ShloMosaic Idealize.ShloMosaic.TcCoe
open Idealize.ShloMosaic.SparseCore (S V T)
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The buffers the lines write. -/
abbrev written : List (Ref sig .tc) :=
  [main_c, main_call0_v0, main_v0, main_v1, main_v2, main_c_0, main_call1_v0, main_v3, main_cst, main_v4, main_cst_1, main_v5]

/-- No other buffer changes. -/
theorem lines_keep (d : Dev nD) (r : Ref sig .tc) (hr : r ∉ written) :
    V₁ m d r = m (d, r) :=
  StableHlo.after_of_writes_sub _ (W := written)
    _ (StableHlo.forall_writes_sub_of_map rfl) hr

/-- The ids, padded to whole chunks, dealt out and padded to whole rows, -/
theorem v3_eq (d : Dev nD) : V₁ m d main_v3 = pad S32x40x128 ![0, 0, 0] ![0, 0, 48] ![0, 0, 0]
    (transpose S32x40x80 [1, 0, 2] (shapeCast S40x32x80 (pad S102400 ![0] ![2400] ![0] (m (d, main_arg1)) (constantI S_ 32 0#32) pads_S100000_S102400_024000 h_S_) shapeCasts_S102400_S40x32x80) transposes_S40x32x80_S32x40x80_1_0_2)
    (constantI S_ 32 0#32) pads_S32x40x80_S32x40x128_000_000_0480 h_S_ := by
  unfold V₁ lines
  after_results
  rfl

/-- and the two arrays of zeros. -/
theorem v4_eq (d : Dev nD) : V₁ m d main_v4 = broadcastInDim S256x256 ![] bcast_S_S256x256 (constant S_ .f32 0x00000000#32) := by
  unfold V₁ lines
  after_results

theorem v5_eq (d : Dev nD) : V₁ m d main_v5 = broadcastInDim S256x16 ![] bcast_S_S256x16 (constant S_ .f32 0x00000000#32) := by
  unfold V₁ lines
  after_results

/-- At the finishing call an operand is as it was. -/
theorem V₃_arg (d : Dev nD) (r : Ref sig .tc) (hr : r ∉ main_v6_0 :: main_v6_1 :: main_v7 :: written) : V₃ m d r = m (d, r) := by
  have h0 : (r : DevRef τ sig) ≠ (main_v6_0 : DevRef τ sig) := fun e => hr (by rw [Proc.devRef_injective _ e]; simp)
  have h1 : (r : DevRef τ sig) ≠ (main_v6_1 : DevRef τ sig) := fun e => hr (by rw [Proc.devRef_injective _ e]; simp)
  have h2 : r ∉ [main_v7] := fun e => hr (by rw [List.mem_singleton.mp e]; simp)
  have h3 : r ∉ written := fun e => hr (.tail _ (.tail _ (.tail _ e)))
  exact (StableHlo.after_of_writes_sub (W := [main_v7]) _ _ (StableHlo.forall_writes_sub_of_map rfl) h2).trans
    ((Function.update_of_ne h1 _ _).trans ((Function.update_of_ne h0 _ _).trans (lines_keep m d r h3)))

/-- The tables the workers leave reach the finishing call, -/
theorem V₃_sums (d : Dev nD) : V₃ m d main_v6_0 = sumsM' (M₁ m) d :=
  (StableHlo.after_of_writes_sub (W := [main_v7]) _ _ (StableHlo.forall_writes_sub_of_map rfl) (by decide)).trans
    ((Function.update_of_ne (by decide) _ _).trans (Function.update_self _ _ _))
theorem V₃_cnts (d : Dev nD) : V₃ m d main_v6_1 = cntsM' (M₁ m) d :=
  (StableHlo.after_of_writes_sub (W := [main_v7]) _ _ (StableHlo.forall_writes_sub_of_map rfl) (by decide)).trans (Function.update_self _ _ _)

/-- and the bias does as one row. -/
theorem V₃_bias (d : Dev nD) : V₃ m d main_v7 = shapeCast S1x256 (m (d, main_arg3)) shapeCasts_S256_S1x256 := by
  have h : V₂ m d main_arg3 = m (d, main_arg3) :=
    (Function.update_of_ne (by decide) _ _).trans ((Function.update_of_ne (by decide) _ _).trans (lines_keep m d main_arg3 (by decide)))
  rw [← h]
  unfold V₃ line
  after_results
  rfl

/-- A padded array holds nothing but elements of the operand and the padding value. -/
theorem pad_all {α : Type} {s t u : Shape} (C : α → Prop) (lo hi interior : Fin s.rank → ℕ) (x : s.Idx → α) (v : u.Idx → α) (h : s.Pads lo hi interior t) (hu : 0 < u.numel)
    (hx : ∀ k, C (x k)) (hv : ∀ k, C (v k)) (j : t.Idx) : C (pad t lo hi interior x v h hu j) := by
  unfold pad
  split
  · exact hx _
  · exact hv _

/-- Ids that name segments, dealt out, name segments. -/
theorem idsOK (h : ∀ d k, (m (d, main_arg1) k : BitVec 32).toNat < 256) : IdsOK (M₁ m) := fun d y => by
  show ((V₁ m d main_v3 y : BitVec 32)).toNat < 256
  have hz (k : S_.Idx) : (constantI S_ 32 0#32 k).toNat < 256 := (by decide : (0#32).toNat < 256)
  rw [v3_eq]
  refine pad_all (fun b : BitVec 32 => b.toNat < 256) _ _ _ _ _ _ _ (fun k => ?_) (fun k => ?_) y
  · exact pad_all (fun b : BitVec 32 => b.toNat < 256) ![0] ![2400] ![0] (m (d, main_arg1)) (constantI S_ 32 0#32) pads_S100000_S102400_024000 h_S_ (h d) hz _
  · exact hz _

/-- Every run whose ids name segments ends, its operands unchanged, its result the finishing call's, its semaphores at rest. -/
theorem run_ends [∀ e, Nonempty (Elt F e)] (h : ∀ d k, (m (d, main_arg1) k : BitVec 32).toNat < 256) :
    θ_run (Cert.KernelIdeal.defs (F := F)) (Cert.KernelIdeal.threads (F := F)) ⟨m, fun _ => 0, ρ⟩ fun r =>
      (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.mem ((c.tc : Thread nD τ).loc main_v8) = outM (M₃ m) c)
      ∧ r.2.sem = fun _ => 0 := by
  refine (θ_run _ _ _).mono (fun r hr => ⟨fun c => ?_, hr.2⟩) (run_main m ρ (idsOK m h))
  have e (b : Ref sig .tc) (hb : ¬ b.isScoped) (hne : b ≠ main_v8) (hw : b ∉ main_v6_0 :: main_v6_1 :: main_v7 :: written) :
      r.2.mem ((c.tc : Thread nD τ).loc b) = m ((c.tc : Thread nD τ).loc b) :=
    (hr.1 c b hb).trans ((after_ne (M₃ m) c b hne).trans (V₃_arg m c b hw))
  exact ⟨⟨e main_arg0 (by decide) (by decide) (by decide), e main_arg1 (by decide) (by decide) (by decide), e main_arg2 (by decide) (by decide) (by decide), e main_arg3 (by decide) (by decide) (by decide)⟩,
    (hr.1 c main_v8 (by decide)).trans (after_out (M₃ m) c)⟩

end Cert.KernelIdeal.Row
-- ==== Proof.Fold.lean ====
/-
  Rows taken in one by one, in the order of their segments, on exact arithmetic: the tables hold, for each segment met, the sum of its rows and
  their number, whatever the rows are.
-/
module

public import proofs.«01_k».proof.Proof.RowRun
public import Idealize.ShloMosaic.PureOps.Ideal.Laws

@[expose] public section

noncomputable section

namespace Cert.KernelIdeal.Row

open Idealize.ShloMosaic
open Cert.KernelIdeal Cert.KernelIdeal.Gen

section
variable {T : Type} (sg : T → BitVec 32)

/-- The total of `f` over the rows of segment `n`. -/
def tot (L : List T) (n : ℕ) (f : T → EReal) : EReal := (L.map fun t => if (sg t).toNat = n then f t else 0).sum

theorem tot_nil (n : ℕ) (f : T → EReal) : tot sg [] n f = 0 := rfl

theorem tot_snoc (L : List T) (u : T) (n : ℕ) (f : T → EReal) : tot sg (L ++ [u]) n f = tot sg L n f + if (sg u).toNat = n then f u else 0 := by
  simp [tot]

/-- No row of the segment, no total. -/
theorem tot_zero (L : List T) (n : ℕ) (f : T → EReal) (h : ∀ t ∈ L, (sg t).toNat ≠ n) : tot sg L n f = 0 := by
  refine List.sum_eq_zero fun a ha => ?_
  obtain ⟨t, ht, rfl⟩ := List.mem_map.mp ha
  exact if_neg (h t ht)

variable (xr : T → Fin 16 → FVec Ideal S16 .f32)

/-- What the rows `L` taken in, the last met the greatest, leave. -/
structure Taken (L : List T) (w : Wk Ideal) : Prop where
  acc : ∀ c l, (w.st.acc c l : EReal) = tot sg L w.st.cur.toNat fun t => xr t c l
  run : (w.st.run : EReal) = tot sg L w.st.cur.toNat fun _ => 1
  sums : ∀ y, (w.sums y : EReal) = tot sg L (y 0).val fun t => xr t (cgrp (y 1)) (clane (y 1))
  cnts : ∀ y, (w.cnts y : EReal) = tot sg L (y 0).val fun _ => 1
  le : ∀ t ∈ L, (sg t).toNat ≤ w.st.cur.toNat
  mem : L = [] ∨ ∃ t ∈ L, sg t = w.st.cur

theorem one_f32 : Ideal.ofBits .f32 0x3F800000#32 = 1 := by
  simp [Ideal.ofBits, Ideal.ieee, -EReal.coe_mul]; norm_num

theorem select_ne {α : Type} (a b : BitVec 32) (u v : α) : Scalar.select (Scalar.cmpi .ne a b) u v = if a = b then v else u := by
  by_cases h : a = b
  · subst h; simp [Scalar.select, Scalar.cmpi, IntOp.cmpi]
  · have hb : (a != b) = true := by simp [h]
    simp [Scalar.select, Scalar.cmpi, IntOp.cmpi, hb, h]

/-- One more row, no less than those before. -/
theorem Taken.step {L : List T} {w : Wk Ideal} (H : Taken sg xr L w) (u : T) (hu : ∀ t ∈ L, (sg t).toNat ≤ (sg u).toNat) :
    Taken sg xr (L ++ [u]) (rowStep (sg u) (xr u) w) := by
  have key : ∀ t ∈ L, (sg t).toNat = (sg u).toNat → sg u = w.st.cur := by
    intro t ht e
    rcases H.mem with h | ⟨t', ht', e'⟩
    · subst h; cases ht
    · have h1 := H.le t ht
      have h2 := hu t' ht'
      rw [e'] at h2
      exact BitVec.eq_of_toNat_eq (by omega)
  have part (a : EReal) (f : T → EReal) (ha : a = tot sg L w.st.cur.toNat f) :
      (if sg u = w.st.cur then a + f u else f u) = tot sg (L ++ [u]) (sg u).toNat f := by
    rw [tot_snoc, if_pos rfl]
    by_cases h : sg u = w.st.cur
    · rw [if_pos h, ha, h]
    · rw [if_neg h, tot_zero sg L _ f fun t ht e => h (key t ht e), zero_add]
  have hacc : ∀ c l, ((rowStep (sg u) (xr u) w).st.acc c l : EReal) = tot sg (L ++ [u]) (sg u).toNat fun t => xr t c l := by
    intro c l
    rw [← part _ _ (H.acc c l)]
    show (Scalar.select (Scalar.cmpi .ne (sg u) w.st.cur) (xr u c) (addf (w.st.acc c) (xr u c)) : FVec Ideal S16 .f32) l = _
    rw [select_ne]
    split <;> rfl
  have hrun : ((rowStep (sg u) (xr u) w).st.run : EReal) = tot sg (L ++ [u]) (sg u).toNat fun _ => 1 := by
    rw [← part _ _ H.run]
    show (Scalar.select (Scalar.cmpi .ne (sg u) w.st.cur) (Ideal.ofBits .f32 0x3F800000#32) (w.st.run + Ideal.ofBits .f32 0x3F800000#32) : EReal) = _
    rw [select_ne, one_f32]
  refine ⟨hacc, hrun, fun y => ?_, fun y => ?_, fun t ht => ?_, .inr ⟨u, by simp, rfl⟩⟩
  · by_cases h : (y 0).val = (sg u).toNat
    · exact (if_pos h).trans ((hacc _ _).trans (by rw [h]))
    · refine (if_neg h).trans ((H.sums y).trans ?_)
      rw [tot_snoc, if_neg (Ne.symm h), add_zero]
  · by_cases h : (y 0).val = (sg u).toNat
    · exact (if_pos h).trans (hrun.trans (by rw [h]))
    · refine (if_neg h).trans ((H.cnts y).trans ?_)
      rw [tot_snoc, if_neg (Ne.symm h), add_zero]
  · rcases List.mem_append.mp ht with ht | ht
    · exact hu t ht
    · rw [List.mem_singleton.mp ht]; exact Nat.le_refl _

/-- All of them, in order. -/
theorem Taken.fold : ∀ (L₂ L₁ : List T) (w : Wk Ideal), Taken sg xr L₁ w → (L₁ ++ L₂).Pairwise (fun t u => (sg t).toNat ≤ (sg u).toNat) →
    Taken sg xr (L₁ ++ L₂) (L₂.foldl (fun w t => rowStep (sg t) (xr t) w) w)
  | [], L₁, w, H, _ => by simpa using H
  | u :: L₂, L₁, w, H, hp => by
    have e : L₁ ++ u :: L₂ = (L₁ ++ [u]) ++ L₂ := by simp
    rw [e] at hp ⊢
    refine Taken.fold L₂ (L₁ ++ [u]) _ (H.step sg xr u fun t ht => ?_) hp
    exact (List.pairwise_append.mp (List.pairwise_append.mp hp).1).2.2 t ht u (by simp)

end

end Cert.KernelIdeal.Row
-- ==== Proof.Worker.lean ====
/-
  A worker's rows by their numbers in the array, and what its tables hold at the end: for each segment the total of its rows among them. Every
  row is one worker's, once, so over the workers the totals are the array's.
-/
module

public import proofs.«01_k».proof.Proof.Fold
public import proofs.«01_k».proof.Proof.Slices

@[expose] public section

noncomputable section

namespace Cert.KernelIdeal.Row

open Idealize.ShloMosaic
open Cert.KernelIdeal Cert.KernelIdeal.Gen
open Idealize.ShloMosaic.ValueIdx

theorem trips1 : ∀ i : grid0.Coords, (k0_t1_loop i).trips = if (wid i).val < 2 then 40 else 39 := by decide +kernel

theorem trips2 : k0_t2_loop.trips = 5 := by decide +kernel

/-! ## The rows -/

theorem j_lt {i : grid0.Coords} (j : Fin (k0_t1_loop i).trips) : j.val < 40 ∧ ((wid i).val < 2 ∨ j.val < 39) := by
  have h := Nat.lt_of_lt_of_eq j.isLt (trips1 i)
  split at h <;> omega

theorem k_lt (k : Fin k0_t2_loop.trips) : k.val < 5 := Nat.lt_of_lt_of_eq k.isLt trips2

theorem rowNo_lt (i : grid0.Coords) (j : Fin (k0_t1_loop i).trips) (k : Fin k0_t2_loop.trips) (r : Fin 16) :
    80 * ((wid i).val + 32 * j.val) + (16 * k.val + r.val) < 100000 := by
  have hj := j_lt j
  have hk := k_lt k
  have hr := r.isLt
  have hw := (wid i).isLt
  omega

/-- The number of row `r` of group `k` of chunk `j`. -/
def rowNo (i : grid0.Coords) (j : Fin (k0_t1_loop i).trips) (k : Fin k0_t2_loop.trips) (r : Fin 16) : Fin 100000 :=
  ⟨80 * ((wid i).val + 32 * j.val) + (16 * k.val + r.val), rowNo_lt i j k r⟩

/-- A worker's rows, in the order it takes them in. -/
def rows (i : grid0.Coords) : List (Fin 100000) :=
  (List.finRange (k0_t1_loop i).trips).flatMap fun j => (List.finRange k0_t2_loop.trips).flatMap fun k => cols.map (rowNo i j k)

theorem cols_eq : cols = List.finRange 16 := rfl

theorem rows_sorted (i : grid0.Coords) : (rows i).Pairwise (· ≤ ·) := by
  have lt (j : Fin (k0_t1_loop i).trips) (k : Fin k0_t2_loop.trips) (r : Fin 16) : 16 * k.val + r.val < 80 := by
    have hk := k_lt k
    have hr := r.isLt
    omega
  unfold rows
  rw [List.pairwise_flatMap]
  refine ⟨fun j _ => ?_, (List.pairwise_lt_finRange _).imp fun {j j'} h x hx y hy => ?_⟩
  · rw [List.pairwise_flatMap]
    refine ⟨fun k _ => ?_, (List.pairwise_lt_finRange _).imp fun {k k'} h x hx y hy => ?_⟩
    · rw [cols_eq, List.pairwise_map]
      refine (List.pairwise_lt_finRange _).imp fun {r r'} h => ?_
      have h : r.val < r'.val := h
      show 80 * ((wid i).val + 32 * j.val) + (16 * k.val + r.val) ≤ 80 * ((wid i).val + 32 * j.val) + (16 * k.val + r'.val)
      omega
    · obtain ⟨r, -, rfl⟩ := List.mem_map.mp hx
      obtain ⟨r', -, rfl⟩ := List.mem_map.mp hy
      have h : k.val < k'.val := h
      have := r.isLt
      show 80 * ((wid i).val + 32 * j.val) + (16 * k.val + r.val) ≤ 80 * ((wid i).val + 32 * j.val) + (16 * k'.val + r'.val)
      omega
  · obtain ⟨k, -, hx⟩ := List.mem_flatMap.mp hx
    obtain ⟨r, -, rfl⟩ := List.mem_map.mp hx
    obtain ⟨k', -, hy⟩ := List.mem_flatMap.mp hy
    obtain ⟨r', -, rfl⟩ := List.mem_map.mp hy
    have h : j.val < j'.val := h
    have := lt j k r
    show 80 * ((wid i).val + 32 * j.val) + (16 * k.val + r.val) ≤ 80 * ((wid i).val + 32 * j'.val) + (16 * k'.val + r'.val)
    omega

/-- The rows, all the workers' together: the places of the array, -/
theorem rows_bij : Function.Bijective fun p : (Σ w : Fin 32, Fin (k0_t1_loop (ofWid w)).trips × Fin k0_t2_loop.trips × Fin 16) => rowNo (ofWid p.1) p.2.1 p.2.2.1 p.2.2.2 := by
  constructor
  · rintro ⟨w, j, k, r⟩ ⟨w', j', k', r'⟩ h
    have h : 80 * ((wid (ofWid w)).val + 32 * j.val) + (16 * k.val + r.val) = 80 * ((wid (ofWid w')).val + 32 * j'.val) + (16 * k'.val + r'.val) := congrArg Fin.val h
    rw [ofWid_co, ofWid_co] at h
    have hk := k_lt k
    have hk' := k_lt k'
    have hr := r.isLt
    have hr' := r'.isLt
    have hw := w.isLt
    have hw' := w'.isLt
    obtain rfl : w = w' := Fin.ext (by omega)
    obtain rfl : j = j' := Fin.ext (by omega)
    obtain rfl : k = k' := Fin.ext (by omega)
    obtain rfl : r = r' := Fin.ext (by omega)
    rfl
  · intro n
    have hn := n.isLt
    let w : Fin 32 := ⟨n.val / 80 % 32, by omega⟩
    refine ⟨⟨w, ⟨n.val / 80 / 32, ?_⟩, ⟨n.val % 80 / 16, ?_⟩, ⟨n.val % 16, by omega⟩⟩, Fin.ext ?_⟩
    · rw [trips1, ofWid_co]
      show _ < if n.val / 80 % 32 < 2 then 40 else 39
      split <;> omega
    · rw [trips2]; omega
    · show 80 * ((wid (ofWid w)).val + 32 * (n.val / 80 / 32)) + (16 * (n.val % 80 / 16) + n.val % 16) = n.val
      rw [ofWid_co]
      show 80 * (n.val / 80 % 32 + 32 * (n.val / 80 / 32)) + (16 * (n.val % 80 / 16) + n.val % 16) = n.val
      omega

theorem rows_sum (i : grid0.Coords) (h : Fin 100000 → EReal) :
    ((rows i).map h).sum = ∑ j : Fin (k0_t1_loop i).trips, ∑ k : Fin k0_t2_loop.trips, ∑ r : Fin 16, h (rowNo i j k r) := by
  have fl {α β : Type} (l : List α) (f : α → List β) (g : β → EReal) : ((l.flatMap f).map g).sum = (l.map fun a => ((f a).map g).sum).sum := by
    induction l with
    | nil => rfl
    | cons a l ih => simp [List.flatMap_cons, ih]
  unfold rows
  rw [fl, Fin.sum_univ_def]
  refine congrArg List.sum (List.map_congr_left fun j _ => ?_)
  rw [fl, Fin.sum_univ_def]
  refine congrArg List.sum (List.map_congr_left fun k _ => ?_)
  rw [List.map_map, Fin.sum_univ_def, cols_eq]
  rfl

/-- so a total over the workers' rows is one over the array. -/
theorem rows_total (h : Fin 100000 → EReal) : ∑ w : Fin 32, ((rows (ofWid w)).map h).sum = ∑ n, h n := by
  rw [← rows_bij.sum_comp, Fintype.sum_sigma]
  refine Finset.sum_congr rfl fun w _ => ?_
  rw [rows_sum, Fintype.sum_prod_type]
  exact Finset.sum_congr rfl fun j _ => by rw [Fintype.sum_prod_type]

/-! ## A worker -/

variable (x : S100000x256.Idx → Ideal .f32) (z : S32x40x128.Idx → BitVec 32) (y : S100000.Idx → BitVec 32)

/-- The segment of a row, -/
def sgOf (n : Fin 100000) : BitVec 32 := y (ix1 n)
/-- and its values by column group. -/
def xrOf (n : Fin 100000) (c : Fin 16) : FVec Ideal S16 .f32 := fun l => x (ix2 n (⟨16 * c.val + (l 0).val, by
  have := c.isLt
  have h : (l 0).val < 16 := (l 0).isLt
  omega⟩ : Fin 256))

theorem xrOf_at (n : Fin 100000) (k : Fin 256) : xrOf x n (cgrp k) (clane k) = x (ix2 n k) :=
  congrArg (fun k => x (ix2 n k)) (Fin.ext (by show 16 * (k.val / 16) + k.val % 16 = k.val; omega))

/-- The ids dealt out: chunk `j` of worker `w` is chunk `w + 32 j` of the array. -/
def Dealt : Prop := ∀ (w : Fin 32) (j : Fin 40) (r : Fin 128) (_ : r.val < 80) (h : 80 * (w.val + 32 * j.val) + r.val < 100000),
  z (ix3 w j r) = y (ix1 ⟨80 * (w.val + 32 * j.val) + r.val, h⟩)

theorem lane_row (l : Fin 16) : Shape.reshapeEquiv shapeCasts_S1x16_S16 (ix1 l : S16.Idx) = (ix2 (0 : Fin 1) l : S1x16.Idx) :=
  Shape.reshapeEquiv_eq_of_rowMajor _ (by
    rw [Shape.rowMajor_val_two, Shape.rowMajor_val_one]
    show 0 * 16 + l.val = l.val
    omega)

theorem rowOff_eq : ∀ (k : Fin k0_t2_loop.trips) (r c : Fin 16), rowOff k r c 0 = 16 * k.val + r.val := by decide +kernel

theorem seg_row (hz : Dealt z y) (i : grid0.Coords) (j : Fin (k0_t1_loop i).trips) (k : Fin k0_t2_loop.trips) (r : Fin 16) :
    seg (grpIds i (ids i z) j k) r = sgOf y (rowNo i j k r) := by
  have hj := (j_lt j).1
  have hk := k_lt k
  have hr := r.isLt
  have e := hz (wid i) ⟨j.val, hj⟩ ⟨16 * k.val + r.val, by omega⟩ (by show 16 * k.val + r.val < 80; omega) (rowNo_lt i j k r)
  refine Eq.trans ?_ e
  have e1 : seg (grpIds i (ids i z) j k) r = grpIds i (ids i z) j k (ix1 r) := congrArg (grpIds i (ids i z) j k) (funext fun a => by fin_cases a; exact Fin.ext (Nat.add_zero _))
  have e2 : (Rect.unit (s := S40x128) (k0_off3 i j k) S1x16.size (k0_off3_inb i j k)).emb (ix2 (0 : Fin 1) r : S1x16.Idx)
      = (ix2 (⟨j.val, hj⟩ : Fin 40) (⟨16 * k.val + r.val, by omega⟩ : Fin 128) : S40x128.Idx) := by
    funext a
    refine Fin.ext ?_
    refine (congrArg (· + 1 * _) (congrFun (k0_off3_eq i j k) a) : k0_off3 i j k a + 1 * _ = _).trans ?_
    match a with
    | 0 => show j.val + 1 * 0 = j.val; omega
    | 1 => show 16 * k.val + 1 * r.val = 16 * k.val + r.val; omega
  rw [e1]
  show z _ = z _
  rw [lane_row, e2, reshapeEquiv_ix2_1ab]
  refine congrArg z (funext fun a => Fin.ext ?_)
  refine (congrArg (· + 1 * _) (congrFun (k0_off1_eq i) a) : k0_off1 i a + 1 * _ = _).trans ?_
  match a with
  | 0 => show 2 * (i 1).val + (i 0).val + 1 * 0 = 2 * (i 1).val + (i 0).val; omega
  | 1 => show 0 + 1 * j.val = j.val; omega
  | 2 => show 0 + 1 * (16 * k.val + r.val) = 16 * k.val + r.val; omega

theorem vals_row (i : grid0.Coords) (j : Fin (k0_t1_loop i).trips) (k : Fin k0_t2_loop.trips) (r : Fin 16) :
    rowVals (chunk i x j) k r = xrOf x (rowNo i j k r) := by
  have hk := k_lt k
  have hr := r.isLt
  funext c l
  obtain ⟨l, rfl⟩ : ∃ l' : Fin 16, l = ix1 l' := ⟨l 0, funext fun a => by fin_cases a; rfl⟩
  have hc := c.isLt
  have hl := l.isLt
  show x _ = x _
  rw [lane_row]
  refine congrArg x (funext fun a => Fin.ext ?_)
  refine (congrArg (· + 1 * _) (congrFun (k0_off2_eq i j) a) : k0_off2 i j a + 1 * _ = _).trans ?_
  match a with
  | 0 =>
    show 160 * (i 1).val + 80 * (i 0).val + 2560 * j.val + 1 * (rowOff k r c 0 + 1 * 0) = 80 * (2 * (i 1).val + (i 0).val + 32 * j.val) + (16 * k.val + r.val)
    rw [rowOff_eq]
    omega
  | 1 => show 0 + 1 * (16 * c.val + 1 * l.val) = 16 * c.val + l.val; omega

theorem fin_eq (hz : Dealt z y) (i : grid0.Coords) (s : S256x256.Idx → Ideal .f32) (c : S256x16.Idx → Ideal .f32) :
    fin i x z s c = (rows i).foldl (fun w n => rowStep (sgOf y n) (xrOf x n) w) (wk₀ s c) := by
  unfold fin chunks rows
  rw [List.foldl_flatMap, List.take_of_length_le (by simp)]
  refine congrFun (congrFun (congrArg List.foldl (funext fun w => funext fun j => ?_)) _) _
  unfold groups
  rw [List.foldl_flatMap, List.take_of_length_le (by simp)]
  refine congrFun (congrFun (congrArg List.foldl (funext fun w => funext fun k => ?_)) _) _
  unfold grpStep
  rw [List.foldl_map]
  refine congrFun (congrFun (congrArg List.foldl (funext fun w => funext fun r => ?_)) _) _
  rw [seg_row z y hz, vals_row]

/-- What a worker's tables hold at the end, from zeros, if the ids come sorted. -/
theorem fin_taken (hz : Dealt z y) (hs : ∀ n n' : Fin 100000, n ≤ n' → (sgOf y n).toNat ≤ (sgOf y n').toNat) (i : grid0.Coords)
    (s : S256x256.Idx → Ideal .f32) (c : S256x16.Idx → Ideal .f32) (hs0 : ∀ q, (s q : EReal) = 0) (hc0 : ∀ q, (c q : EReal) = 0) :
    Taken (sgOf y) (xrOf x) (rows i) (fin i x z s c) := by
  rw [fin_eq x z y hz]
  have h0 : Taken (sgOf y) (xrOf x) [] (wk₀ s c) := by
    refine ⟨fun c l => ?_, ?_, fun q => hs0 q, fun q => hc0 q, fun t ht => absurd ht List.not_mem_nil, .inl rfl⟩
    · exact Ideal.ofBits_zero_f32
    · exact Ideal.ofBits_zero_f32
  have hp : ([] ++ rows i).Pairwise fun n n' => (sgOf y n).toNat ≤ (sgOf y n').toNat := by
    rw [List.nil_append]
    exact (rows_sorted i).imp fun {n n'} h => hs n n' h
  have H := Taken.fold (sgOf y) (xrOf x) (rows i) [] _ h0 hp
  rw [List.nil_append] at H
  exact H

end Cert.KernelIdeal.Row
-- ==== Proof.Value.lean ====
/-
  The kernel's result on exact arithmetic: how the ids are dealt out, what the tables total to over the workers, and what the finishing call makes of them.
-/
module

public import proofs.«01_k».proof.Proof.Lines
public import proofs.«01_k».proof.Proof.Worker
public import Idealize.ShloMosaic.Lib.KernelVsHost

@[expose] public section

noncomputable section

namespace Cert.KernelIdeal.Row

open Idealize.ShloMosaic Idealize.ShloMosaic.TcCoe
open Cert.KernelIdeal Cert.KernelIdeal.Gen
open Idealize.ShloMosaic.ValueIdx

variable (m : (ℓ : Loc nD τ sig) → Buf (Elt Ideal) ℓ)

theorem dealt (d : Dev nD) : Dealt (V₁ m d main_v3) (m (d, main_arg1)) := by
  intro w j r hr h
  rw [v3_eq]
  have hw := w.isLt
  have hj := j.isLt
  rw [pad_apply_of_inside _ _ _ _ _ _ _ (ix3 w j r : S32x40x128.Idx) (ix3 w j (⟨r.val, hr⟩ : Fin 80) : S32x40x80.Idx) (fun a => by
    fin_cases a
    · show w.val = 0 + w.val * (0 + 1); omega
    · show j.val = 0 + j.val * (0 + 1); omega
    · show r.val = 0 + r.val * (0 + 1); omega)]
  rw [transpose_apply _ _ _ _ (ix3 j w (⟨r.val, hr⟩ : Fin 80) : S40x32x80.Idx) (fun c => by fin_cases c <;> rfl)]
  show pad S102400 ![0] ![2400] ![0] (m (d, main_arg1)) (constantI S_ 32 0#32) pads_S100000_S102400_024000 h_S_
    (Shape.reshapeEquiv shapeCasts_S102400_S40x32x80 (ix3 j w (⟨r.val, hr⟩ : Fin 80) : S40x32x80.Idx)) = _
  rw [Shape.reshapeEquiv_eq_of_rowMajor (y := (ix1 (⟨80 * (w.val + 32 * j.val) + r.val, by omega⟩ : Fin 102400) : S102400.Idx)) _ (by
    rw [Shape.rowMajor_val_three, Shape.rowMajor_val_one]
    show 80 * (w.val + 32 * j.val) + r.val = (j.val * 32 + w.val) * 80 + r.val
    omega)]
  exact pad_apply_of_inside _ _ _ _ _ _ _ _ _ (fun a => by
    fin_cases a
    show 80 * (w.val + 32 * j.val) + r.val = 0 + (80 * (w.val + 32 * j.val) + r.val) * (0 + 1)
    omega)

end Cert.KernelIdeal.Row
-- ==== Proof.Finish.lean ====
/-
  What the finishing call makes of the tables on exact arithmetic, read at one element of its result: the product of the summed sums with the weights, times one over the segment's count, plus the bias, where the segment has a row at all.
-/
module

public import proofs.«01_k».proof.Proof.Gen.KernelIdeal.Skeleton
public import Idealize.ShloMosaic.Lib.MatmulPlain
public import Idealize.ShloMosaic.Lib.ValueLayout
public import Idealize.ShloMosaic.PureOps.Ideal.Laws

@[expose] public section

noncomputable section

namespace Cert.KernelIdeal.Row

open Idealize.ShloMosaic Idealize.ShloMosaic.TcCoe
open Cert.KernelIdeal Cert.KernelIdeal.Gen
open Idealize.ShloMosaic.ValueIdx

/-- A stack of 32 tables summed over the stack, at one entry. -/
theorem stack_sums (S : FVec Ideal S32x256x256 .f32) (g q : Fin 256) :
    (multiReduction .add [0] S256x256 S 0x00000000#32 reduces_S32x256x256_S256x256 (.inl rfl) rfl : FVec Ideal S256x256 .f32) (ix2 g q)
      = ∑ w : Fin 32, S (ix3 w g q) := by
  refine (Ideal.multiReduction_add_single S 0x00000000#32 reduces_S32x256x256_S256x256 (.inl rfl) rfl (ix2 g q)).trans ?_
  refine Finset.sum_congr rfl fun w _ => congrArg S ?_
  funext a
  fin_cases a <;> rfl

theorem stack_cnts (C : FVec Ideal S32x256x16 .f32) (g : Fin 256) (q : Fin 16) :
    (multiReduction .add [0] S256x16 C 0x00000000#32 reduces_S32x256x16_S256x16 (.inl rfl) rfl : FVec Ideal S256x16 .f32) (ix2 g q)
      = ∑ w : Fin 32, C (ix3 w g q) := by
  refine (Ideal.multiReduction_add_single C 0x00000000#32 reduces_S32x256x16_S256x16 (.inl rfl) rfl (ix2 g q)).trans ?_
  refine Finset.sum_congr rfl fun w _ => congrArg C ?_
  funext a
  fin_cases a <;> rfl

/-- A column laid along the rows of a square, at one entry. -/
theorem col_apply {α : Type} (v : S256x1.Idx → α) (g k : Fin 256) :
    broadcastTo S256x256 v broadcasts_S256x1_S256x256 (ix2 g k) = v (ix2 g (0 : Fin 1)) := by
  refine broadcastTo_apply v _ (ix2 g k) (ix2 g (0 : Fin 1)) fun a => ?_
  fin_cases a <;> rfl

/-- The result's element from the totals: `c` the segment's count, `p` its row of sums against a row of weights, `b` the bias. -/
def fine (c p b : EReal) : EReal :=
  if 0 < c then p * Ideal.div 1 c + b else p * 0 + 0

/-- The finishing call's arithmetic, over a table of products, a column of counts and a row of biases. -/
theorem fine_apply (P : FVec Ideal S256x256 .f32) (D : FVec Ideal S256x1 .f32) (B : FVec Ideal S1x256 .f32) (g k : Fin 256) :
    (addf (mulf P (broadcastTo S256x256 (select (cmpf .ogt D (broadcast S256x1 (Scalar.ofBits .f32 0x00000000#32)))
        (divf (broadcast S256x1 (Scalar.ofBits .f32 0x3F800000#32))
          (select (cmpf .ogt D (broadcast S256x1 (Scalar.ofBits .f32 0x00000000#32))) D (broadcast S256x1 (Scalar.ofBits .f32 0x3F800000#32))))
        (broadcast S256x1 (Scalar.ofBits .f32 0x00000000#32))) broadcasts_S256x1_S256x256))
      (select (broadcastTo S256x256 (cmpf .ogt D (broadcast S256x1 (Scalar.ofBits .f32 0x00000000#32))) broadcasts_S256x1_S256x256)
        (broadcastTo S256x256 B broadcasts_S1x256_S256x256) (broadcast S256x256 (Scalar.ofBits .f32 0x00000000#32))) : FVec Ideal S256x256 .f32) (ix2 g k)
      = fine (D (ix2 g (0 : Fin 1))) (P (ix2 g k)) (B (ix2 (0 : Fin 1) k)) := by
  have h0 : (Scalar.ofBits .f32 0x00000000#32 : Ideal .f32) = (0 : EReal) := Ideal.ofBits_zero_f32
  have h1 : (Scalar.ofBits .f32 0x3F800000#32 : Ideal .f32) = (1 : EReal) := by
    show Ideal.ofBits .f32 0x3F800000#32 = 1
    simp [Ideal.ofBits, Ideal.ieee, -EReal.coe_mul]; norm_num
  rw [h0, h1]
  show P (ix2 g k) * broadcastTo S256x256 _ broadcasts_S256x1_S256x256 (ix2 g k)
      + Scalar.select (broadcastTo S256x256 _ broadcasts_S256x1_S256x256 (ix2 g k)) (broadcastTo S256x256 B broadcasts_S1x256_S256x256 (ix2 g k)) (0 : EReal) = _
  rw [col_apply, col_apply, broadcastTo_1b_ab_apply]
  show P (ix2 g k) * Scalar.select (Ideal.cmp .ogt (D (ix2 g 0)) 0) (Ideal.div 1 (Scalar.select (Ideal.cmp .ogt (D (ix2 g 0)) 0) (D (ix2 g 0)) 1)) (0 : EReal)
      + Scalar.select (Ideal.cmp .ogt (D (ix2 g 0)) 0) (B (ix2 0 k)) (0 : EReal) = _
  unfold fine
  by_cases h : (0 : EReal) < D (ix2 g (0 : Fin 1))
  · have hb : Ideal.cmp .ogt (D (ix2 g (0 : Fin 1))) 0 = 1#1 := by simp [Ideal.cmp, h]
    rw [hb, if_pos h]
    rfl
  · have hb : Ideal.cmp .ogt (D (ix2 g (0 : Fin 1))) 0 = 0#1 := by simp [Ideal.cmp, h]
    rw [hb, if_neg h]
    rfl

theorem pay_apply (S : FVec Ideal S32x256x256 .f32) (C : FVec Ideal S32x256x16 .f32) (W : FVec Ideal S256x256 .f32) (B : FVec Ideal S1x256 .f32)
    (g k : Fin 256) :
    k1_pay1 (F := Ideal) S C W B (ix2 g k)
      = fine (∑ w : Fin 32, C (ix3 w g (0 : Fin 16))) (∑ q : Fin 256, (∑ w : Fin 32, S (ix3 w g q)) * W (ix2 k q)) (B (ix2 (0 : Fin 1) k)) := by
  have hc : extractStridedSlice S256x1 ![0, 0] (multiReduction .add [0] S256x16 C 0x00000000#32 reduces_S32x256x16_S256x16 (.inl rfl) rfl : FVec Ideal S256x16 .f32) slices_S256x16_o0_0_S256x1 (ix2 g (0 : Fin 1))
      = ∑ w : Fin 32, C (ix3 w g (0 : Fin 16)) := by
    rw [← stack_cnts C g 0]
    unfold extractStridedSlice
    refine congrArg _ ?_
    funext a
    fin_cases a <;> exact Fin.ext (by simp)
  have hm : (matmul dot_S256x256_S256x256_S256x256_1_1_0_0_n_n none (multiReduction .add [0] S256x256 S 0x00000000#32 reduces_S32x256x256_S256x256 (.inl rfl) rfl : FVec Ideal S256x256 .f32) W (constant S256x256 .f32 0x00000000#32) : FVec Ideal S256x256 .f32) (ix2 g k)
      = ∑ q : Fin 256, (∑ w : Fin 32, S (ix3 w g q)) * W (ix2 k q) := by
    refine (Ideal.matmul_transposedRhs_apply (M := 256) (K := 256) (N := 256) none _ W _ g k).trans ?_
    have h0 : (constant S256x256 .f32 0x00000000#32 : FVec Ideal S256x256 .f32) (ix2 g k) = 0 := Ideal.ofBits_zero_f32
    rw [h0, zero_add]
    exact Finset.sum_congr rfl fun q _ => by rw [stack_sums]
  unfold k1_pay1
  simp only [shapeCast_self]
  refine (fine_apply _ _ _ g k).trans ?_
  rw [hc, hm]

end Cert.KernelIdeal.Row
-- ==== Proof.Mean.lean ====
/-
  The law the two programs' results meet by: over finite numbers, the mean of the rows' products with the weights plus the bias is the product of the rows' sum with the weights, times one over the number of rows, plus the bias.
-/
module

public import proofs.«01_k».proof.Proof.Finish

@[expose] public section

noncomputable section

namespace Cert.KernelIdeal.Row

open Idealize.ShloMosaic

theorem coe_sums {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_pick {p : Prop} [Decidable p] (r : ℝ) : ((if p then r else 0 : ℝ) : EReal) = if p then (r : EReal) else 0 := by
  split <;> rfl

/-- The same law on real numbers. -/
theorem mean_real {N Q : Type} [Fintype N] [Fintype Q] (p : N → Prop) [DecidablePred p] (x : N → Q → ℝ) (w : Q → ℝ) (b : ℝ) :
    (∑ n, if p n then (∑ q, x n q * w q) + b else 0) = (∑ q, (∑ n, if p n then x n q else 0) * w q) + (∑ n, if p n then (1 : ℝ) else 0) * b := by
  have h1 : (∑ q, (∑ n, if p n then x n q else 0) * w q) = ∑ n, if p n then (∑ q, x n q * w q) else 0 := by
    simp_rw [Finset.sum_mul]
    rw [Finset.sum_comm]
    refine Finset.sum_congr rfl fun n _ => ?_
    by_cases h : p n <;> simp [h]
  rw [h1, Finset.sum_mul, ← Finset.sum_add_distrib]
  refine Finset.sum_congr rfl fun n _ => ?_
  by_cases h : p n <;> simp [h]

theorem mean_eq {N Q : Type} [Fintype N] [Fintype Q] (p : N → Prop) [DecidablePred p] (x : N → Q → EReal) (w : Q → EReal) (b : EReal)
    (hx : ∀ n q, x n q ≠ ⊥ ∧ x n q ≠ ⊤) (hw : ∀ q, w q ≠ ⊥ ∧ w q ≠ ⊤) (hb : b ≠ ⊥ ∧ b ≠ ⊤) :
    ∃ r : ℝ, fine (∑ n, if p n then (1 : EReal) else 0) (∑ q, (∑ n, if p n then x n q else 0) * w q) b = r
      ∧ (if 0 < (∑ n, if p n then (1 : EReal) else 0) then Ideal.div (∑ n, if p n then (∑ q, x n q * w q) + b else 0) (∑ n, if p n then (1 : EReal) else 0) else 0) = r := by
  lift b to ℝ using ⟨hb.2, hb.1⟩
  lift w to Q → ℝ using fun q => ⟨(hw q).2, (hw q).1⟩
  obtain ⟨x', rfl⟩ : ∃ x' : N → Q → ℝ, x = fun n q => (x' n q : EReal) :=
    ⟨fun n q => (x n q).toReal, funext fun n => funext fun q => (EReal.coe_toReal (hx n q).2 (hx n q).1).symm⟩
  have hc : (∑ n, if p n then (1 : EReal) else 0) = ((∑ n, if p n then (1 : ℝ) else 0 : ℝ) : EReal) := by
    rw [coe_sums]
    exact Finset.sum_congr rfl fun n _ => (coe_pick 1).symm
  have hP : (∑ q, (∑ n, if p n then (x' n q : EReal) else 0) * (w q : EReal)) = ((∑ q, (∑ n, if p n then x' n q else 0) * w q : ℝ) : EReal) := by
    rw [coe_sums]
    refine Finset.sum_congr rfl fun q _ => ?_
    rw [EReal.coe_mul, coe_sums]
    congr 1
    exact Finset.sum_congr rfl fun n _ => (coe_pick _).symm
  have hS : (∑ n, if p n then (∑ q, (x' n q : EReal) * (w q : EReal)) + (b : EReal) else 0) = ((∑ n, if p n then (∑ q, x' n q * w q) + b else 0 : ℝ) : EReal) := by
    rw [coe_sums]
    refine Finset.sum_congr rfl fun n _ => ?_
    rw [coe_pick, EReal.coe_add, coe_sums]
    simp only [EReal.coe_mul]
  dsimp only
  rw [hc, hP, hS, mean_real]
  generalize (∑ n, if p n then (1 : ℝ) else 0 : ℝ) = C
  generalize (∑ q, (∑ n, if p n then x' n q else 0) * w q : ℝ) = P
  unfold fine Ideal.div
  by_cases h : 0 < C
  · have h' : (0 : EReal) < (C : EReal) := EReal.coe_pos.2 h
    have h0 : C ≠ 0 := h.ne'
    have h0' : (C : EReal) ≠ 0 := h'.ne'
    refine ⟨P * C⁻¹ + b, ?_, ?_⟩
    · rw [if_pos h', if_neg h0', one_mul, EReal.coe_add, EReal.coe_mul, EReal.coe_inv]
    · rw [if_pos h', if_neg h0', ← EReal.coe_inv, ← EReal.coe_mul]
      congr 1
      field_simp
  · have h' : ¬(0 : EReal) < (C : EReal) := fun e => h (EReal.coe_pos.1 e)
    refine ⟨0, ?_, ?_⟩
    · rw [if_neg h', mul_zero, add_zero]; rfl
    · rw [if_neg h']; rfl

end Cert.KernelIdeal.Row
-- ==== Proof.RefValue.lean ====
/-
  The reference's result on exact arithmetic, read at one element: the rows' products with the weights plus the bias, added up over the rows of a segment, over the number of them.
-/
module

public import proofs.«01_k».proof.Proof.Gen.ReferenceIdeal.Run
public import Idealize.ShloMosaic.Lib.Routing.OpsPair
public import Idealize.ShloMosaic.Lib.StackMember
public import Idealize.ShloMosaic.Lib.ValueLayout
public import Idealize.ShloMosaic.PureOps.Ideal.Laws

@[expose] public section

noncomputable section

namespace Cert.ReferenceIdeal.Row

open Idealize.ShloMosaic Idealize.ShloMosaic.TcCoe
open Cert.ReferenceIdeal Cert.ReferenceIdeal.Gen Cert.ReferenceIdeal.Value
open Idealize.ShloMosaic.ValueIdx

variable (x : FVec Ideal S100000x256 .f32) (y : IVec S100000 32) (w : FVec Ideal S256x256 .f32) (b : FVec Ideal S256 .f32)

/-- The ids as the scatters take them. -/
def ids : IVec S100000x1 32 := broadcastInDim S100000x1 ![0] bcast_S100000_S100000x1_0 y

/-- Every row through the linear map. -/
def lin : FVec Ideal S100000x256 .f32 :=
  addf (Host.dotGeneral dot_S100000x256_S256x256_S100000x256_1_0_0_1_n_n none x (transpose S256x256 [1, 0] w transposes_S256x256_S256x256_1_0))
    (broadcastInDim S100000x256 ![0, 1] bcast_S1x256_S100000x256_0_1 (broadcastInDim S1x256 ![1] bcast_S256_S1x256_1 b))

/-- The segments' sums. -/
def sums : FVec Ideal S256x256 .f32 :=
  Host.scatterAdd scatter_S256x256_S100000x1_S100000x256_1_0_0_1 (broadcastInDim S256x256 ![] bcast_S_S256x256 (constant S_ .f32 0x00000000#32)) (ids y) (lin x w b)

/-- The segments' numbers of rows. -/
def nums : FVec Ideal S256 .f32 :=
  Host.scatterAdd scatter_S256_S100000x1_S100000_n_0_0_1 (broadcastInDim S256 ![] bcast_S_S256 (constant S_ .f32 0x00000000#32)) (ids y)
    (broadcastInDim S100000 ![] bcast_S_S100000 (constant S_ .f32 0x3F800000#32))

/-- The segments' means, nothing where there is no row. -/
def means : FVec Ideal S256x256 .f32 :=
  select (broadcastInDim S256x256 ![0, 1] bcast_S256x1_S256x256_0_1 (cmpf .ogt (broadcastInDim S256x1 ![0] bcast_S256_S256x1_0 (nums y)) (broadcastInDim S256x1 ![] bcast_S_S256x1 (constant S_ .f32 0x00000000#32))))
    (Host.divf (sums x y w b) (broadcastInDim S256x256 ![0, 1] bcast_S256x1_S256x256_0_1 (broadcastInDim S256x1 ![0] bcast_S256_S256x1_0 (nums y))))
    (broadcastInDim S256x256 ![] bcast_S_S256x256 (id (constant S_ .f32 0x00000000#32)))

/-- Unordered elements put to zero. -/
def tidy1 (z : FVec Ideal S256x256 .f32) : FVec Ideal S256x256 .f32 :=
  select (cmpf .une z z) (broadcastInDim S256x256 ![] bcast_S_S256x256 (constant S_ .f32 0x00000000#32)) z
/-- The positive infinity put to the largest number. -/
def tidy2 (z : FVec Ideal S256x256 .f32) : FVec Ideal S256x256 .f32 :=
  select (cmpf .oeq z (broadcastInDim S256x256 ![] bcast_S_S256x256 (constant S_ .f32 0x7F800000#32))) (broadcastInDim S256x256 ![] bcast_S_S256x256 (constant S_ .f32 0x7F7FFFFF#32)) z
/-- The negative infinity put to the least number. -/
def tidy3 (z : FVec Ideal S256x256 .f32) : FVec Ideal S256x256 .f32 :=
  select (cmpf .oeq z (broadcastInDim S256x256 ![] bcast_S_S256x256 (constant S_ .f32 0xFF800000#32))) (broadcastInDim S256x256 ![] bcast_S_S256x256 (constant S_ .f32 0xFF7FFFFF#32)) z

set_option maxRecDepth 65536 in
theorem res_eq (m : (ℓ : Loc nD τ sig) → Buf (Elt Ideal) ℓ) (c : Dev nD) :
    res_main_v19 m c = tidy3 (tidy2 (tidy1 (means (m ((c.tc : Thread nD τ).loc main_arg0)) (m ((c.tc : Thread nD τ).loc main_arg1)) (m ((c.tc : Thread nD τ).loc main_arg2)) (m ((c.tc : Thread nD τ).loc main_arg3))))) := rfl

theorem ids_apply (n : Fin 100000) (c : Fin 1) : ids y (ix2 n c) = y (ix1 n) := by
  refine broadcastInDim_apply _ _ y _ (ix1 n) fun a => ?_
  fin_cases a; rfl

theorem lin_apply (n : Fin 100000) (k : Fin 256) : lin x w b (ix2 n k) = (∑ q : Fin 256, x (ix2 n q) * w (ix2 k q)) + b (ix1 k) := by
  have h1 := StackMember.dotGeneral_plain_apply (m := 100000) (k := 256) (n := 256) none x (transpose S256x256 [1, 0] w transposes_S256x256_S256x256_1_0) n k
  have h2 : broadcastInDim S100000x256 ![0, 1] bcast_S1x256_S100000x256_0_1 (broadcastInDim S1x256 ![1] bcast_S256_S1x256_1 b) (ix2 n k) = b (ix1 k) :=
    (broadcastInDim_apply _ _ _ _ (ix2 (0 : Fin 1) k) fun a => by fin_cases a <;> rfl).trans (broadcastInDim_apply _ _ b _ (ix1 k) fun a => by fin_cases a; rfl)
  refine (congrArg₂ (· + ·) h1 h2).trans ?_
  congr 1
  exact Finset.sum_congr rfl fun q _ => by rw [transpose_ix2_apply]

/-- Where an update of the first scatter lands. -/
theorem lands2 (hy : ∀ n, (y (ix1 n)).toNat < 256) (n : Fin 100000) (c k g : Fin 256) :
    scatter_S256x256_S100000x1_S100000x256_1_0_0_1.resultIdx? (ix2 n c) (ids y) = some (ix2 g k) ↔ (y (ix1 n)).toNat = g.val ∧ c = k := by
  have hs0 : scatter_S256x256_S100000x1_S100000x256_1_0_0_1.start (ix2 n c) (ids y) 0 = (y (ix1 n)).toInt := by
    rw [← ids_apply y n 0]
    exact congrArg (fun i => (ids y i).toInt) (by funext a; fin_cases a <;> rfl)
  have hs1 : scatter_S256x256_S100000x1_S100000x256_1_0_0_1.start (ix2 n c) (ids y) 1 = 0 := rfl
  have hw0 : scatter_S256x256_S100000x1_S100000x256_1_0_0_1.window (ix2 n c) 0 = 0 := rfl
  have hw1 : scatter_S256x256_S100000x1_S100000x256_1_0_0_1.window (ix2 n c) 1 = c.val := rfl
  have ht : (y (ix1 n)).toInt = ((y (ix1 n)).toNat : Int) := BitVec.toInt_eq_toNat_of_lt (by have := hy n; omega)
  refine (Routing.resultIdx?_ix2 (R := 256) (C := 256) _ _ _ g k).trans ?_
  rw [hs0, hs1, hw0, hw1, ht, Fin.ext_iff]
  omega

theorem lands1 (hy : ∀ n, (y (ix1 n)).toNat < 256) (n : Fin 100000) (g : Fin 256) :
    scatter_S256_S100000x1_S100000_n_0_0_1.resultIdx? (ix1 n) (ids y) = some (ix1 g) ↔ (y (ix1 n)).toNat = g.val := by
  have hs0 : scatter_S256_S100000x1_S100000_n_0_0_1.start (ix1 n) (ids y) 0 = (y (ix1 n)).toInt := by
    rw [← ids_apply y n 0]
    exact congrArg (fun i => (ids y i).toInt) (by funext a; fin_cases a <;> rfl)
  have hw0 : scatter_S256_S100000x1_S100000_n_0_0_1.window (ix1 n) 0 = 0 := rfl
  have ht : (y (ix1 n)).toInt = ((y (ix1 n)).toNat : Int) := BitVec.toInt_eq_toNat_of_lt (by have := hy n; omega)
  refine (Routing.resultIdx?_ix1 (N := 256) _ _ _ g).trans ?_
  rw [hs0, hw0, ht]
  omega

theorem zero_apply {t : Shape} (h : S_.BroadcastsInDim t (![] : Fin 0 → Fin t.rank)) (j : t.Idx) :
    (broadcastInDim t ![] h (constant S_ .f32 0x00000000#32 : FVec Ideal S_ .f32) : FVec Ideal t .f32) j = (0 : EReal) := Ideal.ofBits_zero_f32

theorem sums_apply (hy : ∀ n, (y (ix1 n)).toNat < 256) (g k : Fin 256) :
    sums x y w b (ix2 g k) = ∑ n : Fin 100000, if (y (ix1 n)).toNat = g.val then lin x w b (ix2 n k) else 0 := by
  classical
  have e : sums x y w b (ix2 g k) = (broadcastInDim S256x256 ![] bcast_S_S256x256 (constant S_ .f32 0x00000000#32 : FVec Ideal S_ .f32) : FVec Ideal S256x256 .f32) (ix2 g k)
      + ∑ j ∈ Finset.univ.filter (fun j => scatter_S256x256_S100000x1_S100000x256_1_0_0_1.resultIdx? j (ids y) = some (ix2 g k)), lin x w b j := by
    unfold sums Host.scatterAdd
    exact congrFun (Ideal.hostScatterAdd_def ..) _
  rw [e, zero_apply, zero_add, Finset.sum_filter, sum_idx2]
  refine Finset.sum_congr rfl fun n _ => ?_
  simp only [lands2 y hy]
  by_cases h : (y (ix1 n)).toNat = g.val
  · simp [h]
  · simp [h]

theorem nums_apply (hy : ∀ n, (y (ix1 n)).toNat < 256) (g : Fin 256) :
    nums y (ix1 g) = ∑ n : Fin 100000, if (y (ix1 n)).toNat = g.val then (1 : EReal) else 0 := by
  classical
  have e : nums y (ix1 g) = (broadcastInDim S256 ![] bcast_S_S256 (constant S_ .f32 0x00000000#32 : FVec Ideal S_ .f32) : FVec Ideal S256 .f32) (ix1 g)
      + ∑ j ∈ Finset.univ.filter (fun j => scatter_S256_S100000x1_S100000_n_0_0_1.resultIdx? j (ids y) = some (ix1 g)), (1 : EReal) := by
    unfold nums Host.scatterAdd
    refine (congrFun (Ideal.hostScatterAdd_def ..) _).trans ?_
    refine congrArg (_ + ·) (Finset.sum_congr rfl fun j _ => ?_)
    show Ideal.ofBits .f32 0x3F800000#32 = 1
    simp [Ideal.ofBits, Ideal.ieee, -EReal.coe_mul]; norm_num
  rw [e, zero_apply, zero_add, Finset.sum_filter]
  refine (Fintype.sum_equiv ⟨fun n : Fin 100000 => (ix1 n : S100000.Idx), fun j => j 0, fun _ => rfl, fun j => (eq_ix1 j).symm⟩ _ _ fun n => ?_).symm
  exact if_congr (lands1 y hy n g).symm rfl rfl

/-- A quotient by a column, nothing where the column's entry is not positive. -/
def over (S : FVec Ideal S256x256 .f32) (N : FVec Ideal S256 .f32) : FVec Ideal S256x256 .f32 :=
  select (broadcastInDim S256x256 ![0, 1] bcast_S256x1_S256x256_0_1 (cmpf .ogt (broadcastInDim S256x1 ![0] bcast_S256_S256x1_0 N) (broadcastInDim S256x1 ![] bcast_S_S256x1 (constant S_ .f32 0x00000000#32))))
    (Host.divf S (broadcastInDim S256x256 ![0, 1] bcast_S256x1_S256x256_0_1 (broadcastInDim S256x1 ![0] bcast_S256_S256x1_0 N)))
    (broadcastInDim S256x256 ![] bcast_S_S256x256 (id (constant S_ .f32 0x00000000#32)))

theorem over_apply (S : FVec Ideal S256x256 .f32) (N : FVec Ideal S256 .f32) (g k : Fin 256) :
    over S N (ix2 g k) = if 0 < N (ix1 g) then Ideal.div (S (ix2 g k)) (N (ix1 g)) else 0 := by
  have hn : broadcastInDim S256x1 ![0] bcast_S256_S256x1_0 N (ix2 g (0 : Fin 1)) = N (ix1 g) :=
    broadcastInDim_apply _ _ _ _ (ix1 g) fun a => by fin_cases a; rfl
  have hc {α : Type} (v : S256x1.Idx → α) : broadcastInDim S256x256 ![0, 1] bcast_S256x1_S256x256_0_1 v (ix2 g k) = v (ix2 g (0 : Fin 1)) :=
    broadcastInDim_apply _ _ _ _ (ix2 g (0 : Fin 1)) fun a => by fin_cases a <;> rfl
  have h0 : (broadcastInDim S256x256 ![] bcast_S_S256x256 (id (constant S_ .f32 0x00000000#32 : FVec Ideal S_ .f32)) : FVec Ideal S256x256 .f32) (ix2 g k) = (0 : EReal) :=
    Ideal.ofBits_zero_f32
  have hg : (cmpf .ogt (broadcastInDim S256x1 ![0] bcast_S256_S256x1_0 N) (broadcastInDim S256x1 ![] bcast_S_S256x1 (constant S_ .f32 0x00000000#32)) : IVec S256x1 1) (ix2 g (0 : Fin 1))
      = Ideal.cmp .ogt (N (ix1 g)) 0 := by
    rw [cmpf_apply, hn, zero_apply]
    rfl
  unfold over
  rw [select_apply, hc, hg, h0]
  have hd : (Host.divf S (broadcastInDim S256x256 ![0, 1] bcast_S256x1_S256x256_0_1 (broadcastInDim S256x1 ![0] bcast_S256_S256x1_0 N)) : FVec Ideal S256x256 .f32) (ix2 g k)
      = Ideal.div (S (ix2 g k)) (N (ix1 g)) := congrArg (Ideal.div (S (ix2 g k))) ((hc _).trans hn)
  rw [hd]
  by_cases h : (0 : EReal) < N (ix1 g)
  · have hb : Ideal.cmp .ogt (N (ix1 g)) 0 = 1#1 := by simp [Ideal.cmp, h]
    rw [hb, if_pos h]
    rfl
  · have hb : Ideal.cmp .ogt (N (ix1 g)) 0 = 0#1 := by simp [Ideal.cmp, h]
    rw [hb, if_neg h]
    rfl

theorem means_apply (g k : Fin 256) :
    means x y w b (ix2 g k) = if 0 < nums y (ix1 g) then Ideal.div (sums x y w b (ix2 g k)) (nums y (ix1 g)) else 0 :=
  over_apply (sums x y w b) (nums y) g k

/-- The tidying leaves a finite element as it is. -/
theorem tidy_apply (z : FVec Ideal S256x256 .f32) (j : S256x256.Idx) (hb : z j ≠ (⊥ : EReal)) (ht : z j ≠ (⊤ : EReal)) :
    tidy3 (tidy2 (tidy1 z)) j = z j := by
  have e1 : tidy1 z j = z j := by
    show Scalar.select (Ideal.cmp .une (z j) (z j)) _ (z j) = _
    have h : Ideal.cmp .une (z j) (z j) = 0#1 := by simp [Ideal.cmp]
    rw [h]; rfl
  have e2 : tidy2 (tidy1 z) j = z j := by
    show Scalar.select (Ideal.cmp .oeq (tidy1 z j) (Ideal.ofBits .f32 0x7F800000#32)) _ (tidy1 z j) = _
    have hi : Ideal.ofBits .f32 0x7F800000#32 = ⊤ := by simp [Ideal.ofBits, Ideal.ieee]
    have h : Ideal.cmp .oeq (z j) ⊤ = 0#1 := by simp [Ideal.cmp, ht]
    rw [e1, hi, h]; rfl
  show Scalar.select (Ideal.cmp .oeq (tidy2 (tidy1 z) j) (Ideal.ofBits .f32 0xFF800000#32)) _ (tidy2 (tidy1 z) j) = _
  have hi : Ideal.ofBits .f32 0xFF800000#32 = ⊥ := by simp [Ideal.ofBits, Ideal.ieee]
  have h : Ideal.cmp .oeq (z j) ⊥ = 0#1 := by simp [Ideal.cmp, hb]
  rw [e2, hi, h]; rfl

end Cert.ReferenceIdeal.Row
-- ==== Proof.Pre.lean ====
/-
  What the two preconditions say, read back: the ids name segments; and, where the value is claimed, they come sorted and the float operands
  are finite.
-/
module

public import proofs.«01_k».proof.Defs
public import proofs.«01_k».proof.Proof.Gen.Pre_ids_in_range
public import proofs.«01_k».proof.Proof.Gen.Pre_sorted_finite
public import Idealize.ShloMosaic.Lib.ReduceAll
public import Idealize.ShloMosaic.Lib.ValueIdx
public import Idealize.ShloMosaic.PureOps.Ideal.Laws

@[expose] public section

noncomputable section

namespace Cert.Read

open Idealize.ShloMosaic
open Idealize.ShloMosaic.ValueIdx

/-- An id no less than zero and less than 256, as a signed word, names a segment. -/
theorem id_lt {b : BitVec 32} (h : IntOp.andi (IntOp.cmpi .sge b 0#32) (IntOp.cmpi .slt b 256#32) = 1#1) : b.toNat < 256 := by
  obtain ⟨h0, h1⟩ := IntOp.andi_eq_one.mp h
  have h0 := IntOp.cmpi_sge.mp h0
  have h1 := IntOp.cmpi_slt.mp h1
  have e0 : (0#32).toInt = 0 := rfl
  have e1 : (256#32).toInt = 256 := rfl
  rw [e0] at h0
  rw [e1] at h1
  rw [BitVec.toInt_eq_toNat_cond] at h0 h1
  have := b.isLt
  split at h0 <;> split at h1 <;> omega

section
variable {F : FTy → Type} [FloatOps F]

theorem ids_lt {x : FVec F ⟨2, ![100000, 256]⟩ .f32} {y : IVec ⟨1, ![100000]⟩ 32} {w : FVec F ⟨2, ![256, 256]⟩ .f32} {b : FVec F ⟨1, ![256]⟩ .f32}
    (h : Cert.Pre_ids_in_range.fn (F := F) x y w b = fun _ => 1#1) (k : (⟨1, ![100000]⟩ : Shape).Idx) : (y k).toNat < 256 := by
  have e := congrFun h ix0
  exact id_lt (Host.reduce_andi_all _ _ _ _ _ e k)

end

/-- An exact float whose absolute value lies below infinity is a real number. -/
theorem fin_of_lt {a : EReal} (h : Ideal.cmp .olt (max a (-a)) (Ideal.ofBits .f32 0x7F800000#32) = 1#1) : a ≠ ⊥ ∧ a ≠ ⊤ := by
  have hi : Ideal.ofBits .f32 0x7F800000#32 = ⊤ := by simp [Ideal.ofBits, Ideal.ieee]
  rw [hi] at h
  have h' : max a (-a) < ⊤ := by
    by_contra hn
    simp [Ideal.cmp, hn] at h
  refine ⟨fun e => ?_, fun e => ?_⟩ <;> subst e <;> simp at h'

/-- What the value claim's precondition says of the operands. -/
structure Good (x : FVec Ideal ⟨2, ![100000, 256]⟩ .f32) (y : IVec ⟨1, ![100000]⟩ 32) (w : FVec Ideal ⟨2, ![256, 256]⟩ .f32) (b : FVec Ideal ⟨1, ![256]⟩ .f32) : Prop where
  ids : ∀ k, (y k).toNat < 256
  sorted : ∀ (n : ℕ) (h : n + 1 < 100000), (y (ix1 ⟨n, by omega⟩)).toNat ≤ (y (ix1 ⟨n + 1, h⟩)).toNat
  x : ∀ k, (x k : EReal) ≠ ⊥ ∧ (x k : EReal) ≠ ⊤
  w : ∀ k, (w k : EReal) ≠ ⊥ ∧ (w k : EReal) ≠ ⊤
  b : ∀ k, (b k : EReal) ≠ ⊥ ∧ (b k : EReal) ≠ ⊤

theorem good {x : FVec Ideal ⟨2, ![100000, 256]⟩ .f32} {y : IVec ⟨1, ![100000]⟩ 32} {w : FVec Ideal ⟨2, ![256, 256]⟩ .f32} {b : FVec Ideal ⟨1, ![256]⟩ .f32}
    (h : Cert.Pre_sorted_finite.fn (F := Ideal) x y w b = fun _ => 1#1) : Good x y w b := by
  have e := congrFun h ix0
  obtain ⟨e, hb⟩ := IntOp.andi_eq_one.mp e
  obtain ⟨e, hw⟩ := IntOp.andi_eq_one.mp e
  obtain ⟨e, hx⟩ := IntOp.andi_eq_one.mp e
  obtain ⟨hi, hs⟩ := IntOp.andi_eq_one.mp e
  have ids : ∀ k, (y k).toNat < 256 := fun k => id_lt (Host.reduce_andi_all _ _ _ _ _ hi k)
  refine ⟨ids, fun n hn => ?_, fun k => fin_of_lt (Host.reduce_andi_all _ _ _ _ _ hx k), fun k => fin_of_lt (Host.reduce_andi_all _ _ _ _ _ hw k),
    fun k => fin_of_lt (Host.reduce_andi_all _ _ _ _ _ hb k)⟩
  have c := Host.reduce_andi_all _ _ _ _ _ hs (ix1 ⟨n, by omega⟩)
  have e0 : extractStridedSlice (⟨1, ![99999]⟩ : Shape) ![0] y Cert.Pre_sorted_finite.Facts.slices_S100000_S99999_0 (ix1 ⟨n, by omega⟩) = y (ix1 ⟨n, by omega⟩) :=
    congrArg y (funext fun a => by fin_cases a; exact Fin.ext (Nat.zero_add n))
  have e1 : extractStridedSlice (⟨1, ![99999]⟩ : Shape) ![1] y Cert.Pre_sorted_finite.Facts.slices_S100000_S99999_1 (ix1 ⟨n, by omega⟩) = y (ix1 ⟨n + 1, hn⟩) :=
    congrArg y (funext fun a => by fin_cases a; exact Fin.ext (Nat.add_comm 1 n))
  have c' : (y (ix1 ⟨n, by omega⟩)).toInt ≤ (y (ix1 ⟨n + 1, hn⟩)).toInt := by
    rw [← e0, ← e1]
    exact IntOp.cmpi_sle.mp c
  have h0 := ids (ix1 ⟨n, by omega⟩)
  have h1 := ids (ix1 ⟨n + 1, hn⟩)
  rw [BitVec.toInt_eq_toNat_cond, BitVec.toInt_eq_toNat_cond] at c'
  split at c' <;> split at c' <;> omega

end Cert.Read
-- ==== Proof.Result.lean ====
/-
  The kernel's result and the reference's, over sorted ids in range and finite numbers, are one: each reads, at an element, as one side of the law of `Mean`.
-/
module

public import proofs.«01_k».proof.Proof.Value
public import proofs.«01_k».proof.Proof.Mean
public import proofs.«01_k».proof.Proof.RefValue
public import proofs.«01_k».proof.Proof.Pre

@[expose] public section

noncomputable section

namespace Cert.KernelIdeal.Row

open Idealize.ShloMosaic Idealize.ShloMosaic.TcCoe
open Cert.KernelIdeal Cert.KernelIdeal.Gen
open Idealize.ShloMosaic.ValueIdx

/-! ## The tables' totals over the workers -/

section
variable (x : S100000x256.Idx → Ideal .f32) (z : S32x40x128.Idx → BitVec 32) (y : S100000.Idx → BitVec 32)
variable (s : S256x256.Idx → Ideal .f32) (c : S256x16.Idx → Ideal .f32)

theorem sumsOf_eq (i : S32x256x256.Idx) {w : Fin 32} {g q : Fin 256} (h0 : i 0 = w) (h1 : i 1 = g) (h2 : i 2 = q) :
    sumsOf (F := Ideal) x z s c i = (fin (F := Ideal) (ofWid w) x z s c).sums (ix2 g q) := by
  subst h0 h1 h2
  unfold sumsOf
  with_reducible rfl
theorem cntsOf_eq (i : S32x256x16.Idx) {w : Fin 32} {g : Fin 256} {l : Fin 16} (h0 : i 0 = w) (h1 : i 1 = g) (h2 : i 2 = l) :
    cntsOf (F := Ideal) x z s c i = (fin (F := Ideal) (ofWid w) x z s c).cnts (ix2 g l) := by
  subst h0 h1 h2
  unfold cntsOf
  with_reducible rfl

theorem sumsOf_at (w : Fin 32) (g q : Fin 256) : sumsOf (F := Ideal) x z s c (ix3 w g q) = (fin (F := Ideal) (ofWid w) x z s c).sums (ix2 g q) :=
  sumsOf_eq x z s c (ix3 w g q) rfl rfl rfl
theorem cntsOf_at (w : Fin 32) (g : Fin 256) (l : Fin 16) : cntsOf (F := Ideal) x z s c (ix3 w g l) = (fin (F := Ideal) (ofWid w) x z s c).cnts (ix2 g l) :=
  cntsOf_eq x z s c (ix3 w g l) rfl rfl rfl

theorem tot_map (i : grid0.Coords) (n : ℕ) (f h : Fin 100000 → EReal) (hf : ∀ t, f t = h t) :
    tot (sgOf y) (rows i) n f = ((rows i).map fun t => if (y (ix1 t)).toNat = n then h t else 0).sum := by
  rw [funext hf]
  rfl

theorem sums_total (hz : Dealt z y) (hs : ∀ n n' : Fin 100000, n ≤ n' → (sgOf y n).toNat ≤ (sgOf y n').toNat)
    (hs0 : ∀ q, (s q : EReal) = 0) (hc0 : ∀ q, (c q : EReal) = 0) (g q : Fin 256) :
    (∑ w : Fin 32, (sumsOf (F := Ideal) x z s c (ix3 w g q) : EReal)) = ∑ n : Fin 100000, if (y (ix1 n)).toNat = g.val then (x (ix2 n q) : EReal) else 0 := by
  refine Eq.trans (Finset.sum_congr rfl fun w _ => ?_) (rows_total fun n => if (y (ix1 n)).toNat = g.val then (x (ix2 n q) : EReal) else 0)
  have H := (fin_taken x z y hz hs (ofWid w) s c hs0 hc0).sums (ix2 g q)
  rw [sumsOf_at, H]
  exact tot_map y (ofWid w) g.val _ (fun t => x (ix2 t q)) fun t => xrOf_at x t q

theorem cnts_total (hz : Dealt z y) (hs : ∀ n n' : Fin 100000, n ≤ n' → (sgOf y n).toNat ≤ (sgOf y n').toNat)
    (hs0 : ∀ q, (s q : EReal) = 0) (hc0 : ∀ q, (c q : EReal) = 0) (g : Fin 256) (l : Fin 16) :
    (∑ w : Fin 32, (cntsOf (F := Ideal) x z s c (ix3 w g l) : EReal)) = ∑ n : Fin 100000, if (y (ix1 n)).toNat = g.val then (1 : EReal) else 0 := by
  refine Eq.trans (Finset.sum_congr rfl fun w _ => ?_) (rows_total fun n => if (y (ix1 n)).toNat = g.val then (1 : EReal) else 0)
  have H := (fin_taken x z y hz hs (ofWid w) s c hs0 hc0).cnts (ix2 g l)
  rw [cntsOf_at, H]
  exact tot_map y (ofWid w) g.val _ (fun _ => 1) fun _ => rfl

/-- Ids no less than the one before each are no less than any before. -/
theorem sorted_all (h : ∀ (n : ℕ) (h : n + 1 < 100000), (y (ix1 ⟨n, by omega⟩)).toNat ≤ (y (ix1 ⟨n + 1, h⟩)).toNat) (n n' : Fin 100000) (hn : n ≤ n') :
    (sgOf y n).toNat ≤ (sgOf y n').toNat := by
  obtain ⟨n, h1⟩ := n
  obtain ⟨k, h2⟩ := n'
  have hk : n ≤ k := hn
  induction k, hk using Nat.le_induction with
  | base => exact le_rfl
  | succ k hk ih => exact (ih (by omega) hk).trans (h k h2)

/-- One element of the result, from the arguments. -/
def element (x : S100000x256.Idx → EReal) (y : S100000.Idx → BitVec 32) (w : S256x256.Idx → EReal) (b : S256.Idx → EReal) (g k : Fin 256) : EReal :=
  fine (∑ n : Fin 100000, if (y (ix1 n)).toNat = g.val then (1 : EReal) else 0)
    (∑ q : Fin 256, (∑ n : Fin 100000, if (y (ix1 n)).toNat = g.val then x (ix2 n q) else 0) * w (ix2 k q)) (b (ix1 k))

theorem row_at (b : S256.Idx → EReal) (k : Fin 256) : shapeCast S1x256 b shapeCasts_S256_S1x256 (ix2 (0 : Fin 1) k) = b (ix1 k) := by
  refine shapeCast_apply _ _ _ _ ?_
  rw [Shape.rowMajor_val_one, Shape.rowMajor_val_two]
  simp

theorem finish_tables (hz : Dealt z y) (hs : ∀ n n' : Fin 100000, n ≤ n' → (sgOf y n).toNat ≤ (sgOf y n').toNat)
    (hs0 : ∀ q, (s q : EReal) = 0) (hc0 : ∀ q, (c q : EReal) = 0) (w : S256x256.Idx → EReal) (b : S256.Idx → EReal) (g k : Fin 256) :
    k1_pay1 (F := Ideal) (sumsOf (F := Ideal) x z s c) (cntsOf (F := Ideal) x z s c) w (shapeCast S1x256 b shapeCasts_S256_S1x256) (ix2 g k) = element x y w b g k := by
  refine (pay_apply _ _ _ _ g k).trans ?_
  rw [cnts_total x z y s c hz hs hs0 hc0, row_at]
  unfold element
  simp only [sums_total x z y s c hz hs hs0 hc0]
end

/-- The reference's result is it too. -/
theorem reference_element {x : S100000x256.Idx → EReal} {y : S100000.Idx → BitVec 32} {w : S256x256.Idx → EReal} {b : S256.Idx → EReal} (G : Cert.Read.Good x y w b)
    (g k : Fin 256) :
    (Cert.ReferenceIdeal.Row.tidy3 (Cert.ReferenceIdeal.Row.tidy2 (Cert.ReferenceIdeal.Row.tidy1 (Cert.ReferenceIdeal.Row.means x y w b))) : S256x256.Idx → EReal) (ix2 g k)
      = element x y w b g k := by
  obtain ⟨r, hk, hr⟩ := mean_eq (fun n : Fin 100000 => (y (ix1 n)).toNat = g.val) (fun n (q : Fin 256) => x (ix2 n q)) (fun q : Fin 256 => w (ix2 k q)) (b (ix1 k))
    (fun n q => G.x _) (fun q => G.w _) (G.b _)
  have hm : Cert.ReferenceIdeal.Row.means x y w b (ix2 g k) = (r : EReal) := by
    refine (Cert.ReferenceIdeal.Row.means_apply _ _ _ _ _ _).trans ?_
    rw [Cert.ReferenceIdeal.Row.nums_apply y fun n => G.ids _, Cert.ReferenceIdeal.Row.sums_apply x y w b fun n => G.ids _]
    simp only [Cert.ReferenceIdeal.Row.lin_apply]
    exact hr
  refine ((Cert.ReferenceIdeal.Row.tidy_apply _ _ ?_ ?_).trans hm).trans hk.symm
  · exact fun e => EReal.coe_ne_bot r (hm.symm.trans e)
  · exact fun e => EReal.coe_ne_top r (hm.symm.trans e)

/-! ## The two results -/

variable (m : (ℓ : Loc nD τ sig) → Buf (Elt Ideal) ℓ) (d : Dev nD)

theorem zero_sheet (q : S256x256.Idx) : ((V₁ m d main_v4 : S256x256.Idx → Ideal .f32) q : EReal) = (0 : EReal) := by
  rw [v4_eq]
  exact Ideal.ofBits_zero_f32
theorem zero_cnt (q : S256x16.Idx) : ((V₁ m d main_v5 : S256x16.Idx → Ideal .f32) q : EReal) = (0 : EReal) := by
  rw [v5_eq]
  exact Ideal.ofBits_zero_f32

theorem out_eq : outM (M₃ m) d = k1_pay1 (F := Ideal) (sumsOf (F := Ideal) (m (d, main_arg0)) (V₁ m d main_v3) (V₁ m d main_v4) (V₁ m d main_v5))
    (cntsOf (F := Ideal) (m (d, main_arg0)) (V₁ m d main_v3) (V₁ m d main_v4) (V₁ m d main_v5)) (m (d, main_arg2)) (shapeCast S1x256 (m (d, main_arg3)) shapeCasts_S256_S1x256) := by
  have e0 : V₁ m d main_arg0 = m (d, main_arg0) := lines_keep m d main_arg0 (by decide)
  unfold outM
  show k1_pay1 (F := Ideal) (V₃ m d main_v6_0) (V₃ m d main_v6_1) (V₃ m d main_arg2) (V₃ m d main_v7) = _
  rw [V₃_arg m d main_arg2 (by decide), V₃_bias, V₃_sums, V₃_cnts]
  unfold sumsM' cntsM'
  show k1_pay1 (F := Ideal) (sumsOf (F := Ideal) (V₁ m d main_arg0) (V₁ m d main_v3) (V₁ m d main_v4) (V₁ m d main_v5))
    (cntsOf (F := Ideal) (V₁ m d main_arg0) (V₁ m d main_v3) (V₁ m d main_v4) (V₁ m d main_v5)) _ _ = _
  rw [e0]

theorem agree (m' : (ℓ : Loc Cert.ReferenceIdeal.nD Cert.ReferenceIdeal.τ Cert.ReferenceIdeal.sig) → Buf (Elt Ideal) ℓ)
    (G : Cert.Read.Good (m (d, main_arg0)) (m (d, main_arg1)) (m (d, main_arg2)) (m (d, main_arg3)))
    (h0 : m' (d, Cert.ReferenceIdeal.main_arg0) = m (d, main_arg0)) (h1 : m' (d, Cert.ReferenceIdeal.main_arg1) = m (d, main_arg1))
    (h2 : m' (d, Cert.ReferenceIdeal.main_arg2) = m (d, main_arg2)) (h3 : m' (d, Cert.ReferenceIdeal.main_arg3) = m (d, main_arg3)) :
    (Cert.ReferenceIdeal.Value.res_main_v19 m' d : S256x256.Idx → EReal) = outM (M₃ m) d := by
  have e : Cert.ReferenceIdeal.Value.res_main_v19 m' d
      = Cert.ReferenceIdeal.Row.tidy3 (Cert.ReferenceIdeal.Row.tidy2 (Cert.ReferenceIdeal.Row.tidy1 (Cert.ReferenceIdeal.Row.means (m (d, main_arg0)) (m (d, main_arg1)) (m (d, main_arg2)) (m (d, main_arg3))))) := by
    refine (Cert.ReferenceIdeal.Row.res_eq m' d).trans ?_
    exact congrArg (fun z => Cert.ReferenceIdeal.Row.tidy3 (Cert.ReferenceIdeal.Row.tidy2 (Cert.ReferenceIdeal.Row.tidy1 z))) (by
      refine (congrArg₂ (fun x y => Cert.ReferenceIdeal.Row.means x y _ _) h0 h1).trans ?_
      exact congrArg₂ (fun w b => Cert.ReferenceIdeal.Row.means _ _ w b) h2 h3)
  rw [e, out_eq]
  funext j
  rw [eq_ix2 j]
  exact (reference_element G (j 0) (j 1)).trans
    (finish_tables _ _ _ _ _ (dealt m d) (sorted_all _ G.sorted) (zero_sheet m d) (zero_cnt m d) _ _ (j 0) (j 1)).symm

end Cert.KernelIdeal.Row
-- ==== Proof.lean ====
/-
  The claims. The kernel's run (`Lines.run_ends`) gives its frames, at the hardware's numbers by the two printed programs being one (`Same.run_eq`); the reference's run gives its own; and the two results are one (`Result.agree`).
-/
module

public import proofs.«01_k».proof.Defs
public import proofs.«01_k».proof.Proof.Same
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.Pre_ids_in_range
public import proofs.«01_k».proof.Proof.Gen.Pre_sorted_finite
public import Idealize.ShloMosaic.Lib.Quiescent

@[expose] public section

noncomputable section

namespace Cert.Proof

open Idealize.ShloMosaic Idealize.SL.Sem

/-- Ids in range on every device, the kernel ends with its arguments as they were and nothing owed. -/
theorem kernel_ends {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (h : ∀ (d : Dev Cert.KernelIdeal.nD) k, (m ((d.tc : Thread Cert.KernelIdeal.nD Cert.KernelIdeal.τ).loc Cert.KernelIdeal.main_arg1) k : BitVec 32).toNat < 256) :
    θ_run (Cert.KernelIdeal.defs (F := F)) (Cert.KernelIdeal.threads (F := F)) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run _ _ _).mono (fun _ r => ⟨fun c => (r.1 c).1, r.2⟩) (Cert.KernelIdeal.Row.run_ends m g h)

theorem frame_kernel : Cert.quiescent_Kernel := fun m g h => by
  rw [Cert.Same.run_eq m g]
  exact kernel_ends m g fun d k => Cert.Read.ids_lt (h d) k

theorem frame_ideal : Cert.quiescent_KernelIdeal := fun m g h => kernel_ends m g fun d k => Cert.Read.ids_lt (h d) k

theorem frame_ideal_sorted : Cert.quiescent_KernelIdeal_pre_sorted_finite := fun m g h => kernel_ends m g fun d k => (Cert.Read.good (h d)).ids k

theorem frame_reference : Cert.quiescent_ReferenceIdeal := fun m g _ =>
  (θ_run _ _ _).mono (fun r h => ⟨fun c => (h c).2, sem_eq_zero_of_no_sems rfl r.2⟩) (Cert.ReferenceIdeal.Value.run m g)

theorem frame_reference_sorted : Cert.quiescent_ReferenceIdeal_pre_sorted_finite := fun m g _ => frame_reference m g trivial

theorem results_agree : Cert.algebraic_KernelIdeal_ReferenceIdeal_pre_sorted_finite := fun m g m' g' h same => by
  have G := fun d => Cert.Read.good (h d)
  refine ⟨fun c => Cert.KernelIdeal.Row.outM (Cert.KernelIdeal.Row.M₃ m) c, ?_, ?_⟩
  · exact (θ_run _ _ _).mono (fun _ r c => ⟨(r.1 c).2, (r.1 c).1⟩) (Cert.KernelIdeal.Row.run_ends m g fun d k => (G d).ids k)
  · refine (θ_run _ _ _).mono (fun _ r c => ⟨(r c).1.trans ?_, (r c).2⟩) (Cert.ReferenceIdeal.Value.run m' g')
    exact Cert.KernelIdeal.Row.agree m c m' (G c) (same c).1 (same c).2.1 (same c).2.2.1 (same c).2.2.2

theorem claim : Cert.Claim :=
  ⟨Cert.Kernel.Gen.facts, Cert.KernelIdeal.Gen.facts, Cert.ReferenceIdeal.Gen.facts, Cert.Pre_ids_in_range.Gen.facts, Cert.Pre_sorted_finite.Gen.facts,
    frame_kernel, frame_ideal, frame_ideal_sorted, frame_reference, frame_reference_sorted, trivial, results_agree⟩

end Cert.Proof

end
